-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_v122) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v79_0)) (v1 : (c : Dev Cert.Kernel4Ideal.nD) → Buf (Elt Ideal) ((c.tc : Thread Cert.Kernel4Ideal.nD Cert.Kernel4Ideal.τ).loc Cert.Kernel4Ideal.main_v79_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v79_0) = v0 c
          ∧ r.2.mem ((c.tc : Thread Cert.Kernel4Ideal.nD Cert.Kernel4Ideal.τ).loc Cert.Kernel4Ideal.main_v79_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v79_0)) (v1 : (c : Dev Cert.Kernel5Ideal.nD) → Buf (Elt Ideal) ((c.tc : Thread Cert.Kernel5Ideal.nD Cert.Kernel5Ideal.τ).loc Cert.Kernel5Ideal.main_v79_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v79_0) = v0 c
          ∧ r.2.mem ((c.tc : Thread Cert.Kernel5Ideal.nD Cert.Kernel5Ideal.τ).loc Cert.Kernel5Ideal.main_v79_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_ok : Cert.Pre_tables_ok.Facts) (hPre_finite : Cert.Pre_finite.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal) (hPre_tables_ok := hPre_tables_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal) (hPre_tables_ok := hPre_tables_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S40960x3072 : Shape := ⟨2, ![40960, 3072]⟩
abbrev S4x384 : Shape := ⟨2, ![4, 384]⟩
abbrev S384 : Shape := ⟨1, ![384]⟩
abbrev S2x6x64x64 : Shape := ⟨4, ![2, 6, 64, 64]⟩
abbrev S2x384 : Shape := ⟨2, ![2, 384]⟩
abbrev S8x2x384 : Shape := ⟨3, ![8, 2, 384]⟩
abbrev S_ : Shape := ⟨0, ![]⟩

class Facts : Prop where
  bcast_S_S40960x3072 : S_.BroadcastsInDim S40960x3072 (![] : Fin 0 → Fin S40960x3072.rank)
  reducesTo_S40960x3072_S_d0_1 : S40960x3072.ReducesTo [0, 1] S_
  h_S_ : 0 < S_.numel
  bcast_S_S4x384 : S_.BroadcastsInDim S4x384 (![] : Fin 0 → Fin S4x384.rank)
  reducesTo_S4x384_S_d0_1 : S4x384.ReducesTo [0, 1] S_
  bcast_S_S384 : S_.BroadcastsInDim S384 (![] : Fin 0 → Fin S384.rank)
  reducesTo_S384_S_d0 : S384.ReducesTo [0] S_
  bcast_S_S2x6x64x64 : S_.BroadcastsInDim S2x6x64x64 (![] : Fin 0 → Fin S2x6x64x64.rank)
  reducesTo_S2x6x64x64_S_d0_1_2_3 : S2x6x64x64.ReducesTo [0, 1, 2, 3] S_
  bcast_S_S2x384 : S_.BroadcastsInDim S2x384 (![] : Fin 0 → Fin S2x384.rank)
  reducesTo_S2x384_S_d0_1 : S2x384.ReducesTo [0, 1] S_
  bcast_S_S8x2x384 : S_.BroadcastsInDim S8x2x384 (![] : Fin 0 → Fin S8x2x384.rank)
  reducesTo_S8x2x384_S_d0_1_2 : S8x2x384.ReducesTo [0, 1, 2] S_

variable [Facts]

def fn_part2 {F : FTy → Type} [FloatOps F] (main_arg7 : FVec F S2x384 .f32) (main_arg8 : FVec F S8x2x384 .f32) (main_v33 : IVec S_ 1) : IVec S_ 1 :=
  let main_v34 : FVec F S2x384 .f32 := Host.absf main_arg7
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S8x2x384 .f32 := Host.absf main_arg8
  let main_cst_14 : FVec F S_ .f32 := constant S_ .f32 0x7F800000#32
  let main_v40 : FVec F S8x2x384 .f32 := broadcastInDim S8x2x384 ![] bcast_S_S8x2x384 main_cst_14
  let main_v41 : IVec S8x2x384 1 := cmpf .olt main_v39 main_v40
  let main_c_15 : IVec S_ 1 := constantI S_ 1 1#1
  let main_v42 : IVec S_ 1 := (fun x v => Host.reduce IntOp.andi x v reducesTo_S8x2x384_S_d0_1_2 h_S_) main_v41 main_c_15
  let main_v43 : IVec S_ 1 := andi main_v38 main_v42
  main_v43

def fn_part1 {F : FTy → Type} [FloatOps F] (main_arg4 : FVec F S2x384 .f32) (main_arg5 : FVec F S2x6x64x64 .f32) (main_arg6 : FVec F S2x384 .f32) (main_arg7 : FVec F S2x384 .f32) (main_arg8 : FVec F S8x2x384 .f32) (main_v13 : IVec S_ 1) (main_v16 : IVec S2x6x64x64 1) : IVec S_ 1 :=
  let main_c_5 : IVec S_ 1 := constantI S_ 1 1#1
  let main_v17 : IVec S_ 1 := (fun x v => Host.reduce IntOp.andi x v reducesTo_S2x6x64x64_S_d0_1_2_3 h_S_) main_v16 main_c_5
  let main_v18 : IVec S_ 1 := andi main_v13 main_v17
  let main_v19 : FVec F S2x384 .f32 := Host.absf main_arg4
  let main_cst_6 : FVec F S_ .f32 := constant S_ .f32 0x7F800000#32
  let main_v20 : FVec F S2x384 .f32 := broadcastInDim S2x384 ![] bcast_S_S2x384 main_cst_6
  let main_v21 : IVec S2x384 1 := cmpf .olt main_v19 main_v20
  let main_c_7 : IVec S_ 1 := constantI S_ 1 1#1
  let main_v22 : IVec S_ 1 := (fun x v => Host.reduce IntOp.andi x v reducesTo_S2x384_S_d0_1 h_S_) main_v21 main_c_7
  let main_v23 : IVec S_ 1 := andi main_v18 main_v22
  let main_v24 : FVec F S2x6x64x64 .f32 := Host.absf main_arg5
  let main_cst_8 : FVec F S_ .f32 := constant S_ .f32 0x7F800000#32
  let main_v25 : FVec F S2x6x64x64 .f32 := broadcastInDim S2x6x64x64 ![] bcast_S_S2x6x64x64 main_cst_8
  let main_v26 : IVec S2x6x64x64 1 := cmpf .olt main_v24 main_v25
  let main_c_9 : IVec S_ 1 := constantI S_ 1 1#1
  let main_v27 : IVec S_ 1 := (fun x v => Host.reduce IntOp.andi x v reducesTo_S2x6x64x64_S_d0_1_2_3 h_S_) main_v26 main_c_9
  let main_v28 : IVec S_ 1 := andi main_v23 main_v27
  let main_v29 : FVec F S2x384 .f32 := Host.absf main_arg6
  let main_cst_10 : FVec F S_ .f32 := constant S_ .f32 0x7F800000#32
  let main_v30 : FVec F S2x384 .f32 := broadcastInDim S2x384 ![] bcast_S_S2x384 main_cst_10
  let main_v31 : IVec S2x384 1 := cmpf .olt main_v29 main_v30
  let main_c_11 : IVec S_ 1 := constantI S_ 1 1#1
  let main_v32 : IVec S_ 1 := (fun x v => Host.reduce IntOp.andi x v reducesTo_S2x384_S_d0_1 h_S_) main_v31 main_c_11
  let main_v33 : IVec S_ 1 := andi main_v28 main_v32
  fn_part2 (F := F) main_arg7 main_arg8 main_v33

def fn {F : FTy → Type} [FloatOps F] (main_arg0 : FVec F S40960x3072 .f32) (main_arg1 : FVec F S4x384 .f32) (main_arg2 : FVec F S384 .f32) (main_arg3 : FVec F S2x6x64x64 .f32) (main_arg4 : FVec F S2x384 .f32) (main_arg5 : FVec F S2x6x64x64 .f32) (main_arg6 : FVec F S2x384 .f32) (main_arg7 : FVec F S2x384 .f32) (main_arg8 : FVec F S8x2x384 .f32) : IVec S_ 1 :=
  let main_v0 : FVec F S40960x3072 .f32 := Host.absf main_arg0
  let main_cst : FVec F S_ .f32 := constant S_ .f32 0x7F800000#32
  let main_v1 : FVec F S40960x3072 .f32 := broadcastInDim S40960x3072 ![] bcast_S_S40960x3072 main_cst
  let main_v2 : IVec S40960x3072 1 := cmpf .olt main_v0 main_v1
  let main_c : IVec S_ 1 := constantI S_ 1 1#1
  let main_v3 : IVec S_ 1 := (fun x v => Host.reduce IntOp.andi x v reducesTo_S40960x3072_S_d0_1 h_S_) main_v2 main_c
  let main_v4 : FVec F S4x384 .f32 := Host.absf main_arg1
  let main_cst_0 : FVec F S_ .f32 := constant S_ .f32 0x7F800000#32
  let main_v5 : FVec F S4x384 .f32 := broadcastInDim S4x384 ![] bcast_S_S4x384 main_cst_0
  let main_v6 : IVec S4x384 1 := cmpf .olt main_v4 main_v5
  let main_c_1 : IVec S_ 1 := constantI S_ 1 1#1
  let main_v7 : IVec S_ 1 := (fun x v => Host.reduce IntOp.andi x v reducesTo_S4x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S2x6x64x64 .f32 := Host.absf main_arg3
  let main_cst_4 : FVec F S_ .f32 := constant S_ .f32 0x7F800000#32
  let main_v15 : FVec F S2x6x64x64 .f32 := broadcastInDim S2x6x64x64 ![] bcast_S_S2x6x64x64 main_cst_4
  let main_v16 : IVec S2x6x64x64 1 := cmpf .olt main_v14 main_v15
  fn_part1 (F := F) main_arg4 main_arg5 main_arg6 main_arg7 main_arg8 main_v13 main_v16
-- ==== Pre_tables_ok.lean ====
abbrev S352 : Shape := ⟨1, ![352]⟩
abbrev S1441792x128 : Shape := ⟨2, ![1441792, 128]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S352 : S_.BroadcastsInDim S352 (![] : Fin 0 → Fin S352.rank)

variable [Facts]

def fn {F : FTy → Type} [FloatOps F] (main_arg0 : IVec S352 32) (main_arg1 : IVec S352 32) (main_arg2 : FVec F S1441792x128 .f32) (main_arg3 : FVec F S2x32x1024x1024 .bf16) (main_arg4 : FVec F S2x32x1x1024 .f32) (main_arg5 : FVec F S2x32x1024x1024 .bf16) (main_arg6 : FVec F S2x32x1x1024 .f32) (main_arg7 : FVec F S2x32x1024x1024 .bf16) (main_arg8 : FVec F S2x32x1x1024 .f32) : IVec S352 1 :=
  let main_c : IVec S_ 32 := constantI S_ 32 0#32
  let main_v0 : IVec S352 32 := broadcastInDim S352 ![] bcast_S_S352 main_c
  let main_v1 : IVec S352 1 := cmpi .sge main_arg0 main_v0
  let main_c_0 : IVec S_ 32 := constantI S_ 32 32#32
  let main_v2 : IVec S352 32 := broadcastInDim S352 ![] bcast_S_S352 main_c_0
  let main_v3 : IVec S352 1 := cmpi .slt main_arg0 main_v2
  let main_v4 : IVec S352 1 := andi main_v1 main_v3
  let main_c_1 : IVec S_ 32 := constantI S_ 32 0#32
  let main_v5 : IVec S352 32 := broadcastInDim S352 ![] bcast_S_S352 main_c_1
  let main_v6 : IVec S352 1 := cmpi .sge main_arg1 main_v5
  let main_v7 : IVec S352 1 := andi main_v4 main_v6
  main_v7
-- ==== Kernel.lean ====
abbrev S352 : Shape := ⟨1, ![352]⟩
abbrev S1441792x128 : Shape := ⟨2, ![1441792, 128]⟩
abbrev S2x32x1024x1024 : Shape := ⟨4, ![2, 32, 1024, 1024]⟩
abbrev S2x32x1x1024 : Shape := ⟨4, ![2, 32, 1, 1024]⟩
abbrev S4096x128 : Shape := ⟨2, ![4096, 128]⟩
abbrev S1x1x1024x1024 : Shape := ⟨4, ![1, 1, 1024, 1024]⟩
abbrev S1 : Shape := ⟨1, ![1]⟩
abbrev S1x1x1x1024 : Shape := ⟨4, ![1, 1, 1, 1024]⟩
abbrev S512x128 : Shape := ⟨2, ![512, 128]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S1441792x128, .f32⟩
  | .hbm, ⟨1, _⟩ => ⟨S2x32x1024x1024, .bf16⟩
  | .hbm, ⟨2, _⟩ => ⟨S2x32x1x1024, .f32⟩
  | .hbm, ⟨3, _⟩ => ⟨S2x32x1024x1024, .bf16⟩
  | .hbm, ⟨4, _⟩ => ⟨S2x32x1x1024, .f32⟩
  | .hbm, ⟨5, _⟩ => ⟨S2x32x1024x1024, .bf16⟩
  | .hbm, ⟨6, _⟩ => ⟨S2x32x1x1024, .f32⟩
  | .hbm, ⟨7, _⟩ => ⟨S1441792x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S4096x128, .f32⟩
  | .local _ .vmem, ⟨15, _⟩ => ⟨S4096x128, .f32⟩
  | .local _ .smem, ⟨0, _⟩ => ⟨S352, .i32⟩
  | .local _ .smem, ⟨1, _⟩ => ⟨S352, .i32⟩
  | _, _ => ⟨S1441792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S352 : Shape := ⟨1, ![352]⟩
abbrev S1441792x128 : Shape := ⟨2, ![1441792, 128]⟩
abbrev S2x32x1024x1024 : Shape := ⟨4, ![2, 32, 1024, 1024]⟩
abbrev S2x32x1x1024 : Shape := ⟨4, ![2, 32, 1, 1024]⟩
abbrev S352x512x1024 : Shape := ⟨3, ![352, 512, 1024]⟩
abbrev S1x32x1024x1024 : Shape := ⟨4, ![1, 32, 1024, 1024]⟩
abbrev S32x1024x1024 : Shape := ⟨3, ![32, 1024, 1024]⟩
abbrev S_ : Shape := ⟨0, ![]⟩
abbrev S352x1 : Shape := ⟨2, ![352, 1]⟩
abbrev S352x1024x1024 : Shape := ⟨3, ![352, 1024, 1024]⟩
abbrev S1x32x1x1024 : Shape := ⟨4, ![1, 32, 1, 1024]⟩
abbrev S32x1x1024 : Shape := ⟨3, ![32, 1, 1024]⟩
abbrev S352x1x1024 : Shape := ⟨3, ![352, 1, 1024]⟩
abbrev S352x1x1 : Shape := ⟨3, ![352, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S352, .i32⟩
  | .hbm, ⟨1, _⟩ => ⟨S352, .i32⟩
  | .hbm, ⟨2, _⟩ => ⟨S1441792x128, .f32⟩
  | .hbm, ⟨3, _⟩ => ⟨S2x32x1024x1024, .bf16⟩
  | .hbm, ⟨4, _⟩ => ⟨S2x32x1x1024, .f32⟩
  | .hbm, ⟨5, _⟩ => ⟨S2x32x1024x1024, .bf16⟩
  | .hbm, ⟨6, _⟩ => ⟨S2x32x1x1024, .f32⟩
  | .hbm, ⟨7, _⟩ => ⟨S2x32x1024x1024, .bf16⟩
  | .hbm, ⟨8, _⟩ => ⟨S2x32x1x1024, .f32⟩
  | .hbm, ⟨9, _⟩ => ⟨S352x512x1024, .f32⟩
  | .hbm, ⟨10, _⟩ => ⟨S1x32x1024x1024, .bf16⟩
  | .hbm, ⟨11, _⟩ => ⟨S32x1024x1024, .bf16⟩
  | .hbm, ⟨12, _⟩ => ⟨S32x1024x1024, .f32⟩
  | .hbm, ⟨13, _⟩ => ⟨S_, .i32⟩
  | .hbm, ⟨14, _⟩ => ⟨S352, .i32⟩
  | .hbm, ⟨15, _⟩ => ⟨S352, .i1⟩
  | .hbm, ⟨16, _⟩ => ⟨S_, .i32⟩
  | .hbm, ⟨17, _⟩ => ⟨S352, .i32⟩
  | .hbm, ⟨18, _⟩ => ⟨S352, .i32⟩
  | .hbm, ⟨19, _⟩ => ⟨S352, .i32⟩
  | .hbm, ⟨20, _⟩ => ⟨S352x1, .i32⟩
  | .hbm, ⟨21, _⟩ => ⟨S352x1024x1024, .f32⟩
  | .hbm, ⟨22, _⟩ => ⟨S352x512x1024, .f32⟩
  | .hbm, ⟨23, _⟩ => ⟨S1x32x1x1024, .f32⟩
  | .hbm, ⟨24, _⟩ => ⟨S32x1x1024, .f32⟩
  | .hbm, ⟨25, _⟩ => ⟨S_, .i32⟩
  | .hbm, ⟨26, _⟩ => ⟨S352, .i32⟩
  | .hbm, ⟨27, _⟩ => ⟨S352, .i1⟩
  | .hbm, ⟨28, _⟩ => ⟨S_, .i32⟩
  | .hbm, ⟨29, _⟩ => ⟨S352, .i32⟩
  | .hbm, ⟨30, _⟩ => ⟨S352, .i32⟩
  | .hbm, ⟨31, _⟩ => ⟨S352, .i32⟩
  | .hbm, ⟨32, _⟩ => ⟨S352x1, .i32⟩
  | .hbm, ⟨33, _⟩ => ⟨S352x1x1024, .f32⟩
  | .hbm, ⟨34, _⟩ => ⟨S352x512x1024, .f32⟩
  | .hbm, ⟨35, _⟩ => ⟨S352x512x1024, .f32⟩
  | .hbm, ⟨36, _⟩ => ⟨S_, .f32⟩
  | .hbm, ⟨37, _⟩ => ⟨S352x512x1024, .f32⟩
  | .hbm, ⟨38, _⟩ => ⟨S352x512x1024, .f32⟩
  | .hbm, ⟨39, _⟩ => ⟨S1x32x1024x1024, .bf16⟩
  | .hbm, ⟨40, _⟩ => ⟨S32x1024x1024, .bf16⟩
  | .hbm, ⟨41, _⟩ => ⟨S32x1024x1024, .f32⟩
  | .hbm, ⟨42, _⟩ => ⟨S_, .i32⟩
  | .hbm, ⟨43, _⟩ => ⟨S352, .i32⟩
  | .hbm, ⟨44, _⟩ => ⟨S352, .i1⟩
  | .hbm, ⟨45, _⟩ => ⟨S_, .i32⟩
  | .hbm, ⟨46, _⟩ => ⟨S352, .i32⟩
  | .hbm, ⟨47, _⟩ => ⟨S352, .i32⟩
  | .hbm, ⟨48, _⟩ => ⟨S352, .i32⟩
  | .hbm, ⟨49, _⟩ => ⟨S352x1, .i32⟩
  | .hbm, ⟨50, _⟩ => ⟨S352x1024x1024, .f32⟩
  | .hbm, ⟨51, _⟩ => ⟨S352x512x1024, .f32⟩
  | .hbm, ⟨52, _⟩ => ⟨S1x32x1x1024, .f32⟩
  | .hbm, ⟨53, _⟩ => ⟨S32x1x1024, .f32⟩
  | .hbm, ⟨54, _⟩ => ⟨S_, .i32⟩
  | .hbm, ⟨55, _⟩ => ⟨S352, .i32⟩
  | .hbm, ⟨56, _⟩ => ⟨S352, .i1⟩
  | .hbm, ⟨57, _⟩ => ⟨S_, .i32⟩
  | .hbm, ⟨58, _⟩ => ⟨S352, .i32⟩
  | .hbm, ⟨59, _⟩ => ⟨S352, .i32⟩
  | .hbm, ⟨60, _⟩ => ⟨S352, .i32⟩
  | .hbm, ⟨61, _⟩ => ⟨S352x1, .i32⟩
  | .hbm, ⟨62, _⟩ => ⟨S352x1x1024, .f32⟩
  | .hbm, ⟨63, _⟩ => ⟨S352x512x1024, .f32⟩
  | .hbm, ⟨64, _⟩ => ⟨S352x512x1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S352x512x1024, .f32⟩
  | .hbm, ⟨69, _⟩ => ⟨S352x512x1024, .f32⟩
  | .hbm, ⟨70, _⟩ => ⟨S_, .f32⟩
  | .hbm, ⟨71, _⟩ => ⟨S352x512x1024, .f32⟩
  | .hbm, ⟨72, _⟩ => ⟨S352x512x1024, .f32⟩
  | .hbm, ⟨73, _⟩ => ⟨S_, .f32⟩
  | .hbm, ⟨74, _⟩ => ⟨S352x512x1024, .f32⟩
  | .hbm, ⟨75, _⟩ => ⟨S352x512x1024, .f32⟩
  | .hbm, ⟨76, _⟩ => ⟨S352x512x1024, .f32⟩
  | .hbm, ⟨77, _⟩ => ⟨S_, .f32⟩
  | .hbm, ⟨78, _⟩ => ⟨S352x512x1024, .f32⟩
  | .hbm, ⟨79, _⟩ => ⟨S352x512x1024, .f32⟩
  | .hbm, ⟨80, _⟩ => ⟨S352x512x1024, .f32⟩
  | .hbm, ⟨81, _⟩ => ⟨S352x512x1024, .f32⟩
  | .hbm, ⟨82, _⟩ => ⟨S_, .f32⟩
  | .hbm, ⟨83, _⟩ => ⟨S352x512x1024, .f32⟩
  | .hbm, ⟨84, _⟩ => ⟨S352x512x1024, .f32⟩
  | .hbm, ⟨85, _⟩ => ⟨S_, .f32⟩
  | .hbm, ⟨86, _⟩ => ⟨S352x512x1024, .f32⟩
  | .hbm, ⟨87, _⟩ => ⟨S352x512x1024, .f32⟩
  | .hbm, ⟨88, _⟩ => ⟨S352x512x1024, .f32⟩
  | .hbm, ⟨89, _⟩ => ⟨S1x32x1024x1024, .bf16⟩
  | .hbm, ⟨90, _⟩ => ⟨S32x1024x1024, .bf16⟩
  | .hbm, ⟨91, _⟩ => ⟨S32x1024x1024, .f32⟩
  | .hbm, ⟨92, _⟩ => ⟨S_, .i32⟩
  | .hbm, ⟨93, _⟩ => ⟨S352, .i32⟩
  | .hbm, ⟨94, _⟩ => ⟨S352, .i1⟩
  | .hbm, ⟨95, _⟩ => ⟨S_, .i32⟩
  | .hbm, ⟨96, _⟩ => ⟨S352, .i32⟩
  | .hbm, ⟨97, _⟩ => ⟨S352, .i32⟩
  | .hbm, ⟨98, _⟩ => ⟨S352, .i32⟩
  | .hbm, ⟨99, _⟩ => ⟨S352x1, .i32⟩
  | .hbm, ⟨100, _⟩ => ⟨S352x1024x1024, .f32⟩
  | .hbm, ⟨101, _⟩ => ⟨S352x512x1024, .f32⟩
  | .hbm, ⟨102, _⟩ => ⟨S1x32x1x1024, .f32⟩
  | .hbm, ⟨103, _⟩ => ⟨S32x1x1024, .f32⟩
  | .hbm, ⟨104, _⟩ => ⟨S_, .i32⟩
  | .hbm, ⟨105, _⟩ => ⟨S352, .i32⟩
  | .hbm, ⟨106, _⟩ => ⟨S352, .i1⟩
  | .hbm, ⟨107, _⟩ => ⟨S_, .i32⟩
  | .hbm, ⟨108, _⟩ => ⟨S352, .i32⟩
  | .hbm, ⟨109, _⟩ => ⟨S352, .i32⟩
  | .hbm, ⟨110, _⟩ => ⟨S352, .i32⟩
  | .hbm, ⟨111, _⟩ => ⟨S352x1, .i32⟩
  | .hbm, ⟨112, _⟩ => ⟨S352x1x1024, .f32⟩
  | .hbm, ⟨113, _⟩ => ⟨S352x512x1024, .f32⟩
  | .hbm, ⟨114, _⟩ => ⟨S352x512x1024, .f32⟩
  | .hbm, ⟨115, _⟩ => ⟨S352x1x1, .i32⟩
  | .hbm, ⟨116, _⟩ => ⟨S_, .i32⟩
  | .hbm, ⟨117, _⟩ => ⟨S352x1x1, .i32⟩
  | .hbm, ⟨118, _⟩ => ⟨S352x1x1, .i1⟩
  | .hbm, ⟨119, _⟩ => ⟨S_, .f32⟩
  | .hbm, ⟨120, _⟩ => ⟨S_, .f32⟩
  | .hbm, ⟨121, _⟩ => ⟨S352x512x1024, .i1⟩
  | .hbm, ⟨122, _⟩ => ⟨S352x512x1024, .f32⟩
  | .hbm, ⟨123, _⟩ => ⟨S352x512x1024, .f32⟩
  | .hbm, ⟨124, _⟩ => ⟨S1441792x128, .f32⟩
  | _, _ => ⟨S352, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_cst_8 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Kernel2.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S1x1024 : Shape := ⟨2, ![1, 1024]⟩
abbrev S40960x3072 : Shape := ⟨2, ![40960, 3072]⟩
abbrev S256x1024 : Shape := ⟨2, ![256, 1024]⟩
abbrev S1x6x1024 : Shape := ⟨3, ![1, 6, 1024]⟩
abbrev S256x3072 : Shape := ⟨2, ![256, 3072]⟩
abbrev S256 : Shape := ⟨1, ![256]⟩
abbrev S256x1 : Shape := ⟨2, ![256, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S40960x3072, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S256x3072, .f32⟩
  | .local _ .vmem, ⟨7, _⟩ => ⟨S256x3072, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S40960x1024 : Shape := ⟨2, ![40960, 1024]⟩
abbrev S16x6x1024 : Shape := ⟨3, ![16, 6, 1024]⟩
abbrev S1024 : Shape := ⟨1, ![1024]⟩
abbrev S1024x3072 : Shape := ⟨2, ![1024, 3072]⟩
abbrev S8192x1024 : Shape := ⟨2, ![8192, 1024]⟩
abbrev S32x256x1024 : Shape := ⟨3, ![32, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32768x1024 : Shape := ⟨2, ![32768, 1024]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S8x4096x3072 : Shape := ⟨3, ![8, 4096, 3072]⟩
abbrev S8192x3072 : Shape := ⟨2, ![8192, 3072]⟩
abbrev S32768x3072 : Shape := ⟨2, ![32768, 3072]⟩
abbrev S40960x3072 : Shape := ⟨2, ![40960, 3072]⟩

abbrev nBuf : Space → Nat
  | .hbm => 73
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S8192x1024, .f32⟩
  | .hbm, ⟨5, _⟩ => ⟨S32x256x1024, .f32⟩
  | .hbm, ⟨6, _⟩ => ⟨S1x6x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x3072, .f32⟩
  | .hbm, ⟨37, _⟩ => ⟨S32768x1024, .f32⟩
  | .hbm, ⟨38, _⟩ => ⟨S8x4096x1024, .f32⟩
  | .hbm, ⟨39, _⟩ => ⟨S8x6x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x1x1024, .f32⟩
  | .hbm, ⟨44, _⟩ => ⟨S8x1024, .f32⟩
  | .hbm, ⟨45, _⟩ => ⟨S8x1x1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x3072, .f32⟩
  | .hbm, ⟨70, _⟩ => ⟨S8192x3072, .f32⟩
  | .hbm, ⟨71, _⟩ => ⟨S32768x3072, .f32⟩
  | .hbm, ⟨72, _⟩ => ⟨S40960x3072, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel3.lean ====
abbrev S40960x384 : Shape := ⟨2, ![40960, 384]⟩
abbrev S40960x256 : Shape := ⟨2, ![40960, 256]⟩
abbrev S40960x3072 : Shape := ⟨2, ![40960, 3072]⟩
abbrev S40960x1024 : Shape := ⟨2, ![40960, 1024]⟩
abbrev S16x6x1024 : Shape := ⟨3, ![16, 6, 1024]⟩
abbrev S1024x1024 : Shape := ⟨2, ![1024, 1024]⟩
abbrev S256 : Shape := ⟨1, ![256]⟩
abbrev S384 : Shape := ⟨1, ![384]⟩
abbrev S1024 : Shape := ⟨1, ![1024]⟩
abbrev S1024x32 : Shape := ⟨2, ![1024, 32]⟩
abbrev S32 : Shape := ⟨1, ![32]⟩
abbrev S1x256 : Shape := ⟨2, ![1, 256]⟩
abbrev S1x384 : Shape := ⟨2, ![1, 384]⟩
abbrev S1x1024 : Shape := ⟨2, ![1, 1024]⟩
abbrev S32x1024 : Shape := ⟨2, ![32, 1024]⟩
abbrev S32x1 : Shape := ⟨2, ![32, 1]⟩
abbrev S327680x128 : Shape := ⟨2, ![327680, 128]⟩
abbrev S32x40960 : Shape := ⟨2, ![32, 40960]⟩
abbrev S256x384 : Shape := ⟨2, ![256, 384]⟩
abbrev S256x256 : Shape := ⟨2, ![256, 256]⟩
abbrev S256x1024 : Shape := ⟨2, ![256, 1024]⟩
abbrev S1x6x1024 : Shape := ⟨3, ![1, 6, 1024]⟩
abbrev S2048x128 : Shape := ⟨2, ![2048, 128]⟩
abbrev S32x256 : Shape := ⟨2, ![32, 256]⟩
abbrev S256x1 : Shape := ⟨2, ![256, 1]⟩
abbrev S384x1024 : Shape := ⟨2, ![384, 1024]⟩
abbrev S1x1x1024 : Shape := ⟨3, ![1, 1, 1024]⟩
abbrev S256x128 : Shape := ⟨2, ![256, 128]⟩

abbrev nBuf : Space → Nat
  | .hbm => 22
  | .vmem => 26
  | .smem => 0
  | _ => 0

abbrev bufTy : (tb : Table) → Fin (tcTables nBuf tb) → BufTy
  | .hbm, ⟨0, _⟩ => ⟨S40960x384, .f32⟩
  | .hbm, ⟨1, _⟩ => ⟨S40960x256, .f32⟩
  | .hbm, ⟨2, _⟩ => ⟨S40960x384, .f32⟩
  | .hbm, ⟨3, _⟩ => ⟨S40960x384, .f32⟩
  | .hbm, ⟨4, _⟩ => ⟨S40960x3072, .f32⟩
  | .hbm, ⟨5, _⟩ => ⟨S40960x1024, .f32⟩
  | .hbm, ⟨6, _⟩ => ⟨S16x6x1024, .f32⟩
  | .hbm, ⟨7, _⟩ => ⟨S1024x1024, .f32⟩
  | .hbm, ⟨8, _⟩ => ⟨S256, .f32⟩
  | .hbm, ⟨9, _⟩ => ⟨S384, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S1024x1024, .bf16⟩
  | .hbm, ⟨14, _⟩ => ⟨S1x256, .f32⟩
  | .hbm, ⟨15, _⟩ => ⟨S1x384, .f32⟩
  | .hbm, ⟨16, _⟩ => ⟨S1x1024, .f32⟩
  | .hbm, ⟨17, _⟩ => ⟨S32x1024, .f32⟩
  | .hbm, ⟨18, _⟩ => ⟨S32x1, .f32⟩
  | .hbm, ⟨19, _⟩ => ⟨S40960x1024, .f32⟩
  | .hbm, ⟨20, _⟩ => ⟨S327680x128, .f32⟩
  | .hbm, ⟨21, _⟩ => ⟨S32x40960, .f32⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x1024, .f32⟩
  | .local _ .vmem, ⟨11, _⟩ => ⟨S256x1024, .f32⟩
  | .local _ .vmem, ⟨12, _⟩ => ⟨S1x6x1024, .f32⟩
  | .local _ .vmem, ⟨13, _⟩ => ⟨S1x6x1024, .f32⟩
  | .local _ .vmem, ⟨14, _⟩ => ⟨S1024x1024, .bf16⟩
  | .local _ .vmem, ⟨15, _⟩ => ⟨S1x256, .f32⟩
  | .local _ .vmem, ⟨16, _⟩ => ⟨S1x384, .f32⟩
  | .local _ .vmem, ⟨17, _⟩ => ⟨S1x1024, .f32⟩
  | .local _ .vmem, ⟨18, _⟩ => ⟨S32x1024, .f32⟩
  | .local _ .vmem, ⟨19, _⟩ => ⟨S32x1, .f32⟩
  | .local _ .vmem, ⟨20, _⟩ => ⟨S256x1024, .f32⟩
  | .local _ .vmem, ⟨21, _⟩ => ⟨S256x1024, .f32⟩
  | .local _ .vmem, ⟨22, _⟩ => ⟨S2048x128, .f32⟩
  | .local _ .vmem, ⟨23, _⟩ => ⟨S2048x128, .f32⟩
  | .local _ .vmem, ⟨24, _⟩ => ⟨S32x256, .f32⟩
  | .local _ .vmem, ⟨25, _⟩ => ⟨S32x256, .f32⟩
  | _, _ => ⟨S40960x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S40960x384 : Shape := ⟨2, ![40960, 384]⟩
abbrev S40960x256 : Shape := ⟨2, ![40960, 256]⟩
abbrev S40960x3072 : Shape := ⟨2, ![40960, 3072]⟩
abbrev S40960x1024 : Shape := ⟨2, ![40960, 1024]⟩
abbrev S16x6x1024 : Shape := ⟨3, ![16, 6, 1024]⟩
abbrev S1024x1024 : Shape := ⟨2, ![1024, 1024]⟩
abbrev S256 : Shape := ⟨1, ![256]⟩
abbrev S384 : Shape := ⟨1, ![384]⟩
abbrev S1024 : Shape := ⟨1, ![1024]⟩
abbrev S1024x32 : Shape := ⟨2, ![1024, 32]⟩
abbrev S32 : Shape := ⟨1, ![32]⟩
abbrev S_ : Shape := ⟨0, ![]⟩
abbrev S40960 : Shape := ⟨1, ![40960]⟩
abbrev S40960x1 : Shape := ⟨2, ![40960, 1]⟩
abbrev S1x256 : Shape := ⟨2, ![1, 256]⟩
abbrev S1x384 : Shape := ⟨2, ![1, 384]⟩
abbrev S8192x1024 : Shape := ⟨2, ![8192, 1024]⟩
abbrev S32x256x1024 : Shape := ⟨3, ![32, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S32x256 : Shape := ⟨2, ![32, 256]⟩
abbrev S32x256x1 : Shape := ⟨3, ![32, 256, 1]⟩
abbrev S32768x1024 : Shape := ⟨2, ![32768, 1024]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S327680x128 : Shape := ⟨2, ![327680, 128]⟩

abbrev nBuf : Space → Nat
  | .hbm => 154
  | .vmem => 0
  | .smem => 0
  | _ => 0

abbrev hbmTy0_0 (i : Nat) : BufTy := match i % 128 with
  | 0 => ⟨S40960x384, .f32⟩
  | 1 => ⟨S40960x256, .f32⟩
  | 2 => ⟨S40960x384, .f32⟩
  | 3 => ⟨S40960x384, .f32⟩
  | 4 => ⟨S40960x3072, .f32⟩
  | 5 => ⟨S40960x1024, .f32⟩
  | 6 => ⟨S16x6x1024, .f32⟩
  | 7 => ⟨S1024x1024, .f32⟩
  | 8 => ⟨S256, .f32⟩
  | 9 => ⟨S384, .f32⟩
  | 10 => ⟨S1024, .f32⟩
  | 11 => ⟨S1024x32, .f32⟩
  | 12 => ⟨S32, .f32⟩
  | 13 => ⟨S40960x384, .f32⟩
  | 14 => ⟨S40960x384, .f32⟩
  | 15 => ⟨S40960x384, .f32⟩
  | 16 => ⟨S40960x384, .f32⟩
  | 17 => ⟨S_, .f32⟩
  | 18 => ⟨S40960x384, .f32⟩
  | 19 => ⟨S40960x384, .f32⟩
  | 20 => ⟨S40960x384, .f32⟩
  | 21 => ⟨S_, .f32⟩
  | 22 => ⟨S40960x384, .f32⟩
  | 23 => ⟨S40960x384, .f32⟩
  | 24 => ⟨S40960x384, .f32⟩
  | 25 => ⟨S_, .f32⟩
  | 26 => ⟨S40960x384, .f32⟩
  | 27 => ⟨S40960x384, .f32⟩
  | 28 => ⟨S_, .f32⟩
  | 29 => ⟨S40960x384, .f32⟩
  | 30 => ⟨S40960x384, .f32⟩
  | 31 => ⟨S40960x384, .f32⟩
  | 32 => ⟨S40960x384, .f32⟩
  | 33 => ⟨S40960x256, .f32⟩
  | 34 => ⟨S_, .f32⟩
  | 35 => ⟨S40960, .f32⟩
  | 36 => ⟨S40960x1, .f32⟩
  | 37 => ⟨S_, .f32⟩
  | 38 => ⟨S40960x1, .f32⟩
  | 39 => ⟨S40960x1, .f32⟩
  | 40 => ⟨S_, .f32⟩
  | 41 => ⟨S40960x1, .f32⟩
  | 42 => ⟨S40960x1, .f32⟩
  | 43 => ⟨S40960x1, .f32⟩
  | 44 => ⟨S40960x256, .f32⟩
  | 45 => ⟨S40960x256, .f32⟩
  | 46 => ⟨S1x256, .f32⟩
  | 47 => ⟨S40960x256, .f32⟩
  | 48 => ⟨S40960x256, .f32⟩
  | 49 => ⟨S40960x384, .f32⟩
  | 50 => ⟨S_, .f32⟩
  | 51 => ⟨S40960, .f32⟩
  | 52 => ⟨S40960x1, .f32⟩
  | 53 => ⟨S_, .f32⟩
  | 54 => ⟨S40960x1, .f32⟩
  | 55 => ⟨S40960x1, .f32⟩
  | 56 => ⟨S_, .f32⟩
  | 57 => ⟨S40960x1, .f32⟩
  | 58 => ⟨S40960x1, .f32⟩
  | 59 => ⟨S40960x1, .f32⟩
  | 60 => ⟨S40960x384, .f32⟩
  | 61 => ⟨S40960x384, .f32⟩
  | 62 => ⟨S1x384, .f32⟩
  | 63 => ⟨S40960x384, .f32⟩
  | 64 => ⟨S40960x384, .f32⟩
  | 65 => ⟨S40960x1024, .f32⟩
  | 66 => ⟨S40960x1024, .f32⟩
  | 67 => ⟨S8192x1024, .f32⟩
  | 68 => ⟨S32x256x1024, .f32⟩
  | 69 => ⟨S8192x1024, .f32⟩
  | 70 => ⟨S32x256x1024, .f32⟩
  | 71 => ⟨S1x6x1024, .f32⟩
  | 72 => ⟨S1x1x1024, .f32⟩
  | 73 => ⟨S1x1024, .f32⟩
  | 74 => ⟨S1x1x1024, .f32⟩
  | 75 => ⟨S1x1x1024, .f32⟩
  | 76 => ⟨S1x1024, .f32⟩
  | 77 => ⟨S1x1x1024, .f32⟩
  | 78 => ⟨S1x1x1024, .f32⟩
  | 79 => ⟨S1x1024, .f32⟩
  | 80 => ⟨S1x1x1024, .f32⟩
  | 81 => ⟨S32x256x1024, .f32⟩
  | 82 => ⟨S32x256x1024, .f32⟩
  | 83 => ⟨S32x256x1024, .f32⟩
  | 84 => ⟨S32x256x1024, .f32⟩
  | 85 => ⟨S_, .f32⟩
  | 86 => ⟨S32x256, .f32⟩
  | 87 => ⟨S32x256x1, .f32⟩
  | 88 => ⟨S_, .f32⟩
  | 89 => ⟨S32x256x1, .f32⟩
  | 90 => ⟨S32x256x1, .f32⟩
  | 91 => ⟨S_, .f32⟩
  | 92 => ⟨S32x256x1, .f32⟩
  | 93 => ⟨S32x256x1, .f32⟩
  | 94 => ⟨S32x256x1, .f32⟩
  | 95 => ⟨S32x256x1024, .f32⟩
  | 96 => ⟨S32x256x1024, .f32⟩
  | 97 => ⟨S1x1x1024, .f32⟩
  | 98 => ⟨S32x256x1024, .f32⟩
  | 99 => ⟨S32x256x1024, .f32⟩
  | 100 => ⟨S_, .f32⟩
  | 101 => ⟨S1x1x1024, .f32⟩
  | 102 => ⟨S1x1x1024, .f32⟩
  | 103 => ⟨S32x256x1024, .f32⟩
  | 104 => ⟨S32x256x1024, .f32⟩
  | 105 => ⟨S32x256x1024, .f32⟩
  | 106 => ⟨S32x256x1024, .f32⟩
  | 107 => ⟨S32768x1024, .f32⟩
  | 108 => ⟨S8x4096x1024, .f32⟩
  | 109 => ⟨S32768x1024, .f32⟩
  | 110 => ⟨S8x4096x1024, .f32⟩
  | 111 => ⟨S8x6x1024, .f32⟩
  | 112 => ⟨S8x1x1024, .f32⟩
  | 113 => ⟨S8x1024, .f32⟩
  | 114 => ⟨S8x1x1024, .f32⟩
  | 115 => ⟨S8x1x1024, .f32⟩
  | 116 => ⟨S8x1024, .f32⟩
  | 117 => ⟨S8x1x1024, .f32⟩
  | 118 => ⟨S8x1x1024, .f32⟩
  | 119 => ⟨S8x1024, .f32⟩
  | 120 => ⟨S8x1x1024, .f32⟩
  | 121 => ⟨S8x4096x1024, .f32⟩
  | 122 => ⟨S8x4096x1024, .f32⟩
  | 123 => ⟨S8x4096x1024, .f32⟩
  | 124 => ⟨S8x4096x1024, .f32⟩
  | 125 => ⟨S_, .f32⟩
  | 126 => ⟨S8x4096, .f32⟩
  | 127 => ⟨S8x4096x1, .f32⟩
  | _ => ⟨S40960x384, .f32⟩

abbrev hbmTy0_1 (i : Nat) : BufTy := match i % 128 with
  | 0 => ⟨S_, .f32⟩
  | 1 => ⟨S8x4096x1, .f32⟩
  | 2 => ⟨S8x4096x1, .f32⟩
  | 3 => ⟨S_, .f32⟩
  | 4 => ⟨S8x4096x1, .f32⟩
  | 5 => ⟨S8x4096x1, .f32⟩
  | 6 => ⟨S8x4096x1, .f32⟩
  | 7 => ⟨S8x4096x1024, .f32⟩
  | 8 => ⟨S8x4096x1024, .f32⟩
  | 9 => ⟨S1x1x1024, .f32⟩
  | 10 => ⟨S8x4096x1024, .f32⟩
  | 11 => ⟨S8x4096x1024, .f32⟩
  | 12 => ⟨S_, .f32⟩
  | 13 => ⟨S8x1x1024, .f32⟩
  | 14 => ⟨S8x1x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8192x1024, .f32⟩
  | 20 => ⟨S32768x1024, .f32⟩
  | 21 => ⟨S40960x1024, .f32⟩
  | 22 => ⟨S8192x1024, .f32⟩
  | 23 => ⟨S32768x1024, .f32⟩
  | 24 => ⟨S40960x1024, .f32⟩
  | 25 => ⟨S327680x128, .f32⟩
  | _ => ⟨S40960x384, .f32⟩

abbrev hbmTy (i : Nat) : BufTy := match i / 128 with
  | 0 => hbmTy0_0 i
  | 1 => hbmTy0_1 i
  | _ => ⟨S40960x384, .f32⟩

abbrev bufTy : (tb : Table) → Fin (tcTables nBuf tb) → BufTy
  | .hbm, ⟨i, _⟩ => hbmTy i
  | _, _ => ⟨S40960x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_v101 : Ref sig .tc := ⟨.hbm, 130, rfl⟩
abbrev main_cst_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_16 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩

abbrev nD : Nat := 1
abbrev τ : Topo := Topo.v7x

variable {F : FTy → Type} [FloatOps F]
-- ==== Kernel4.lean ====
abbrev S40960x3072 : Shape := ⟨2, ![40960, 3072]⟩
abbrev S4x384 : Shape := ⟨2, ![4, 384]⟩
abbrev S384 : Shape := ⟨1, ![384]⟩
abbrev S2x6x64x64 : Shape := ⟨4, ![2, 6, 64, 64]⟩
abbrev S2x384 : Shape := ⟨2, ![2, 384]⟩
abbrev S8x2x384 : Shape := ⟨3, ![8, 2, 384]⟩
abbrev S1x6x64x64 : Shape := ⟨4, ![1, 6, 64, 64]⟩
abbrev S6x64x64 : Shape := ⟨3, ![6, 64, 64]⟩
abbrev S6x6 : Shape := ⟨2, ![6, 6]⟩
abbrev S_ : Shape := ⟨0, ![]⟩
abbrev S6x64x1x64 : Shape := ⟨4, ![6, 64, 1, 64]⟩
abbrev S6x1x6x1 : Shape := ⟨4, ![6, 1, 6, 1]⟩
abbrev S6x64x6x64 : Shape := ⟨4, ![6, 64, 6, 64]⟩
abbrev S384x384 : Shape := ⟨2, ![384, 384]⟩
abbrev S384x768 : Shape := ⟨2, ![384, 768]⟩
abbrev S1x384x768 : Shape := ⟨3, ![1, 384, 768]⟩
abbrev S2x384x768 : Shape := ⟨3, ![2, 384, 768]⟩
abbrev S1x384 : Shape := ⟨2, ![1, 384]⟩
abbrev S768 : Shape := ⟨1, ![768]⟩
abbrev S1x768 : Shape := ⟨2, ![1, 768]⟩
abbrev S1x1x768 : Shape := ⟨3, ![1, 1, 768]⟩
abbrev S2x1x768 : Shape := ⟨3, ![2, 1, 768]⟩
abbrev S2x1x384 : Shape := ⟨3, ![2, 1, 384]⟩
abbrev S8x2x1x384 : Shape := ⟨4, ![8, 2, 1, 384]⟩
abbrev S32768x384 : Shape := ⟨2, ![32768, 384]⟩
abbrev S8x1x384 : Shape := ⟨3, ![8, 1, 384]⟩
abbrev S256x384 : Shape := ⟨2, ![256, 384]⟩
abbrev S1x1x384 : Shape := ⟨3, ![1, 1, 384]⟩
abbrev S1x1x1x384 : Shape := ⟨4, ![1, 1, 1, 384]⟩
abbrev S256x1 : Shape := ⟨2, ![256, 1]⟩
abbrev S256x768 : Shape := ⟨2, ![256, 768]⟩

abbrev nBuf : Space → Nat
  | .hbm => 94
  | .vmem => 14
  | .smem => 0
  | _ => 0

abbrev bufTy : (tb : Table) → Fin (tcTables nBuf tb) → BufTy
  | .hbm, ⟨0, _⟩ => ⟨S40960x3072, .f32⟩
  | .hbm, ⟨1, _⟩ => ⟨S4x384, .f32⟩
  | .hbm, ⟨2, _⟩ => ⟨S384, .f32⟩
  | .hbm, ⟨3, _⟩ => ⟨S2x6x64x64, .f32⟩
  | .hbm, ⟨4, _⟩ => ⟨S2x384, .f32⟩
  | .hbm, ⟨5, _⟩ => ⟨S2x6x64x64, .f32⟩
  | .hbm, ⟨6, _⟩ => ⟨S2x384, .f32⟩
  | .hbm, ⟨7, _⟩ => ⟨S2x384, .f32⟩
  | .hbm, ⟨8, _⟩ => ⟨S8x2x384, .f32⟩
  | .hbm, ⟨9, _⟩ => ⟨S1x6x64x64, .f32⟩
  | .hbm, ⟨10, _⟩ => ⟨S6x64x64, .f32⟩
  | .hbm, ⟨11, _⟩ => ⟨S6x6, .i32⟩
  | .hbm, ⟨12, _⟩ => ⟨S6x6, .i32⟩
  | .hbm, ⟨13, _⟩ => ⟨S_, .i32⟩
  | .hbm, ⟨14, _⟩ => ⟨S6x6, .i32⟩
  | .hbm, ⟨15, _⟩ => ⟨S6x6, .i32⟩
  | .hbm, ⟨16, _⟩ => ⟨S6x6, .i1⟩
  | .hbm, ⟨17, _⟩ => ⟨S6x6, .f32⟩
  | .hbm, ⟨18, _⟩ => ⟨S6x64x1x64, .f32⟩
  | .hbm, ⟨19, _⟩ => ⟨S6x1x6x1, .f32⟩
  | .hbm, ⟨20, _⟩ => ⟨S6x64x6x64, .f32⟩
  | .hbm, ⟨21, _⟩ => ⟨S6x64x6x64, .f32⟩
  | .hbm, ⟨22, _⟩ => ⟨S6x64x6x64, .f32⟩
  | .hbm, ⟨23, _⟩ => ⟨S384x384, .f32⟩
  | .hbm, ⟨24, _⟩ => ⟨S1x6x64x64, .f32⟩
  | .hbm, ⟨25, _⟩ => ⟨S6x64x64, .f32⟩
  | .hbm, ⟨26, _⟩ => ⟨S6x6, .i32⟩
  | .hbm, ⟨27, _⟩ => ⟨S6x6, .i32⟩
  | .hbm, ⟨28, _⟩ => ⟨S_, .i32⟩
  | .hbm, ⟨29, _⟩ => ⟨S6x6, .i32⟩
  | .hbm, ⟨30, _⟩ => ⟨S6x6, .i32⟩
  | .hbm, ⟨31, _⟩ => ⟨S6x6, .i1⟩
  | .hbm, ⟨32, _⟩ => ⟨S6x6, .f32⟩
  | .hbm, ⟨33, _⟩ => ⟨S6x64x1x64, .f32⟩
  | .hbm, ⟨34, _⟩ => ⟨S6x1x6x1, .f32⟩
  | .hbm, ⟨35, _⟩ => ⟨S6x64x6x64, .f32⟩
  | .hbm, ⟨36, _⟩ => ⟨S6x64x6x64, .f32⟩
  | .hbm, ⟨37, _⟩ => ⟨S6x64x6x64, .f32⟩
  | .hbm, ⟨38, _⟩ => ⟨S384x384, .f32⟩
  | .hbm, ⟨39, _⟩ => ⟨S384x768, .f32⟩
  | .hbm, ⟨40, _⟩ => ⟨S1x6x64x64, .f32⟩
  | .hbm, ⟨41, _⟩ => ⟨S6x64x64, .f32⟩
  | .hbm, ⟨42, _⟩ => ⟨S6x6, .i32⟩
  | .hbm, ⟨43, _⟩ => ⟨S6x6, .i32⟩
  | .hbm, ⟨44, _⟩ => ⟨S_, .i32⟩
  | .hbm, ⟨45, _⟩ => ⟨S6x6, .i32⟩
  | .hbm, ⟨46, _⟩ => ⟨S6x6, .i32⟩
  | .hbm, ⟨47, _⟩ => ⟨S6x6, .i1⟩
  | .hbm, ⟨48, _⟩ => ⟨S6x6, .f32⟩
  | .hbm, ⟨49, _⟩ => ⟨S6x64x1x64, .f32⟩
  | .hbm, ⟨50, _⟩ => ⟨S6x1x6x1, .f32⟩
  | .hbm, ⟨51, _⟩ => ⟨S6x64x6x64, .f32⟩
  | .hbm, ⟨52, _⟩ => ⟨S6x64x6x64, .f32⟩
  | .hbm, ⟨53, _⟩ => ⟨S6x64x6x64, .f32⟩
  | .hbm, ⟨54, _⟩ => ⟨S384x384, .f32⟩
  | .hbm, ⟨55, _⟩ => ⟨S1x6x64x64, .f32⟩
  | .hbm, ⟨56, _⟩ => ⟨S6x64x64, .f32⟩
  | .hbm, ⟨57, _⟩ => ⟨S6x6, .i32⟩
  | .hbm, ⟨58, _⟩ => ⟨S6x6, .i32⟩
  | .hbm, ⟨59, _⟩ => ⟨S_, .i32⟩
  | .hbm, ⟨60, _⟩ => ⟨S6x6, .i32⟩
  | .hbm, ⟨61, _⟩ => ⟨S6x6, .i32⟩
  | .hbm, ⟨62, _⟩ => ⟨S6x6, .i1⟩
  | .hbm, ⟨63, _⟩ => ⟨S6x6, .f32⟩
  | .hbm, ⟨64, _⟩ => ⟨S6x64x1x64, .f32⟩
  | .hbm, ⟨65, _⟩ => ⟨S6x1x6x1, .f32⟩
  | .hbm, ⟨66, _⟩ => ⟨S6x64x6x64, .f32⟩
  | .hbm, ⟨67, _⟩ => ⟨S6x64x6x64, .f32⟩
  | .hbm, ⟨68, _⟩ => ⟨S6x64x6x64, .f32⟩
  | .hbm, ⟨69, _⟩ => ⟨S384x384, .f32⟩
  | .hbm, ⟨70, _⟩ => ⟨S384x768, .f32⟩
  | .hbm, ⟨71, _⟩ => ⟨S1x384x768, .f32⟩
  | .hbm, ⟨72, _⟩ => ⟨S1x384x768, .f32⟩
  | .hbm, ⟨73, _⟩ => ⟨S2x384x768, .f32⟩
  | .hbm, ⟨74, _⟩ => ⟨S1x384, .f32⟩
  | .hbm, ⟨75, _⟩ => ⟨S384, .f32⟩
  | .hbm, ⟨76, _⟩ => ⟨S1x384, .f32⟩
  | .hbm, ⟨77, _⟩ => ⟨S384, .f32⟩
  | .hbm, ⟨78, _⟩ => ⟨S768, .f32⟩
  | .hbm, ⟨79, _⟩ => ⟨S1x768, .f32⟩
  | .hbm, ⟨80, _⟩ => ⟨S1x384, .f32⟩
  | .hbm, ⟨81, _⟩ => ⟨S384, .f32⟩
  | .hbm, ⟨82, _⟩ => ⟨S1x384, .f32⟩
  | .hbm, ⟨83, _⟩ => ⟨S384, .f32⟩
  | .hbm, ⟨84, _⟩ => ⟨S768, .f32⟩
  | .hbm, ⟨85, _⟩ => ⟨S1x768, .f32⟩
  | .hbm, ⟨86, _⟩ => ⟨S1x1x768, .f32⟩
  | .hbm, ⟨87, _⟩ => ⟨S1x1x768, .f32⟩
  | .hbm, ⟨88, _⟩ => ⟨S2x1x768, .f32⟩
  | .hbm, ⟨89, _⟩ => ⟨S1x384, .f32⟩
  | .hbm, ⟨90, _⟩ => ⟨S2x1x384, .f32⟩
  | .hbm, ⟨91, _⟩ => ⟨S8x2x1x384, .f32⟩
  | .hbm, ⟨92, _⟩ => ⟨S32768x384, .f32⟩
  | .hbm, ⟨93, _⟩ => ⟨S8x1x384, .f32⟩
  | .local _ .vmem, ⟨0, _⟩ => ⟨S256x384, .f32⟩
  | .local _ .vmem, ⟨1, _⟩ => ⟨S256x384, .f32⟩
  | .local _ .vmem, ⟨2, _⟩ => ⟨S4x384, .f32⟩
  | .local _ .vmem, ⟨3, _⟩ => ⟨S1x384, .f32⟩
  | .local _ .vmem, ⟨4, _⟩ => ⟨S1x384x768, .f32⟩
  | .local _ .vmem, ⟨5, _⟩ => ⟨S1x1x768, .f32⟩
  | .local _ .vmem, ⟨6, _⟩ => ⟨S1x1x384, .f32⟩
  | .local _ .vmem, ⟨7, _⟩ => ⟨S1x1x1x384, .f32⟩
  | .local _ .vmem, ⟨8, _⟩ => ⟨S1x1x1x384, .f32⟩
  | .local _ .vmem, ⟨9, _⟩ => ⟨S256x384, .f32⟩
  | .local _ .vmem, ⟨10, _⟩ => ⟨S256x384, .f32⟩
  | .local _ .vmem, ⟨11, _⟩ => ⟨S1x1x384, .f32⟩
  | .local _ .vmem, ⟨12, _⟩ => ⟨S1x1x384, .f32⟩
  | .local _ .vmem, ⟨13, _⟩ => ⟨S1x384, .f32⟩
  | _, _ => ⟨S40960x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79_0 : Ref sig .tc := ⟨.hbm, 92, rfl⟩
abbrev main_v79_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v274 : BitVec 1 := Scalar.cmpi .eq arg1 c15_i32
  let v275 : BitVec 32 := Scalar.extui v274
  let c0_i32_88 : BitVec 32 := 0#32
  let v276 : BitVec 1 := Scalar.cmpi .ne v275 c0_i32_88
  v276

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg1
  let c6_i32 : BitVec 32 := 6#32
  let c0_i32 : BitVec 32 := 0#32
  ![v2.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S40960x3072 : Shape := ⟨2, ![40960, 3072]⟩
abbrev S4x384 : Shape := ⟨2, ![4, 384]⟩
abbrev S384 : Shape := ⟨1, ![384]⟩
abbrev S2x6x64x64 : Shape := ⟨4, ![2, 6, 64, 64]⟩
abbrev S2x384 : Shape := ⟨2, ![2, 384]⟩
abbrev S8x2x384 : Shape := ⟨3, ![8, 2, 384]⟩
abbrev S32768x384 : Shape := ⟨2, ![32768, 384]⟩
abbrev S8x64x64x384 : Shape := ⟨4, ![8, 64, 64, 384]⟩
abbrev S_ : Shape := ⟨0, ![]⟩
abbrev S8x64x67x384 : Shape := ⟨4, ![8, 64, 67, 384]⟩
abbrev S1x384 : Shape := ⟨2, ![1, 384]⟩
abbrev S1x1x1x384 : Shape := ⟨4, ![1, 1, 1, 384]⟩
abbrev S8x4096x384 : Shape := ⟨3, ![8, 4096, 384]⟩
abbrev S1x1x384 : Shape := ⟨3, ![1, 1, 384]⟩
abbrev S8x4096x6x64 : Shape := ⟨4, ![8, 4096, 6, 64]⟩
abbrev S1x6x64x64 : Shape := ⟨4, ![1, 6, 64, 64]⟩
abbrev S6x64x64 : Shape := ⟨3, ![6, 64, 64]⟩
abbrev S6x64x8x4096 : Shape := ⟨4, ![6, 64, 8, 4096]⟩
abbrev S8x1x384 : Shape := ⟨3, ![8, 1, 384]⟩
abbrev S8x384 : Shape := ⟨2, ![8, 384]⟩
abbrev S4096x8x384 : Shape := ⟨3, ![4096, 8, 384]⟩
abbrev S1x8x384 : Shape := ⟨3, ![1, 8, 384]⟩

abbrev nBuf : Space → Nat
  | .hbm => 147
  | .vmem => 0
  | .smem => 0
  | _ => 0

abbrev hbmTy0_0 (i : Nat) : BufTy := match i % 128 with
  | 0 => ⟨S40960x3072, .f32⟩
  | 1 => ⟨S4x384, .f32⟩
  | 2 => ⟨S384, .f32⟩
  | 3 => ⟨S2x6x64x64, .f32⟩
  | 4 => ⟨S2x384, .f32⟩
  | 5 => ⟨S2x6x64x64, .f32⟩
  | 6 => ⟨S2x384, .f32⟩
  | 7 => ⟨S2x384, .f32⟩
  | 8 => ⟨S8x2x384, .f32⟩
  | 9 => ⟨S32768x384, .f32⟩
  | 10 => ⟨S8x64x64x384, .f32⟩
  | 11 => ⟨S_, .i32⟩
  | 12 => ⟨S_, .f32⟩
  | 13 => ⟨S8x64x67x384, .f32⟩
  | 14 => ⟨S8x64x64x384, .f32⟩
  | 15 => ⟨S1x384, .f32⟩
  | 16 => ⟨S384, .f32⟩
  | 17 => ⟨S1x1x1x384, .f32⟩
  | 18 => ⟨S8x64x64x384, .f32⟩
  | 19 => ⟨S8x64x64x384, .f32⟩
  | 20 => ⟨S8x64x64x384, .f32⟩
  | 21 => ⟨S1x384, .f32⟩
  | 22 => ⟨S384, .f32⟩
  | 23 => ⟨S1x1x1x384, .f32⟩
  | 24 => ⟨S8x64x64x384, .f32⟩
  | 25 => ⟨S8x64x64x384, .f32⟩
  | 26 => ⟨S8x64x64x384, .f32⟩
  | 27 => ⟨S8x64x64x384, .f32⟩
  | 28 => ⟨S1x384, .f32⟩
  | 29 => ⟨S384, .f32⟩
  | 30 => ⟨S1x1x1x384, .f32⟩
  | 31 => ⟨S8x64x64x384, .f32⟩
  | 32 => ⟨S8x64x64x384, .f32⟩
  | 33 => ⟨S8x64x64x384, .f32⟩
  | 34 => ⟨S8x64x64x384, .f32⟩
  | 35 => ⟨S1x384, .f32⟩
  | 36 => ⟨S384, .f32⟩
  | 37 => ⟨S1x1x1x384, .f32⟩
  | 38 => ⟨S8x64x64x384, .f32⟩
  | 39 => ⟨S8x64x64x384, .f32⟩
  | 40 => ⟨S8x64x64x384, .f32⟩
  | 41 => ⟨S8x4096x384, .f32⟩
  | 42 => ⟨S1x1x384, .f32⟩
  | 43 => ⟨S8x4096x384, .f32⟩
  | 44 => ⟨S8x4096x384, .f32⟩
  | 45 => ⟨S8x4096x6x64, .f32⟩
  | 46 => ⟨S1x6x64x64, .f32⟩
  | 47 => ⟨S6x64x64, .f32⟩
  | 48 => ⟨S6x64x8x4096, .f32⟩
  | 49 => ⟨S8x4096x6x64, .f32⟩
  | 50 => ⟨S8x4096x384, .f32⟩
  | 51 => ⟨S1x384, .f32⟩
  | 52 => ⟨S384, .f32⟩
  | 53 => ⟨S1x1x384, .f32⟩
  | 54 => ⟨S8x4096x384, .f32⟩
  | 55 => ⟨S8x4096x384, .f32⟩
  | 56 => ⟨S8x4096x384, .f32⟩
  | 57 => ⟨S8x4096x384, .f32⟩
  | 58 => ⟨S_, .f32⟩
  | 59 => ⟨S8x4096x384, .f32⟩
  | 60 => ⟨S8x4096x384, .f32⟩
  | 61 => ⟨S_, .f32⟩
  | 62 => ⟨S8x4096x384, .f32⟩
  | 63 => ⟨S8x4096x384, .f32⟩
  | 64 => ⟨S1x6x64x64, .f32⟩
  | 65 => ⟨S6x64x64, .f32⟩
  | 66 => ⟨S6x64x8x4096, .f32⟩
  | 67 => ⟨S8x4096x6x64, .f32⟩
  | 68 => ⟨S8x4096x384, .f32⟩
  | 69 => ⟨S1x384, .f32⟩
  | 70 => ⟨S384, .f32⟩
  | 71 => ⟨S1x1x384, .f32⟩
  | 72 => ⟨S8x4096x384, .f32⟩
  | 73 => ⟨S8x4096x384, .f32⟩
  | 74 => ⟨S8x4096x384, .f32⟩
  | 75 => ⟨S8x4096x384, .f32⟩
  | 76 => ⟨S_, .f32⟩
  | 77 => ⟨S8x4096x384, .f32⟩
  | 78 => ⟨S8x4096x384, .f32⟩
  | 79 => ⟨S_, .f32⟩
  | 80 => ⟨S8x4096x384, .f32⟩
  | 81 => ⟨S8x4096x384, .f32⟩
  | 82 => ⟨S_, .f32⟩
  | 83 => ⟨S8x4096x384, .f32⟩
  | 84 => ⟨S8x4096x384, .f32⟩
  | 85 => ⟨S1x384, .f32⟩
  | 86 => ⟨S384, .f32⟩
  | 87 => ⟨S384, .f32⟩
  | 88 => ⟨S_, .f32⟩
  | 89 => ⟨S384, .f32⟩
  | 90 => ⟨S384, .f32⟩
  | 91 => ⟨S384, .f32⟩
  | 92 => ⟨S384, .f32⟩
  | 93 => ⟨S384, .i1⟩
  | 94 => ⟨S384, .f32⟩
  | 95 => ⟨S384, .f32⟩
  | 96 => ⟨S384, .f32⟩
  | 97 => ⟨S384, .f32⟩
  | 98 => ⟨S384, .f32⟩
  | 99 => ⟨S384, .f32⟩
  | 100 => ⟨S384, .f32⟩
  | 101 => ⟨S384, .f32⟩
  | 102 => ⟨S1x1x384, .f32⟩
  | 103 => ⟨S8x4096x384, .f32⟩
  | 104 => ⟨S8x4096x384, .f32⟩
  | 105 => ⟨S8x4096x384, .f32⟩
  | 106 => ⟨S_, .f32⟩
  | 107 => ⟨S8x4096x384, .f32⟩
  | 108 => ⟨S8x4096x384, .f32⟩
  | 109 => ⟨S8x4096x384, .f32⟩
  | 110 => ⟨S8x4096x384, .f32⟩
  | 111 => ⟨S8x4096x384, .f32⟩
  | 112 => ⟨S8x4096x384, .f32⟩
  | 113 => ⟨S8x4096x384, .f32⟩
  | 114 => ⟨S8x1x384, .f32⟩
  | 115 => ⟨S8x384, .f32⟩
  | 116 => ⟨S4096x8x384, .f32⟩
  | 117 => ⟨S4096x8x384, .f32⟩
  | 118 => ⟨S_, .f32⟩
  | 119 => ⟨S4096x8x384, .f32⟩
  | 120 => ⟨S_, .i32⟩
  | 121 => ⟨S4096x8x384, .f32⟩
  | 122 => ⟨S4096x8x384, .f32⟩
  | 123 => ⟨S_, .i32⟩
  | 124 => ⟨S8x384, .f32⟩
  | 125 => ⟨S4096x8x384, .f32⟩
  | 126 => ⟨S_, .i32⟩
  | 127 => ⟨S_, .i1⟩
  | _ => ⟨S40960x3072, .f32⟩

abbrev hbmTy0_1 (i : Nat) : BufTy := match i % 128 with
  | 0 => ⟨S_, .i32⟩
  | 1 => ⟨S_, .i32⟩
  | 2 => ⟨S1x8x384, .f32⟩
  | 3 => ⟨S8x384, .f32⟩
  | 4 => ⟨S_, .i32⟩
  | 5 => ⟨S_, .i32⟩
  | 6 => ⟨S1x8x384, .f32⟩
  | 7 => ⟨S8x384, .f32⟩
  | 8 => ⟨S8x384, .f32⟩
  | 9 => ⟨S8x384, .f32⟩
  | 10 => ⟨S1x8x384, .f32⟩
  | 11 => ⟨S_, .i32⟩
  | 12 => ⟨S_, .i32⟩
  | 13 => ⟨S4096x8x384, .f32⟩
  | 14 => ⟨S_, .i32⟩
  | 15 => ⟨S_, .i32⟩
  | 16 => ⟨S8x4096x384, .f32⟩
  | 17 => ⟨S32768x384, .f32⟩
  | 18 => ⟨S8x1x384, .f32⟩
  | _ => ⟨S40960x3072, .f32⟩

abbrev hbmTy (i : Nat) : BufTy := match i / 128 with
  | 0 => hbmTy0_0 i
  | 1 => hbmTy0_1 i
  | _ => ⟨S40960x3072, .f32⟩

abbrev bufTy : (tb : Table) → Fin (tcTables nBuf tb) → BufTy
  | .hbm, ⟨i, _⟩ => hbmTy i
  | _, _ => ⟨S40960x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_4 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_5 : Ref sig .tc := ⟨.hbm, 118, rfl⟩
abbrev main_v88 : Ref sig .tc := ⟨.hbm, 119, rfl⟩
abbrev main_c_6 : Ref sig .tc := ⟨.hbm, 120, rfl⟩
abbrev main_v89_0 : Ref sig .tc := ⟨.hbm, 121, rfl⟩
abbrev main_v89_1 : Ref sig .tc := ⟨.hbm, 122, rfl⟩
abbrev main_v89_2 : Ref sig .tc := ⟨.hbm, 123, rfl⟩
abbrev main_v89_3 : Ref sig .tc := ⟨.hbm, 124, rfl⟩
abbrev main_v89_4 : Ref sig .tc := ⟨.hbm, 125, rfl⟩
abbrev main_while0c_c_11 : Ref sig .tc := ⟨.hbm, 126, rfl⟩
abbrev main_while0c_v93 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_v0 : Ref sig .tc := ⟨.hbm, 130, rfl⟩
abbrev main_while0b_v93 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_v0 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_call4_v0 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_v97 : Ref sig .tc := ⟨.hbm, 141, rfl⟩
abbrev main_while0b_c_11 : Ref sig .tc := ⟨.hbm, 142, rfl⟩
abbrev main_while0b_v98 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩

abbrev nD : Nat := 1
abbrev τ : Topo := Topo.v7x

variable {F : FTy → Type} [FloatOps F]

abbrev main_while0_count : Scf.Loop 32 := ⟨0#32, 4096#32, 1#32⟩
-- ==== Kernel5.lean ====
abbrev S40960x3072 : Shape := ⟨2, ![40960, 3072]⟩
abbrev S4x384 : Shape := ⟨2, ![4, 384]⟩
abbrev S384 : Shape := ⟨1, ![384]⟩
abbrev S2x6x64x64 : Shape := ⟨4, ![2, 6, 64, 64]⟩
abbrev S2x384 : Shape := ⟨2, ![2, 384]⟩
abbrev S8x2x384 : Shape := ⟨3, ![8, 2, 384]⟩
abbrev S1x6x64x64 : Shape := ⟨4, ![1, 6, 64, 64]⟩
abbrev S6x64x64 : Shape := ⟨3, ![6, 64, 64]⟩
abbrev S6x6 : Shape := ⟨2, ![6, 6]⟩
abbrev S_ : Shape := ⟨0, ![]⟩
abbrev S6x64x1x64 : Shape := ⟨4, ![6, 64, 1, 64]⟩
abbrev S6x1x6x1 : Shape := ⟨4, ![6, 1, 6, 1]⟩
abbrev S6x64x6x64 : Shape := ⟨4, ![6, 64, 6, 64]⟩
abbrev S384x384 : Shape := ⟨2, ![384, 384]⟩
abbrev S384x768 : Shape := ⟨2, ![384, 768]⟩
abbrev S1x384x768 : Shape := ⟨3, ![1, 384, 768]⟩
abbrev S2x384x768 : Shape := ⟨3, ![2, 384, 768]⟩
abbrev S1x384 : Shape := ⟨2, ![1, 384]⟩
abbrev S768 : Shape := ⟨1, ![768]⟩
abbrev S1x768 : Shape := ⟨2, ![1, 768]⟩
abbrev S1x1x768 : Shape := ⟨3, ![1, 1, 768]⟩
abbrev S2x1x768 : Shape := ⟨3, ![2, 1, 768]⟩
abbrev S2x1x384 : Shape := ⟨3, ![2, 1, 384]⟩
abbrev S8x2x1x384 : Shape := ⟨4, ![8, 2, 1, 384]⟩
abbrev S32768x384 : Shape := ⟨2, ![32768, 384]⟩
abbrev S8x1x384 : Shape := ⟨3, ![8, 1, 384]⟩
abbrev S256x384 : Shape := ⟨2, ![256, 384]⟩
abbrev S1x1x384 : Shape := ⟨3, ![1, 1, 384]⟩
abbrev S1x1x1x384 : Shape := ⟨4, ![1, 1, 1, 384]⟩
abbrev S256x1 : Shape := ⟨2, ![256, 1]⟩
abbrev S256x768 : Shape := ⟨2, ![256, 768]⟩

abbrev nBuf : Space → Nat
  | .hbm => 94
  | .vmem => 14
  | .smem => 0
  | _ => 0

abbrev bufTy : (tb : Table) → Fin (tcTables nBuf tb) → BufTy
  | .hbm, ⟨0, _⟩ => ⟨S40960x3072, .f32⟩
  | .hbm, ⟨1, _⟩ => ⟨S4x384, .f32⟩
  | .hbm, ⟨2, _⟩ => ⟨S384, .f32⟩
  | .hbm, ⟨3, _⟩ => ⟨S2x6x64x64, .f32⟩
  | .hbm, ⟨4, _⟩ => ⟨S2x384, .f32⟩
  | .hbm, ⟨5, _⟩ => ⟨S2x6x64x64, .f32⟩
  | .hbm, ⟨6, _⟩ => ⟨S2x384, .f32⟩
  | .hbm, ⟨7, _⟩ => ⟨S2x384, .f32⟩
  | .hbm, ⟨8, _⟩ => ⟨S8x2x384, .f32⟩
  | .hbm, ⟨9, _⟩ => ⟨S1x6x64x64, .f32⟩
  | .hbm, ⟨10, _⟩ => ⟨S6x64x64, .f32⟩
  | .hbm, ⟨11, _⟩ => ⟨S6x6, .i32⟩
  | .hbm, ⟨12, _⟩ => ⟨S6x6, .i32⟩
  | .hbm, ⟨13, _⟩ => ⟨S_, .i32⟩
  | .hbm, ⟨14, _⟩ => ⟨S6x6, .i32⟩
  | .hbm, ⟨15, _⟩ => ⟨S6x6, .i32⟩
  | .hbm, ⟨16, _⟩ => ⟨S6x6, .i1⟩
  | .hbm, ⟨17, _⟩ => ⟨S6x6, .f32⟩
  | .hbm, ⟨18, _⟩ => ⟨S6x64x1x64, .f32⟩
  | .hbm, ⟨19, _⟩ => ⟨S6x1x6x1, .f32⟩
  | .hbm, ⟨20, _⟩ => ⟨S6x64x6x64, .f32⟩
  | .hbm, ⟨21, _⟩ => ⟨S6x64x6x64, .f32⟩
  | .hbm, ⟨22, _⟩ => ⟨S6x64x6x64, .f32⟩
  | .hbm, ⟨23, _⟩ => ⟨S384x384, .f32⟩
  | .hbm, ⟨24, _⟩ => ⟨S1x6x64x64, .f32⟩
  | .hbm, ⟨25, _⟩ => ⟨S6x64x64, .f32⟩
  | .hbm, ⟨26, _⟩ => ⟨S6x6, .i32⟩
  | .hbm, ⟨27, _⟩ => ⟨S6x6, .i32⟩
  | .hbm, ⟨28, _⟩ => ⟨S_, .i32⟩
  | .hbm, ⟨29, _⟩ => ⟨S6x6, .i32⟩
  | .hbm, ⟨30, _⟩ => ⟨S6x6, .i32⟩
  | .hbm, ⟨31, _⟩ => ⟨S6x6, .i1⟩
  | .hbm, ⟨32, _⟩ => ⟨S6x6, .f32⟩
  | .hbm, ⟨33, _⟩ => ⟨S6x64x1x64, .f32⟩
  | .hbm, ⟨34, _⟩ => ⟨S6x1x6x1, .f32⟩
  | .hbm, ⟨35, _⟩ => ⟨S6x64x6x64, .f32⟩
  | .hbm, ⟨36, _⟩ => ⟨S6x64x6x64, .f32⟩
  | .hbm, ⟨37, _⟩ => ⟨S6x64x6x64, .f32⟩
  | .hbm, ⟨38, _⟩ => ⟨S384x384, .f32⟩
  | .hbm, ⟨39, _⟩ => ⟨S384x768, .f32⟩
  | .hbm, ⟨40, _⟩ => ⟨S1x6x64x64, .f32⟩
  | .hbm, ⟨41, _⟩ => ⟨S6x64x64, .f32⟩
  | .hbm, ⟨42, _⟩ => ⟨S6x6, .i32⟩
  | .hbm, ⟨43, _⟩ => ⟨S6x6, .i32⟩
  | .hbm, ⟨44, _⟩ => ⟨S_, .i32⟩
  | .hbm, ⟨45, _⟩ => ⟨S6x6, .i32⟩
  | .hbm, ⟨46, _⟩ => ⟨S6x6, .i32⟩
  | .hbm, ⟨47, _⟩ => ⟨S6x6, .i1⟩
  | .hbm, ⟨48, _⟩ => ⟨S6x6, .f32⟩
  | .hbm, ⟨49, _⟩ => ⟨S6x64x1x64, .f32⟩
  | .hbm, ⟨50, _⟩ => ⟨S6x1x6x1, .f32⟩
  | .hbm, ⟨51, _⟩ => ⟨S6x64x6x64, .f32⟩
  | .hbm, ⟨52, _⟩ => ⟨S6x64x6x64, .f32⟩
  | .hbm, ⟨53, _⟩ => ⟨S6x64x6x64, .f32⟩
  | .hbm, ⟨54, _⟩ => ⟨S384x384, .f32⟩
  | .hbm, ⟨55, _⟩ => ⟨S1x6x64x64, .f32⟩
  | .hbm, ⟨56, _⟩ => ⟨S6x64x64, .f32⟩
  | .hbm, ⟨57, _⟩ => ⟨S6x6, .i32⟩
  | .hbm, ⟨58, _⟩ => ⟨S6x6, .i32⟩
  | .hbm, ⟨59, _⟩ => ⟨S_, .i32⟩
  | .hbm, ⟨60, _⟩ => ⟨S6x6, .i32⟩
  | .hbm, ⟨61, _⟩ => ⟨S6x6, .i32⟩
  | .hbm, ⟨62, _⟩ => ⟨S6x6, .i1⟩
  | .hbm, ⟨63, _⟩ => ⟨S6x6, .f32⟩
  | .hbm, ⟨64, _⟩ => ⟨S6x64x1x64, .f32⟩
  | .hbm, ⟨65, _⟩ => ⟨S6x1x6x1, .f32⟩
  | .hbm, ⟨66, _⟩ => ⟨S6x64x6x64, .f32⟩
  | .hbm, ⟨67, _⟩ => ⟨S6x64x6x64, .f32⟩
  | .hbm, ⟨68, _⟩ => ⟨S6x64x6x64, .f32⟩
  | .hbm, ⟨69, _⟩ => ⟨S384x384, .f32⟩
  | .hbm, ⟨70, _⟩ => ⟨S384x768, .f32⟩
  | .hbm, ⟨71, _⟩ => ⟨S1x384x768, .f32⟩
  | .hbm, ⟨72, _⟩ => ⟨S1x384x768, .f32⟩
  | .hbm, ⟨73, _⟩ => ⟨S2x384x768, .f32⟩
  | .hbm, ⟨74, _⟩ => ⟨S1x384, .f32⟩
  | .hbm, ⟨75, _⟩ => ⟨S384, .f32⟩
  | .hbm, ⟨76, _⟩ => ⟨S1x384, .f32⟩
  | .hbm, ⟨77, _⟩ => ⟨S384, .f32⟩
  | .hbm, ⟨78, _⟩ => ⟨S768, .f32⟩
  | .hbm, ⟨79, _⟩ => ⟨S1x768, .f32⟩
  | .hbm, ⟨80, _⟩ => ⟨S1x384, .f32⟩
  | .hbm, ⟨81, _⟩ => ⟨S384, .f32⟩
  | .hbm, ⟨82, _⟩ => ⟨S1x384, .f32⟩
  | .hbm, ⟨83, _⟩ => ⟨S384, .f32⟩
  | .hbm, ⟨84, _⟩ => ⟨S768, .f32⟩
  | .hbm, ⟨85, _⟩ => ⟨S1x768, .f32⟩
  | .hbm, ⟨86, _⟩ => ⟨S1x1x768, .f32⟩
  | .hbm, ⟨87, _⟩ => ⟨S1x1x768, .f32⟩
  | .hbm, ⟨88, _⟩ => ⟨S2x1x768, .f32⟩
  | .hbm, ⟨89, _⟩ => ⟨S1x384, .f32⟩
  | .hbm, ⟨90, _⟩ => ⟨S2x1x384, .f32⟩
  | .hbm, ⟨91, _⟩ => ⟨S8x2x1x384, .f32⟩
  | .hbm, ⟨92, _⟩ => ⟨S32768x384, .f32⟩
  | .hbm, ⟨93, _⟩ => ⟨S8x1x384, .f32⟩
  | .local _ .vmem, ⟨0, _⟩ => ⟨S256x384, .f32⟩
  | .local _ .vmem, ⟨1, _⟩ => ⟨S256x384, .f32⟩
  | .local _ .vmem, ⟨2, _⟩ => ⟨S4x384, .f32⟩
  | .local _ .vmem, ⟨3, _⟩ => ⟨S1x384, .f32⟩
  | .local _ .vmem, ⟨4, _⟩ => ⟨S1x384x768, .f32⟩
  | .local _ .vmem, ⟨5, _⟩ => ⟨S1x1x768, .f32⟩
  | .local _ .vmem, ⟨6, _⟩ => ⟨S1x1x384, .f32⟩
  | .local _ .vmem, ⟨7, _⟩ => ⟨S1x1x1x384, .f32⟩
  | .local _ .vmem, ⟨8, _⟩ => ⟨S1x1x1x384, .f32⟩
  | .local _ .vmem, ⟨9, _⟩ => ⟨S256x384, .f32⟩
  | .local _ .vmem, ⟨10, _⟩ => ⟨S256x384, .f32⟩
  | .local _ .vmem, ⟨11, _⟩ => ⟨S1x1x384, .f32⟩
  | .local _ .vmem, ⟨12, _⟩ => ⟨S1x1x384, .f32⟩
  | .local _ .vmem, ⟨13, _⟩ => ⟨S1x384, .f32⟩
  | _, _ => ⟨S40960x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79_0 : Ref sig .tc := ⟨.hbm, 92, rfl⟩
abbrev main_v79_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v274 : BitVec 1 := Scalar.cmpi .eq arg1 c15_i32
  let v275 : BitVec 32 := Scalar.extui v274
  let c0_i32_86 : BitVec 32 := 0#32
  let v276 : BitVec 1 := Scalar.cmpi .ne v275 c0_i32_86
  v276

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c32_i32 : BitVec 32 := 32#32
  let v1 : BitVec 32 := Scalar.addi c32_i32 v0
  let c15_i32 : BitVec 32 := 15#32
  let v2 : BitVec 32 := Scalar.subi c15_i32 arg1
  let v3 : BitVec 32 := Scalar.addi v1 v2
  let c6_i32 : BitVec 32 := 6#32
  let c0_i32 : BitVec 32 := 0#32
  ![v3.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S40960x3072 : Shape := ⟨2, ![40960, 3072]⟩
abbrev S4x384 : Shape := ⟨2, ![4, 384]⟩
abbrev S384 : Shape := ⟨1, ![384]⟩
abbrev S2x6x64x64 : Shape := ⟨4, ![2, 6, 64, 64]⟩
abbrev S2x384 : Shape := ⟨2, ![2, 384]⟩
abbrev S8x2x384 : Shape := ⟨3, ![8, 2, 384]⟩
abbrev S32768x384 : Shape := ⟨2, ![32768, 384]⟩
abbrev S8x64x64x384 : Shape := ⟨4, ![8, 64, 64, 384]⟩
abbrev S_ : Shape := ⟨0, ![]⟩
abbrev S8x64x67x384 : Shape := ⟨4, ![8, 64, 67, 384]⟩
abbrev S1x384 : Shape := ⟨2, ![1, 384]⟩
abbrev S1x1x1x384 : Shape := ⟨4, ![1, 1, 1, 384]⟩
abbrev S8x4096x384 : Shape := ⟨3, ![8, 4096, 384]⟩
abbrev S1x1x384 : Shape := ⟨3, ![1, 1, 384]⟩
abbrev S8x4096x6x64 : Shape := ⟨4, ![8, 4096, 6, 64]⟩
abbrev S1x6x64x64 : Shape := ⟨4, ![1, 6, 64, 64]⟩
abbrev S6x64x64 : Shape := ⟨3, ![6, 64, 64]⟩
abbrev S6x64x8x4096 : Shape := ⟨4, ![6, 64, 8, 4096]⟩
abbrev S8x1x384 : Shape := ⟨3, ![8, 1, 384]⟩
abbrev S8x384 : Shape := ⟨2, ![8, 384]⟩
abbrev S4096x8x384 : Shape := ⟨3, ![4096, 8, 384]⟩
abbrev S1x8x384 : Shape := ⟨3, ![1, 8, 384]⟩

abbrev nBuf : Space → Nat
  | .hbm => 151
  | .vmem => 0
  | .smem => 0
  | _ => 0

abbrev hbmTy0_0 (i : Nat) : BufTy := match i % 128 with
  | 0 => ⟨S40960x3072, .f32⟩
  | 1 => ⟨S4x384, .f32⟩
  | 2 => ⟨S384, .f32⟩
  | 3 => ⟨S2x6x64x64, .f32⟩
  | 4 => ⟨S2x384, .f32⟩
  | 5 => ⟨S2x6x64x64, .f32⟩
  | 6 => ⟨S2x384, .f32⟩
  | 7 => ⟨S2x384, .f32⟩
  | 8 => ⟨S8x2x384, .f32⟩
  | 9 => ⟨S32768x384, .f32⟩
  | 10 => ⟨S8x64x64x384, .f32⟩
  | 11 => ⟨S_, .i32⟩
  | 12 => ⟨S_, .f32⟩
  | 13 => ⟨S8x64x67x384, .f32⟩
  | 14 => ⟨S8x64x64x384, .f32⟩
  | 15 => ⟨S1x384, .f32⟩
  | 16 => ⟨S384, .f32⟩
  | 17 => ⟨S1x1x1x384, .f32⟩
  | 18 => ⟨S8x64x64x384, .f32⟩
  | 19 => ⟨S8x64x64x384, .f32⟩
  | 20 => ⟨S8x64x64x384, .f32⟩
  | 21 => ⟨S1x384, .f32⟩
  | 22 => ⟨S384, .f32⟩
  | 23 => ⟨S1x1x1x384, .f32⟩
  | 24 => ⟨S8x64x64x384, .f32⟩
  | 25 => ⟨S8x64x64x384, .f32⟩
  | 26 => ⟨S8x64x64x384, .f32⟩
  | 27 => ⟨S8x64x64x384, .f32⟩
  | 28 => ⟨S1x384, .f32⟩
  | 29 => ⟨S384, .f32⟩
  | 30 => ⟨S1x1x1x384, .f32⟩
  | 31 => ⟨S8x64x64x384, .f32⟩
  | 32 => ⟨S8x64x64x384, .f32⟩
  | 33 => ⟨S8x64x64x384, .f32⟩
  | 34 => ⟨S8x64x64x384, .f32⟩
  | 35 => ⟨S1x384, .f32⟩
  | 36 => ⟨S384, .f32⟩
  | 37 => ⟨S1x1x1x384, .f32⟩
  | 38 => ⟨S8x64x64x384, .f32⟩
  | 39 => ⟨S8x64x64x384, .f32⟩
  | 40 => ⟨S8x64x64x384, .f32⟩
  | 41 => ⟨S8x4096x384, .f32⟩
  | 42 => ⟨S1x1x384, .f32⟩
  | 43 => ⟨S8x4096x384, .f32⟩
  | 44 => ⟨S8x4096x384, .f32⟩
  | 45 => ⟨S8x4096x6x64, .f32⟩
  | 46 => ⟨S1x6x64x64, .f32⟩
  | 47 => ⟨S6x64x64, .f32⟩
  | 48 => ⟨S6x64x8x4096, .f32⟩
  | 49 => ⟨S8x4096x6x64, .f32⟩
  | 50 => ⟨S8x4096x384, .f32⟩
  | 51 => ⟨S1x384, .f32⟩
  | 52 => ⟨S384, .f32⟩
  | 53 => ⟨S1x1x384, .f32⟩
  | 54 => ⟨S8x4096x384, .f32⟩
  | 55 => ⟨S8x4096x384, .f32⟩
  | 56 => ⟨S8x4096x384, .f32⟩
  | 57 => ⟨S8x4096x384, .f32⟩
  | 58 => ⟨S_, .f32⟩
  | 59 => ⟨S8x4096x384, .f32⟩
  | 60 => ⟨S8x4096x384, .f32⟩
  | 61 => ⟨S_, .f32⟩
  | 62 => ⟨S8x4096x384, .f32⟩
  | 63 => ⟨S8x4096x384, .f32⟩
  | 64 => ⟨S1x6x64x64, .f32⟩
  | 65 => ⟨S6x64x64, .f32⟩
  | 66 => ⟨S6x64x8x4096, .f32⟩
  | 67 => ⟨S8x4096x6x64, .f32⟩
  | 68 => ⟨S8x4096x384, .f32⟩
  | 69 => ⟨S1x384, .f32⟩
  | 70 => ⟨S384, .f32⟩
  | 71 => ⟨S1x1x384, .f32⟩
  | 72 => ⟨S8x4096x384, .f32⟩
  | 73 => ⟨S8x4096x384, .f32⟩
  | 74 => ⟨S8x4096x384, .f32⟩
  | 75 => ⟨S8x4096x384, .f32⟩
  | 76 => ⟨S_, .f32⟩
  | 77 => ⟨S8x4096x384, .f32⟩
  | 78 => ⟨S8x4096x384, .f32⟩
  | 79 => ⟨S_, .f32⟩
  | 80 => ⟨S8x4096x384, .f32⟩
  | 81 => ⟨S8x4096x384, .f32⟩
  | 82 => ⟨S_, .f32⟩
  | 83 => ⟨S8x4096x384, .f32⟩
  | 84 => ⟨S8x4096x384, .f32⟩
  | 85 => ⟨S1x384, .f32⟩
  | 86 => ⟨S384, .f32⟩
  | 87 => ⟨S384, .f32⟩
  | 88 => ⟨S_, .f32⟩
  | 89 => ⟨S384, .f32⟩
  | 90 => ⟨S384, .f32⟩
  | 91 => ⟨S384, .f32⟩
  | 92 => ⟨S384, .f32⟩
  | 93 => ⟨S384, .i1⟩
  | 94 => ⟨S384, .f32⟩
  | 95 => ⟨S384, .f32⟩
  | 96 => ⟨S384, .f32⟩
  | 97 => ⟨S384, .f32⟩
  | 98 => ⟨S384, .f32⟩
  | 99 => ⟨S384, .f32⟩
  | 100 => ⟨S384, .f32⟩
  | 101 => ⟨S384, .f32⟩
  | 102 => ⟨S1x1x384, .f32⟩
  | 103 => ⟨S8x4096x384, .f32⟩
  | 104 => ⟨S8x4096x384, .f32⟩
  | 105 => ⟨S8x4096x384, .f32⟩
  | 106 => ⟨S_, .f32⟩
  | 107 => ⟨S8x4096x384, .f32⟩
  | 108 => ⟨S8x4096x384, .f32⟩
  | 109 => ⟨S8x4096x384, .f32⟩
  | 110 => ⟨S8x4096x384, .f32⟩
  | 111 => ⟨S8x4096x384, .f32⟩
  | 112 => ⟨S8x4096x384, .f32⟩
  | 113 => ⟨S8x4096x384, .f32⟩
  | 114 => ⟨S8x1x384, .f32⟩
  | 115 => ⟨S8x384, .f32⟩
  | 116 => ⟨S4096x8x384, .f32⟩
  | 117 => ⟨S4096x8x384, .f32⟩
  | 118 => ⟨S_, .f32⟩
  | 119 => ⟨S4096x8x384, .f32⟩
  | 120 => ⟨S_, .i32⟩
  | 121 => ⟨S4096x8x384, .f32⟩
  | 122 => ⟨S4096x8x384, .f32⟩
  | 123 => ⟨S_, .i32⟩
  | 124 => ⟨S8x384, .f32⟩
  | 125 => ⟨S4096x8x384, .f32⟩
  | 126 => ⟨S_, .i32⟩
  | 127 => ⟨S_, .i1⟩
  | _ => ⟨S40960x3072, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S1x8x384, .f32⟩
  | 7 => ⟨S8x384, .f32⟩
  | 8 => ⟨S_, .i32⟩
  | 9 => ⟨S_, .i32⟩
  | 10 => ⟨S1x8x384, .f32⟩
  | 11 => ⟨S8x384, .f32⟩
  | 12 => ⟨S8x384, .f32⟩
  | 13 => ⟨S8x384, .f32⟩
  | 14 => ⟨S1x8x384, .f32⟩
  | 15 => ⟨S_, .i32⟩
  | 16 => ⟨S_, .i32⟩
  | 17 => ⟨S4096x8x384, .f32⟩
  | 18 => ⟨S_, .i32⟩
  | 19 => ⟨S_, .i32⟩
  | 20 => ⟨S8x4096x384, .f32⟩
  | 21 => ⟨S32768x384, .f32⟩
  | 22 => ⟨S8x1x384, .f32⟩
  | _ => ⟨S40960x3072, .f32⟩

abbrev hbmTy (i : Nat) : BufTy := match i / 128 with
  | 0 => hbmTy0_0 i
  | 1 => hbmTy0_1 i
  | _ => ⟨S40960x3072, .f32⟩

abbrev bufTy : (tb : Table) → Fin (tcTables nBuf tb) → BufTy
  | .hbm, ⟨i, _⟩ => hbmTy i
  | _, _ => ⟨S40960x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_4 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_5 : Ref sig .tc := ⟨.hbm, 118, rfl⟩
abbrev main_v88 : Ref sig .tc := ⟨.hbm, 119, rfl⟩
abbrev main_c_6 : Ref sig .tc := ⟨.hbm, 120, rfl⟩
abbrev main_v89_0 : Ref sig .tc := ⟨.hbm, 121, rfl⟩
abbrev main_v89_1 : Ref sig .tc := ⟨.hbm, 122, rfl⟩
abbrev main_v89_2 : Ref sig .tc := ⟨.hbm, 123, rfl⟩
abbrev main_v89_3 : Ref sig .tc := ⟨.hbm, 124, rfl⟩
abbrev main_v89_4 : Ref sig .tc := ⟨.hbm, 125, rfl⟩
abbrev main_while0c_c_11 : Ref sig .tc := ⟨.hbm, 126, rfl⟩
abbrev main_while0c_v93 : Ref sig .tc := ⟨.hbm, 127, rfl⟩
abbrev main_while0b_c_11 : Ref sig .tc := ⟨.hbm, 128, rfl⟩
abbrev main_while0b_v93 : Ref sig .tc := ⟨.hbm, 129, rfl⟩
abbrev main_while0b_c_12 : Ref sig .tc := ⟨.hbm, 130, rfl⟩
abbrev main_while0b_v94 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_v0 : Ref sig .tc := ⟨.hbm, 134, rfl⟩
abbrev main_while0b_v95 : Ref sig .tc := ⟨.hbm, 135, rfl⟩
abbrev main_while0b_call3_c : Ref sig .tc := ⟨.hbm, 136, rfl⟩
abbrev main_while0b_call3_c_0 : Ref sig .tc := ⟨.hbm, 137, rfl⟩
abbrev main_while0b_call3_v0 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_call4_v0 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_v99 : Ref sig .tc := ⟨.hbm, 145, rfl⟩
abbrev main_while0b_c_13 : Ref sig .tc := ⟨.hbm, 146, rfl⟩
abbrev main_while0b_v100 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩

abbrev nD : Nat := 1
abbrev τ : Topo := Topo.v7x

variable {F : FTy → Type} [FloatOps F]

abbrev main_while0_count : Scf.Loop 32 := ⟨0#32, 4096#32, 1#32⟩
-- ==== Proof.Experts.Body.lean ====
/-
  The body of the experts' kernel, run once on arbitrary staging buffers.

  A grid point reads its own word of the second table (how many of the block's rows are valid). Where the word is
  positive the body computes the expert's feed-forward network of the block and stores the result, eight strided
  stores; where it is zero it stores zeros over the whole block. `bodyFull` and `bodyZero` are the two cases.
-/
module

public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Exec
public import Idealize.ShloMosaic.Adequacy
public import Idealize.ShloMosaic.Init

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two tables as the body is handed them: each its whole buffer. -/
abbrev expertTable : Memref sig .tc .smem S352 .i32 := Memref.whole main_arg0
abbrev validTable : Memref sig .tc .smem S352 .i32 := Memref.whole main_arg1
abbrev expertTable_whole : expertTable.IsWhole := Memref.isWhole_whole _
abbrev validTable_whole : validTable.IsWhole := Memref.isWhole_whole _

/-- A table's contents on core `c`, and the table held for reading (half the full share). -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The word of the second table the body reads at grid point `i`. -/
abbrev validWord (c : Dev nD) (i : grid0.Coords) (xt1 : TableBuf (F := F) c validTable) : BitVec 32 :=
  View.readAt (Elt F) validTable.view (Rect.unit (s := S352) (k0_off1 i) S1.size (k0_off1_inb i)).toLoadRect xt1 (Shape.Idx.first (numel1_S1.symm ▸ Nat.one_pos))

set_option maxHeartbeats 2000000 in
/-- Where the word is positive: what the body's stores leave in the output's staging buffer, as the list of the
    stores, with the proof that the body, run on whole staging buffers, gives every input back as it was and the
    output's buffer with those stores made. -/
def bodyFull (c : Dev nD) (i : grid0.Coords) (arg3 : Memref sig .tc .vmem S4096x128 .f32) (harg3 : arg3.IsWhole) (arg4 : Memref sig .tc .vmem S1x1x1024x1024 .bf16) (harg4 : arg4.IsWhole) (arg5 : Memref sig .tc .vmem S1x1x1x1024 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S1x1x1024x1024 .bf16) (harg8 : arg8.IsWhole) (arg9 : Memref sig .tc .vmem S1x1x1x1024 .f32) (harg9 : arg9.IsWhole) (arg10 : Memref sig .tc .vmem S4096x128 .f32) (harg10 : arg10.IsWhole)
    (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) (xt0 : TableBuf (F := F) c expertTable) (xt1 : TableBuf (F := F) c validTable)
    (h1 : k0_cond1 (validWord c i xt1) = 1#1) (h2 : ¬ k0_cond2 (validWord c i xt1) = 1#1) :
    { L7 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tableHeld c expertTable xt0 ∗ tableHeld c validTable xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tableHeld c expertTable xt0 ∗ tableHeld c validTable xt1) -∗ K ⟨⟩))
          ⊢ wp frame (wpE (defs₀ (F := F)) Variants.none c none) E (cc0_moe_experts i expertTable expertTable_whole validTable validTable_whole arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | (guard_target = k0_cond1 _ = _; exact h1) | (guard_target = ¬ k0_cond2 _ = _; exact h2))
    rw [wp_ret]; imodintro
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

set_option maxHeartbeats 2000000 in
/-- Where the word is zero: what the body's stores leave in the output's staging buffer, as the list of the
    stores (one, of zeros), with the proof that the body, run on whole staging buffers, gives every input back as it was and the
    output's buffer with that store made. -/
def bodyZero (c : Dev nD) (i : grid0.Coords) (arg3 : Memref sig .tc .vmem S4096x128 .f32) (harg3 : arg3.IsWhole) (arg4 : Memref sig .tc .vmem S1x1x1024x1024 .bf16) (harg4 : arg4.IsWhole) (arg5 : Memref sig .tc .vmem S1x1x1x1024 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S1x1x1024x1024 .bf16) (harg8 : arg8.IsWhole) (arg9 : Memref sig .tc .vmem S1x1x1x1024 .f32) (harg9 : arg9.IsWhole) (arg10 : Memref sig .tc .vmem S4096x128 .f32) (harg10 : arg10.IsWhole)
    (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) (xt0 : TableBuf (F := F) c expertTable) (xt1 : TableBuf (F := F) c validTable)
    (h1 : ¬ k0_cond1 (validWord c i xt1) = 1#1) (h2 : k0_cond2 (validWord c i xt1) = 1#1) :
    { L7 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tableHeld c expertTable xt0 ∗ tableHeld c validTable xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tableHeld c expertTable xt0 ∗ tableHeld c validTable xt1) -∗ K ⟨⟩))
          ⊢ wp frame (wpE (defs₀ (F := F)) Variants.none c none) E (cc0_moe_experts i expertTable expertTable_whole validTable validTable_whole arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | (guard_target = ¬ k0_cond1 _ = _; exact h1) | (guard_target = k0_cond2 _ = _; exact h2))
    rw [wp_ret]; imodintro
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

end Cert.KernelIdeal.Experts

end
-- ==== Proof.Experts.Left.lean ====
/-
  What the body leaves in the output's staging buffer, as a function of the blocks it reads.

  The block's rows are stored in a buffer of eight times as many rows, a row of 1024 entries as eight rows of 128. So
  the body gathers the rows by eight strided loads (`strip0` … `strip7`), computes the expert's network on them
  (`net`), and lays the result out again by eight strided stores (`laidOut`).
-/
module

public import proofs.«01_k».proof.Proof.Experts.Body
public import Idealize.ShloMosaic.Lib.Pipeline.Value
public import Idealize.ShloMosaic.Lib.WholeRead

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Rows 0, 0+8, 0+16, … of a block. -/
def strip0 (x0 : Vec F S4096x128 .f32) : Vec F S512x128 .f32 :=
  View.ld x0 { off := ![0, 0], size := ![512, 128], stride := ![8, 1], inb := inb_S4096x128_S512x128_0_0_s_8_1, stride_pos := spos_8_1 }
/-- Rows 1, 1+8, 1+16, … of a block. -/
def strip1 (x0 : Vec F S4096x128 .f32) : Vec F S512x128 .f32 :=
  View.ld x0 { off := ![1, 0], size := ![512, 128], stride := ![8, 1], inb := inb_S4096x128_S512x128_1_0_s_8_1, stride_pos := spos_8_1 }
/-- Rows 2, 2+8, 2+16, … of a block. -/
def strip2 (x0 : Vec F S4096x128 .f32) : Vec F S512x128 .f32 :=
  View.ld x0 { off := ![2, 0], size := ![512, 128], stride := ![8, 1], inb := inb_S4096x128_S512x128_2_0_s_8_1, stride_pos := spos_8_1 }
/-- Rows 3, 3+8, 3+16, … of a block. -/
def strip3 (x0 : Vec F S4096x128 .f32) : Vec F S512x128 .f32 :=
  View.ld x0 { off := ![3, 0], size := ![512, 128], stride := ![8, 1], inb := inb_S4096x128_S512x128_3_0_s_8_1, stride_pos := spos_8_1 }
/-- Rows 4, 4+8, 4+16, … of a block. -/
def strip4 (x0 : Vec F S4096x128 .f32) : Vec F S512x128 .f32 :=
  View.ld x0 { off := ![4, 0], size := ![512, 128], stride := ![8, 1], inb := inb_S4096x128_S512x128_4_0_s_8_1, stride_pos := spos_8_1 }
/-- Rows 5, 5+8, 5+16, … of a block. -/
def strip5 (x0 : Vec F S4096x128 .f32) : Vec F S512x128 .f32 :=
  View.ld x0 { off := ![5, 0], size := ![512, 128], stride := ![8, 1], inb := inb_S4096x128_S512x128_5_0_s_8_1, stride_pos := spos_8_1 }
/-- Rows 6, 6+8, 6+16, … of a block. -/
def strip6 (x0 : Vec F S4096x128 .f32) : Vec F S512x128 .f32 :=
  View.ld x0 { off := ![6, 0], size := ![512, 128], stride := ![8, 1], inb := inb_S4096x128_S512x128_6_0_s_8_1, stride_pos := spos_8_1 }
/-- Rows 7, 7+8, 7+16, … of a block. -/
def strip7 (x0 : Vec F S4096x128 .f32) : Vec F S512x128 .f32 :=
  View.ld x0 { off := ![7, 0], size := ![512, 128], stride := ![8, 1], inb := inb_S4096x128_S512x128_7_0_s_8_1, stride_pos := spos_8_1 }

/-- The expert's network on a block: 512 rows of 1024, from the block's rows, the gate's weights and biases, the other
    branch's, and the output's. -/
def net (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) : FVec F S512x1024 .f32 :=
  k0_pay10 (k0_pay7 (strip0 x0) (strip1 x0) (strip2 x0) (strip3 x0) (strip4 x0) (strip5 x0) (strip6 x0) (strip7 x0) x1 x2) (k0_pay8 (strip0 x0) (strip1 x0) (strip2 x0) (strip3 x0) (strip4 x0) (strip5 x0) (strip6 x0) (strip7 x0) x3) (k0_pay9 x4) x5 x6

/-- Where an entry of the 4096 × 128 block sits among 512 rows of 1024. -/
def rowOf (y : S4096x128.Idx) : S512x1024.Idx := fun a => match a with
  | ⟨0, _⟩ => ⟨(y 0).val / 8, by have := (y 0).isLt; change (y 0).val < 4096 at this; show _ < 512; omega⟩
  | ⟨1, _⟩ => ⟨128 * ((y 0).val % 8) + (y 1).val, by have := (y 1).isLt; change (y 1).val < 128 at this; show _ < 1024; omega⟩

/-- 512 rows of 1024 laid out as 4096 rows of 128. -/
def laidOut (R : FVec F S512x1024 .f32) : Vec F S4096x128 .f32 := fun y => R (rowOf y)

/-- The load of a whole buffer reads its contents. -/
theorem load_all_weights {M : Memref sig .tc .vmem S1x1x1024x1024 .bf16} (hM : M.IsWhole) (x : Vec F S1x1x1024x1024 .bf16) :
    View.readAt (Elt F) M.view (Rect.unit ![0, 0, 0, 0] ![1, 1, 1024, 1024] inb_S1x1x1024x1024_S1x1x1024x1024_0_0_0_0).toLoadRect (hM.unread x) = x := by
  funext y
  rw [Memref.IsWhole.readAt_unread]
  exact congrFun (View.ld_unit_zero (S := S1x1x1024x1024) (off := ![0, 0, 0, 0]) (by funext a; fin_cases a <;> rfl) inb_S1x1x1024x1024_S1x1x1024x1024_0_0_0_0 x) y

theorem load_all_biases {M : Memref sig .tc .vmem S1x1x1x1024 .f32} (hM : M.IsWhole) (x : Vec F S1x1x1x1024 .f32) :
    View.readAt (Elt F) M.view (Rect.unit ![0, 0, 0, 0] ![1, 1, 1, 1024] inb_S1x1x1x1024_S1x1x1x1024_0_0_0_0).toLoadRect (hM.unread x) = x := by
  funext y
  rw [Memref.IsWhole.readAt_unread]
  exact congrFun (View.ld_unit_zero (S := S1x1x1x1024) (off := ![0, 0, 0, 0]) (by funext a; fin_cases a <;> rfl) inb_S1x1x1x1024_S1x1x1x1024_0_0_0_0 x) y

/-- An eighth of the block loaded reads the rows it names. -/
theorem load_strip {M : Memref sig .tc .vmem S4096x128 .f32} (hM : M.IsWhole) (x : Vec F S4096x128 .f32) (s : Nat) {inb} :
    View.readAt (Elt F) M.view ({ off := ![s, 0], size := ![512, 128], stride := ![8, 1], inb := inb } : LoadRect S4096x128) (hM.unread x)
      = View.ld x { off := ![s, 0], size := ![512, 128], stride := ![8, 1], inb := inb, stride_pos := spos_8_1 } := by
  funext y
  rw [Memref.IsWhole.readAt_unread]

/-- An index of the 4096 × 128 block is in the strided rectangle of its row's residue modulo 8. -/
theorem mem_strided (s : Nat) (y : S4096x128.Idx) (h : (y 0).val % 8 = s) {inb} {pos} :
    y ∈ ({ off := ![s, 0], size := ![512, 128], stride := ![8, 1], inb := inb, stride_pos := pos } : Rect S4096x128).set := by
  rw [LoadRect.mem_set]
  have h0 := (y 0).isLt; change (y 0).val < 4096 at h0
  have h1 := (y 1).isLt; change (y 1).val < 128 at h1
  intro a
  match a with
  | ⟨0, _⟩ => exact ⟨(y 0).val / 8, by show _ < 512; omega, by show (y 0).val = s + 8 * ((y 0).val / 8); omega⟩
  | ⟨1, _⟩ => exact ⟨(y 1).val, h1, by show (y 1).val = 0 + 1 * (y 1).val; omega⟩

/-- The stores of `bodyFull` fill the block. -/
theorem bodyFull_fills (c : Dev nD) (i : grid0.Coords) (arg3 : Memref sig .tc .vmem S4096x128 .f32) (harg3 : arg3.IsWhole) (arg4 : Memref sig .tc .vmem S1x1x1024x1024 .bf16) (harg4 : arg4.IsWhole) (arg5 : Memref sig .tc .vmem S1x1x1x1024 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S1x1x1024x1024 .bf16) (harg8 : arg8.IsWhole) (arg9 : Memref sig .tc .vmem S1x1x1x1024 .f32) (harg9 : arg9.IsWhole) (arg10 : Memref sig .tc .vmem S4096x128 .f32) (harg10 : arg10.IsWhole)
    (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) (xt0 : TableBuf (F := F) c expertTable) (xt1 : TableBuf (F := F) c validTable)
    (h1 : k0_cond1 (validWord c i xt1) = 1#1) (h2 : ¬ k0_cond2 (validWord c i xt1) = 1#1) (y : S4096x128.Idx) :
    ∃ p ∈ (bodyFull c i arg3 harg3 arg4 harg4 arg5 harg5 arg6 harg6 arg7 harg7 arg8 harg8 arg9 harg9 arg10 harg10 x0 x1 x2 x3 x4 x5 x6 xt0 xt1 h1 h2).1, y ∈ p.1.set := by
  dsimp only [bodyFull]
  have h8 : (y 0).val % 8 < 8 := Nat.mod_lt _ (by decide)
  generalize hs : (y 0).val % 8 = s at h8
  obtain rfl | rfl | rfl | rfl | rfl | rfl | rfl | rfl : s = 0 ∨ s = 1 ∨ s = 2 ∨ s = 3 ∨ s = 4 ∨ s = 5 ∨ s = 6 ∨ s = 7 := by omega
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_strided 0 y hs⟩
  · exact ⟨_, List.mem_cons_of_mem _ (List.mem_cons_of_mem _ (List.mem_cons_of_mem _ (List.mem_cons_of_mem _ (List.mem_cons_of_mem _ (List.mem_cons_of_mem _ List.mem_cons_self))))), mem_strided 1 y hs⟩
  · exact ⟨_, List.mem_cons_of_mem _ (List.mem_cons_of_mem _ (List.mem_cons_of_mem _ (List.mem_cons_of_mem _ (List.mem_cons_of_mem _ List.mem_cons_self)))), mem_strided 2 y hs⟩
  · exact ⟨_, List.mem_cons_of_mem _ (List.mem_cons_of_mem _ (List.mem_cons_of_mem _ (List.mem_cons_of_mem _ List.mem_cons_self))), mem_strided 3 y hs⟩
  · exact ⟨_, List.mem_cons_of_mem _ (List.mem_cons_of_mem _ (List.mem_cons_of_mem _ List.mem_cons_self)), mem_strided 4 y hs⟩
  · exact ⟨_, List.mem_cons_of_mem _ (List.mem_cons_of_mem _ List.mem_cons_self), mem_strided 5 y hs⟩
  · exact ⟨_, List.mem_cons_of_mem _ List.mem_cons_self, mem_strided 6 y hs⟩
  · exact ⟨_, List.mem_cons_self, mem_strided 7 y hs⟩

/-- A strided store of 128 columns of the result, from column `128 s`, is `laidOut`'s rows of residue `s`. -/
theorem strided_piece (R : FVec F S512x1024 .f32) (s : Nat) (hs : s < 8) (o : Nat) (ho : o = 128 * s) (h : S512x1024.Slices ![0, o] S512x128) {inb} {pos} (x : S512x128.Idx) :
    extractStridedSlice S512x128 ![0, o] R h x
      = laidOut R (({ off := ![s, 0], size := ![512, 128], stride := ![8, 1], inb := inb, stride_pos := pos } : Rect S4096x128).emb x) := by
  have h0 := (x 0).isLt; change (x 0).val < 512 at h0
  have h1 := (x 1).isLt; change (x 1).val < 128 at h1
  refine congrArg R (funext fun a => Fin.ext ?_)
  match a with
  | ⟨0, _⟩ => show 0 + (x 0).val = (s + 8 * (x 0).val) / 8; omega
  | ⟨1, _⟩ => show o + (x 1).val = 128 * ((s + 8 * (x 0).val) % 8) + (0 + 1 * (x 1).val); omega

/-- Where the word is positive the body leaves the network's rows, laid out. -/
theorem bodyFull_leaves (c : Dev nD) (i : grid0.Coords) (arg3 : Memref sig .tc .vmem S4096x128 .f32) (harg3 : arg3.IsWhole) (arg4 : Memref sig .tc .vmem S1x1x1024x1024 .bf16) (harg4 : arg4.IsWhole) (arg5 : Memref sig .tc .vmem S1x1x1x1024 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S1x1x1024x1024 .bf16) (harg8 : arg8.IsWhole) (arg9 : Memref sig .tc .vmem S1x1x1x1024 .f32) (harg9 : arg9.IsWhole) (arg10 : Memref sig .tc .vmem S4096x128 .f32) (harg10 : arg10.IsWhole)
    (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) (xt0 : TableBuf (F := F) c expertTable) (xt1 : TableBuf (F := F) c validTable)
    (h1 : k0_cond1 (validWord c i xt1) = 1#1) (h2 : ¬ k0_cond2 (validWord c i xt1) = 1#1) (f) :
    arg10.view.read (Elt F) (arg10.view.writes (Elt F) f (bodyFull c i arg3 harg3 arg4 harg4 arg5 harg5 arg6 harg6 arg7 harg7 arg8 harg8 arg9 harg9 arg10 harg10 x0 x1 x2 x3 x4 x5 x6 xt0 xt1 h1 h2).1) = laidOut (net x0 x1 x2 x3 x4 x5 x6) := by
  rw [View.read_writes_eq_canon _ _ _ (bodyFull_fills c i arg3 harg3 arg4 harg4 arg5 harg5 arg6 harg6 arg7 harg7 arg8 harg8 arg9 harg9 arg10 harg10 x0 x1 x2 x3 x4 x5 x6 xt0 xt1 h1 h2)]
  funext y
  refine View.canon_apply_of_pieces _ _ ?_ y (bodyFull_fills c i arg3 harg3 arg4 harg4 arg5 harg5 arg6 harg6 arg7 harg7 arg8 harg8 arg9 harg9 arg10 harg10 x0 x1 x2 x3 x4 x5 x6 xt0 xt1 h1 h2 y)
  dsimp only [bodyFull]
  unfold bodyFull.sl.r_5 bodyFull.sl.r_4 bodyFull.sl.r_3 bodyFull.sl.r_2 bodyFull.sl.r_1
  simp only [load_all_weights, load_all_biases, load_strip]
  intro p hp
  rcases List.mem_cons.mp hp with rfl | hp
  · exact fun x => strided_piece (net x0 x1 x2 x3 x4 x5 x6) 7 (by decide) 896 rfl slices_S512x1024_o0_896_S512x128 x
  rcases List.mem_cons.mp hp with rfl | hp
  · exact fun x => strided_piece (net x0 x1 x2 x3 x4 x5 x6) 6 (by decide) 768 rfl slices_S512x1024_o0_768_S512x128 x
  rcases List.mem_cons.mp hp with rfl | hp
  · exact fun x => strided_piece (net x0 x1 x2 x3 x4 x5 x6) 5 (by decide) 640 rfl slices_S512x1024_o0_640_S512x128 x
  rcases List.mem_cons.mp hp with rfl | hp
  · exact fun x => strided_piece (net x0 x1 x2 x3 x4 x5 x6) 4 (by decide) 512 rfl slices_S512x1024_o0_512_S512x128 x
  rcases List.mem_cons.mp hp with rfl | hp
  · exact fun x => strided_piece (net x0 x1 x2 x3 x4 x5 x6) 3 (by decide) 384 rfl slices_S512x1024_o0_384_S512x128 x
  rcases List.mem_cons.mp hp with rfl | hp
  · exact fun x => strided_piece (net x0 x1 x2 x3 x4 x5 x6) 2 (by decide) 256 rfl slices_S512x1024_o0_256_S512x128 x
  rcases List.mem_cons.mp hp with rfl | hp
  · exact fun x => strided_piece (net x0 x1 x2 x3 x4 x5 x6) 1 (by decide) 128 rfl slices_S512x1024_o0_128_S512x128 x
  rcases List.mem_cons.mp hp with rfl | hp
  · exact fun x => strided_piece (net x0 x1 x2 x3 x4 x5 x6) 0 (by decide) 0 rfl slices_S512x1024_o0_0_S512x128 x
  exact absurd hp List.not_mem_nil

/-- Where the word is zero the body leaves zeros. -/
theorem bodyZero_leaves (c : Dev nD) (i : grid0.Coords) (arg3 : Memref sig .tc .vmem S4096x128 .f32) (harg3 : arg3.IsWhole) (arg4 : Memref sig .tc .vmem S1x1x1024x1024 .bf16) (harg4 : arg4.IsWhole) (arg5 : Memref sig .tc .vmem S1x1x1x1024 .f32) (harg5 : arg5.IsWhole) (arg6 : Memref sig .tc .vmem S1x1x1024x1024 .bf16) (harg6 : arg6.IsWhole) (arg7 : Memref sig .tc .vmem S1x1x1x1024 .f32) (harg7 : arg7.IsWhole) (arg8 : Memref sig .tc .vmem S1x1x1024x1024 .bf16) (harg8 : arg8.IsWhole) (arg9 : Memref sig .tc .vmem S1x1x1x1024 .f32) (harg9 : arg9.IsWhole) (arg10 : Memref sig .tc .vmem S4096x128 .f32) (harg10 : arg10.IsWhole)
    (x0 : Vec F S4096x128 .f32) (x1 : Vec F S1x1x1024x1024 .bf16) (x2 : Vec F S1x1x1x1024 .f32) (x3 : Vec F S1x1x1024x1024 .bf16) (x4 : Vec F S1x1x1x1024 .f32) (x5 : Vec F S1x1x1024x1024 .bf16) (x6 : Vec F S1x1x1x1024 .f32) (xt0 : TableBuf (F := F) c expertTable) (xt1 : TableBuf (F := F) c validTable)
    (h1 : ¬ k0_cond1 (validWord c i xt1) = 1#1) (h2 : k0_cond2 (validWord c i xt1) = 1#1) (f) :
    arg10.view.read (Elt F) (arg10.view.writes (Elt F) f (bodyZero c i arg3 harg3 arg4 harg4 arg5 harg5 arg6 harg6 arg7 harg7 arg8 harg8 arg9 harg9 arg10 harg10 x0 x1 x2 x3 x4 x5 x6 xt0 xt1 h1 h2).1) = k0_pay5 := by
  have hz : (![0, 0] : Fin 2 → Nat) = fun _ => 0 := by funext a; fin_cases a <;> rfl
  have e : (bodyZero c i arg3 harg3 arg4 harg4 arg5 harg5 arg6 harg6 arg7 harg7 arg8 harg8 arg9 harg9 arg10 harg10 x0 x1 x2 x3 x4 x5 x6 xt0 xt1 h1 h2).1 = [⟨Rect.unit (s := S4096x128) ![0, 0] S4096x128.size inb_S4096x128_S4096x128_0_0, k0_pay5⟩] := rfl
  have fills : ∀ y : S4096x128.Idx, y ∈ (Rect.unit (s := S4096x128) ![0, 0] S4096x128.size inb_S4096x128_S4096x128_0_0).set :=
    View.mem_set_unit_zero (S := S4096x128) hz inb_S4096x128_S4096x128_0_0
  rw [e]
  refine (View.read_writes_eq_canon _ _ _ ?_).trans ?_
  · intro y
    refine ⟨_, List.mem_singleton_self _, ?_⟩
    exact fills y
  exact View.canon_unit_zero (S := S4096x128) hz inb_S4096x128_S4096x128_0_0 _

end Cert.KernelIdeal.Experts

end
-- ==== Proof.Experts.Run.lean ====
/-
  The experts' call run from any memory.

  The two tables decide which blocks the pipeline fetches and what the body does at a point. The run is stated for
  tables that name blocks inside the weights (`Inside`) and whose second words are not negative (`Counts`): then every
  point either computes its expert's network or stores zeros, and every point writes its block of the result back.
-/
module

public import proofs.«01_k».proof.Proof.Experts.Left
public import Idealize.ShloMosaic.Lib.Tactic
public import Idealize.ShloMosaic.Lib.WordCmp
public import Idealize.ShloMosaic.Lib.Claim

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the pipeline starts from -/

/-- What core `c`'s buffers hold when the pipeline starts: what they held at the launch. -/
abbrev atStart (c : Dev nD) (b : Ref sig .tc) : Buf (Elt F) ((c : Thread nD τ).loc b) := m ((c : Thread nD τ).loc b)

set_option maxHeartbeats 800000 in
/-- The program is the pipeline and nothing before it. -/
theorem program_is_pipeline (𝒱₀ : Variants) : Pipeline.HMainP (Ix := Unit) (Name := ℕ) (U := UR sig nD τ) (Lvl := ℕ) pcfgs 0 defs₀ 𝒱₀ m (main (F := F)) (atStart m) :=
  Pipeline.hmainP_region pcfgs 0 defs₀ 𝒱₀ m main fun c => (main_chain c).trans rfl

/-- The tables' contents. -/
def tables : pre0.Contents (Elt F) := fun j => atStart m (0 : Dev nD) (pre0.ref j)

theorem tables_at (c : Dev nD) (j : Fin 2) : atStart m c (pre0.ref j) = tables m j := by
  obtain rfl : c = 0 := Subsingleton.elim _ _; rfl

/-- The first table names blocks that lie inside the weights. -/
abbrev Inside : Prop := ok0 (F := F) (tables m)

/-- The word of the second table at a grid point, read off the launch memory. -/
abbrev countAt (c : Dev nD) (i : grid0.Coords) : BitVec 32 := validWord (F := F) c i (tables m 1)

/-- The second table's words are not negative. -/
def Counts : Prop := ∀ (c : Dev nD) (i : grid0.Coords), 0 ≤ (countAt m c i).toInt

abbrev admissible (hO : Inside m) : (pcfg0 (F := F)).Adm := ⟨tables m, hO⟩
abbrev pipe (hO : Inside m) : Pipeline.Cfg sig Λ₀ := cfg0 (admissible m hO)

/-- The halves of the tables the body reads, one by one. -/
theorem tables_held (c : Dev nD) : (Pipeline.ΦT pre0 (tables m) c : sProp 𝕄) = iprop(tableHeld c expertTable (tables m 0) ∗ tableHeld c validTable (tables m 1)) := by
  unfold Pipeline.ΦT Pipeline.prefHeld
  rw [show (Finset.univ : Finset (Fin 2)) = insert (0 : Fin 2) {(1 : Fin 2)} from by decide, bigSep_insert (by decide), bigSep_singleton]
  rfl

/-- A word that is not negative is positive or zero: the body's two conditions. -/
theorem positive_or_zero (v : BitVec 32) (h : 0 ≤ v.toInt) :
    (k0_cond1 v = 1#1 ∧ ¬ k0_cond2 v = 1#1) ∨ (¬ k0_cond1 v = 1#1 ∧ k0_cond2 v = 1#1) := by
  have e1 : k0_cond1 v = 1#1 ↔ 0 < v.toInt := by
    unfold k0_cond1; dsimp only [Scalar.cmpi, Scalar.extui]
    by_cases hp : 0 < v.toInt <;> simp [IntOp.cmpi, BitVec.slt, hp]
  have e2 : k0_cond2 v = 1#1 ↔ v = 0#32 := by
    unfold k0_cond2; dsimp only [Scalar.cmpi, Scalar.extui]
    by_cases hp : v = 0#32
    · simp [IntOp.cmpi, hp]
    · simp [IntOp.cmpi, hp, beq_eq_false_iff_ne.mpr hp]
  rw [e1, e2]
  rcases Int.lt_or_eq_of_le h with hp | hz
  · exact .inl ⟨hp, fun e => by subst e; exact absurd hp (by decide)⟩
  · refine .inr ⟨by omega, BitVec.eq_of_toInt_eq ?_⟩
    rw [← hz]; rfl

/-! ## Blocks and staging buffers -/

/-- Window `w`'s block at point `t`, of the array as the pipeline finds it. -/
def block (hO : Inside m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (atStart m c (Pipeline.arrRef spec0 w))

/-- The result's window is written back at every point. -/
theorem result_written (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-! The staging buffers the body is handed at a point. -/

abbrev stg0 (hO : Inside m) (t : Fin (pipe m hO).N) : Memref sig .tc .vmem S4096x128 .f32 := spec0_0.stage ((pipe m hO).slots t 0)
abbrev stg0_whole (hO : Inside m) (t : Fin (pipe m hO).N) : (stg0 m hO t).IsWhole := hstage0_0 (((pipe m hO).slots t 0).cast nbuf0_0)
abbrev stg1 (hO : Inside m) (t : Fin (pipe m hO).N) : Memref sig .tc .vmem S1x1x1024x1024 .bf16 := spec0_1.stage ((pipe m hO).slots t 1)
abbrev stg1_whole (hO : Inside m) (t : Fin (pipe m hO).N) : (stg1 m hO t).IsWhole := hstage0_1 (((pipe m hO).slots t 1).cast nbuf0_1)
abbrev stg2 (hO : Inside m) (t : Fin (pipe m hO).N) : Memref sig .tc .vmem S1x1x1x1024 .f32 := spec0_2.stage ((pipe m hO).slots t 2)
abbrev stg2_whole (hO : Inside m) (t : Fin (pipe m hO).N) : (stg2 m hO t).IsWhole := hstage0_2 (((pipe m hO).slots t 2).cast nbuf0_2)
abbrev stg3 (hO : Inside m) (t : Fin (pipe m hO).N) : Memref sig .tc .vmem S1x1x1024x1024 .bf16 := spec0_3.stage ((pipe m hO).slots t 3)
abbrev stg3_whole (hO : Inside m) (t : Fin (pipe m hO).N) : (stg3 m hO t).IsWhole := hstage0_3 (((pipe m hO).slots t 3).cast nbuf0_3)
abbrev stg4 (hO : Inside m) (t : Fin (pipe m hO).N) : Memref sig .tc .vmem S1x1x1x1024 .f32 := spec0_4.stage ((pipe m hO).slots t 4)
abbrev stg4_whole (hO : Inside m) (t : Fin (pipe m hO).N) : (stg4 m hO t).IsWhole := hstage0_4 (((pipe m hO).slots t 4).cast nbuf0_4)
abbrev stg5 (hO : Inside m) (t : Fin (pipe m hO).N) : Memref sig .tc .vmem S1x1x1024x1024 .bf16 := spec0_5.stage ((pipe m hO).slots t 5)
abbrev stg5_whole (hO : Inside m) (t : Fin (pipe m hO).N) : (stg5 m hO t).IsWhole := hstage0_5 (((pipe m hO).slots t 5).cast nbuf0_5)
abbrev stg6 (hO : Inside m) (t : Fin (pipe m hO).N) : Memref sig .tc .vmem S1x1x1x1024 .f32 := spec0_6.stage ((pipe m hO).slots t 6)
abbrev stg6_whole (hO : Inside m) (t : Fin (pipe m hO).N) : (stg6 m hO t).IsWhole := hstage0_6 (((pipe m hO).slots t 6).cast nbuf0_6)
abbrev stg7 (hO : Inside m) (t : Fin (pipe m hO).N) : Memref sig .tc .vmem S4096x128 .f32 := spec0_7.stage ((pipe m hO).slots t 7)
abbrev stg7_whole (hO : Inside m) (t : Fin (pipe m hO).N) : (stg7 m hO t).IsWhole := hstage0_7 (((pipe m hO).slots t 7).cast nbuf0_7)

/-- The body as the pipeline calls it at point `t`. -/
abbrev bodyOf (hO : Inside m) (t : Fin (pipe m hO).N) : Prog (TpuEff nD τ sig (Elt F) Λ₀ .tc) PUnit :=
  cc0_moe_experts (grid0.coords t) expertTable expertTable_whole validTable validTable_whole (stg0 m hO t) (stg0_whole m hO t) (stg1 m hO t) (stg1_whole m hO t) (stg2 m hO t) (stg2_whole m hO t) (stg3 m hO t) (stg3_whole m hO t) (stg4 m hO t) (stg4_whole m hO t) (stg5 m hO t) (stg5_whole m hO t) (stg6 m hO t) (stg6_whole m hO t) (stg7 m hO t) (stg7_whole m hO t)

/-- What a point leaves in the result's block: the network of its block where its word is positive, zeros otherwise. -/
def left (hO : Inside m) (c : Dev nD) (t : Fin (pipe m hO).N) : Vec F S4096x128 .f32 :=
  if k0_cond1 (countAt m c (grid0.coords t)) = 1#1 then laidOut (net (block m hO c 0 t) (block m hO c 1 t) (block m hO c 2 t) (block m hO c 3 t) (block m hO c 4 t) (block m hO c 5 t) (block m hO c 6 t)) else k0_pay5

/-- The pipeline's proof data: arrays as found, inputs' buffers left at their blocks, the result's at `left`. -/
def data (hO : Inside m) (_ : Fin 1) (c : Dev nD) : Dat τ (Elt F) Unit ℕ (UR sig nD τ) ℕ (pipe m hO) c where
  A w := atStart m c (Pipeline.arrRef spec0 w)
  after w t := match w with
    | ⟨0, _⟩ => block m hO c 0 t
    | ⟨1, _⟩ => block m hO c 1 t
    | ⟨2, _⟩ => block m hO c 2 t
    | ⟨3, _⟩ => block m hO c 3 t
    | ⟨4, _⟩ => block m hO c 4 t
    | ⟨5, _⟩ => block m hO c 5 t
    | ⟨6, _⟩ => block m hO c 6 t
    | ⟨7, _⟩ => left m hO c t
  Φ _ := iprop(Pipeline.ΦA spec0 c ∗ Pipeline.ΦT pre0 (tables m) c)
  q _ := fullShare
  owed _ := 0

theorem data_arrays (hO : Inside m) (c : Dev nD) (w : Fin (pipe m hO).W) : (data m hO 0 c).A w = atStart m c (Pipeline.arrRef spec0 w) := by
  dsimp only [data]

theorem after0 (hO : Inside m) (c : Dev nD) (t : Fin (pipe m hO).N) : (data m hO 0 c).after 0 t = block m hO c 0 t := by dsimp only [data]; try rfl
theorem after1 (hO : Inside m) (c : Dev nD) (t : Fin (pipe m hO).N) : (data m hO 0 c).after 1 t = block m hO c 1 t := by dsimp only [data]; try rfl
theorem after2 (hO : Inside m) (c : Dev nD) (t : Fin (pipe m hO).N) : (data m hO 0 c).after 2 t = block m hO c 2 t := by dsimp only [data]; try rfl
theorem after3 (hO : Inside m) (c : Dev nD) (t : Fin (pipe m hO).N) : (data m hO 0 c).after 3 t = block m hO c 3 t := by dsimp only [data]; try rfl
theorem after4 (hO : Inside m) (c : Dev nD) (t : Fin (pipe m hO).N) : (data m hO 0 c).after 4 t = block m hO c 4 t := by dsimp only [data]; try rfl
theorem after5 (hO : Inside m) (c : Dev nD) (t : Fin (pipe m hO).N) : (data m hO 0 c).after 5 t = block m hO c 5 t := by dsimp only [data]; try rfl
theorem after6 (hO : Inside m) (c : Dev nD) (t : Fin (pipe m hO).N) : (data m hO 0 c).after 6 t = block m hO c 6 t := by dsimp only [data]; try rfl
theorem after7 (hO : Inside m) (c : Dev nD) (t : Fin (pipe m hO).N) : (data m hO 0 c).after 7 t = left m hO c t := by dsimp only [data]; try rfl

/-! Each input's buffer holds its block when the body starts, fetched at that point or kept from the one before. -/

theorem before0 (hO : Inside m) (c : Dev nD) (t : Fin (pipe m hO).N) (d) : (data m hO 0 c).before 0 t d = block m hO c 0 t :=
  ((data m hO 0 c).before_in_eq_fetched 0 rfl (fun _ => rfl) (fun _ _ _ => rfl) (fun t => by rw [after0]; unfold Dat.blockOf block; rw [data_arrays]; try rfl) t d).trans
    (by unfold Dat.fetched Dat.blockOf block; rw [data_arrays]; try rfl)
theorem before1 (hO : Inside m) (c : Dev nD) (t : Fin (pipe m hO).N) (d) : (data m hO 0 c).before 1 t d = block m hO c 1 t :=
  ((data m hO 0 c).before_in_eq_fetched 1 rfl (fun _ => rfl) (fun _ _ _ => rfl) (fun t => by rw [after1]; unfold Dat.blockOf block; rw [data_arrays]; try rfl) t d).trans
    (by unfold Dat.fetched Dat.blockOf block; rw [data_arrays]; try rfl)
theorem before2 (hO : Inside m) (c : Dev nD) (t : Fin (pipe m hO).N) (d) : (data m hO 0 c).before 2 t d = block m hO c 2 t :=
  ((data m hO 0 c).before_in_eq_fetched 2 rfl (fun _ => rfl) (fun _ _ _ => rfl) (fun t => by rw [after2]; unfold Dat.blockOf block; rw [data_arrays]; try rfl) t d).trans
    (by unfold Dat.fetched Dat.blockOf block; rw [data_arrays]; try rfl)
theorem before3 (hO : Inside m) (c : Dev nD) (t : Fin (pipe m hO).N) (d) : (data m hO 0 c).before 3 t d = block m hO c 3 t :=
  ((data m hO 0 c).before_in_eq_fetched 3 rfl (fun _ => rfl) (fun _ _ _ => rfl) (fun t => by rw [after3]; unfold Dat.blockOf block; rw [data_arrays]; try rfl) t d).trans
    (by unfold Dat.fetched Dat.blockOf block; rw [data_arrays]; try rfl)
theorem before4 (hO : Inside m) (c : Dev nD) (t : Fin (pipe m hO).N) (d) : (data m hO 0 c).before 4 t d = block m hO c 4 t :=
  ((data m hO 0 c).before_in_eq_fetched 4 rfl (fun _ => rfl) (fun _ _ _ => rfl) (fun t => by rw [after4]; unfold Dat.blockOf block; rw [data_arrays]; try rfl) t d).trans
    (by unfold Dat.fetched Dat.blockOf block; rw [data_arrays]; try rfl)
theorem before5 (hO : Inside m) (c : Dev nD) (t : Fin (pipe m hO).N) (d) : (data m hO 0 c).before 5 t d = block m hO c 5 t :=
  ((data m hO 0 c).before_in_eq_fetched 5 rfl (fun _ => rfl) (fun _ _ _ => rfl) (fun t => by rw [after5]; unfold Dat.blockOf block; rw [data_arrays]; try rfl) t d).trans
    (by unfold Dat.fetched Dat.blockOf block; rw [data_arrays]; try rfl)
theorem before6 (hO : Inside m) (c : Dev nD) (t : Fin (pipe m hO).N) (d) : (data m hO 0 c).before 6 t d = block m hO c 6 t :=
  ((data m hO 0 c).before_in_eq_fetched 6 rfl (fun _ => rfl) (fun _ _ _ => rfl) (fun t => by rw [after6]; unfold Dat.blockOf block; rw [data_arrays]; try rfl) t d).trans
    (by unfold Dat.fetched Dat.blockOf block; rw [data_arrays]; try rfl)

/-! ## One point of the grid -/

/-- What the body is handed at point `t`, -/
def handed (hO : Inside m) (c : Dev nD) (t : Fin (pipe m hO).N) : sProp 𝕄 :=
  iprop((data m hO 0 c).Φ t.castSucc ∗ (data m hO 0 c).owesAt () t.castSucc
    ∗ (∃ d, owns (c : Thread nD τ) (stg0 m hO t) fullShare ((data m hO 0 c).before 0 t d))
    ∗ (∃ d, owns (c : Thread nD τ) (stg1 m hO t) fullShare ((data m hO 0 c).before 1 t d))
    ∗ (∃ d, owns (c : Thread nD τ) (stg2 m hO t) fullShare ((data m hO 0 c).before 2 t d))
    ∗ (∃ d, owns (c : Thread nD τ) (stg3 m hO t) fullShare ((data m hO 0 c).before 3 t d))
    ∗ (∃ d, owns (c : Thread nD τ) (stg4 m hO t) fullShare ((data m hO 0 c).before 4 t d))
    ∗ (∃ d, owns (c : Thread nD τ) (stg5 m hO t) fullShare ((data m hO 0 c).before 5 t d))
    ∗ (∃ d, owns (c : Thread nD τ) (stg6 m hO t) fullShare ((data m hO 0 c).before 6 t d))
    ∗ (∃ d, owns (c : Thread nD τ) (stg7 m hO t) fullShare ((data m hO 0 c).before 7 t d)))

/-- and what it hands back. -/
def returned (hO : Inside m) (c : Dev nD) (t : Fin (pipe m hO).N) : sProp 𝕄 :=
  iprop((data m hO 0 c).Φ t.succ ∗ (data m hO 0 c).owesAt () t.succ
    ∗ owns (c : Thread nD τ) (stg0 m hO t) fullShare ((data m hO 0 c).after 0 t)
    ∗ owns (c : Thread nD τ) (stg1 m hO t) fullShare ((data m hO 0 c).after 1 t)
    ∗ owns (c : Thread nD τ) (stg2 m hO t) fullShare ((data m hO 0 c).after 2 t)
    ∗ owns (c : Thread nD τ) (stg3 m hO t) fullShare ((data m hO 0 c).after 3 t)
    ∗ owns (c : Thread nD τ) (stg4 m hO t) fullShare ((data m hO 0 c).after 4 t)
    ∗ owns (c : Thread nD τ) (stg5 m hO t) fullShare ((data m hO 0 c).after 5 t)
    ∗ owns (c : Thread nD τ) (stg6 m hO t) fullShare ((data m hO 0 c).after 6 t)
    ∗ owns (c : Thread nD τ) (stg7 m hO t) fullShare ((data m hO 0 c).after 7 t))

set_option maxHeartbeats 1600000 in
/-- A point whose word is positive leaves the network of its block. -/
theorem point_full (hO : Inside m) (c : Dev nD) (t : Fin (pipe m hO).N) (h1 : k0_cond1 (countAt m c (grid0.coords t)) = 1#1) (h2 : ¬ k0_cond2 (countAt m c (grid0.coords t)) = 1#1) :
    handed m hO c t ⊢ wp frame (wpE (defs₀ (F := F)) Variants.none c none) Set.univ (bodyOf m hO t) (fun _ => returned m hO c t) := by
  unfold handed returned bodyOf
  simp only [before0, before1, before2, before3, before4, before5, before6]
  rw [show (data m hO 0 c).Φ t.succ = (data m hO 0 c).Φ t.castSucc from rfl,
    show (data m hO 0 c).owesAt () t.succ = (data m hO 0 c).owesAt () t.castSucc from rfl,
    after0, after1, after2, after3, after4, after5, after6, after7]
  rw [show (data m hO 0 c).Φ t.castSucc = iprop(Pipeline.ΦA spec0 c ∗ Pipeline.ΦT pre0 (tables m) c) from rfl, tables_held]
  unfold left
  rw [if_pos h1]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyFull c (grid0.coords t) _ _ _ _ _ _ _ _ _ _ _ _ _ _ _ _ (block m hO c 0 t) (block m hO c 1 t) (block m hO c 2 t) (block m hO c 3 t) (block m hO c 4 t) (block m hO c 5 t) (block m hO c 6 t) (tables m 0) (tables m 1) h1 h2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact bodyFull_leaves c _ _ _ _ _ _ _ _ _ _ _ _ _ _ _ _ _ _ _ _ _ _ _ _ _ _ _ _ _

set_option maxHeartbeats 1600000 in
/-- A point whose word is zero leaves zeros. -/
theorem point_zero (hO : Inside m) (c : Dev nD) (t : Fin (pipe m hO).N) (h1 : ¬ k0_cond1 (countAt m c (grid0.coords t)) = 1#1) (h2 : k0_cond2 (countAt m c (grid0.coords t)) = 1#1) :
    handed m hO c t ⊢ wp frame (wpE (defs₀ (F := F)) Variants.none c none) Set.univ (bodyOf m hO t) (fun _ => returned m hO c t) := by
  unfold handed returned bodyOf
  simp only [before0, before1, before2, before3, before4, before5, before6]
  rw [show (data m hO 0 c).Φ t.succ = (data m hO 0 c).Φ t.castSucc from rfl,
    show (data m hO 0 c).owesAt () t.succ = (data m hO 0 c).owesAt () t.castSucc from rfl,
    after0, after1, after2, after3, after4, after5, after6, after7]
  rw [show (data m hO 0 c).Φ t.castSucc = iprop(Pipeline.ΦA spec0 c ∗ Pipeline.ΦT pre0 (tables m) c) from rfl, tables_held]
  unfold left
  rw [if_neg h1]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyZero c (grid0.coords t) _ _ _ _ _ _ _ _ _ _ _ _ _ _ _ _ (block m hO c 0 t) (block m hO c 1 t) (block m hO c 2 t) (block m hO c 3 t) (block m hO c 4 t) (block m hO c 5 t) (block m hO c 6 t) (tables m 0) (tables m 1) h1 h2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact bodyZero_leaves c _ _ _ _ _ _ _ _ _ _ _ _ _ _ _ _ _ _ _ _ _ _ _ _ _ _ _ _ _

theorem point (hO : Inside m) (hC : Counts m) (c : Dev nD) (t : Fin (pipe m hO).N) :
    handed m hO c t ⊢ wp frame (wpE (defs₀ (F := F)) Variants.none c none) Set.univ (bodyOf m hO t) (fun _ => returned m hO c t) :=
  (positive_or_zero _ (hC c (grid0.coords t))).elim (fun h => point_full m hO c t h.1 h.2) (fun h => point_zero m hO c t h.1 h.2)

theorem body_row (hO : Inside m) (t : Fin (pipe m hO).N) :
    defs₀ (F := F) .tc (pipe m hO).body ((pipe m hO).bodyArgs t ((pipe m hO).slots t)) = bodyOf m hO t := by
  unfold defs₀; rw [Defs.onTc_tc]

/-- What the pipeline asks of a window the body may leave untouched, where it writes the window back at every point. -/
theorem left_of_written {M : Type} [URA M] {A B : sProp M} {idle flush : Bool} :
    (B ⊢ (match idle with
      | true => match flush with
        | false => A
        | true => B
      | false => B)) ∨ ¬ flush = true := by
  cases idle <;> cases flush <;> first | exact .inl .rfl | exact .inr (by decide)

/-- What the pipeline asks of the body, at every point. -/
theorem obligation (hO : Inside m) (hC : Counts m) (c : Dev nD) : BodyObligation (data (F := F) m hO 0 c) (defs₀ (F := F)) Variants.none () Set.univ := fun t => by
  rw [bigSep_W0, bigSep_W0, body_row m hO]
  refine triple_restated (point m hO hC c t) rfl .rfl fun _ => ?_
  unfold returned
  exact sep_mono .rfl (sep_mono .rfl (sep_mono .rfl (sep_mono .rfl (sep_mono .rfl (sep_mono .rfl (sep_mono .rfl (sep_mono .rfl (sep_mono .rfl
    (left_of_written.resolve_right (not_not.mpr (result_written (admissible m hO) t)))))))))))

/-! ## The run -/

set_option backward.isDefEq.respectTransparency.types false in
/-- The program terminates without a fault, every array of the pipeline at what the proof data says, every other
    buffer as found, every semaphore at zero. -/
theorem run (hO : Inside m) (hC : Counts m) : θ_run defs (onTc (τ := τ) (main (F := F))) (s₀ m ρ) (fun r => (Pipeline.FramePost (Pipeline.pin pcfgs fun _ => admissible m hO) (data m hO) 0 (atStart m)) r ∧ r.2.sem = fun _ => 0) :=
  Pipeline.θ_run_frameP (Q' := _) pcfgs (fun _ => admissible m hO) (data m hO) (0 : Fin 1) launch0 defs₀ Variants.none m ρ main
    (hbody := fun c => (obligation m hO hC c).loose) (hshare := fun c => (data m hO 0 c).share_full fun _ => rfl)
    (howed := fun _ _ => rfl) (V := atStart m) (hmain := program_is_pipeline m Variants.none) (hA := data_arrays m hO) (hpf := tables_at m)
    (hΦ := fun _ _ => rfl)

/-- The arguments end as they were. -/
theorem unchanged (hO : Inside m) (hC : Counts m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans rfl,
      ((h c).2 main_arg1 (by decide : main_arg1 ∈ Pipeline.restRefs sig spec0)).trans rfl,
      ((h c).1 0).trans (((data m hO 0 c).arrAt_in 0 rfl _).trans (data_arrays m hO c 0)),
      ((h c).1 1).trans (((data m hO 0 c).arrAt_in 1 rfl _).trans (data_arrays m hO c 1)),
      ((h c).1 2).trans (((data m hO 0 c).arrAt_in 2 rfl _).trans (data_arrays m hO c 2)),
      ((h c).1 3).trans (((data m hO 0 c).arrAt_in 3 rfl _).trans (data_arrays m hO c 3)),
      ((h c).1 4).trans (((data m hO 0 c).arrAt_in 4 rfl _).trans (data_arrays m hO c 4)),
      ((h c).1 5).trans (((data m hO 0 c).arrAt_in 5 rfl _).trans (data_arrays m hO c 5)),
      ((h c).1 6).trans (((data m hO 0 c).arrAt_in 6 rfl _).trans (data_arrays m hO c 6))⟩) ((θ_run defs _ _).mono (fun _ h => h.1) (run m ρ hO hC))

/-- The arguments end as they were and every semaphore at zero. -/
theorem frame_run (hO : Inside m) (hC : Counts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hC) ((θ_run defs _ _).mono (fun _ h => h.2) (run m ρ hO hC))

end Cert.KernelIdeal.Experts

end
-- ==== Proof.Experts.Tables.lean ====
/-
  What the precondition says of the two tables.

  The precondition `tables_ok` is a word computed from the tables, one bit per block of tokens: the block's expert is
  at least 0 and below 32, and its count is at least 0. Read bit by bit it gives what the run asks: every block the
  first table names lies inside the weights, and no word of the second table is negative.
-/
module

public import proofs.«01_k».proof.Proof.Experts.Run
public import proofs.«01_k».proof.Defs
public import proofs.«01_k».proof.Proof.Gen.Pre_tables_ok

@[expose] public section

set_option maxRecDepth 16384

noncomputable section

namespace Cert.KernelIdeal.Experts

open Idealize.ShloMosaic Idealize.ShloMosaic.TcCoe
open Cert.KernelIdeal Cert.KernelIdeal.Gen

variable {F : FTy → Type} [FloatOps F]
variable (m : (ℓ : Loc nD τ sig) → Buf (Elt F) ℓ)

/-- The precondition of the arguments a memory holds: the word it computes is one at every block. -/
abbrev TablesOk : Prop := ∀ c : Dev nD,
  Cert.Pre_tables_ok.fn (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) = (fun _ => 1#1)

/-- The precondition at one block: the expert's word is in [0, 32), the count's word is not negative. -/
theorem words (h : TablesOk m) (c : Dev nD) (y : S352.Idx) :
    (0 ≤ (m ((c : Thread nD τ).loc main_arg0) y : BitVec 32).toInt ∧ (m ((c : Thread nD τ).loc main_arg0) y : BitVec 32).toInt < 32)
      ∧ 0 ≤ (m ((c : Thread nD τ).loc main_arg1) y : BitVec 32).toInt := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_tables_ok.fn, andi, cmpi, broadcastInDim, constantI, IntOp.cmpi, andi_ofBool, ofBool_eq_one,
    Bool.and_eq_true] at e
  obtain ⟨⟨hge, hlt⟩, hv⟩ := e
  simp only [BitVec.sle, BitVec.slt, decide_eq_true_eq] at hge hlt hv
  exact ⟨⟨hge, hlt⟩, hv⟩

/-- So the expert's word, read as a natural number, is below 32. -/
theorem expert_lt (h : TablesOk m) (c : Dev nD) (y : S352.Idx) :
    (m ((c : Thread nD τ).loc main_arg0) y : BitVec 32).toNat < 32 := by
  obtain ⟨⟨hge, hlt⟩, -⟩ := words m h c y
  simp only [BitVec.toInt] at hge hlt
  omega

/-- Every word of the first table is below 32. -/
theorem table_lt (h : TablesOk m) (y : S352.Idx) : (tables m 0 y : BitVec 32).toNat < 32 := expert_lt m h 0 y

/-- No word of the second table is negative. -/
theorem counts_of_pre (h : TablesOk m) : Counts m := fun c i => (words m h 0 _).2

/-- A block of one weight matrix, named by a layer and an expert inside the stack, lies inside the stack. -/
theorem matrix_inside (e : ℕ) (he : e < 32) (a : Fin 4) :
    ((![0, e, 0, 0] : Fin 4 → ℕ) a + 1) * S1x1x1024x1024.size a ≤ S2x32x1024x1024.size a := by
  match a with
  | 0 => show (0 + 1) * 1 ≤ 2; omega
  | 1 => show (e + 1) * 1 ≤ 32; omega
  | 2 => show (0 + 1) * 1024 ≤ 1024; omega
  | 3 => show (0 + 1) * 1024 ≤ 1024; omega

/-- A block of one bias, named by a layer and an expert inside the stack, lies inside the stack. -/
theorem bias_inside (e : ℕ) (he : e < 32) (a : Fin 4) :
    ((![0, e, 0, 0] : Fin 4 → ℕ) a + 1) * S1x1x1x1024.size a ≤ S2x32x1x1024.size a := by
  match a with
  | 0 => show (0 + 1) * 1 ≤ 2; omega
  | 1 => show (e + 1) * 1 ≤ 32; omega
  | 2 => show (0 + 1) * 1 ≤ 1; omega
  | 3 => show (0 + 1) * 1024 ≤ 1024; omega

/-- A block of whole weight matrices holds whole packed words: it takes all 1024 rows of its slab. -/
theorem matrix_words (ix : Fin 4 → ℕ) (hr : ix 2 = 0) (hix : ∀ a, (ix a + 1) * S1x1x1024x1024.size a ≤ S2x32x1024x1024.size a) :
    (Rect.block (s := S2x32x1024x1024) S1x1x1024x1024.size ix hix).WholeWords (EltTy.packing .bf16) := by
  refine .inr ⟨by decide, rfl, ?_, rfl⟩
  show ix 2 * 1024 = 0
  rw [hr]

/-- Every block the first table names lies inside the weights. -/
theorem inside_of_pre (h : TablesOk m) : Inside m :=
  ⟨fun i => ⟨matrix_inside _ (table_lt m h _), .inr (matrix_words _ rfl _)⟩,
   fun i => ⟨bias_inside _ (table_lt m h _), .inl rfl⟩,
   fun i => ⟨matrix_inside _ (table_lt m h _), .inr (matrix_words _ rfl _)⟩,
   fun i => ⟨bias_inside _ (table_lt m h _), .inl rfl⟩,
   fun i => ⟨matrix_inside _ (table_lt m h _), .inr (matrix_words _ rfl _)⟩,
   fun i => ⟨bias_inside _ (table_lt m h _), .inl rfl⟩⟩

end Cert.KernelIdeal.Experts

end
-- ==== Proof.Experts.Spec.lean ====
/-
  One expert's network, written on its own, and the array both programs are shown to compute with it.
-/
module

public import Idealize.ShloMosaic.PureOps.Ideal
public import Idealize.ShloMosaic.PureOps.Ideal.Laws
public import Idealize.ShloMosaic.Lib.ValueIdx

@[expose] public section

noncomputable section

namespace Cert.Experts

open Idealize.ShloMosaic Idealize.ShloMosaic.ValueIdx

/-- The bound 7 of the gate and of the linear branch, as the float word both programs name. -/
abbrev hi : EReal := Ideal.ofBits .f32 0x40E00000#32
/-- The bound −7 of the linear branch. -/
abbrev lo : EReal := Ideal.ofBits .f32 0xC0E00000#32
/-- The word of 1. -/
abbrev one : EReal := Ideal.ofBits .f32 0x3F800000#32
/-- The word of 1.702. -/
abbrev slope : EReal := Ideal.ofBits .f32 0x3FD9DB23#32

/-- The gate of a token: its product with column `f` of the gate's weights, biased, cut off above at 7. -/
def gate (x : Fin 1024 → EReal) (wg : Fin 1024 → Fin 1024 → EReal) (bg : Fin 1024 → EReal) (f : Fin 1024) : EReal :=
  min ((∑ k, x k * wg k f) + bg f) hi

/-- The linear branch of a token: its product with column `f`, biased, cut off at −7 and at 7. -/
def lin (x : Fin 1024 → EReal) (wu : Fin 1024 → Fin 1024 → EReal) (bu : Fin 1024 → EReal) (f : Fin 1024) : EReal :=
  min hi (max lo ((∑ k, x k * wu k f) + bu f))

/-- The activation: `(u + 1) · g · σ(1.702 g)`. -/
def swish (g u : EReal) : EReal := ((u + one) * g) * Ideal.div one (one + Ideal.exp (-(slope * g)))

/-- The expert's output for a token at column `d`. -/
def expert (x : Fin 1024 → EReal) (wg : Fin 1024 → Fin 1024 → EReal) (bg : Fin 1024 → EReal)
    (wu : Fin 1024 → Fin 1024 → EReal) (bu : Fin 1024 → EReal) (wd : Fin 1024 → Fin 1024 → EReal) (bd : Fin 1024 → EReal)
    (d : Fin 1024) : EReal :=
  (∑ f, swish (gate x wg bg f) (lin x wu bu f) * wd f d) + bd d

/-! ## The whole array -/

/-- The shapes of the arguments: a table with a word per block of tokens, the tokens' features as rows of 128, a
    layer's and an expert's weight matrices, and their biases. -/
abbrev Blocks : Shape := ⟨1, ![352]⟩
abbrev Rows : Shape := ⟨2, ![1441792, 128]⟩
abbrev Matrices : Shape := ⟨4, ![2, 32, 1024, 1024]⟩
abbrev Biases : Shape := ⟨4, ![2, 32, 1, 1024]⟩

/-- The block of tokens a row lies in: 512 tokens, each eight rows. -/
abbrev blockOf (y : Rows.Idx) : Fin 352 := ⟨(y 0).val / 4096, by have := idx2_lt0 y; omega⟩

/-- The expert a block's word names. -/
abbrev expertOf (w : BitVec 32) : Fin 32 := ⟨w.toNat % 32, by omega⟩

/-- Feature `k` of the token row `y` belongs to. -/
abbrev feature (y : Rows.Idx) (k : Fin 1024) : Rows.Idx :=
  ix2 (n0 := 1441792) (n1 := 128) ⟨8 * ((y 0).val / 8) + k.val / 128, by have := idx2_lt0 y; omega⟩ ⟨k.val % 128, by omega⟩

/-- The output column an entry of a row stands for. -/
abbrev column (y : Rows.Idx) : Fin 1024 := ⟨128 * ((y 0).val % 8) + (y 1).val, by have := idx2_lt1 y; omega⟩

/-- The result: each block's tokens through the network of the block's expert, in the first layer's weights; zeros in a
    block whose count is not positive. -/
def result (be bv : Blocks.Idx → BitVec 32) (xs : Rows.Idx → EReal) (wg : Matrices.Idx → EReal) (bg : Biases.Idx → EReal)
    (wu : Matrices.Idx → EReal) (bu : Biases.Idx → EReal) (wd : Matrices.Idx → EReal) (bd : Biases.Idx → EReal) : Rows.Idx → EReal := fun y =>
  if 0 < (bv (ix1 (blockOf y))).toInt then
    expert (fun k => xs (feature y k))
      (fun k f => wg (ix4 0 (expertOf (be (ix1 (blockOf y)))) k f)) (fun f => bg (ix4 0 (expertOf (be (ix1 (blockOf y)))) 0 f))
      (fun k f => wu (ix4 0 (expertOf (be (ix1 (blockOf y)))) k f)) (fun f => bu (ix4 0 (expertOf (be (ix1 (blockOf y)))) 0 f))
      (fun k f => wd (ix4 0 (expertOf (be (ix1 (blockOf y)))) k f)) (fun f => bd (ix4 0 (expertOf (be (ix1 (blockOf y)))) 0 f))
      (column y)
  else 0

end Cert.Experts

end
-- ==== Proof.Experts.Net.lean ====
/-
  The body's network read at an index, over the reals.

  The body gathers a token's 1024 features out of eight rows of 128, multiplies them with the gate's weights and with
  the linear branch's, and the activation with the output's weights. At an index that is the expert's network of
  `Spec.lean`, on the token whose eight rows the index names.
-/
module

public import proofs.«01_k».proof.Proof.Experts.Left
public import proofs.«01_k».proof.Proof.Experts.Spec
public import Idealize.ShloMosaic.Lib.ValueIdx

@[expose] public section

set_option maxRecDepth 16384

noncomputable section

namespace Cert.KernelIdeal.Experts

open Idealize.ShloMosaic Idealize.ShloMosaic.ValueIdx
open Cert.KernelIdeal Cert.KernelIdeal.Gen

local notation "D" => dot_S512x1024_S1024x1024_S512x1024_1_0_0_1_n_n

/-- The body's product of 512 rows with a weight matrix, read at an index. -/
theorem product_apply (l : FVec Ideal S512x1024 .bf16) (r : FVec Ideal S1024x1024 .bf16) (j : S512x1024.Idx) :
    matmul D none l r (constant S512x1024 .f32 0x00000000#32) j
      = ∑ k : Fin 1024, l (ix2 (n0 := 512) (j 0) k) * r (ix2 (n1 := 1024) k (j 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  congr 1
  · refine congrArg l (funext fun a => Fin.ext ?_)
    match a with
    | ⟨0, _⟩ => simp [DotDims.lhsIdx, dot_S512x1024_S1024x1024_S512x1024_1_0_0_1_n_n]; rfl
    | ⟨1, _⟩ => refine Eq.trans ?_ hk; simp [DotDims.lhsIdx, dot_S512x1024_S1024x1024_S512x1024_1_0_0_1_n_n]; rfl
  · refine congrArg r (funext fun a => Fin.ext ?_)
    match a with
    | ⟨0, _⟩ => refine Eq.trans ?_ hk; simp [DotDims.rhsIdx, dot_S512x1024_S1024x1024_S512x1024_1_0_0_1_n_n]; rfl
    | ⟨1, _⟩ => simp [DotDims.rhsIdx, dot_S512x1024_S1024x1024_S512x1024_1_0_0_1_n_n]; rfl

/-- Where token `n`'s feature `k` sits in its block of rows of 128. -/
abbrev cell (n : Fin 512) (k : Fin 1024) : S4096x128.Idx :=
  ix2 (n0 := 4096) (n1 := 128) ⟨8 * n.val + k.val / 128, by omega⟩ ⟨k.val % 128, by omega⟩

/-- A load of every eighth row, from row `s`, reads the block at row `s + 8 n`. -/
theorem every_eighth (x0 : Vec Ideal S4096x128 .f32) (s : Nat) {inb pos} (j : S512x128.Idx) (y : S4096x128.Idx)
    (h0 : (y 0).val = s + 8 * (j 0).val) (h1 : (y 1).val = (j 1).val) :
    View.ld x0 { off := ![s, 0], size := ![512, 128], stride := ![8, 1], inb := inb, stride_pos := pos } j = x0 y := by
  refine congrArg x0 (funext fun a => Fin.ext ?_)
  match a with
  | ⟨0, _⟩ => exact h0.symm
  | ⟨1, _⟩ => refine Eq.trans ?_ h1.symm; show 0 + 1 * (j 1).val = (j 1).val; omega

/-- The eight strips, in order. -/
abbrev strips (x0 : Vec Ideal S4096x128 .f32) : List ((u : Shape) × (u.Idx → Elt Ideal .f32)) :=
  [⟨S512x128, strip0 x0⟩, ⟨S512x128, strip1 x0⟩, ⟨S512x128, strip2 x0⟩, ⟨S512x128, strip3 x0⟩, ⟨S512x128, strip4 x0⟩,
    ⟨S512x128, strip5 x0⟩, ⟨S512x128, strip6 x0⟩, ⟨S512x128, strip7 x0⟩]

/-- Eight strips side by side, read at an index that falls in strip `s`. -/
theorem piece (x0 : Vec Ideal S4096x128 .f32) (n : Fin 512) (k : Fin 1024) (s : Nat) (hs : k.val / 128 = s) (h8 : s < (strips x0).length)
    (st : Vec Ideal S512x128 .f32)
    (hst : ∀ (j : S512x128.Idx) (y : S4096x128.Idx), (y 0).val = s + 8 * (j 0).val → (y 1).val = (j 1).val → st j = x0 y)
    (hk : (strips x0)[s] = ⟨S512x128, st⟩)
    (hp : ((((strips x0).take s).map (·.1)).map fun u => if h : u.rank = S512x1024.rank then u.size ((1 : Fin S512x1024.rank).cast h.symm) else 0).sum = 128 * s) :
    concatenate S512x1024 1 (strips x0)
      concatenates_S512x128_S512x128_S512x128_S512x128_S512x128_S512x128_S512x128_S512x128_S512x1024_d1 (ix2 (n0 := 512) (n1 := 1024) n k)
      = x0 (cell n k) := by
  refine (concatenate_apply_piece (t := S512x1024) 1 _ _ _ s h8 S512x128 st hk rfl (128 * s) hp (ix2 (n0 := 512) (n1 := 128) n ⟨k.val % 128, by omega⟩) ?_ ?_).trans ?_
  · intro b hb
    match b with
    | ⟨0, _⟩ => rfl
    | ⟨1, _⟩ => exact absurd rfl hb
  · show 128 * s + k.val % 128 = k.val
    omega
  · refine hst _ _ ?_ rfl
    show 8 * n.val + k.val / 128 = s + 8 * n.val
    omega

/-- The gathered rows: row `n` holds token `n`'s features in order. -/
theorem gathered (x0 : Vec Ideal S4096x128 .f32) (n : Fin 512) (k : Fin 1024) :
    k0_pay6 (strip0 x0) (strip1 x0) (strip2 x0) (strip3 x0) (strip4 x0) (strip5 x0) (strip6 x0) (strip7 x0) (ix2 (n0 := 512) (n1 := 1024) n k)
      = x0 (cell n k) := by
  dsimp only [k0_pay6]
  rw [truncf_apply]
  have h : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases h with hs | hs | hs | hs | hs | hs | hs | hs
  · exact piece x0 n k 0 hs (show 0 < 8 by decide) (strip0 x0) (every_eighth x0 0) rfl rfl
  · exact piece x0 n k 1 hs (show 1 < 8 by decide) (strip1 x0) (every_eighth x0 1) rfl rfl
  · exact piece x0 n k 2 hs (show 2 < 8 by decide) (strip2 x0) (every_eighth x0 2) rfl rfl
  · exact piece x0 n k 3 hs (show 3 < 8 by decide) (strip3 x0) (every_eighth x0 3) rfl rfl
  · exact piece x0 n k 4 hs (show 4 < 8 by decide) (strip4 x0) (every_eighth x0 4) rfl rfl
  · exact piece x0 n k 5 hs (show 5 < 8 by decide) (strip5 x0) (every_eighth x0 5) rfl rfl
  · exact piece x0 n k 6 hs (show 6 < 8 by decide) (strip6 x0) (every_eighth x0 6) rfl rfl
  · exact piece x0 n k 7 hs (show 7 < 8 by decide) (strip7 x0) (every_eighth x0 7) rfl rfl

/-- A weight block without its two leading unit axes. -/
theorem weights_apply (w : FVec Ideal S1x1x1024x1024 .bf16) (k f : Fin 1024) :
    shapeCast S1024x1024 w shapeCasts_S1x1x1024x1024_S1024x1024 (ix2 k f) = w (ix4 0 0 k f) :=
  shapeCast_apply _ _ _ _ (by
    rw [Shape.rowMajor_val_four, Shape.rowMajor_val_two]
    show ((0 * 1 + 0) * 1024 + k.val) * 1024 + f.val = k.val * 1024 + f.val; omega)

/-- A bias block, broadcast over the rows. -/
theorem bias_apply (b : FVec Ideal S1x1x1x1024 .f32) (n : Fin 512) (f : Fin 1024) :
    broadcastTo S512x1024 (shapeCast S1x1024 b shapeCasts_S1x1x1x1024_S1x1024) broadcasts_S1x1024_S512x1024 (ix2 n f) = b (ix4 0 0 0 f) :=
  (broadcastTo_apply _ _ _ (ix2 (n0 := 1) (n1 := 1024) 0 f) (fun a => by match a with | ⟨0, _⟩ => rfl | ⟨1, _⟩ => rfl)).trans
    (shapeCast_apply _ _ _ _ (by
      rw [Shape.rowMajor_val_four, Shape.rowMajor_val_two]
      show ((0 * 1 + 0) * 1 + 0) * 1024 + f.val = 0 * 1024 + f.val; omega))

/-- The body's gate at an index. -/
theorem gate_apply (x0 : Vec Ideal S4096x128 .f32) (w : Vec Ideal S1x1x1024x1024 .bf16) (b : Vec Ideal S1x1x1x1024 .f32) (n : Fin 512) (f : Fin 1024) :
    k0_pay7 (strip0 x0) (strip1 x0) (strip2 x0) (strip3 x0) (strip4 x0) (strip5 x0) (strip6 x0) (strip7 x0) w b (ix2 n f)
      = Cert.Experts.gate (fun k => x0 (cell n k)) (fun k f => w (ix4 0 0 k f)) (fun f => b (ix4 0 0 0 f)) f := by
  dsimp only [k0_pay7]
  rw [minimumf_apply, addf_apply, product_apply]
  simp only [gathered, weights_apply, bias_apply]
  rfl

/-- The body's linear branch at an index, before it is cut off. -/
theorem lin_apply (x0 : Vec Ideal S4096x128 .f32) (w : Vec Ideal S1x1x1024x1024 .bf16) (n : Fin 512) (f : Fin 1024) :
    k0_pay8 (strip0 x0) (strip1 x0) (strip2 x0) (strip3 x0) (strip4 x0) (strip5 x0) (strip6 x0) (strip7 x0) w (ix2 n f)
      = ∑ k, x0 (cell n k) * w (ix4 0 0 k f) := by
  dsimp only [k0_pay8]
  rw [product_apply]
  simp only [gathered, weights_apply]

/-- The body's bias of the linear branch at an index. -/
theorem lin_bias_apply (b : Vec Ideal S1x1x1x1024 .f32) (n : Fin 512) (f : Fin 1024) : k0_pay9 b (ix2 n f) = b (ix4 0 0 0 f) := by
  dsimp only [k0_pay9]; exact bias_apply b n f

/-- The body's activation and its product with the output's weights, at an index. -/
theorem out_apply (g u c : FVec Ideal S512x1024 .f32) (w : Vec Ideal S1x1x1024x1024 .bf16) (b : Vec Ideal S1x1x1x1024 .f32) (n : Fin 512) (d : Fin 1024) :
    k0_pay10 g u c w b (ix2 n d)
      = (∑ f : Fin 1024, Cert.Experts.swish (g (ix2 n f)) (min Cert.Experts.hi (max Cert.Experts.lo (u (ix2 n f) + c (ix2 n f)))) * w (ix4 0 0 f d))
        + b (ix4 0 0 0 d) := by
  dsimp only [k0_pay10]
  rw [addf_apply, product_apply, bias_apply]
  refine congrArg (· + _) (Finset.sum_congr rfl fun f _ => ?_)
  rw [weights_apply]
  refine congrArg (· * _) ?_
  simp only [truncf_apply, mulf_apply, addf_apply, divf_apply, subf_apply, minimumf_apply, maximumf_apply, broadcast_apply]
  unfold Cert.Experts.swish
  refine congrArg (_ * ·) (congrArg (Ideal.div _) (congrArg (_ + ·) (congrArg Ideal.exp ?_)))
  show Ideal.ofBits .f32 0x00000000#32 - _ = _
  rw [Ideal.ofBits_zero_f32, zero_sub]
  rfl

/-- The body's network at an index is the expert's network on the token the index names. -/
theorem net_apply (x0 : Vec Ideal S4096x128 .f32) (x1 : Vec Ideal S1x1x1024x1024 .bf16) (x2 : Vec Ideal S1x1x1x1024 .f32)
    (x3 : Vec Ideal S1x1x1024x1024 .bf16) (x4 : Vec Ideal S1x1x1x1024 .f32) (x5 : Vec Ideal S1x1x1024x1024 .bf16) (x6 : Vec Ideal S1x1x1x1024 .f32)
    (n : Fin 512) (d : Fin 1024) :
    net x0 x1 x2 x3 x4 x5 x6 (ix2 n d)
      = Cert.Experts.expert (fun k => x0 (cell n k)) (fun k f => x1 (ix4 0 0 k f)) (fun f => x2 (ix4 0 0 0 f))
          (fun k f => x3 (ix4 0 0 k f)) (fun f => x4 (ix4 0 0 0 f)) (fun k f => x5 (ix4 0 0 k f)) (fun f => x6 (ix4 0 0 0 f)) d := by
  unfold net
  rw [out_apply]
  simp only [gate_apply, lin_apply, lin_bias_apply]
  rfl

end Cert.KernelIdeal.Experts

end
-- ==== Proof.Experts.Value.lean ====
/-
  The experts' call's result over the reals.

  What a point writes back is its block of one array, `Cert.Experts.result` of the arguments: the block of rows it reads
  are its tokens' features, the weights it reads are those of the expert its word names. The 352 blocks fill the array.
-/
module

public import proofs.«01_k».proof.Proof.Experts.Tables
public import proofs.«01_k».proof.Proof.Experts.Net
public import Idealize.ShloMosaic.Lib.Pipeline.Value

@[expose] public section

set_option maxRecDepth 16384

noncomputable section

namespace Cert.KernelIdeal.Experts

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Points and words -/

/-- A point of the grid as a number below 352. -/
abbrev point1 (t : Fin grid0.N) : Fin 352 := ⟨t.val, t.isLt⟩

theorem coord_val (t : Fin grid0.N) : (grid0.coords t 0).val = t.val := by
  have h := t.isLt; change t.val < 352 at h
  rw [Pipeline.Grid.coords_val t 0 (S := 1) (B := 352) (by decide) rfl]
  omega

theorem coord_word (t : Fin grid0.N) : (BitVec.ofNat 32 (grid0.coords t 0).val).toNat = t.val := by
  have h := t.isLt; change t.val < 352 at h
  rw [coord_val, BitVec.toNat_ofNat]; omega

/-- The word of the second table the body reads at point `t` is the table's `t`-th. -/
theorem count_of (c : Dev nD) (t : Fin grid0.N) : countAt m c (grid0.coords t) = tables m 1 (ix1 (point1 t)) := by
  refine congrArg (tables m 1) (funext fun a => Fin.ext ?_)
  match a with
  | ⟨0, _⟩ => exact coord_word t

/-- The word of the first table the index maps read at point `t` is the table's `t`-th. -/
theorem word_of (h : TablesOk m) (t : Fin grid0.N) :
    (cc0_transform_1 k0_off1_inb numel1_S1 (tables m) (grid0.coords t) 1) = (tables m 0 (ix1 (point1 t)) : BitVec 32).toNat := by
  refine congrArg (fun y => (tables m 0 y : BitVec 32).toNat) (funext fun a => Fin.ext ?_)
  match a with
  | ⟨0, _⟩ => exact coord_word t

/-! ## Where a block's entries sit in their arrays -/

section Places
variable (hO : Inside m) (t : Fin grid0.N)

theorem place0 (y : S4096x128.Idx) (a : Fin 2) : (((((pipe m hO).win 0).blk t).view.emb y : S1441792x128.Idx) a).val = cc0_transform_0 (grid0.coords t) a * S4096x128.size a + (y a).val :=
  Pipeline.Window.rect_emb_val ((pipe m hO).win 0) t y a rfl

theorem place1 (y : S1x1x1024x1024.Idx) (a : Fin 4) : (((((pipe m hO).win 1).blk t).view.emb y : S2x32x1024x1024.Idx) a).val = cc0_transform_1 k0_off1_inb numel1_S1 (tables m) (grid0.coords t) a * S1x1x1024x1024.size a + (y a).val :=
  Pipeline.Window.rect_emb_val ((pipe m hO).win 1) t y a rfl

theorem place2 (y : S1x1x1x1024.Idx) (a : Fin 4) : (((((pipe m hO).win 2).blk t).view.emb y : S2x32x1x1024.Idx) a).val = cc0_transform_2 k0_off1_inb numel1_S1 (tables m) (grid0.coords t) a * S1x1x1x1024.size a + (y a).val :=
  Pipeline.Window.rect_emb_val ((pipe m hO).win 2) t y a rfl

theorem place3 (y : S1x1x1024x1024.Idx) (a : Fin 4) : (((((pipe m hO).win 3).blk t).view.emb y : S2x32x1024x1024.Idx) a).val = cc0_transform_3 k0_off1_inb numel1_S1 (tables m) (grid0.coords t) a * S1x1x1024x1024.size a + (y a).val :=
  Pipeline.Window.rect_emb_val ((pipe m hO).win 3) t y a rfl

theorem place4 (y : S1x1x1x1024.Idx) (a : Fin 4) : (((((pipe m hO).win 4).blk t).view.emb y : S2x32x1x1024.Idx) a).val = cc0_transform_4 k0_off1_inb numel1_S1 (tables m) (grid0.coords t) a * S1x1x1x1024.size a + (y a).val :=
  Pipeline.Window.rect_emb_val ((pipe m hO).win 4) t y a rfl

theorem place5 (y : S1x1x1024x1024.Idx) (a : Fin 4) : (((((pipe m hO).win 5).blk t).view.emb y : S2x32x1024x1024.Idx) a).val = cc0_transform_5 k0_off1_inb numel1_S1 (tables m) (grid0.coords t) a * S1x1x1024x1024.size a + (y a).val :=
  Pipeline.Window.rect_emb_val ((pipe m hO).win 5) t y a rfl

theorem place6 (y : S1x1x1x1024.Idx) (a : Fin 4) : (((((pipe m hO).win 6).blk t).view.emb y : S2x32x1x1024.Idx) a).val = cc0_transform_6 k0_off1_inb numel1_S1 (tables m) (grid0.coords t) a * S1x1x1x1024.size a + (y a).val :=
  Pipeline.Window.rect_emb_val ((pipe m hO).win 6) t y a rfl

theorem place7 (y : S4096x128.Idx) (a : Fin 2) : (((((pipe m hO).win 7).blk t).view.emb y : S1441792x128.Idx) a).val = cc0_transform_7 (grid0.coords t) a * S4096x128.size a + (y a).val :=
  Pipeline.Window.rect_emb_val ((pipe m hO).win 7) t y a rfl

end Places

/-! ## The blocks a point reads -/

section Blocks
variable (h : TablesOk m) (hO : Inside m) (c : Dev nD) (t : Fin grid0.N)
include h

theorem block0_apply (y : S4096x128.Idx) (z : S1441792x128.Idx) (h0 : (z 0).val = 4096 * t.val + (y 0).val) (h1 : (z 1).val = (y 1).val) :
    block m hO c 0 t y = m ((c : Thread nD τ).loc main_arg2) z := by
  unfold block
  refine congrArg (m ((c : Thread nD τ).loc main_arg2)) (?_ : ((((pipe m hO).win 0).blk t).view.emb _ : S1441792x128.Idx) = _)
  funext (a : Fin 2)
  refine Fin.ext ((place0 m hO t _ a).trans ?_)
  match a with
  | ⟨0, _⟩ => refine (congrArg (· * 4096 + (y 0).val) (coord_word t)).trans ?_; show t.val * 4096 + (y 0).val = (z 0).val; omega
  | ⟨1, _⟩ => show 0 * 128 + (y 1).val = (z 1).val; omega

theorem block1_apply (k f : Fin 1024) :
    block m hO c 1 t (ix4 (n0 := 1) (n1 := 1) (n2 := 1024) (n3 := 1024) 0 0 k f)
      = m ((c : Thread nD τ).loc main_arg3) (ix4 (n0 := 2) (n1 := 32) (n2 := 1024) (n3 := 1024) 0 (Cert.Experts.expertOf (tables m 0 (ix1 (point1 t)))) k f) := by
  unfold block
  refine congrArg (m ((c : Thread nD τ).loc main_arg3)) (?_ : ((((pipe m hO).win 1).blk t).view.emb _ : S2x32x1024x1024.Idx) = _)
  funext (a : Fin 4)
  refine Fin.ext ((place1 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => show 0 * 1024 + k.val = k.val; omega
  | ⟨3, _⟩ => show 0 * 1024 + f.val = f.val; omega

theorem block2_apply (f : Fin 1024) :
    block m hO c 2 t (ix4 (n0 := 1) (n1 := 1) (n2 := 1) (n3 := 1024) 0 0 0 f)
      = m ((c : Thread nD τ).loc main_arg4) (ix4 (n0 := 2) (n1 := 32) (n2 := 1) (n3 := 1024) 0 (Cert.Experts.expertOf (tables m 0 (ix1 (point1 t)))) 0 f) := by
  unfold block
  refine congrArg (m ((c : Thread nD τ).loc main_arg4)) (?_ : ((((pipe m hO).win 2).blk t).view.emb _ : S2x32x1x1024.Idx) = _)
  funext (a : Fin 4)
  refine Fin.ext ((place2 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => rfl
  | ⟨3, _⟩ => show 0 * 1024 + f.val = f.val; omega

theorem block3_apply (k f : Fin 1024) :
    block m hO c 3 t (ix4 (n0 := 1) (n1 := 1) (n2 := 1024) (n3 := 1024) 0 0 k f)
      = m ((c : Thread nD τ).loc main_arg5) (ix4 (n0 := 2) (n1 := 32) (n2 := 1024) (n3 := 1024) 0 (Cert.Experts.expertOf (tables m 0 (ix1 (point1 t)))) k f) := by
  unfold block
  refine congrArg (m ((c : Thread nD τ).loc main_arg5)) (?_ : ((((pipe m hO).win 3).blk t).view.emb _ : S2x32x1024x1024.Idx) = _)
  funext (a : Fin 4)
  refine Fin.ext ((place3 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => show 0 * 1024 + k.val = k.val; omega
  | ⟨3, _⟩ => show 0 * 1024 + f.val = f.val; omega

theorem block4_apply (f : Fin 1024) :
    block m hO c 4 t (ix4 (n0 := 1) (n1 := 1) (n2 := 1) (n3 := 1024) 0 0 0 f)
      = m ((c : Thread nD τ).loc main_arg6) (ix4 (n0 := 2) (n1 := 32) (n2 := 1) (n3 := 1024) 0 (Cert.Experts.expertOf (tables m 0 (ix1 (point1 t)))) 0 f) := by
  unfold block
  refine congrArg (m ((c : Thread nD τ).loc main_arg6)) (?_ : ((((pipe m hO).win 4).blk t).view.emb _ : S2x32x1x1024.Idx) = _)
  funext (a : Fin 4)
  refine Fin.ext ((place4 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => rfl
  | ⟨3, _⟩ => show 0 * 1024 + f.val = f.val; omega

theorem block5_apply (k f : Fin 1024) :
    block m hO c 5 t (ix4 (n0 := 1) (n1 := 1) (n2 := 1024) (n3 := 1024) 0 0 k f)
      = m ((c : Thread nD τ).loc main_arg7) (ix4 (n0 := 2) (n1 := 32) (n2 := 1024) (n3 := 1024) 0 (Cert.Experts.expertOf (tables m 0 (ix1 (point1 t)))) k f) := by
  unfold block
  refine congrArg (m ((c : Thread nD τ).loc main_arg7)) (?_ : ((((pipe m hO).win 5).blk t).view.emb _ : S2x32x1024x1024.Idx) = _)
  funext (a : Fin 4)
  refine Fin.ext ((place5 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => show 0 * 1024 + k.val = k.val; omega
  | ⟨3, _⟩ => show 0 * 1024 + f.val = f.val; omega

theorem block6_apply (f : Fin 1024) :
    block m hO c 6 t (ix4 (n0 := 1) (n1 := 1) (n2 := 1) (n3 := 1024) 0 0 0 f)
      = m ((c : Thread nD τ).loc main_arg8) (ix4 (n0 := 2) (n1 := 32) (n2 := 1) (n3 := 1024) 0 (Cert.Experts.expertOf (tables m 0 (ix1 (point1 t)))) 0 f) := by
  unfold block
  refine congrArg (m ((c : Thread nD τ).loc main_arg8)) (?_ : ((((pipe m hO).win 6).blk t).view.emb _ : S2x32x1x1024.Idx) = _)
  funext (a : Fin 4)
  refine Fin.ext ((place6 m hO t _ a).trans ?_)
  match a with
  | ⟨0, _⟩ => rfl
  | ⟨1, _⟩ => refine (congrArg (· * 1 + 0) (word_of m h t)).trans ?_; show (tables m 0 (ix1 (point1 t)) : BitVec 32).toNat * 1 + 0 = (tables m 0 (ix1 (point1 t)) : BitVec 32).toNat % 32; rw [Nat.mod_eq_of_lt (table_lt m h _)]; omega
  | ⟨2, _⟩ => rfl
  | ⟨3, _⟩ => show 0 * 1024 + f.val = f.val; omega

end Blocks

/-! ## The array -/

/-- What the result array is shown to hold. -/
def whole (c : Dev nD) : Buf (Elt Ideal) ((c : Thread nD τ).loc main_v0) :=
  Cert.Experts.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem cond_iff (v : BitVec 32) : k0_cond1 v = 1#1 ↔ 0 < v.toInt := by
  unfold k0_cond1; dsimp only [Scalar.cmpi, Scalar.extui]
  by_cases hp : 0 < v.toInt <;> simp [IntOp.cmpi, BitVec.slt, hp]

/-- What point `t` leaves, at an entry of its block, is the array at the entry's place. -/
theorem left_apply (h : TablesOk m) (hO : Inside m) (c : Dev nD) (t : Fin grid0.N) (y : S4096x128.Idx) (z : S1441792x128.Idx)
    (h0 : (z 0).val = 4096 * t.val + (y 0).val) (h1 : (z 1).val = (y 1).val) :
    left m hO c t y = whole m c z := by
  obtain rfl : c = 0 := Subsingleton.elim _ _
  have hy := idx2_lt0 y; have hy1 := idx2_lt1 y
  have hb : Cert.Experts.blockOf z = point1 t := Fin.ext (by show (z 0).val / 4096 = t.val; rw [h0]; omega)
  unfold left whole Cert.Experts.result
  rw [hb, count_of]
  by_cases hp : 0 < (tables m 1 (ix1 (point1 t)) : BitVec 32).toInt
  · rw [if_pos ((cond_iff _).mpr hp)]
    refine Eq.trans ?_ (if_pos hp).symm
    unfold laidOut
    have hr : rowOf y = ix2 (n0 := 512) (n1 := 1024) ⟨(y 0).val / 8, by omega⟩ (Cert.Experts.column z) := funext fun a => Fin.ext (by
      match a with
      | ⟨0, _⟩ => rfl
      | ⟨1, _⟩ => show 128 * ((y 0).val % 8) + (y 1).val = 128 * ((z 0).val % 8) + (z 1).val; rw [h0, h1]; omega)
    rw [hr]
    refine (net_apply _ _ _ _ _ _ _ _ _).trans ?_
    simp only [block1_apply m h hO 0 t, block2_apply m h hO 0 t, block3_apply m h hO 0 t, block4_apply m h hO 0 t, block5_apply m h hO 0 t, block6_apply m h hO 0 t]
    have hx : (fun k => block m hO 0 0 t (cell ⟨(y 0).val / 8, by omega⟩ k)) = fun k => m (((0 : Dev nD) : Thread nD τ).loc main_arg2) (Cert.Experts.feature z k) :=
      funext fun k => block0_apply m h hO 0 t _ _ (by
        show 8 * ((z 0).val / 8) + k.val / 128 = 4096 * t.val + (8 * ((y 0).val / 8) + k.val / 128)
        rw [h0]; omega) rfl
    rw [hx]
    rfl
  · rw [if_neg fun e => hp ((cond_iff _).mp e)]
    refine Eq.trans ?_ (if_neg hp).symm
    show Ideal.ofBits .f32 0x00000000#32 = 0
    exact Ideal.ofBits_zero_f32

/-- What point `t` writes back is its block of the array. -/
theorem written_back (h : TablesOk m) (hO : Inside m) (c : Dev nD) (t : Fin grid0.N) :
    (data m hO 0 c).flushed 7 t = (((pipe m hO).win 7).blk t).view.read (Elt Ideal) (whole m c) := by
  show ((pipe m hO).win 7).cut (grid0.coords t) ((data m hO 0 c).after 7 t) = _
  rw [after7]
  funext (y : S4096x128.Idx)
  refine left_apply m h hO c t y ((((pipe m hO).win 7).blk t).view.emb y) ?_ ?_
  · refine (place7 m hO t y 0).trans ?_
    refine (congrArg (· * 4096 + (y 0).val) (coord_word t)).trans ?_
    show t.val * 4096 + (y 0).val = _; omega
  · refine (place7 m hO t y 1).trans ?_
    show 0 * 128 + (y 1).val = (y 1).val; omega

/-- An element a view places is among the view's elements. -/
theorem mem_of_place {κ : Kind} {sp : Space} {s : Shape} {e : EltTy} (v : View sig κ sp s e) (x : s.Idx) (i : v.ty.Idx) (h : v.emb x = i) : i ∈ v.set :=
  h ▸ v.emb_mem_set x

/-- The blocks fill the array. -/
theorem filled (hO : Inside m) (i : S1441792x128.Idx) :
    ∃ t : Fin (pipe m hO).N, ((pipe m hO).win 7).flush t = true ∧ i ∈ (((pipe m hO).win 7).blk t).view.set := by
  have h0 := idx2_lt0 i; have h1 := idx2_lt1 i
  have ht : (i 0).val / 4096 < grid0.N := by show _ < 352; omega
  refine ⟨⟨(i 0).val / 4096, ht⟩, result_written (admissible m hO) _, ?_⟩
  refine mem_of_place (((pipe m hO).win 7).blk ⟨(i 0).val / 4096, ht⟩).view
    (ix2 (n0 := 4096) (n1 := 128) ⟨(i 0).val % 4096, by omega⟩ (i 1) : S4096x128.Idx) i ?_
  funext (a : Fin 2)
  refine Fin.ext ((place7 m hO _ _ a).trans ?_)
  match a with
  | ⟨0, _⟩ =>
    refine (congrArg (· * 4096 + (i 0).val % 4096) (coord_word ⟨(i 0).val / 4096, ht⟩)).trans ?_
    show (i 0).val / 4096 * 4096 + (i 0).val % 4096 = (i 0).val; omega
  | ⟨1, _⟩ => show 0 * 128 + (i 1).val = (i 1).val; omega

/-- The result array ends at the experts' network of the arguments. -/
theorem final (h : TablesOk m) (hO : Inside m) (c : Dev nD) : (data m hO 0 c).arrAt 7 (pipe m hO).N = whole m c :=
  (data m hO 0 c).arrAt_eq_of_cover 7 (whole m c) (fun t _ => written_back m h hO c t) (filled m hO)

/-- The run, read: the result array at the experts' network of the arguments. -/
theorem value_run (h : TablesOk m) : θ_run defs (onTc (τ := τ) (main (F := Ideal))) ⟨m, fun _ => 0, ρ⟩ (fun r => ∀ c : Dev nD,
    r.2.mem ((c.tc : Thread nD τ).loc main_v0) = whole m c) :=
  (θ_run defs _ _).mono (fun _ p c => (p.1 c).1 7 |>.trans (final m h (inside_of_pre m h) c)) (run m ρ (inside_of_pre m h) (counts_of_pre m h))

end Cert.KernelIdeal.Experts

end
-- ==== Proof.Experts.Reference.lean ====
/-
  The reference's result over the reals.

  The reference picks each block's weights by a gather at the block's expert, multiplies, cuts off, activates and
  multiplies again, all in arrays of 352 blocks of 512 tokens. Read at an index, under the precondition on the tables,
  its result is `Cert.Experts.result` of the arguments.
-/
module

public import proofs.«01_k».proof.Proof.Gen.ReferenceIdeal.Read
public import proofs.«01_k».proof.Proof.Experts.Spec
public import Idealize.ShloMosaic.Lib.ValueIdx

@[expose] public section

set_option maxRecDepth 16384

noncomputable section

namespace Cert.ReferenceIdeal.Experts

open Idealize.ShloMosaic Idealize.ShloMosaic.TcCoe Idealize.ShloMosaic.ValueIdx
open Cert.ReferenceIdeal Cert.ReferenceIdeal.Gen Cert.ReferenceIdeal.Read

/-! ## Gathers of whole slabs -/

section Gather
variable {α : Type}

/-- The dimension numbers of a gather that takes, per row of a column of indices, one slab of a rank-3 operand. -/
abbrev slabDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Such a gather at `(b, r, c)` is slab `e` of the operand at `(r, c)`, `e` the index at `b` clamped into range. -/
theorem slab_apply {N R C B w : Nat}
    (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (b : Fin B) (r : Fin R) (c : Fin C)
    (e : Fin N) (he : min (idx (ix2 b 0)).toInt.toNat (N - 1) = e.val) :
    Host.gather (slabDims N R C B wf) x idx (ix3 b r c) = x (ix3 e r c) := by
  unfold Host.gather
  congr 1
  funext a
  refine Fin.ext ?_
  show (slabDims N R C B wf).start (ix3 b r c) idx a + (slabDims N R C B wf).batchCoord (ix3 b r c) a + (slabDims N R C B wf).offCoord (ix3 b r c) a = _
  rw [GatherDims.batchCoord_eq_zero _ _ _ List.not_mem_nil]
  match a with
  | ⟨0, _⟩ =>
    refine (congrArg (_ + 0 + ·) (GatherDims.offCoord_eq_zero _ _ _ (fun h => ((GatherDims.mem_sKept _ _).mp h).1 (List.mem_singleton.mpr rfl)))).trans ?_
    have hs : (slabDims N R C B wf).start (ix3 b r c) idx (0 : Fin 3) = e.val := by
      unfold GatherDims.start
      rw [dif_pos (show (0 : Fin 3) ∈ (slabDims N R C B wf).startIndexMap from List.mem_singleton.mpr rfl)]
      have hsi : (slabDims N R C B wf).siIdx (ix3 b r c) ⟨List.idxOf (0 : Fin 3) (slabDims N R C B wf).startIndexMap,
          List.idxOf_lt_length_iff.2 (List.mem_singleton.mpr rfl)⟩ = ix2 b 0 := by
        funext q; refine Fin.ext ?_
        match q with
        | ⟨0, _⟩ => rfl
        | ⟨1, _⟩ => rfl
      rw [hsi]
      exact he
    exact hs
  | ⟨1, _⟩ =>
    have hs : (slabDims N R C B wf).start (ix3 b r c) idx (1 : Fin 3) = 0 := by
      unfold GatherDims.start; rw [dif_neg (show ¬ (1 : Fin 3) ∈ (slabDims N R C B wf).startIndexMap from fun h => absurd (List.mem_singleton.mp h : (1 : Fin 3) = 0) (by decide))]
    refine (congrArg (· + 0 + _) hs).trans ?_
    refine (congrArg (· + _) (Nat.zero_add 0)).trans ((Nat.zero_add _).trans ?_)
    rfl
  | ⟨2, _⟩ =>
    have hs : (slabDims N R C B wf).start (ix3 b r c) idx (2 : Fin 3) = 0 := by
      unfold GatherDims.start; rw [dif_neg (show ¬ (2 : Fin 3) ∈ (slabDims N R C B wf).startIndexMap from fun h => absurd (List.mem_singleton.mp h : (2 : Fin 3) = 0) (by decide))]
    refine (congrArg (· + 0 + _) hs).trans ?_
    refine (congrArg (· + _) (Nat.zero_add 0)).trans ((Nat.zero_add _).trans ?_)
    rfl

end Gather

/-! ## The index of a gather -/

section Read
variable (x0 : (⟨S352, .i32⟩ : BufTy).Contents (Elt Ideal))

/-- A word in range is not wrapped: the select that adds 32 to a negative word keeps it. -/
theorem not_wrapped (w u : BitVec 32) (h : 0 ≤ w.toInt) : Scalar.select (IntOp.cmpi .slt w 0#32) u w = w := by
  have e : IntOp.cmpi .slt w 0#32 = 0#1 := by
    have : ¬ w.toInt < 0 := by omega
    simp [IntOp.cmpi, BitVec.slt, this]
  rw [e]; exact select_zero _ _

/-- A word in range, read signed and clamped below 32, is the expert it names. -/
theorem clamped (w : BitVec 32) (h0 : 0 ≤ w.toInt) (h1 : w.toInt < 32) : min w.toInt.toNat (32 - 1) = (Cert.Experts.expertOf w).val := by
  show _ = w.toNat % 32
  simp only [BitVec.toInt] at h0 h1 ⊢
  split at h0 <;> split at h1 <;> omega

variable (hE : ∀ y : S352.Idx, 0 ≤ (x0 y : BitVec 32).toInt ∧ (x0 y : BitVec 32).toInt < 32)
include hE

theorem index_v9 (b : Fin 352) : val_main_v9 (F := Ideal) x0 (ix2 (n0 := 352) (n1 := 1) b 0) = x0 (ix1 b) := by
  rw [val_main_v9_apply, val_main_v8_apply, val_main_v5_apply, val_main_v4_apply, val_main_c_apply]
  refine (not_wrapped _ _ (hE _).1).trans (congrArg x0 (funext fun a => ?_))
  match a with
  | ⟨0, _⟩ => rfl

/-- The weights `v10` of a block are its expert's. -/
theorem weights_v10 (x3 : (⟨S2x32x1024x1024, .bf16⟩ : BufTy).Contents (Elt Ideal)) (b : Fin 352) (k f : Fin 1024) :
    val_main_v10 (F := Ideal) x0 x3 (ix3 (n0 := 352) (n1 := 1024) (n2 := 1024) b k f)
      = x3 (ix4 (n0 := 2) (n1 := 32) (n2 := 1024) (n3 := 1024) 0 (Cert.Experts.expertOf (x0 (ix1 b))) k f) := by
  unfold val_main_v10
  have he : min (val_main_v9 (F := Ideal) x0 (ix2 (n0 := 352) (n1 := 1) b 0) : BitVec 32).toInt.toNat (32 - 1) = (Cert.Experts.expertOf (x0 (ix1 b))).val := by
    rw [index_v9 x0 hE]; exact clamped _ (hE _).1 (hE _).2
  refine (slab_apply gather_S32x1024x1024_S352x1_S352x1024x1024_12_0_n_n_0_1_110241024_wf _ _ b k f (Cert.Experts.expertOf (x0 (ix1 b))) he).trans ?_
  rw [val_main_v3_apply, val_main_v2_apply, val_main_v1_apply]
  refine congrArg x3 (funext fun a => Fin.ext ?_)
  have hlt := (Cert.Experts.expertOf (x0 (ix1 b))).isLt
  match a with
  | ⟨0, _⟩ => rfl
  | ⟨1, _⟩ => show (((Cert.Experts.expertOf (x0 (ix1 b))).val * 1024 + k.val) * 1024 + f.val) / 1048576 % 32 = (Cert.Experts.expertOf (x0 (ix1 b))).val; omega
  | ⟨2, _⟩ => show (((Cert.Experts.expertOf (x0 (ix1 b))).val * 1024 + k.val) * 1024 + f.val) / 1024 % 1024 = k.val; omega
  | ⟨3, _⟩ => show (((Cert.Experts.expertOf (x0 (ix1 b))).val * 1024 + k.val) * 1024 + f.val) % 1024 = f.val; omega

theorem index_v19 (b : Fin 352) : val_main_v19 (F := Ideal) x0 (ix2 (n0 := 352) (n1 := 1) b 0) = x0 (ix1 b) := by
  rw [val_main_v19_apply, val_main_v18_apply, val_main_v15_apply, val_main_v14_apply, val_main_c_1_apply]
  refine (not_wrapped _ _ (hE _).1).trans (congrArg x0 (funext fun a => ?_))
  match a with
  | ⟨0, _⟩ => rfl

/-- The biases `v20` of a block are its expert's. -/
theorem biases_v20 (x4 : (⟨S2x32x1x1024, .f32⟩ : BufTy).Contents (Elt Ideal)) (b : Fin 352) (f : Fin 1024) :
    val_main_v20 (F := Ideal) x0 x4 (ix3 (n0 := 352) (n1 := 1) (n2 := 1024) b 0 f)
      = x4 (ix4 (n0 := 2) (n1 := 32) (n2 := 1) (n3 := 1024) 0 (Cert.Experts.expertOf (x0 (ix1 b))) 0 f) := by
  unfold val_main_v20
  have he : min (val_main_v19 (F := Ideal) x0 (ix2 (n0 := 352) (n1 := 1) b 0) : BitVec 32).toInt.toNat (32 - 1) = (Cert.Experts.expertOf (x0 (ix1 b))).val := by
    rw [index_v19 x0 hE]; exact clamped _ (hE _).1 (hE _).2
  refine (slab_apply gather_S32x1x1024_S352x1_S352x1x1024_12_0_n_n_0_1_111024_wf _ _ b 0 f (Cert.Experts.expertOf (x0 (ix1 b))) he).trans ?_
  rw [val_main_v13_apply, val_main_v12_apply]
  refine congrArg x4 (funext fun a => Fin.ext ?_)
  have hlt := (Cert.Experts.expertOf (x0 (ix1 b))).isLt
  match a with
  | ⟨0, _⟩ => rfl
  | ⟨1, _⟩ => show (((Cert.Experts.expertOf (x0 (ix1 b))).val * 1 + 0) * 1024 + f.val) / 1024 % 32 = (Cert.Experts.expertOf (x0 (ix1 b))).val; omega
  | ⟨2, _⟩ => rfl
  | ⟨3, _⟩ => show (((Cert.Experts.expertOf (x0 (ix1 b))).val * 1 + 0) * 1024 + f.val) % 1024 = f.val; omega

theorem index_v33 (b : Fin 352) : val_main_v33 (F := Ideal) x0 (ix2 (n0 := 352) (n1 := 1) b 0) = x0 (ix1 b) := by
  rw [val_main_v33_apply, val_main_v32_apply, val_main_v29_apply, val_main_v28_apply, val_main_c_3_apply]
  refine (not_wrapped _ _ (hE _).1).trans (congrArg x0 (funext fun a => ?_))
  match a with
  | ⟨0, _⟩ => rfl

/-- The weights `v34` of a block are its expert's. -/
theorem weights_v34 (x5 : (⟨S2x32x1024x1024, .bf16⟩ : BufTy).Contents (Elt Ideal)) (b : Fin 352) (k f : Fin 1024) :
    val_main_v34 (F := Ideal) x0 x5 (ix3 (n0 := 352) (n1 := 1024) (n2 := 1024) b k f)
      = x5 (ix4 (n0 := 2) (n1 := 32) (n2 := 1024) (n3 := 1024) 0 (Cert.Experts.expertOf (x0 (ix1 b))) k f) := by
  unfold val_main_v34
  have he : min (val_main_v33 (F := Ideal) x0 (ix2 (n0 := 352) (n1 := 1) b 0) : BitVec 32).toInt.toNat (32 - 1) = (Cert.Experts.expertOf (x0 (ix1 b))).val := by
    rw [index_v33 x0 hE]; exact clamped _ (hE _).1 (hE _).2
  refine (slab_apply gather_S32x1024x1024_S352x1_S352x1024x1024_12_0_n_n_0_1_110241024_wf _ _ b k f (Cert.Experts.expertOf (x0 (ix1 b))) he).trans ?_
  rw [val_main_v27_apply, val_main_v26_apply, val_main_v25_apply]
  refine congrArg x5 (funext fun a => Fin.ext ?_)
  have hlt := (Cert.Experts.expertOf (x0 (ix1 b))).isLt
  match a with
  | ⟨0, _⟩ => rfl
  | ⟨1, _⟩ => show (((Cert.Experts.expertOf (x0 (ix1 b))).val * 1024 + k.val) * 1024 + f.val) / 1048576 % 32 = (Cert.Experts.expertOf (x0 (ix1 b))).val; omega
  | ⟨2, _⟩ => show (((Cert.Experts.expertOf (x0 (ix1 b))).val * 1024 + k.val) * 1024 + f.val) / 1024 % 1024 = k.val; omega
  | ⟨3, _⟩ => show (((Cert.Experts.expertOf (x0 (ix1 b))).val * 1024 + k.val) * 1024 + f.val) % 1024 = f.val; omega

theorem index_v43 (b : Fin 352) : val_main_v43 (F := Ideal) x0 (ix2 (n0 := 352) (n1 := 1) b 0) = x0 (ix1 b) := by
  rw [val_main_v43_apply, val_main_v42_apply, val_main_v39_apply, val_main_v38_apply, val_main_c_5_apply]
  refine (not_wrapped _ _ (hE _).1).trans (congrArg x0 (funext fun a => ?_))
  match a with
  | ⟨0, _⟩ => rfl

/-- The biases `v44` of a block are its expert's. -/
theorem biases_v44 (x6 : (⟨S2x32x1x1024, .f32⟩ : BufTy).Contents (Elt Ideal)) (b : Fin 352) (f : Fin 1024) :
    val_main_v44 (F := Ideal) x0 x6 (ix3 (n0 := 352) (n1 := 1) (n2 := 1024) b 0 f)
      = x6 (ix4 (n0 := 2) (n1 := 32) (n2 := 1) (n3 := 1024) 0 (Cert.Experts.expertOf (x0 (ix1 b))) 0 f) := by
  unfold val_main_v44
  have he : min (val_main_v43 (F := Ideal) x0 (ix2 (n0 := 352) (n1 := 1) b 0) : BitVec 32).toInt.toNat (32 - 1) = (Cert.Experts.expertOf (x0 (ix1 b))).val := by
    rw [index_v43 x0 hE]; exact clamped _ (hE _).1 (hE _).2
  refine (slab_apply gather_S32x1x1024_S352x1_S352x1x1024_12_0_n_n_0_1_111024_wf _ _ b 0 f (Cert.Experts.expertOf (x0 (ix1 b))) he).trans ?_
  rw [val_main_v37_apply, val_main_v36_apply]
  refine congrArg x6 (funext fun a => Fin.ext ?_)
  have hlt := (Cert.Experts.expertOf (x0 (ix1 b))).isLt
  match a with
  | ⟨0, _⟩ => rfl
  | ⟨1, _⟩ => show (((Cert.Experts.expertOf (x0 (ix1 b))).val * 1 + 0) * 1024 + f.val) / 1024 % 32 = (Cert.Experts.expertOf (x0 (ix1 b))).val; omega
  | ⟨2, _⟩ => rfl
  | ⟨3, _⟩ => show (((Cert.Experts.expertOf (x0 (ix1 b))).val * 1 + 0) * 1024 + f.val) % 1024 = f.val; omega

theorem index_v68 (b : Fin 352) : val_main_v68 (F := Ideal) x0 (ix2 (n0 := 352) (n1 := 1) b 0) = x0 (ix1 b) := by
  rw [val_main_v68_apply, val_main_v67_apply, val_main_v64_apply, val_main_v63_apply, val_main_c_13_apply]
  refine (not_wrapped _ _ (hE _).1).trans (congrArg x0 (funext fun a => ?_))
  match a with
  | ⟨0, _⟩ => rfl

/-- The weights `v69` of a block are its expert's. -/
theorem weights_v69 (x7 : (⟨S2x32x1024x1024, .bf16⟩ : BufTy).Contents (Elt Ideal)) (b : Fin 352) (k f : Fin 1024) :
    val_main_v69 (F := Ideal) x0 x7 (ix3 (n0 := 352) (n1 := 1024) (n2 := 1024) b k f)
      = x7 (ix4 (n0 := 2) (n1 := 32) (n2 := 1024) (n3 := 1024) 0 (Cert.Experts.expertOf (x0 (ix1 b))) k f) := by
  unfold val_main_v69
  have he : min (val_main_v68 (F := Ideal) x0 (ix2 (n0 := 352) (n1 := 1) b 0) : BitVec 32).toInt.toNat (32 - 1) = (Cert.Experts.expertOf (x0 (ix1 b))).val := by
    rw [index_v68 x0 hE]; exact clamped _ (hE _).1 (hE _).2
  refine (slab_apply gather_S32x1024x1024_S352x1_S352x1024x1024_12_0_n_n_0_1_110241024_wf _ _ b k f (Cert.Experts.expertOf (x0 (ix1 b))) he).trans ?_
  rw [val_main_v62_apply, val_main_v61_apply, val_main_v60_apply]
  refine congrArg x7 (funext fun a => Fin.ext ?_)
  have hlt := (Cert.Experts.expertOf (x0 (ix1 b))).isLt
  match a with
  | ⟨0, _⟩ => rfl
  | ⟨1, _⟩ => show (((Cert.Experts.expertOf (x0 (ix1 b))).val * 1024 + k.val) * 1024 + f.val) / 1048576 % 32 = (Cert.Experts.expertOf (x0 (ix1 b))).val; omega
  | ⟨2, _⟩ => show (((Cert.Experts.expertOf (x0 (ix1 b))).val * 1024 + k.val) * 1024 + f.val) / 1024 % 1024 = k.val; omega
  | ⟨3, _⟩ => show (((Cert.Experts.expertOf (x0 (ix1 b))).val * 1024 + k.val) * 1024 + f.val) % 1024 = f.val; omega

theorem index_v78 (b : Fin 352) : val_main_v78 (F := Ideal) x0 (ix2 (n0 := 352) (n1 := 1) b 0) = x0 (ix1 b) := by
  rw [val_main_v78_apply, val_main_v77_apply, val_main_v74_apply, val_main_v73_apply, val_main_c_15_apply]
  refine (not_wrapped _ _ (hE _).1).trans (congrArg x0 (funext fun a => ?_))
  match a with
  | ⟨0, _⟩ => rfl

/-- The biases `v79` of a block are its expert's. -/
theorem biases_v79 (x8 : (⟨S2x32x1x1024, .f32⟩ : BufTy).Contents (Elt Ideal)) (b : Fin 352) (f : Fin 1024) :
    val_main_v79 (F := Ideal) x0 x8 (ix3 (n0 := 352) (n1 := 1) (n2 := 1024) b 0 f)
      = x8 (ix4 (n0 := 2) (n1 := 32) (n2 := 1) (n3 := 1024) 0 (Cert.Experts.expertOf (x0 (ix1 b))) 0 f) := by
  unfold val_main_v79
  have he : min (val_main_v78 (F := Ideal) x0 (ix2 (n0 := 352) (n1 := 1) b 0) : BitVec 32).toInt.toNat (32 - 1) = (Cert.Experts.expertOf (x0 (ix1 b))).val := by
    rw [index_v78 x0 hE]; exact clamped _ (hE _).1 (hE _).2
  refine (slab_apply gather_S32x1x1024_S352x1_S352x1x1024_12_0_n_n_0_1_111024_wf _ _ b 0 f (Cert.Experts.expertOf (x0 (ix1 b))) he).trans ?_
  rw [val_main_v72_apply, val_main_v71_apply]
  refine congrArg x8 (funext fun a => Fin.ext ?_)
  have hlt := (Cert.Experts.expertOf (x0 (ix1 b))).isLt
  match a with
  | ⟨0, _⟩ => rfl
  | ⟨1, _⟩ => show (((Cert.Experts.expertOf (x0 (ix1 b))).val * 1 + 0) * 1024 + f.val) / 1024 % 32 = (Cert.Experts.expertOf (x0 (ix1 b))).val; omega
  | ⟨2, _⟩ => rfl
  | ⟨3, _⟩ => show (((Cert.Experts.expertOf (x0 (ix1 b))).val * 1 + 0) * 1024 + f.val) % 1024 = f.val; omega

/-! ## The network -/

variable (x1 : (⟨S352, .i32⟩ : BufTy).Contents (Elt Ideal)) (x2 : (⟨S1441792x128, .f32⟩ : BufTy).Contents (Elt Ideal))
  (x3 : (⟨S2x32x1024x1024, .bf16⟩ : BufTy).Contents (Elt Ideal)) (x4 : (⟨S2x32x1x1024, .f32⟩ : BufTy).Contents (Elt Ideal))
  (x5 : (⟨S2x32x1024x1024, .bf16⟩ : BufTy).Contents (Elt Ideal)) (x6 : (⟨S2x32x1x1024, .f32⟩ : BufTy).Contents (Elt Ideal))
  (x7 : (⟨S2x32x1024x1024, .bf16⟩ : BufTy).Contents (Elt Ideal)) (x8 : (⟨S2x32x1x1024, .f32⟩ : BufTy).Contents (Elt Ideal))

omit hE in
/-- Feature `k` of token `n` of block `b`. -/
theorem token (b : Fin 352) (n : Fin 512) (k : Fin 1024) :
    val_main_v0 (F := Ideal) x2 (ix3 (n0 := 352) (n1 := 512) (n2 := 1024) b n k)
      = x2 (ix2 (n0 := 1441792) (n1 := 128) ⟨8 * (512 * b.val + n.val) + k.val / 128, by omega⟩ ⟨k.val % 128, by omega⟩) := by
  rw [val_main_v0_apply]
  refine congrArg x2 (funext fun a => Fin.ext ?_)
  match a with
  | ⟨0, _⟩ => show ((b.val * 512 + n.val) * 1024 + k.val) / 128 = 8 * (512 * b.val + n.val) + k.val / 128; omega
  | ⟨1, _⟩ => show ((b.val * 512 + n.val) * 1024 + k.val) % 128 = k.val % 128; omega

/-- The token's features as a row. -/
abbrev row (b : Fin 352) (n : Fin 512) (k : Fin 1024) : EReal :=
  x2 (ix2 (n0 := 1441792) (n1 := 128) ⟨8 * (512 * b.val + n.val) + k.val / 128, by omega⟩ ⟨k.val % 128, by omega⟩)

/-- The reference's gate at an index. -/
theorem gate_apply (b : Fin 352) (n : Fin 512) (f : Fin 1024) :
    val_main_v24 (F := Ideal) x0 x2 x3 x4 (ix3 (n0 := 352) (n1 := 512) (n2 := 1024) b n f)
      = Cert.Experts.gate (row x2 b n) (fun k f => x3 (ix4 (n0 := 2) (n1 := 32) (n2 := 1024) (n3 := 1024) 0 (Cert.Experts.expertOf (x0 (ix1 b))) k f))
          (fun f => x4 (ix4 (n0 := 2) (n1 := 32) (n2 := 1) (n3 := 1024) 0 (Cert.Experts.expertOf (x0 (ix1 b))) 0 f)) f := by
  rw [val_main_v24_apply, val_main_v22_apply, val_main_v23_apply, val_main_cst_apply, val_main_v11_apply, val_main_v21_apply]
  refine congrArg (min · Cert.Experts.hi) (congrArg₂ (· + ·) (Finset.sum_congr rfl fun k _ => congrArg₂ (· * ·) ?_ ?_) ?_)
  · exact (congrArg _ (eq_ix3 _)).trans (token x2 b n k)
  · exact (congrArg _ (eq_ix3 _)).trans (weights_v10 x0 hE x3 b k f)
  · exact (congrArg _ (eq_ix3 _)).trans (biases_v20 x0 hE x4 b f)

/-- The reference's linear branch at an index. -/
theorem lin_apply (b : Fin 352) (n : Fin 512) (f : Fin 1024) :
    val_main_v47 (F := Ideal) x0 x2 x5 x6 (ix3 (n0 := 352) (n1 := 512) (n2 := 1024) b n f)
      = Cert.Experts.lin (row x2 b n) (fun k f => x5 (ix4 (n0 := 2) (n1 := 32) (n2 := 1024) (n3 := 1024) 0 (Cert.Experts.expertOf (x0 (ix1 b))) k f))
          (fun f => x6 (ix4 (n0 := 2) (n1 := 32) (n2 := 1) (n3 := 1024) 0 (Cert.Experts.expertOf (x0 (ix1 b))) 0 f)) f := by
  rw [val_main_v47_apply, val_main_call0_v4_apply, val_main_call0_v3_apply, val_main_cst_8_apply, val_main_call0_v2_apply,
    val_main_call0_v1_apply, val_main_call0_v0_apply, val_main_cst_7_apply, val_main_v46_apply, val_main_v35_apply, val_main_v45_apply]
  refine congrArg (min Cert.Experts.hi) (congrArg (max Cert.Experts.lo)
    (congrArg₂ (· + ·) (Finset.sum_congr rfl fun k _ => congrArg₂ (· * ·) ?_ ?_) ?_))
  · exact (congrArg _ (eq_ix3 _)).trans (token x2 b n k)
  · exact (congrArg _ (eq_ix3 _)).trans (weights_v34 x0 hE x5 b k f)
  · exact (congrArg _ (eq_ix3 _)).trans (biases_v44 x0 hE x6 b f)

/-- The reference's activation at an index. -/
theorem act_apply (b : Fin 352) (n : Fin 512) (f : Fin 1024) :
    val_main_v59 (F := Ideal) x0 x2 x3 x4 x5 x6 (ix3 (n0 := 352) (n1 := 512) (n2 := 1024) b n f)
      = Cert.Experts.swish (val_main_v24 (F := Ideal) x0 x2 x3 x4 (ix3 (n0 := 352) (n1 := 512) (n2 := 1024) b n f))
          (val_main_v47 (F := Ideal) x0 x2 x5 x6 (ix3 (n0 := 352) (n1 := 512) (n2 := 1024) b n f)) := by
  rw [val_main_v59_apply, val_main_v50_apply, val_main_v49_apply, val_main_v48_apply, val_main_cst_9_apply, val_main_v58_apply,
    val_main_v57_apply, val_main_cst_12_apply, val_main_v56_apply, val_main_v55_apply, val_main_cst_11_apply, val_main_v54_apply,
    val_main_v53_apply, val_main_v52_apply, val_main_v51_apply, val_main_cst_10_apply]
  rfl

/-- The reference's network at an index. -/
theorem network_apply (b : Fin 352) (n : Fin 512) (d : Fin 1024) :
    val_main_v81 (F := Ideal) x0 x2 x3 x4 x5 x6 x7 x8 (ix3 (n0 := 352) (n1 := 512) (n2 := 1024) b n d)
      = Cert.Experts.expert (row x2 b n)
          (fun k f => x3 (ix4 (n0 := 2) (n1 := 32) (n2 := 1024) (n3 := 1024) 0 (Cert.Experts.expertOf (x0 (ix1 b))) k f))
          (fun f => x4 (ix4 (n0 := 2) (n1 := 32) (n2 := 1) (n3 := 1024) 0 (Cert.Experts.expertOf (x0 (ix1 b))) 0 f))
          (fun k f => x5 (ix4 (n0 := 2) (n1 := 32) (n2 := 1024) (n3 := 1024) 0 (Cert.Experts.expertOf (x0 (ix1 b))) k f))
          (fun f => x6 (ix4 (n0 := 2) (n1 := 32) (n2 := 1) (n3 := 1024) 0 (Cert.Experts.expertOf (x0 (ix1 b))) 0 f))
          (fun k f => x7 (ix4 (n0 := 2) (n1 := 32) (n2 := 1024) (n3 := 1024) 0 (Cert.Experts.expertOf (x0 (ix1 b))) k f))
          (fun f => x8 (ix4 (n0 := 2) (n1 := 32) (n2 := 1) (n3 := 1024) 0 (Cert.Experts.expertOf (x0 (ix1 b))) 0 f)) d := by
  rw [val_main_v81_apply, val_main_v70_apply, val_main_v80_apply]
  refine congrArg₂ (· + ·) (Finset.sum_congr rfl fun k _ => congrArg₂ (· * ·) ?_ ?_) ?_
  · refine (congrArg _ (eq_ix3 _)).trans ?_
    refine (act_apply x0 hE x2 x3 x4 x5 x6 b n k).trans ?_
    rw [gate_apply x0 hE, lin_apply x0 hE]
  · exact (congrArg _ (eq_ix3 _)).trans (weights_v69 x0 hE x7 b k d)
  · exact (congrArg _ (eq_ix3 _)).trans (biases_v79 x0 hE x8 b d)

/-- The reference's result is the experts' network of the arguments. -/
theorem result_eq : val_main_v86 (F := Ideal) x0 x1 x2 x3 x4 x5 x6 x7 x8 = Cert.Experts.result x0 x1 x2 x3 x4 x5 x6 x7 x8 := by
  funext y
  have h0 := idx2_lt0 y; have h1 := idx2_lt1 y
  have hi : idx_main_v86 y = ix3 (n0 := 352) (n1 := 512) (n2 := 1024) (Cert.Experts.blockOf y)
      ⟨(y 0).val % 4096 / 8, by omega⟩ (Cert.Experts.column y) := by
    funext a
    refine Fin.ext ?_
    match a with
    | ⟨0, _⟩ => show ((y 0).val * 128 + (y 1).val) / 524288 = (y 0).val / 4096; omega
    | ⟨1, _⟩ => show ((y 0).val * 128 + (y 1).val) / 1024 % 512 = (y 0).val % 4096 / 8; omega
    | ⟨2, _⟩ => show ((y 0).val * 128 + (y 1).val) % 1024 = 128 * ((y 0).val % 8) + (y 1).val; omega
  rw [val_main_v86_apply, hi, val_main_v85_apply, network_apply x0 hE, val_main_call1_v1_apply, val_main_v84_apply, val_main_v82_apply,
    val_main_v83_apply, val_main_c_17_apply, val_main_call1_v2_apply, val_main_call1_v0_apply, val_main_cst_18_apply]
  unfold Cert.Experts.result
  have hx : row x2 (Cert.Experts.blockOf y) ⟨(y 0).val % 4096 / 8, by omega⟩ = fun k => x2 (Cert.Experts.feature y k) := by
    funext k
    refine congrArg x2 (funext fun a => Fin.ext ?_)
    match a with
    | ⟨0, _⟩ => show 8 * (512 * ((y 0).val / 4096) + (y 0).val % 4096 / 8) + k.val / 128 = 8 * ((y 0).val / 8) + k.val / 128; omega
    | ⟨1, _⟩ => rfl
  have hw : idx_main_v82 (idx_main_call1_v1 (ix3 (n0 := 352) (n1 := 512) (n2 := 1024) (Cert.Experts.blockOf y)
      ⟨(y 0).val % 4096 / 8, by omega⟩ (Cert.Experts.column y))) = ix1 (Cert.Experts.blockOf y) := by
    funext a
    match a with
    | ⟨0, _⟩ => rfl
  rw [hx, hw]
  by_cases hp : 0 < (x1 (ix1 (Cert.Experts.blockOf y)) : BitVec 32).toInt
  · rw [if_pos hp]
    have e : IntOp.cmpi .sgt (x1 (ix1 (Cert.Experts.blockOf y)) : BitVec 32) 0#32 = 1#1 := by simp [IntOp.cmpi, BitVec.slt, hp]
    rw [e]; exact select_one _ _
  · rw [if_neg hp]
    have e : IntOp.cmpi .sgt (x1 (ix1 (Cert.Experts.blockOf y)) : BitVec 32) 0#32 = 0#1 := by simp [IntOp.cmpi, BitVec.slt, hp]
    rw [e]
    refine (select_zero _ _).trans ?_
    exact Ideal.ofBits_zero_f32

end Read

end Cert.ReferenceIdeal.Experts

end
-- ==== Proof.Projection.Spec.lean ====
/-
  The projection of a normalized, modulated row, written on its own, and the array both programs are shown to compute
  with it.
-/
module

public import Idealize.ShloMosaic.PureOps.Ideal
public import Idealize.ShloMosaic.PureOps.Ideal.Laws
public import Idealize.ShloMosaic.Lib.ValueIdx

@[expose] public section

noncomputable section

namespace Cert.Projection

open Idealize.ShloMosaic Idealize.ShloMosaic.ValueIdx

/-- The word of 1024, a row's length. -/
abbrev width : EReal := Ideal.ofBits .f32 0x44800000#32
/-- The word of 1e-6, added to the mean of the squares. -/
abbrev eps : EReal := Ideal.ofBits .f32 0x358637BD#32
/-- The word of 1. -/
abbrev one : EReal := Ideal.ofBits .f32 0x3F800000#32

/-- The inverse of a row's root mean square. -/
def scaleOf (x : Fin 1024 → EReal) : EReal := Ideal.rsqrt (Ideal.div (∑ k, x k * x k) width + eps)

/-- A row, normalized, with the norm's weights, the batch's scale and the batch's shift. -/
def modulated (x g scale shift : Fin 1024 → EReal) (k : Fin 1024) : EReal :=
  x k * scaleOf x * g k * (one + scale k) + shift k

/-! ## The whole array -/

/-- The shapes of the arguments and of the result: the tokens' rows, the modulation rows, the norm's weights, the
    matrix, the projected rows. -/
abbrev Tokens : Shape := ⟨2, ![40960, 1024]⟩
abbrev Modulation : Shape := ⟨3, ![16, 6, 1024]⟩
abbrev Weights : Shape := ⟨1, ![1024]⟩
abbrev Matrix : Shape := ⟨2, ![1024, 3072]⟩
abbrev Projected : Shape := ⟨2, ![40960, 3072]⟩

/-- The modulation row of token `r`: the first 8192 tokens are the context and share row 0, each later sequence of 4096
    has its own. -/
def rowOf (r : Fin 40960) : Fin 16 := if r.val < 8192 then 0 else ⟨1 + (r.val - 8192) / 4096, by omega⟩

/-- Token `r`'s row before the product. -/
def hidden (x : Tokens.Idx → EReal) (mod : Modulation.Idx → EReal) (g : Weights.Idx → EReal) (r : Fin 40960) (k : Fin 1024) : EReal :=
  modulated (fun j => x (ix2 r j)) (fun j => g (ix1 j)) (fun j => mod (ix3 (rowOf r) 1 j)) (fun j => mod (ix3 (rowOf r) 0 j)) k

/-- The result: each token's row times the matrix. -/
def result (x : Tokens.Idx → EReal) (mod : Modulation.Idx → EReal) (g : Weights.Idx → EReal) (w : Matrix.Idx → EReal) : Projected.Idx → EReal :=
  fun y => ∑ k : Fin 1024, hidden x mod g (y 0) k * w (ix2 k (y 1))

end Cert.Projection

end
-- ==== Proof.Projection.Net.lean ====
/-
  What the projection's body stores, read at an index, over the reals.
-/
module

public import proofs.«01_k».proof.Proof.Gen.Kernel2Ideal.Frame
public import proofs.«01_k».proof.Proof.Projection.Spec
public import Idealize.ShloMosaic.Lib.ValueIdx
public import Idealize.ShloMosaic.Lib.Pipeline.Value

@[expose] public section

set_option maxRecDepth 16384

noncomputable section

namespace Cert.Kernel2Ideal.Projection

open Idealize.ShloMosaic Idealize.ShloMosaic.ValueIdx
open Cert.Kernel2Ideal Cert.Kernel2Ideal.Gen

local notation "D" => dot_S256x1024_S1024x3072_S256x3072_1_0_0_1_n_n

/-- The body's product of 256 rows with the matrix, read at an index. -/
theorem product_apply (l : FVec Ideal S256x1024 .bf16) (r : FVec Ideal S1024x3072 .bf16) (j : S256x3072.Idx) :
    matmul D none l r (constant S256x3072 .f32 0x00000000#32) j
      = ∑ k : Fin 1024, l (ix2 (n0 := 256) (j 0) k) * r (ix2 (n1 := 3072) k (j 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  congr 1
  · refine congrArg l (funext fun a => Fin.ext ?_)
    match a with
    | ⟨0, _⟩ => simp [DotDims.lhsIdx, dot_S256x1024_S1024x3072_S256x3072_1_0_0_1_n_n]; rfl
    | ⟨1, _⟩ => refine Eq.trans ?_ hk; simp [DotDims.lhsIdx, dot_S256x1024_S1024x3072_S256x3072_1_0_0_1_n_n]; rfl
  · refine congrArg r (funext fun a => Fin.ext ?_)
    match a with
    | ⟨0, _⟩ => refine Eq.trans ?_ hk; simp [DotDims.rhsIdx, dot_S256x1024_S1024x3072_S256x3072_1_0_0_1_n_n]; rfl
    | ⟨1, _⟩ => simp [DotDims.rhsIdx, dot_S256x1024_S1024x3072_S256x3072_1_0_0_1_n_n]; rfl

/-- A column of row sums, spread over the rows. -/
theorem column_apply (v : FVec Ideal S256x1 .f32) (n : Fin 256) (k : Fin 1024) :
    broadcastTo S256x1024 v broadcasts_S256x1_S256x1024 (ix2 n k) = v (ix2 n 0) :=
  broadcastTo_apply _ _ _ (ix2 (n0 := 256) (n1 := 1) n 0) (fun a => by match a with | ⟨0, _⟩ => rfl | ⟨1, _⟩ => rfl)

/-- One row, spread over all rows. -/
theorem row_apply (v : FVec Ideal S1x1024 .f32) (n : Fin 256) (k : Fin 1024) :
    broadcastTo S256x1024 v broadcasts_S1x1024_S256x1024 (ix2 n k) = v (ix2 0 k) :=
  broadcastTo_apply _ _ _ (ix2 (n0 := 1) (n1 := 1024) 0 k) (fun a => by match a with | ⟨0, _⟩ => rfl | ⟨1, _⟩ => rfl)

/-- A modulation row without its leading unit axis. -/
theorem slab_apply (v : FVec Ideal S1x1x1024 .f32) (k : Fin 1024) :
    shapeCast S1x1024 v shapeCasts_S1x1x1024_S1x1024 (ix2 0 k) = v (ix3 0 0 k) :=
  shapeCast_apply _ _ _ _ (by
    rw [Shape.rowMajor_val_three, Shape.rowMajor_val_two]
    show (0 * 1 + 0) * 1024 + k.val = 0 * 1024 + k.val; omega)

/-- The row sums as a column. -/
theorem sums_apply (v : FVec Ideal S256x1024 .f32) (n : Fin 256) :
    shapeCast S256x1 (multiReduction .add [1] S256 v 0x00000000#32 reduces_S256x1024_S256 (.inl rfl) rfl) shapeCasts_S256_S256x1 (ix2 n 0)
      = ∑ k : Fin 1024, v (ix2 n k) := by
  refine (shapeCast_apply _ _ _ (ix1 n : S256.Idx) (by
    rw [Shape.rowMajor_val_one, Shape.rowMajor_val_two]
    show n.val = n.val * 1 + 0; omega)).trans ?_
  refine (Ideal.multiReduction_add_single _ _ _ _ _ _).trans (Finset.sum_congr rfl fun k _ => congrArg v (funext fun a => Fin.ext ?_))
  match a with
  | ⟨0, _⟩ => rfl
  | ⟨1, _⟩ => rfl

/-- What the body stores, at an index: the modulated row times the matrix's column. -/
theorem payload_apply (x : Vec Ideal S256x1024 .f32) (g : Vec Ideal S1x1024 .f32) (sc sh : Vec Ideal S1x1x1024 .f32) (w : Vec Ideal S1024x3072 .bf16)
    (n : Fin 256) (f : Fin 3072) :
    k0_pay1 x g sc sh w (ix2 n f)
      = ∑ k : Fin 1024, Cert.Projection.modulated (fun j => x (ix2 n j)) (fun j => g (ix2 0 j)) (fun j => sc (ix3 0 0 j)) (fun j => sh (ix3 0 0 j)) k * w (ix2 k f) := by
  dsimp only [k0_pay1]
  refine (product_apply _ _ _).trans (Finset.sum_congr rfl fun k _ => ?_)
  have e0 : (ix2 (n0 := 256) (n1 := 3072) n f) 0 = n := rfl
  have e1 : (ix2 (n0 := 256) (n1 := 3072) n f) 1 = f := rfl
  rw [e0, e1, shapeCast_self, shapeCast_self, truncf_apply, addf_apply, mulf_apply, mulf_apply, mulf_apply, row_apply, row_apply, row_apply, column_apply,
    addf_apply, broadcast_apply, slab_apply, slab_apply]
  unfold Cert.Projection.modulated Cert.Projection.scaleOf
  have hs : (∑ j, (fun j => x (ix2 n j)) j * (fun j => x (ix2 n j)) j : EReal) = _ := (sums_apply (mulf x x) n).symm
  rw [hs]
  rfl

end Cert.Kernel2Ideal.Projection

end
-- ==== Proof.Projection.Value.lean ====
/-
  The projection's result over the reals.

  What a point writes back is its block of one array, `Cert.Projection.result` of the arguments: the 256 rows it reads are
  its tokens', the modulation row it reads is their batch's. The 160 blocks fill the array.
-/
module

public import proofs.«01_k».proof.Proof.Gen.Kernel2Ideal.Value
public import proofs.«01_k».proof.Proof.Projection.Net

@[expose] public section

set_option maxRecDepth 16384

noncomputable section

namespace Cert.Kernel2Ideal.Projection

open Idealize.ShloMosaic Idealize.ShloMosaic.TcCoe Idealize.ShloMosaic.ValueIdx
open Idealize.SL.Sem
open Idealize.ShloMosaic.Pipeline (Dat)
open Cert.Kernel2Ideal Cert.Kernel2Ideal.Gen

variable (m : (ℓ : Loc nD τ sig) → Buf (Elt Ideal) ℓ) (ρ : Dev nD → PrngReg)

/-! ## Points -/

theorem coord_word (t : Fin grid0.N) : (BitVec.ofNat 32 (grid0.coords t 0).val).toNat = t.val := by
  have h := t.isLt; change t.val < 160 at h
  rw [Pipeline.Grid.coords_val t 0 (S := 1) (B := 160) (by decide) rfl, BitVec.toNat_ofNat]; omega

/-- The modulation row a point reads: row 0 for the context's 32 points, then a row per 16 points. -/
theorem mod_row : ∀ t : Fin grid0.N, cc0_transform_1 (grid0.coords t) 0 = if t.val < 32 then 0 else 1 + (t.val - 32) / 16 := by
  decide +kernel

/-! ## The arrays as the pipeline finds them -/

/-- The matrix, narrowed on the way in, is the argument. -/
theorem matrix_entry (c : Dev nD) : V m c main_v0 = m ((c : Thread nD τ).loc main_arg3) := by
  unfold V hostOps0
  simp [StableHlo.after]
  rfl

/-- The norm's weights, as one row, are the argument. -/
theorem weights_entry (c : Dev nD) (k : Fin 1024) :
    (V m c main_v1 : S1x1024.Idx → EReal) (ix2 0 k) = (m ((c : Thread nD τ).loc main_arg2) : S1024.Idx → EReal) (ix1 k) := by
  have e : (V m c main_v1 : S1x1024.Idx → EReal) = shapeCast S1x1024 (m ((c : Thread nD τ).loc main_arg2) : S1024.Idx → EReal) shapeCasts_S1024_S1x1024 := by
    unfold V hostOps0
    simp [StableHlo.after]
    rfl
  rw [e]
  exact shapeCast_apply (s := S1024) _ _ _ (ix1 k) (by
    rw [Shape.rowMajor_val_one, Shape.rowMajor_val_two]
    show k.val = 0 * 1024 + k.val; omega)

/-! ## Where a block's entries sit in their arrays -/

section Places
variable (t : Fin grid0.N)

theorem place0 (y : S256x1024.Idx) (a : Fin 2) : ((((cfg0.win 0).blk t).view.emb y : S40960x1024.Idx) a).val = cc0_transform_0 (grid0.coords t) a * S256x1024.size a + (y a).val :=
  Pipeline.Window.rect_emb_val (cfg0.win 0) t y a rfl

theorem place1 (y : S1x6x1024.Idx) (a : Fin 3) : ((((cfg0.win 1).blk t).view.emb y : S16x6x1024.Idx) a).val = cc0_transform_1 (grid0.coords t) a * S1x6x1024.size a + (y a).val :=
  Pipeline.Window.rect_emb_val (cfg0.win 1) t y a rfl

theorem place2 (y : S1x1024.Idx) (a : Fin 2) : ((((cfg0.win 2).blk t).view.emb y : S1x1024.Idx) a).val = cc0_transform_2 (grid0.coords t) a * S1x1024.size a + (y a).val :=
  Pipeline.Window.rect_emb_val (cfg0.win 2) t y a rfl

theorem place3 (y : S1024x3072.Idx) (a : Fin 2) : ((((cfg0.win 3).blk t).view.emb y : S1024x3072.Idx) a).val = cc0_transform_3 (grid0.coords t) a * S1024x3072.size a + (y a).val :=
  Pipeline.Window.rect_emb_val (cfg0.win 3) t y a rfl

theorem place4 (y : S256x3072.Idx) (a : Fin 2) : ((((cfg0.win 4).blk t).view.emb y : S40960x3072.Idx) a).val = cc0_transform_4 (grid0.coords t) a * S256x3072.size a + (y a).val :=
  Pipeline.Window.rect_emb_val (cfg0.win 4) t y a rfl

end Places

/-! ## The blocks a point reads -/

section Blocks
variable (c : Dev nD) (t : Fin grid0.N)

/-- Token `n` of point `t`. -/
abbrev token (n : Fin 256) : Fin 40960 := ⟨256 * t.val + n.val, by have h := t.isLt; change t.val < 160 at h; omega⟩

theorem block0_apply (n : Fin 256) (k : Fin 1024) :
    (iblk m c 0 t : S256x1024.Idx → EReal) (ix2 n k) = (m ((c : Thread nD τ).loc main_arg0) : S40960x1024.Idx → EReal) (ix2 (token t n) k) := by
  refine Eq.trans ?_ (congrFun (V_main_arg0 m c) _)
  unfold iblk
  refine congrArg (V m c main_arg0 : S40960x1024.Idx → EReal) (?_ : (((cfg0.win 0).blk t).view.emb _ : S40960x1024.Idx) = _)
  funext (a : Fin 2)
  refine Fin.ext ((place0 t _ a).trans ?_)
  match a with
  | ⟨0, _⟩ => refine (congrArg (· * 256 + n.val) (coord_word t)).trans ?_; show t.val * 256 + n.val = 256 * t.val + n.val; omega
  | ⟨1, _⟩ => show 0 * 1024 + k.val = k.val; omega

theorem block1_apply (s : Fin 6) (n : Fin 256) (k : Fin 1024) :
    (iblk m c 1 t : S1x6x1024.Idx → EReal) (ix3 0 s k)
      = (m ((c : Thread nD τ).loc main_arg1) : S16x6x1024.Idx → EReal) (ix3 (Cert.Projection.rowOf (token t n)) s k) := by
  refine Eq.trans ?_ (congrFun (V_main_arg1 m c) _)
  unfold iblk
  refine congrArg (V m c main_arg1 : S16x6x1024.Idx → EReal) (?_ : (((cfg0.win 1).blk t).view.emb _ : S16x6x1024.Idx) = _)
  funext (a : Fin 3)
  refine Fin.ext ((place1 t _ a).trans ?_)
  match a with
  | ⟨0, _⟩ =>
    refine (congrArg (· * 1 + 0) (mod_row t)).trans ?_
    show _ = (Cert.Projection.rowOf (token t n)).val
    unfold Cert.Projection.rowOf
    have hn := n.isLt
    by_cases ht : t.val < 32
    · rw [if_pos ht, if_pos (show (token t n).val < 8192 by show 256 * t.val + n.val < 8192; omega)]; rfl
    · rw [if_neg ht, if_neg (show ¬ (token t n).val < 8192 by show ¬ 256 * t.val + n.val < 8192; omega)]
      show (1 + (t.val - 32) / 16) * 1 + 0 = 1 + (256 * t.val + n.val - 8192) / 4096
      omega
  | ⟨1, _⟩ => show 0 * 6 + s.val = s.val; omega
  | ⟨2, _⟩ => show 0 * 1024 + k.val = k.val; omega

theorem block2_apply (k : Fin 1024) :
    (iblk m c 2 t : S1x1024.Idx → EReal) (ix2 0 k) = (m ((c : Thread nD τ).loc main_arg2) : S1024.Idx → EReal) (ix1 k) := by
  refine Eq.trans ?_ (weights_entry m c k)
  unfold iblk
  refine congrArg (V m c main_v1 : S1x1024.Idx → EReal) (?_ : (((cfg0.win 2).blk t).view.emb _ : S1x1024.Idx) = _)
  funext (a : Fin 2)
  refine Fin.ext ((place2 t _ a).trans ?_)
  match a with
  | ⟨0, _⟩ => rfl
  | ⟨1, _⟩ => show 0 * 1024 + k.val = k.val; omega

theorem block3_apply (k : Fin 1024) (f : Fin 3072) :
    (iblk m c 3 t : S1024x3072.Idx → EReal) (ix2 k f) = (m ((c : Thread nD τ).loc main_arg3) : S1024x3072.Idx → EReal) (ix2 k f) := by
  refine Eq.trans ?_ (congrFun (matrix_entry m c) _)
  unfold iblk
  refine congrArg (V m c main_v0 : S1024x3072.Idx → EReal) (?_ : (((cfg0.win 3).blk t).view.emb _ : S1024x3072.Idx) = _)
  funext (a : Fin 2)
  refine Fin.ext ((place3 t _ a).trans ?_)
  match a with
  | ⟨0, _⟩ => show 0 * 1024 + k.val = k.val; omega
  | ⟨1, _⟩ => show 0 * 3072 + f.val = f.val; omega

end Blocks

/-! ## The array -/

/-- What the result array is shown to hold. -/
def whole (c : Dev nD) : Buf (Elt Ideal) ((c : Thread nD τ).loc main_v2) :=
  Cert.Projection.result (m ((c : Thread nD τ).loc main_arg0)) (m ((c : Thread nD τ).loc main_arg1)) (m ((c : Thread nD τ).loc main_arg2))
    (m ((c : Thread nD τ).loc main_arg3))

/-- The scale is read from the modulation block's second row. -/
theorem load_scale (x : Vec Ideal S1x6x1024 .f32) (k : Fin 1024) : View.ld x r0_2 (ix3 (n0 := 1) (n1 := 1) (n2 := 1024) 0 0 k) = x (ix3 0 1 k) := by
  refine congrArg x (funext fun a => Fin.ext ?_)
  match a with
  | ⟨0, _⟩ => rfl
  | ⟨1, _⟩ => rfl
  | ⟨2, _⟩ => show 0 + 1 * k.val = k.val; omega

/-- The shift is read from its first. -/
theorem load_shift (x : Vec Ideal S1x6x1024 .f32) (k : Fin 1024) : View.ld x r0_3 (ix3 (n0 := 1) (n1 := 1) (n2 := 1024) 0 0 k) = x (ix3 0 0 k) := by
  refine congrArg x (funext fun a => Fin.ext ?_)
  match a with
  | ⟨0, _⟩ => rfl
  | ⟨1, _⟩ => rfl
  | ⟨2, _⟩ => show 0 + 1 * k.val = k.val; omega

theorem modulated_congr {x x' g g' sc sc' sh sh' : Fin 1024 → EReal} (hx : x = x') (hg : g = g') (hsc : sc = sc') (hsh : sh = sh') (k : Fin 1024) :
    Cert.Projection.modulated x g sc sh k = Cert.Projection.modulated x' g' sc' sh' k := by
  subst hx hg hsc hsh; rfl

/-- What point `t` leaves, at an entry of its block, is the array at the entry's place. -/
theorem left_apply (c : Dev nD) (t : Fin grid0.N) (n : Fin 256) (f : Fin 3072) :
    out0_4 (iblk m c 0 t) (iblk m c 1 t) (iblk m c 2 t) (iblk m c 3 t) (ix2 n f) = whole m c (ix2 (token t n) f) := by
  have hz : (![0, 0] : Fin 2 → Nat) = fun _ => 0 := by funext a; match a with | ⟨0, _⟩ => rfl | ⟨1, _⟩ => rfl
  unfold out0_4
  rw [View.canon_unit_zero (S := S256x3072) hz inb_S256x3072_S256x3072_0_0]
  refine (payload_apply _ _ _ _ _ n f).trans ?_
  unfold whole Cert.Projection.result Cert.Projection.hidden
  refine Finset.sum_congr rfl fun k _ => ?_
  rw [View.ld_unit_zero (S := S256x1024) hz inb_S256x1024_S256x1024_0_0, View.ld_unit_zero (S := S1x1024) hz inb_S1x1024_S1x1024_0_0,
    View.ld_unit_zero (S := S1024x3072) hz inb_S1024x3072_S1024x3072_0_0]
  exact congrArg₂ (· * ·) (modulated_congr (funext fun j => block0_apply m c t n j) (funext fun j => block2_apply m c t j)
    (funext fun j => (load_scale _ j).trans (block1_apply m c t 1 n j)) (funext fun j => (load_shift _ j).trans (block1_apply m c t 0 n j)) k)
    (block3_apply m c t k f)

/-- What point `t` writes back is its block of the array. -/
theorem written_back (c : Dev nD) (t : Fin cfg0.N) :
    (dats m 0 c).flushed 4 t = ((cfg0.win 4).blk t).view.read (Elt Ideal) (whole m c) := by
  rw [Value.flushed4]
  funext (y : S256x3072.Idx)
  have e : (((cfg0.win 4).blk t).view.emb y : S40960x3072.Idx) = ix2 (token t (y 0)) (y 1) := by
    funext (a : Fin 2)
    refine Fin.ext ((place4 t y a).trans ?_)
    match a with
    | ⟨0, _⟩ => refine (congrArg (· * 256 + (y 0).val) (coord_word t)).trans ?_; show t.val * 256 + (y 0).val = 256 * t.val + (y 0).val; omega
    | ⟨1, _⟩ => show 0 * 3072 + (y 1).val = (y 1).val; omega
  refine Eq.trans ?_ (congrArg (whole m c) e.symm)
  refine Eq.trans ?_ (left_apply m c t (y 0) (y 1))
  refine congrArg (out0_4 (iblk m c 0 t) (iblk m c 1 t) (iblk m c 2 t) (iblk m c 3 t)) (funext fun a => ?_)
  match a with
  | ⟨0, _⟩ => rfl
  | ⟨1, _⟩ => rfl

/-- An element a view places is among the view's elements. -/
theorem mem_of_place {κ : Kind} {sp : Space} {s : Shape} {e : EltTy} (v : View sig κ sp s e) (x : s.Idx) (i : v.ty.Idx) (h : v.emb x = i) : i ∈ v.set :=
  h ▸ v.emb_mem_set x

/-- The blocks fill the array. -/
theorem filled (i : S40960x3072.Idx) :
    ∃ t : Fin cfg0.N, (cfg0.win 4).flush t = true ∧ i ∈ ((cfg0.win 4).blk t).view.set := by
  have h0 := idx2_lt0 i; have h1 := idx2_lt1 i
  have ht : (i 0).val / 256 < grid0.N := by show _ < 160; omega
  refine ⟨⟨(i 0).val / 256, ht⟩, flush0_4 _, ?_⟩
  refine mem_of_place ((cfg0.win 4).blk ⟨(i 0).val / 256, ht⟩).view
    (ix2 (n0 := 256) (n1 := 3072) ⟨(i 0).val % 256, by omega⟩ (i 1) : S256x3072.Idx) i ?_
  funext (a : Fin 2)
  refine Fin.ext ((place4 _ _ a).trans ?_)
  match a with
  | ⟨0, _⟩ =>
    refine (congrArg (· * 256 + (i 0).val % 256) (coord_word ⟨(i 0).val / 256, ht⟩)).trans ?_
    show (i 0).val / 256 * 256 + (i 0).val % 256 = (i 0).val; omega
  | ⟨1, _⟩ => show 0 * 3072 + (i 1).val = (i 1).val; omega

/-- The result array ends at the projection of the arguments. -/
theorem final (c : Dev nD) : (dats m 0 c).arrAt 4 cfg0.N = whole m c :=
  (dats m 0 c).arrAt_eq_of_cover 4 (whole m c) (fun t _ => written_back m c t) filled

end Cert.Kernel2Ideal.Projection

end
-- ==== Proof.Projection.Reference.lean ====
/-
  The projection's reference over the reals.

  The reference splits the tokens into the context's 32 sequences of 256 and the latents' 8 sequences of 4096, normalizes,
  modulates and projects each group with its modulation rows, and joins the two. Read at an index, its result is
  `Cert.Projection.result` of the arguments.
-/
module

public import proofs.«01_k».proof.Proof.Gen.Reference2Ideal.Read
public import proofs.«01_k».proof.Proof.Projection.Spec
public import Idealize.ShloMosaic.Lib.ValueIdx

@[expose] public section

set_option maxRecDepth 16384

noncomputable section

namespace Cert.Reference2Ideal.Projection

open Idealize.ShloMosaic Idealize.ShloMosaic.TcCoe Idealize.ShloMosaic.ValueIdx
open Cert.Reference2Ideal Cert.Reference2Ideal.Gen Cert.Reference2Ideal.Read

variable (x0 : (⟨S40960x1024, .f32⟩ : BufTy).Contents (Elt Ideal)) (x1 : (⟨S16x6x1024, .f32⟩ : BufTy).Contents (Elt Ideal))
  (x2 : (⟨S1024, .f32⟩ : BufTy).Contents (Elt Ideal)) (x3 : (⟨S1024x3072, .f32⟩ : BufTy).Contents (Elt Ideal))

/-! ## The context -/

/-- The tokens of the context, sequence by sequence. -/
theorem context_token (b : Fin 32) (n : Fin 256) (k : Fin 1024) (r : Fin 40960) (hr : r.val = 256 * b.val + n.val) :
    val_main_v1 (F := Ideal) x0 (ix3 b n k) = x0 (ix2 r k) := by
  rw [val_main_v1_apply, val_main_v0_apply]
  refine congrArg x0 (funext fun a => Fin.ext ?_)
  have hk := k.isLt
  match a with
  | ⟨0, _⟩ => show ((b.val * 256 + n.val) * 1024 + k.val) / 1024 = r.val; omega
  | ⟨1, _⟩ => show ((b.val * 256 + n.val) * 1024 + k.val) % 1024 = k.val; omega

/-- The shift. -/
theorem context_shift (k : Fin 1024) : val_main_v5 (F := Ideal) x1 (ix3 (n0 := 1) (n1 := 1) 0 0 k) = x1 (ix3 0 0 k) := by
  rw [val_main_v5_apply, val_main_v4_apply, val_main_v3_apply, val_main_v2_apply]
  refine congrArg x1 (funext fun a => Fin.ext ?_)
  have hk := k.isLt
  match a with
  | ⟨0, _⟩ => rfl
  | ⟨1, _⟩ => rfl
  | ⟨2, _⟩ => show (0 * 1024 + k.val) % 1024 = k.val; omega

/-- The scale. -/
theorem context_scale (k : Fin 1024) : val_main_v8 (F := Ideal) x1 (ix3 (n0 := 1) (n1 := 1) 0 0 k) = x1 (ix3 0 1 k) := by
  rw [val_main_v8_apply, val_main_v7_apply, val_main_v6_apply, val_main_v2_apply]
  refine congrArg x1 (funext fun a => Fin.ext ?_)
  have hk := k.isLt
  match a with
  | ⟨0, _⟩ => rfl
  | ⟨1, _⟩ => rfl
  | ⟨2, _⟩ => show (0 * 1024 + k.val) % 1024 = k.val; omega

/-- The inverse root mean square of a row. -/
theorem context_rsqrt (b : Fin 32) (n : Fin 256) (r : Fin 40960) (hr : r.val = 256 * b.val + n.val) :
    val_main_v16 (F := Ideal) x0 (ix3 (n2 := 1) b n 0) = Cert.Projection.scaleOf fun j => x0 (ix2 r j) := by
  have e : (fun k : Fin 1024 => val_main_v9 (F := Ideal) x0 (idx_main_v10 (ix2 b n) k)) = fun k => x0 (ix2 r k) * x0 (ix2 r k) := funext fun k => by
    have i : idx_main_v10 (ix2 b n) k = ix3 b n k := funext fun a => by match a with | ⟨0, _⟩ => rfl | ⟨1, _⟩ => rfl | ⟨2, _⟩ => rfl
    rw [i, val_main_v9_apply, context_token x0 b n k r hr]; rfl
  have i : idx_main_v11 (ix3 (n2 := 1) b n 0) = ix2 b n := funext fun a => by match a with | ⟨0, _⟩ => rfl | ⟨1, _⟩ => rfl
  rw [val_main_v16_apply, val_main_v15_apply, val_main_v13_apply, val_main_v14_apply, val_main_v12_apply, val_main_v11_apply, val_main_cst_0_apply, val_main_cst_1_apply, i, val_main_v10_apply, e,
    val_main_cst_apply]
  unfold Cert.Projection.scaleOf
  rw [show (FloatOps.ofBits .f32 0x00000000#32 : Ideal .f32) = (0 : EReal) from Ideal.ofBits_zero_f32, zero_add]
  rfl

/-- The rows before the product. -/
theorem context_hidden (b : Fin 32) (n : Fin 256) (k : Fin 1024) (r : Fin 40960) (hr : r.val = 256 * b.val + n.val) :
    val_main_v27 (F := Ideal) x0 x1 x2 (ix3 b n k) = Cert.Projection.hidden x0 x1 x2 r k := by
  have i1 : idx_main_v17 (ix3 b n k) = ix3 (n2 := 1) b n 0 := funext fun a => by match a with | ⟨0, _⟩ => rfl | ⟨1, _⟩ => rfl | ⟨2, _⟩ => rfl
  have i2 : idx_main_v24 (ix3 b n k) = ix3 (n0 := 1) (n1 := 1) 0 0 k := funext fun a => by match a with | ⟨0, _⟩ => rfl | ⟨1, _⟩ => rfl | ⟨2, _⟩ => rfl
  have i3 : idx_main_v26 (ix3 b n k) = ix3 (n0 := 1) (n1 := 1) 0 0 k := funext fun a => by match a with | ⟨0, _⟩ => rfl | ⟨1, _⟩ => rfl | ⟨2, _⟩ => rfl
  have i4 : idx_main_v19 (idx_main_v20 (ix3 b n k)) = ix1 k := funext fun a => by match a with | ⟨0, _⟩ => rfl
  have hrow : Cert.Projection.rowOf r = 0 := by
    unfold Cert.Projection.rowOf
    have hn := n.isLt
    exact if_pos (by omega)
  rw [val_main_v27_apply, val_main_v25_apply, val_main_v21_apply, val_main_v18_apply, val_main_v17_apply, val_main_v20_apply, val_main_v19_apply, val_main_v24_apply, val_main_v23_apply,
    val_main_v22_apply, val_main_cst_2_apply, val_main_v26_apply, i1, i2, i3, i4, context_token x0 b n k r hr, context_rsqrt x0 b n r hr, context_scale, context_shift]
  unfold Cert.Projection.hidden Cert.Projection.modulated
  rw [hrow]
  rfl

/-- The projected rows of the context. -/
theorem context_projected (j : S8192x3072.Idx) (y : S40960x3072.Idx) (h0 : (y 0).val = (j 0).val) (h1 : (y 1).val = (j 1).val) :
    val_main_v58 (F := Ideal) x0 x1 x2 x3 j = Cert.Projection.result x0 x1 x2 x3 y := by
  have hj0 := idx2_lt0 j; have hj1 := idx2_lt1 j
  rw [val_main_v58_apply, val_main_v28_apply]
  unfold Cert.Projection.result
  refine Finset.sum_congr rfl fun k _ => ?_
  have il : lidx_main_v28 (idx_main_v58 j) k
      = ix3 (n0 := 32) (n1 := 256) ⟨(j 0).val / 256, by omega⟩ ⟨(j 0).val % 256, by omega⟩ k := funext fun a => Fin.ext (by
    match a with
    | ⟨0, _⟩ => show ((j 0).val * 3072 + (j 1).val) / 786432 = (j 0).val / 256; omega
    | ⟨1, _⟩ => show ((j 0).val * 3072 + (j 1).val) / 3072 % 256 = (j 0).val % 256; omega
    | ⟨2, _⟩ => rfl)
  have ir : ridx_main_v28 (idx_main_v58 j) k = ix2 k (y 1) := funext fun a => Fin.ext (by
    match a with
    | ⟨0, _⟩ => rfl
    | ⟨1, _⟩ => show ((j 0).val * 3072 + (j 1).val) % 3072 = (y 1).val; omega)
  rw [il, ir]
  refine congrArg (· * x3 (ix2 k (y 1))) (context_hidden x0 x1 x2 _ _ k (y 0) ?_)
  show (y 0).val = 256 * ((j 0).val / 256) + (j 0).val % 256
  omega

/-! ## The latents -/

/-- The tokens of the latent, sequence by sequence. -/
theorem latent_token (b : Fin 8) (n : Fin 4096) (k : Fin 1024) (r : Fin 40960) (hr : r.val = 8192 + 4096 * b.val + n.val) :
    val_main_v30 (F := Ideal) x0 (ix3 b n k) = x0 (ix2 r k) := by
  rw [val_main_v30_apply, val_main_v29_apply]
  refine congrArg x0 (funext fun a => Fin.ext ?_)
  have hk := k.isLt
  match a with
  | ⟨0, _⟩ => show 8192 + ((b.val * 4096 + n.val) * 1024 + k.val) / 1024 = r.val; omega
  | ⟨1, _⟩ => show ((b.val * 4096 + n.val) * 1024 + k.val) % 1024 = k.val; omega

/-- The shift. -/
theorem latent_shift (b : Fin 8) (k : Fin 1024) : val_main_v34 (F := Ideal) x1 (ix3 (n0 := 8) (n1 := 1) b 0 k) = x1 (ix3 ⟨1 + b.val, by omega⟩ 0 k) := by
  rw [val_main_v34_apply, val_main_v33_apply, val_main_v32_apply, val_main_v31_apply]
  refine congrArg x1 (funext fun a => Fin.ext ?_)
  have hk := k.isLt
  match a with
  | ⟨0, _⟩ => show 1 + (b.val * 1024 + k.val) / 1024 = 1 + b.val; omega
  | ⟨1, _⟩ => rfl
  | ⟨2, _⟩ => show (b.val * 1024 + k.val) % 1024 = k.val; omega

/-- The scale. -/
theorem latent_scale (b : Fin 8) (k : Fin 1024) : val_main_v37 (F := Ideal) x1 (ix3 (n0 := 8) (n1 := 1) b 0 k) = x1 (ix3 ⟨1 + b.val, by omega⟩ 1 k) := by
  rw [val_main_v37_apply, val_main_v36_apply, val_main_v35_apply, val_main_v31_apply]
  refine congrArg x1 (funext fun a => Fin.ext ?_)
  have hk := k.isLt
  match a with
  | ⟨0, _⟩ => show 1 + (b.val * 1024 + k.val) / 1024 = 1 + b.val; omega
  | ⟨1, _⟩ => rfl
  | ⟨2, _⟩ => show (b.val * 1024 + k.val) % 1024 = k.val; omega

/-- The inverse root mean square of a row. -/
theorem latent_rsqrt (b : Fin 8) (n : Fin 4096) (r : Fin 40960) (hr : r.val = 8192 + 4096 * b.val + n.val) :
    val_main_v45 (F := Ideal) x0 (ix3 (n2 := 1) b n 0) = Cert.Projection.scaleOf fun j => x0 (ix2 r j) := by
  have e : (fun k : Fin 1024 => val_main_v38 (F := Ideal) x0 (idx_main_v39 (ix2 b n) k)) = fun k => x0 (ix2 r k) * x0 (ix2 r k) := funext fun k => by
    have i : idx_main_v39 (ix2 b n) k = ix3 b n k := funext fun a => by match a with | ⟨0, _⟩ => rfl | ⟨1, _⟩ => rfl | ⟨2, _⟩ => rfl
    rw [i, val_main_v38_apply, latent_token x0 b n k r hr]; rfl
  have i : idx_main_v40 (ix3 (n2 := 1) b n 0) = ix2 b n := funext fun a => by match a with | ⟨0, _⟩ => rfl | ⟨1, _⟩ => rfl
  rw [val_main_v45_apply, val_main_v44_apply, val_main_v42_apply, val_main_v43_apply, val_main_v41_apply, val_main_v40_apply, val_main_cst_4_apply, val_main_cst_5_apply, i, val_main_v39_apply, e,
    val_main_cst_3_apply]
  unfold Cert.Projection.scaleOf
  rw [show (FloatOps.ofBits .f32 0x00000000#32 : Ideal .f32) = (0 : EReal) from Ideal.ofBits_zero_f32, zero_add]
  rfl

/-- The rows before the product. -/
theorem latent_hidden (b : Fin 8) (n : Fin 4096) (k : Fin 1024) (r : Fin 40960) (hr : r.val = 8192 + 4096 * b.val + n.val) :
    val_main_v56 (F := Ideal) x0 x1 x2 (ix3 b n k) = Cert.Projection.hidden x0 x1 x2 r k := by
  have i1 : idx_main_v46 (ix3 b n k) = ix3 (n2 := 1) b n 0 := funext fun a => by match a with | ⟨0, _⟩ => rfl | ⟨1, _⟩ => rfl | ⟨2, _⟩ => rfl
  have i2 : idx_main_v53 (ix3 b n k) = ix3 (n0 := 8) (n1 := 1) b 0 k := funext fun a => by match a with | ⟨0, _⟩ => rfl | ⟨1, _⟩ => rfl | ⟨2, _⟩ => rfl
  have i3 : idx_main_v55 (ix3 b n k) = ix3 (n0 := 8) (n1 := 1) b 0 k := funext fun a => by match a with | ⟨0, _⟩ => rfl | ⟨1, _⟩ => rfl | ⟨2, _⟩ => rfl
  have i4 : idx_main_v48 (idx_main_v49 (ix3 b n k)) = ix1 k := funext fun a => by match a with | ⟨0, _⟩ => rfl
  have hrow : Cert.Projection.rowOf r = ⟨1 + b.val, by omega⟩ := by
    unfold Cert.Projection.rowOf
    have hn := n.isLt
    rw [if_neg (by omega)]; exact Fin.ext (by show 1 + (r.val - 8192) / 4096 = 1 + b.val; omega)
  rw [val_main_v56_apply, val_main_v54_apply, val_main_v50_apply, val_main_v47_apply, val_main_v46_apply, val_main_v49_apply, val_main_v48_apply, val_main_v53_apply, val_main_v52_apply,
    val_main_v51_apply, val_main_cst_6_apply, val_main_v55_apply, i1, i2, i3, i4, latent_token x0 b n k r hr, latent_rsqrt x0 b n r hr, latent_scale, latent_shift]
  unfold Cert.Projection.hidden Cert.Projection.modulated
  rw [hrow]
  rfl

/-- The projected rows of the latent. -/
theorem latent_projected (j : S32768x3072.Idx) (y : S40960x3072.Idx) (h0 : (y 0).val = 8192 + (j 0).val) (h1 : (y 1).val = (j 1).val) :
    val_main_v59 (F := Ideal) x0 x1 x2 x3 j = Cert.Projection.result x0 x1 x2 x3 y := by
  have hj0 := idx2_lt0 j; have hj1 := idx2_lt1 j
  rw [val_main_v59_apply, val_main_v57_apply]
  unfold Cert.Projection.result
  refine Finset.sum_congr rfl fun k _ => ?_
  have il : lidx_main_v57 (idx_main_v59 j) k
      = ix3 (n0 := 8) (n1 := 4096) ⟨(j 0).val / 4096, by omega⟩ ⟨(j 0).val % 4096, by omega⟩ k := funext fun a => Fin.ext (by
    match a with
    | ⟨0, _⟩ => show ((j 0).val * 3072 + (j 1).val) / 12582912 = (j 0).val / 4096; omega
    | ⟨1, _⟩ => show ((j 0).val * 3072 + (j 1).val) / 3072 % 4096 = (j 0).val % 4096; omega
    | ⟨2, _⟩ => rfl)
  have ir : ridx_main_v57 (idx_main_v59 j) k = ix2 k (y 1) := funext fun a => Fin.ext (by
    match a with
    | ⟨0, _⟩ => rfl
    | ⟨1, _⟩ => show ((j 0).val * 3072 + (j 1).val) % 3072 = (y 1).val; omega)
  rw [il, ir]
  refine congrArg (· * x3 (ix2 k (y 1))) (latent_hidden x0 x1 x2 _ _ k (y 0) ?_)
  show (y 0).val = 8192 + 4096 * ((j 0).val / 4096) + (j 0).val % 4096
  omega

/-! ## The whole array -/

/-- The reference's result, at every index. -/
theorem result_eq : val_main_v60 (F := Ideal) x0 x1 x2 x3 = Cert.Projection.result x0 x1 x2 x3 := by
  funext (y : S40960x3072.Idx)
  have hy0 := idx2_lt0 y
  unfold val_main_v60
  by_cases h : (y 0).val < 8192
  · refine Eq.trans (concatenate_apply_piece (t := S40960x3072) 0 _ _ _ 0 (by show 0 < 2; decide) S8192x3072 _ rfl rfl 0 rfl
      (ix2 (n0 := 8192) (n1 := 3072) ⟨(y 0).val, h⟩ (y 1)) ?_ ?_) (context_projected x0 x1 x2 x3 _ y rfl rfl)
    · intro b hb
      match b with
      | ⟨0, _⟩ => exact absurd rfl hb
      | ⟨1, _⟩ => rfl
    · show 0 + (y 0).val = (y 0).val; omega
  · refine Eq.trans (concatenate_apply_piece (t := S40960x3072) 0 _ _ _ 1 (by show 1 < 2; decide) S32768x3072 _ rfl rfl 8192 rfl
      (ix2 (n0 := 32768) (n1 := 3072) ⟨(y 0).val - 8192, by omega⟩ (y 1)) ?_ ?_) (latent_projected x0 x1 x2 x3 _ y (by show (y 0).val = 8192 + ((y 0).val - 8192); omega) rfl)
    · intro b hb
      match b with
      | ⟨0, _⟩ => exact absurd rfl hb
      | ⟨1, _⟩ => rfl
    · show 8192 + ((y 0).val - 8192) = (y 0).val; omega

end Cert.Reference2Ideal.Projection

end
-- ==== Proof.OutProjection.Body.lean ====
/-
  The output projection's body, run once on arbitrary staging buffers.

  A grid point computes the residual rows of its 256 tokens (`residual`), stores them, normalizes and modulates them
  (`hidden`), lays these out as 2048 rows of 128 by eight strided stores (`laidOut`), and stores their router logits.
-/
module

public import proofs.«01_k».proof.Proof.Gen.Kernel3Ideal.Skeleton
public import proofs.«01_k».proof.Proof.Gen.Kernel3Ideal.Launch
public import Idealize.ShloMosaic.Lib.Pipeline.Frame
public import Idealize.ShloMosaic.Lib.Pipeline.FrameBody
public import Idealize.ShloMosaic.Lib.Pipeline.Value
public import Idealize.ShloMosaic.Lib.WholeRead
public import Idealize.ShloMosaic.Lib.Exec
public import Idealize.ShloMosaic.Lib.Claim
public import Idealize.ShloMosaic.Lib.Ring
public import Idealize.ShloMosaic.Lib.Tactic
public import Idealize.ShloMosaic.Lib.WordCmp
public import Idealize.ShloMosaic.Adequacy
public import Idealize.ShloMosaic.Init

@[expose] public section

set_option maxRecDepth 16384

noncomputable section

namespace Cert.Kernel3Ideal.OutProjection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The residual rows of a point's tokens, from the blocks it reads. -/
def residual (x0 : Vec F S256x384 .f32) (x1 : Vec F S256x256 .f32) (x2 : Vec F S256x384 .f32) (x3 : Vec F S256x384 .f32) (x4 : Vec F S256x384 .f32) (x5 : Vec F S256x1024 .f32) (x6 : Vec F S1x6x1024 .f32) (x7 : Vec F S1024x1024 .bf16) (x8 : Vec F S1x256 .f32) (x9 : Vec F S1x384 .f32) (x10 : Vec F S1x1024 .f32) (x11 : Vec F S32x1024 .f32) (x12 : Vec F S32x1 .f32) : FVec F S256x1024 .f32 :=
  k0_pay7 (k0_pay3 (View.ld x1 (Rect.unit (s := S256x256) ![0, 0] S256x256.size inb_S256x256_S256x256_0_0)) (View.ld x8 (Rect.unit (s := S1x256) ![0, 0] S1x256.size inb_S1x256_S1x256_0_0))) (k0_pay4 (View.ld x2 (Rect.unit (s := S256x384) ![0, 0] S256x384.size inb_S256x384_S256x384_0_0)) (View.ld x3 (Rect.unit (s := S256x384) ![0, 0] S256x384.size inb_S256x384_S256x384_0_0)) (View.ld x4 (Rect.unit (s := S256x384) ![0, 0] S256x384.size inb_S256x384_S256x384_0_0))) (k0_pay5 (View.ld x2 (Rect.unit (s := S256x384) ![0, 0] S256x384.size inb_S256x384_S256x384_0_0)) (View.ld x3 (Rect.unit (s := S256x384) ![0, 0] S256x384.size inb_S256x384_S256x384_0_0)) (View.ld x4 (Rect.unit (s := S256x384) ![0, 0] S256x384.size inb_S256x384_S256x384_0_0))) (k0_pay6 (F := F)) (View.ld x9 (Rect.unit (s := S1x384) ![0, 0] S1x384.size inb_S1x384_S1x384_0_0)) (View.ld x0 (Rect.unit (s := S256x384) ![0, 0] S256x384.size inb_S256x384_S256x384_0_0)) (View.ld x7 (Rect.unit (s := S1024x1024) ![0, 0] S384x1024.size inb_S1024x1024_S384x1024_0_0)) (View.ld x7 (Rect.unit (s := S1024x1024) ![384, 0] S256x1024.size inb_S1024x1024_S256x1024_384_0)) (View.ld x7 (Rect.unit (s := S1024x1024) ![640, 0] S384x1024.size inb_S1024x1024_S384x1024_640_0)) (View.ld x5 (Rect.unit (s := S256x1024) ![0, 0] S256x1024.size inb_S256x1024_S256x1024_0_0)) (View.ld x6 (Rect.unit (s := S1x6x1024) ![0, 2, 0] S1x1x1024.size inb_S1x6x1024_S1x1x1024_0_2_0))

/-- The means of their squares. -/
def means (x0 : Vec F S256x384 .f32) (x1 : Vec F S256x256 .f32) (x2 : Vec F S256x384 .f32) (x3 : Vec F S256x384 .f32) (x4 : Vec F S256x384 .f32) (x5 : Vec F S256x1024 .f32) (x6 : Vec F S1x6x1024 .f32) (x7 : Vec F S1024x1024 .bf16) (x8 : Vec F S1x256 .f32) (x9 : Vec F S1x384 .f32) (x10 : Vec F S1x1024 .f32) (x11 : Vec F S32x1024 .f32) (x12 : Vec F S32x1 .f32) : FVec F S256x1 .f32 :=
  k0_pay8 (k0_pay3 (View.ld x1 (Rect.unit (s := S256x256) ![0, 0] S256x256.size inb_S256x256_S256x256_0_0)) (View.ld x8 (Rect.unit (s := S1x256) ![0, 0] S1x256.size inb_S1x256_S1x256_0_0))) (k0_pay4 (View.ld x2 (Rect.unit (s := S256x384) ![0, 0] S256x384.size inb_S256x384_S256x384_0_0)) (View.ld x3 (Rect.unit (s := S256x384) ![0, 0] S256x384.size inb_S256x384_S256x384_0_0)) (View.ld x4 (Rect.unit (s := S256x384) ![0, 0] S256x384.size inb_S256x384_S256x384_0_0))) (k0_pay5 (View.ld x2 (Rect.unit (s := S256x384) ![0, 0] S256x384.size inb_S256x384_S256x384_0_0)) (View.ld x3 (Rect.unit (s := S256x384) ![0, 0] S256x384.size inb_S256x384_S256x384_0_0)) (View.ld x4 (Rect.unit (s := S256x384) ![0, 0] S256x384.size inb_S256x384_S256x384_0_0))) (k0_pay6 (F := F)) (View.ld x9 (Rect.unit (s := S1x384) ![0, 0] S1x384.size inb_S1x384_S1x384_0_0)) (View.ld x0 (Rect.unit (s := S256x384) ![0, 0] S256x384.size inb_S256x384_S256x384_0_0)) (View.ld x7 (Rect.unit (s := S1024x1024) ![0, 0] S384x1024.size inb_S1024x1024_S384x1024_0_0)) (View.ld x7 (Rect.unit (s := S1024x1024) ![384, 0] S256x1024.size inb_S1024x1024_S256x1024_384_0)) (View.ld x7 (Rect.unit (s := S1024x1024) ![640, 0] S384x1024.size inb_S1024x1024_S384x1024_640_0)) (View.ld x5 (Rect.unit (s := S256x1024) ![0, 0] S256x1024.size inb_S256x1024_S256x1024_0_0)) (View.ld x6 (Rect.unit (s := S1x6x1024) ![0, 2, 0] S1x1x1024.size inb_S1x6x1024_S1x1x1024_0_2_0))

/-- The rows normalized and modulated. -/
def hidden (x0 : Vec F S256x384 .f32) (x1 : Vec F S256x256 .f32) (x2 : Vec F S256x384 .f32) (x3 : Vec F S256x384 .f32) (x4 : Vec F S256x384 .f32) (x5 : Vec F S256x1024 .f32) (x6 : Vec F S1x6x1024 .f32) (x7 : Vec F S1024x1024 .bf16) (x8 : Vec F S1x256 .f32) (x9 : Vec F S1x384 .f32) (x10 : Vec F S1x1024 .f32) (x11 : Vec F S32x1024 .f32) (x12 : Vec F S32x1 .f32) : FVec F S256x1024 .f32 :=
  k0_pay10 (residual x0 x1 x2 x3 x4 x5 x6 x7 x8 x9 x10 x11 x12) (means x0 x1 x2 x3 x4 x5 x6 x7 x8 x9 x10 x11 x12) (k0_pay9 (F := F)) (View.ld x10 (Rect.unit (s := S1x1024) ![0, 0] S1x1024.size inb_S1x1024_S1x1024_0_0)) (View.ld x6 (Rect.unit (s := S1x6x1024) ![0, 4, 0] S1x1x1024.size inb_S1x6x1024_S1x1x1024_0_4_0)) (View.ld x6 (Rect.unit (s := S1x6x1024) ![0, 3, 0] S1x1x1024.size inb_S1x6x1024_S1x1x1024_0_3_0))

/-- Their router logits. -/
def logits (x0 : Vec F S256x384 .f32) (x1 : Vec F S256x256 .f32) (x2 : Vec F S256x384 .f32) (x3 : Vec F S256x384 .f32) (x4 : Vec F S256x384 .f32) (x5 : Vec F S256x1024 .f32) (x6 : Vec F S1x6x1024 .f32) (x7 : Vec F S1024x1024 .bf16) (x8 : Vec F S1x256 .f32) (x9 : Vec F S1x384 .f32) (x10 : Vec F S1x1024 .f32) (x11 : Vec F S32x1024 .f32) (x12 : Vec F S32x1 .f32) : FVec F S32x256 .f32 :=
  k0_pay2 (hidden x0 x1 x2 x3 x4 x5 x6 x7 x8 x9 x10 x11 x12) (View.ld x11 (Rect.unit (s := S32x1024) ![0, 0] S32x1024.size inb_S32x1024_S32x1024_0_0)) (View.ld x12 (Rect.unit (s := S32x1) ![0, 0] S32x1.size inb_S32x1_S32x1_0_0))

/-- Where an entry of the 2048 × 128 block sits among 256 rows of 1024. -/
def rowOf (y : S2048x128.Idx) : S256x1024.Idx := fun a => match a with
  | ⟨0, _⟩ => ⟨(y 0).val / 8, by have := (y 0).isLt; change (y 0).val < 2048 at this; show _ < 256; omega⟩
  | ⟨1, _⟩ => ⟨128 * ((y 0).val % 8) + (y 1).val, by have := (y 1).isLt; change (y 1).val < 128 at this; show _ < 1024; omega⟩

/-- 256 rows of 1024 laid out as 2048 rows of 128. -/
def laidOut (R : FVec F S256x1024 .f32) : Vec F S2048x128 .f32 := fun y => R (rowOf y)

/-- An index of the 2048 × 128 block is in the strided rectangle of its row's residue modulo 8. -/
theorem mem_strided (s : Nat) (y : S2048x128.Idx) (h : (y 0).val % 8 = s) {inb} {pos} :
    y ∈ ({ off := ![s, 0], size := ![256, 128], stride := ![8, 1], inb := inb, stride_pos := pos } : Rect S2048x128).set := by
  rw [LoadRect.mem_set]
  have h0 := (y 0).isLt; change (y 0).val < 2048 at h0
  have h1 := (y 1).isLt; change (y 1).val < 128 at h1
  intro a
  match a with
  | ⟨0, _⟩ => exact ⟨(y 0).val / 8, by show _ < 256; omega, by show (y 0).val = s + 8 * ((y 0).val / 8); omega⟩
  | ⟨1, _⟩ => exact ⟨(y 1).val, h1, by show (y 1).val = 0 + 1 * (y 1).val; omega⟩

/-- A strided store of 128 columns of the rows, from column `128 s`, is `laidOut`'s rows of residue `s`. -/
theorem strided_piece (R : FVec F S256x1024 .f32) (s : Nat) (hs : s < 8) (o : Nat) (ho : o = 128 * s) (h : S256x1024.Slices ![0, o] S256x128) {inb} {pos} (x : S256x128.Idx) :
    extractStridedSlice S256x128 ![0, o] R h x
      = laidOut R (({ off := ![s, 0], size := ![256, 128], stride := ![8, 1], inb := inb, stride_pos := pos } : Rect S2048x128).emb x) := by
  have h0 := (x 0).isLt; change (x 0).val < 256 at h0
  have h1 := (x 1).isLt; change (x 1).val < 128 at h1
  refine congrArg R (funext fun a => Fin.ext ?_)
  match a with
  | ⟨0, _⟩ => show 0 + (x 0).val = (s + 8 * (x 0).val) / 8; omega
  | ⟨1, _⟩ => show o + (x 1).val = 128 * ((s + 8 * (x 0).val) % 8) + (0 + 1 * (x 1).val); omega

/-- The eight strided stores, last first. -/
abbrev pieces (R : FVec F S256x1024 .f32) : List (View.Piece (Elt F) S2048x128 .f32) :=
  [⟨⟨(⟨![7, 0], S256x128.size, ![8, 1], inb_S2048x128_S256x128_7_0_s_8_1⟩ : LoadRect S2048x128), spos_8_1⟩, k0_pay1 R⟩,
   ⟨⟨(⟨![6, 0], S256x128.size, ![8, 1], inb_S2048x128_S256x128_6_0_s_8_1⟩ : LoadRect S2048x128), spos_8_1⟩, extractStridedSlice S256x128 ![0, 768] R slices_S256x1024_o0_768_S256x128⟩,
   ⟨⟨(⟨![5, 0], S256x128.size, ![8, 1], inb_S2048x128_S256x128_5_0_s_8_1⟩ : LoadRect S2048x128), spos_8_1⟩, extractStridedSlice S256x128 ![0, 640] R slices_S256x1024_o0_640_S256x128⟩,
   ⟨⟨(⟨![4, 0], S256x128.size, ![8, 1], inb_S2048x128_S256x128_4_0_s_8_1⟩ : LoadRect S2048x128), spos_8_1⟩, extractStridedSlice S256x128 ![0, 512] R slices_S256x1024_o0_512_S256x128⟩,
   ⟨⟨(⟨![3, 0], S256x128.size, ![8, 1], inb_S2048x128_S256x128_3_0_s_8_1⟩ : LoadRect S2048x128), spos_8_1⟩, extractStridedSlice S256x128 ![0, 384] R slices_S256x1024_o0_384_S256x128⟩,
   ⟨⟨(⟨![2, 0], S256x128.size, ![8, 1], inb_S2048x128_S256x128_2_0_s_8_1⟩ : LoadRect S2048x128), spos_8_1⟩, extractStridedSlice S256x128 ![0, 256] R slices_S256x1024_o0_256_S256x128⟩,
   ⟨⟨(⟨![1, 0], S256x128.size, ![8, 1], inb_S2048x128_S256x128_1_0_s_8_1⟩ : LoadRect S2048x128), spos_8_1⟩, extractStridedSlice S256x128 ![0, 128] R slices_S256x1024_o0_128_S256x128⟩,
   ⟨⟨(⟨![0, 0], S256x128.size, ![8, 1], inb_S2048x128_S256x128_0_0_s_8_1⟩ : LoadRect S2048x128), spos_8_1⟩, extractStridedSlice S256x128 ![0, 0] R slices_S256x1024_o0_0_S256x128⟩]

/-- They fill the block. -/
theorem pieces_fill (R : FVec F S256x1024 .f32) (y : S2048x128.Idx) : ∃ p ∈ pieces R, y ∈ p.1.set := by
  have h8 : (y 0).val % 8 < 8 := Nat.mod_lt _ (by decide)
  generalize hs : (y 0).val % 8 = s at h8
  obtain rfl | rfl | rfl | rfl | rfl | rfl | rfl | rfl : s = 0 ∨ s = 1 ∨ s = 2 ∨ s = 3 ∨ s = 4 ∨ s = 5 ∨ s = 6 ∨ s = 7 := by omega
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_strided 0 y hs⟩
  · exact ⟨_, (List.mem_cons_of_mem _ (List.mem_cons_of_mem _ (List.mem_cons_of_mem _ (List.mem_cons_of_mem _ (List.mem_cons_of_mem _ (List.mem_cons_of_mem _ List.mem_cons_self)))))), mem_strided 1 y hs⟩
  · exact ⟨_, (List.mem_cons_of_mem _ (List.mem_cons_of_mem _ (List.mem_cons_of_mem _ (List.mem_cons_of_mem _ (List.mem_cons_of_mem _ List.mem_cons_self))))), mem_strided 2 y hs⟩
  · exact ⟨_, (List.mem_cons_of_mem _ (List.mem_cons_of_mem _ (List.mem_cons_of_mem _ (List.mem_cons_of_mem _ List.mem_cons_self)))), mem_strided 3 y hs⟩
  · exact ⟨_, (List.mem_cons_of_mem _ (List.mem_cons_of_mem _ (List.mem_cons_of_mem _ List.mem_cons_self))), mem_strided 4 y hs⟩
  · exact ⟨_, (List.mem_cons_of_mem _ (List.mem_cons_of_mem _ List.mem_cons_self)), mem_strided 5 y hs⟩
  · exact ⟨_, (List.mem_cons_of_mem _ List.mem_cons_self), mem_strided 6 y hs⟩
  · exact ⟨_, List.mem_cons_self, mem_strided 7 y hs⟩

/-- After them the block holds the rows, laid out. -/
theorem pieces_leave (R : FVec F S256x1024 .f32) {M : Memref sig .tc .vmem S2048x128 .f32} (f : M.view.ty.shape.Idx → Elt F M.view.ty.elt) :
    M.view.read (Elt F) (M.view.writes (Elt F) f (pieces R)) = laidOut R := by
  rw [View.read_writes_eq_canon _ _ _ (pieces_fill R)]
  funext y
  refine View.canon_apply_of_pieces _ _ ?_ y (pieces_fill R y)
  intro p hp
  rcases List.mem_cons.mp hp with rfl | hp
  · exact fun x => strided_piece R 7 (by decide) 896 rfl slices_S256x1024_o0_896_S256x128 x
  rcases List.mem_cons.mp hp with rfl | hp
  · exact fun x => strided_piece R 6 (by decide) 768 rfl slices_S256x1024_o0_768_S256x128 x
  rcases List.mem_cons.mp hp with rfl | hp
  · exact fun x => strided_piece R 5 (by decide) 640 rfl slices_S256x1024_o0_640_S256x128 x
  rcases List.mem_cons.mp hp with rfl | hp
  · exact fun x => strided_piece R 4 (by decide) 512 rfl slices_S256x1024_o0_512_S256x128 x
  rcases List.mem_cons.mp hp with rfl | hp
  · exact fun x => strided_piece R 3 (by decide) 384 rfl slices_S256x1024_o0_384_S256x128 x
  rcases List.mem_cons.mp hp with rfl | hp
  · exact fun x => strided_piece R 2 (by decide) 256 rfl slices_S256x1024_o0_256_S256x128 x
  rcases List.mem_cons.mp hp with rfl | hp
  · exact fun x => strided_piece R 1 (by decide) 128 rfl slices_S256x1024_o0_128_S256x128 x
  rcases List.mem_cons.mp hp with rfl | hp
  · exact fun x => strided_piece R 0 (by decide) 0 rfl slices_S256x1024_o0_0_S256x128 x
  exact absurd hp List.not_mem_nil

/-- A store of a whole block fills it, and leaves the payload. -/
theorem whole_leaves {S : Shape} (h2 : S.rank = 2) {off : Fin S.rank → Nat} (hz : off = fun _ => 0) (inb : ∀ a, off a + S.size a ≤ S.size a) {e : EltTy} (p : Vec F S e)
    {M : Memref sig .tc .vmem S e} (f) :
    M.view.read (Elt F) (M.view.writes (Elt F) f [⟨Rect.unit (s := S) off S.size inb, p⟩]) = p := by
  refine (View.read_writes_eq_canon _ _ _ ?_).trans (View.canon_unit_zero (S := S) hz inb _)
  exact fun y => ⟨_, List.mem_singleton_self _, View.mem_set_unit_zero (S := S) hz inb y⟩

theorem zero2 : (![0, 0] : Fin 2 → Nat) = fun _ => 0 := by funext a; match a with | ⟨0, _⟩ => rfl | ⟨1, _⟩ => rfl

set_option maxHeartbeats 4000000 in
/-- The body, run on whole staging buffers, gives every input back as it was, and leaves the three results. -/
theorem body_run (c : Dev nD) (E : Set ℕ) (i : grid0.Coords) (arg1 : Memref sig .tc .vmem S256x384 .f32) (harg1 : arg1.IsWhole) (arg2 : Memref sig .tc .vmem S256x256 .f32) (harg2 : arg2.IsWhole) (arg3 : Memref sig .tc .vmem S256x384 .f32) (harg3 : arg3.IsWhole) (arg4 : Memref sig .tc .vmem S256x384 .f32) (harg4 : arg4.IsWhole) (arg5 : Memref sig .tc .vmem S256x384 .f32) (harg5 : arg5.IsWhole) (arg6 : Memref sig .tc .vmem S256x1024 .f32) (harg6 : arg6.IsWhole) (arg7 : Memref sig .tc .vmem S1x6x1024 .f32) (harg7 : arg7.IsWhole) (arg8 : Memref sig .tc .vmem S1024x1024 .bf16) (harg8 : arg8.IsWhole) (arg9 : Memref sig .tc .vmem S1x256 .f32) (harg9 : arg9.IsWhole) (arg10 : Memref sig .tc .vmem S1x384 .f32) (harg10 : arg10.IsWhole) (arg11 : Memref sig .tc .vmem S1x1024 .f32) (harg11 : arg11.IsWhole) (arg12 : Memref sig .tc .vmem S32x1024 .f32) (harg12 : arg12.IsWhole) (arg13 : Memref sig .tc .vmem S32x1 .f32) (harg13 : arg13.IsWhole) (arg14 : Memref sig .tc .vmem S256x1024 .f32) (harg14 : arg14.IsWhole) (arg15 : Memref sig .tc .vmem S2048x128 .f32) (harg15 : arg15.IsWhole) (arg16 : Memref sig .tc .vmem S32x256 .f32) (harg16 : arg16.IsWhole)
    (x0 : Vec F S256x384 .f32) (x1 : Vec F S256x256 .f32) (x2 : Vec F S256x384 .f32) (x3 : Vec F S256x384 .f32) (x4 : Vec F S256x384 .f32) (x5 : Vec F S256x1024 .f32) (x6 : Vec F S1x6x1024 .f32) (x7 : Vec F S1024x1024 .bf16) (x8 : Vec F S1x256 .f32) (x9 : Vec F S1x384 .f32) (x10 : Vec F S1x1024 .f32) (x11 : Vec F S32x1024 .f32) (x12 : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (residual x0 x1 x2 x3 x4 x5 x6 x7 x8 x9 x10 x11 x12) ∗ owns (c : Thread nD τ) arg15 fullShare (laidOut (hidden x0 x1 x2 x3 x4 x5 x6 x7 x8 x9 x10 x11 x12)) ∗ owns (c : Thread nD τ) arg16 fullShare (logits x0 x1 x2 x3 x4 x5 x6 x7 x8 x9 x10 x11 x12)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_proj_eq_skeleton]; unfold cc0_out_proj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact whole_leaves rfl zero2 inb_S256x1024_S256x1024_0_0 _ _
  isplitl [H14]
  · iexists _; isplitr
    swap; · iexact H14
    ipureintro
    exact pieces_leave _ _
  iexists _; isplitr
  swap; · iexact H15
  ipureintro
  exact whole_leaves rfl zero2 inb_S32x256_S32x256_0_0 _ _

end Cert.Kernel3Ideal.OutProjection

end
-- ==== Proof.OutProjection.Run.lean ====
/-
  The output projection's call run from any memory.

  The pipeline's proof data say what every staging buffer holds: an input's its block, the three results' what the body
  leaves from those blocks. The run then ends with the arguments as they were and each result array as the blocks make it.
-/
module

public import proofs.«01_k».proof.Proof.OutProjection.Body

@[expose] public section

set_option maxRecDepth 16384

noncomputable section

namespace Cert.Kernel3Ideal.OutProjection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the pipeline starts from -/

/-- What core `c`'s buffers hold when the pipeline starts: after the host operations before it. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is those host operations, then the pipeline. -/
theorem program_is_pipeline (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-! No host operation writes an argument. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## Blocks and staging buffers -/

/-- Window `w`'s block at point `t`, of the array as the pipeline finds it. -/
def block (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev stg0 (t : Fin cfg0.N) := (cfg0.win 0).stage (cfg0.slots t 0)
abbrev stg1 (t : Fin cfg0.N) := (cfg0.win 1).stage (cfg0.slots t 1)
abbrev stg2 (t : Fin cfg0.N) := (cfg0.win 2).stage (cfg0.slots t 2)
abbrev stg3 (t : Fin cfg0.N) := (cfg0.win 3).stage (cfg0.slots t 3)
abbrev stg4 (t : Fin cfg0.N) := (cfg0.win 4).stage (cfg0.slots t 4)
abbrev stg5 (t : Fin cfg0.N) := (cfg0.win 5).stage (cfg0.slots t 5)
abbrev stg6 (t : Fin cfg0.N) := (cfg0.win 6).stage (cfg0.slots t 6)
abbrev stg7 (t : Fin cfg0.N) := (cfg0.win 7).stage (cfg0.slots t 7)
abbrev stg8 (t : Fin cfg0.N) := (cfg0.win 8).stage (cfg0.slots t 8)
abbrev stg9 (t : Fin cfg0.N) := (cfg0.win 9).stage (cfg0.slots t 9)
abbrev stg10 (t : Fin cfg0.N) := (cfg0.win 10).stage (cfg0.slots t 10)
abbrev stg11 (t : Fin cfg0.N) := (cfg0.win 11).stage (cfg0.slots t 11)
abbrev stg12 (t : Fin cfg0.N) := (cfg0.win 12).stage (cfg0.slots t 12)
abbrev stg13 (t : Fin cfg0.N) := (cfg0.win 13).stage (cfg0.slots t 13)
abbrev stg14 (t : Fin cfg0.N) := (cfg0.win 14).stage (cfg0.slots t 14)
abbrev stg15 (t : Fin cfg0.N) := (cfg0.win 15).stage (cfg0.slots t 15)

/-- The body as the pipeline calls it at point `t`. -/
abbrev bodyOf (t : Fin cfg0.N) : Prog (TpuEff nD τ sig (Elt F) Λ₀ .tc) PUnit :=
  cc0_out_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15))

/-- The pipeline's proof data: arrays as found, inputs' buffers left at their blocks, the results' at what the body leaves. -/
def data (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => block m c 7 t
    | ⟨8, _⟩ => block m c 8 t
    | ⟨9, _⟩ => block m c 9 t
    | ⟨10, _⟩ => block m c 10 t
    | ⟨11, _⟩ => block m c 11 t
    | ⟨12, _⟩ => block m c 12 t
    | ⟨13, _⟩ => residual (block m c 0 t) (block m c 1 t) (block m c 2 t) (block m c 3 t) (block m c 4 t) (block m c 5 t) (block m c 6 t) (block m c 7 t) (block m c 8 t) (block m c 9 t) (block m c 10 t) (block m c 11 t) (block m c 12 t)
    | ⟨14, _⟩ => laidOut (hidden (block m c 0 t) (block m c 1 t) (block m c 2 t) (block m c 3 t) (block m c 4 t) (block m c 5 t) (block m c 6 t) (block m c 7 t) (block m c 8 t) (block m c 9 t) (block m c 10 t) (block m c 11 t) (block m c 12 t))
    | ⟨15, _⟩ => logits (block m c 0 t) (block m c 1 t) (block m c 2 t) (block m c 3 t) (block m c 4 t) (block m c 5 t) (block m c 6 t) (block m c 7 t) (block m c 8 t) (block m c 9 t) (block m c 10 t) (block m c 11 t) (block m c 12 t)
    | ⟨n + 16, h⟩ => absurd (show n + 16 < 16 from h) (by omega)
  Φ _ := Pipeline.ΦA spec0 c
  q _ := fullShare
  owed _ := 0

theorem data_arrays (c : Dev nD) (w : Fin cfg0.W) : (data m 0 c).A w = V m c (Pipeline.arrRef spec0 w) := by
  dsimp only [data]

theorem after0 (c : Dev nD) (t : Fin cfg0.N) : (data m 0 c).after 0 t = block m c 0 t := by dsimp only [data]
theorem after1 (c : Dev nD) (t : Fin cfg0.N) : (data m 0 c).after 1 t = block m c 1 t := by dsimp only [data]
theorem after2 (c : Dev nD) (t : Fin cfg0.N) : (data m 0 c).after 2 t = block m c 2 t := by dsimp only [data]
theorem after3 (c : Dev nD) (t : Fin cfg0.N) : (data m 0 c).after 3 t = block m c 3 t := by dsimp only [data]
theorem after4 (c : Dev nD) (t : Fin cfg0.N) : (data m 0 c).after 4 t = block m c 4 t := by dsimp only [data]
theorem after5 (c : Dev nD) (t : Fin cfg0.N) : (data m 0 c).after 5 t = block m c 5 t := by dsimp only [data]
theorem after6 (c : Dev nD) (t : Fin cfg0.N) : (data m 0 c).after 6 t = block m c 6 t := by dsimp only [data]
theorem after7 (c : Dev nD) (t : Fin cfg0.N) : (data m 0 c).after 7 t = block m c 7 t := by dsimp only [data]
theorem after8 (c : Dev nD) (t : Fin cfg0.N) : (data m 0 c).after 8 t = block m c 8 t := by dsimp only [data]
theorem after9 (c : Dev nD) (t : Fin cfg0.N) : (data m 0 c).after 9 t = block m c 9 t := by dsimp only [data]
theorem after10 (c : Dev nD) (t : Fin cfg0.N) : (data m 0 c).after 10 t = block m c 10 t := by dsimp only [data]
theorem after11 (c : Dev nD) (t : Fin cfg0.N) : (data m 0 c).after 11 t = block m c 11 t := by dsimp only [data]
theorem after12 (c : Dev nD) (t : Fin cfg0.N) : (data m 0 c).after 12 t = block m c 12 t := by dsimp only [data]
theorem after13 (c : Dev nD) (t : Fin cfg0.N) : (data m 0 c).after 13 t = residual (block m c 0 t) (block m c 1 t) (block m c 2 t) (block m c 3 t) (block m c 4 t) (block m c 5 t) (block m c 6 t) (block m c 7 t) (block m c 8 t) (block m c 9 t) (block m c 10 t) (block m c 11 t) (block m c 12 t) := by dsimp only [data]
theorem after14 (c : Dev nD) (t : Fin cfg0.N) : (data m 0 c).after 14 t = laidOut (hidden (block m c 0 t) (block m c 1 t) (block m c 2 t) (block m c 3 t) (block m c 4 t) (block m c 5 t) (block m c 6 t) (block m c 7 t) (block m c 8 t) (block m c 9 t) (block m c 10 t) (block m c 11 t) (block m c 12 t)) := by dsimp only [data]
theorem after15 (c : Dev nD) (t : Fin cfg0.N) : (data m 0 c).after 15 t = logits (block m c 0 t) (block m c 1 t) (block m c 2 t) (block m c 3 t) (block m c 4 t) (block m c 5 t) (block m c 6 t) (block m c 7 t) (block m c 8 t) (block m c 9 t) (block m c 10 t) (block m c 11 t) (block m c 12 t) := by dsimp only [data]

/-! Each input's buffer holds its block when the body starts, fetched at that point or kept from the one before. -/

theorem before0 (c : Dev nD) (t : Fin cfg0.N) (d) : (data m 0 c).before 0 t d = block m c 0 t :=
  ((data m 0 c).before_in_eq_fetched 0 rfl (fun _ => rfl) (fun _ _ _ => rfl) (fun t => by rw [after0]; unfold Dat.blockOf block; rw [data_arrays]; try rfl) t d).trans
    (by unfold Dat.fetched Dat.blockOf block; rw [data_arrays]; try rfl)
theorem before1 (c : Dev nD) (t : Fin cfg0.N) (d) : (data m 0 c).before 1 t d = block m c 1 t :=
  ((data m 0 c).before_in_eq_fetched 1 rfl (fun _ => rfl) (fun _ _ _ => rfl) (fun t => by rw [after1]; unfold Dat.blockOf block; rw [data_arrays]; try rfl) t d).trans
    (by unfold Dat.fetched Dat.blockOf block; rw [data_arrays]; try rfl)
theorem before2 (c : Dev nD) (t : Fin cfg0.N) (d) : (data m 0 c).before 2 t d = block m c 2 t :=
  ((data m 0 c).before_in_eq_fetched 2 rfl (fun _ => rfl) (fun _ _ _ => rfl) (fun t => by rw [after2]; unfold Dat.blockOf block; rw [data_arrays]; try rfl) t d).trans
    (by unfold Dat.fetched Dat.blockOf block; rw [data_arrays]; try rfl)
theorem before3 (c : Dev nD) (t : Fin cfg0.N) (d) : (data m 0 c).before 3 t d = block m c 3 t :=
  ((data m 0 c).before_in_eq_fetched 3 rfl (fun _ => rfl) (fun _ _ _ => rfl) (fun t => by rw [after3]; unfold Dat.blockOf block; rw [data_arrays]; try rfl) t d).trans
    (by unfold Dat.fetched Dat.blockOf block; rw [data_arrays]; try rfl)
theorem before4 (c : Dev nD) (t : Fin cfg0.N) (d) : (data m 0 c).before 4 t d = block m c 4 t :=
  ((data m 0 c).before_in_eq_fetched 4 rfl (fun _ => rfl) (fun _ _ _ => rfl) (fun t => by rw [after4]; unfold Dat.blockOf block; rw [data_arrays]; try rfl) t d).trans
    (by unfold Dat.fetched Dat.blockOf block; rw [data_arrays]; try rfl)
theorem before5 (c : Dev nD) (t : Fin cfg0.N) (d) : (data m 0 c).before 5 t d = block m c 5 t :=
  ((data m 0 c).before_in_eq_fetched 5 rfl (fun _ => rfl) (fun _ _ _ => rfl) (fun t => by rw [after5]; unfold Dat.blockOf block; rw [data_arrays]; try rfl) t d).trans
    (by unfold Dat.fetched Dat.blockOf block; rw [data_arrays]; try rfl)
theorem before6 (c : Dev nD) (t : Fin cfg0.N) (d) : (data m 0 c).before 6 t d = block m c 6 t :=
  ((data m 0 c).before_in_eq_fetched 6 rfl (fun _ => rfl) (fun _ _ _ => rfl) (fun t => by rw [after6]; unfold Dat.blockOf block; rw [data_arrays]; try rfl) t d).trans
    (by unfold Dat.fetched Dat.blockOf block; rw [data_arrays]; try rfl)
theorem before7 (c : Dev nD) (t : Fin cfg0.N) (d) : (data m 0 c).before 7 t d = block m c 7 t :=
  ((data m 0 c).before_in_eq_fetched 7 rfl (fun _ => rfl) (fun _ _ _ => rfl) (fun t => by rw [after7]; unfold Dat.blockOf block; rw [data_arrays]; try rfl) t d).trans
    (by unfold Dat.fetched Dat.blockOf block; rw [data_arrays]; try rfl)
theorem before8 (c : Dev nD) (t : Fin cfg0.N) (d) : (data m 0 c).before 8 t d = block m c 8 t :=
  ((data m 0 c).before_in_eq_fetched 8 rfl (fun _ => rfl) (fun _ _ _ => rfl) (fun t => by rw [after8]; unfold Dat.blockOf block; rw [data_arrays]; try rfl) t d).trans
    (by unfold Dat.fetched Dat.blockOf block; rw [data_arrays]; try rfl)
theorem before9 (c : Dev nD) (t : Fin cfg0.N) (d) : (data m 0 c).before 9 t d = block m c 9 t :=
  ((data m 0 c).before_in_eq_fetched 9 rfl (fun _ => rfl) (fun _ _ _ => rfl) (fun t => by rw [after9]; unfold Dat.blockOf block; rw [data_arrays]; try rfl) t d).trans
    (by unfold Dat.fetched Dat.blockOf block; rw [data_arrays]; try rfl)
theorem before10 (c : Dev nD) (t : Fin cfg0.N) (d) : (data m 0 c).before 10 t d = block m c 10 t :=
  ((data m 0 c).before_in_eq_fetched 10 rfl (fun _ => rfl) (fun _ _ _ => rfl) (fun t => by rw [after10]; unfold Dat.blockOf block; rw [data_arrays]; try rfl) t d).trans
    (by unfold Dat.fetched Dat.blockOf block; rw [data_arrays]; try rfl)
theorem before11 (c : Dev nD) (t : Fin cfg0.N) (d) : (data m 0 c).before 11 t d = block m c 11 t :=
  ((data m 0 c).before_in_eq_fetched 11 rfl (fun _ => rfl) (fun _ _ _ => rfl) (fun t => by rw [after11]; unfold Dat.blockOf block; rw [data_arrays]; try rfl) t d).trans
    (by unfold Dat.fetched Dat.blockOf block; rw [data_arrays]; try rfl)
theorem before12 (c : Dev nD) (t : Fin cfg0.N) (d) : (data m 0 c).before 12 t d = block m c 12 t :=
  ((data m 0 c).before_in_eq_fetched 12 rfl (fun _ => rfl) (fun _ _ _ => rfl) (fun t => by rw [after12]; unfold Dat.blockOf block; rw [data_arrays]; try rfl) t d).trans
    (by unfold Dat.fetched Dat.blockOf block; rw [data_arrays]; try rfl)

/-! ## One point of the grid -/

/-- What the body is handed at point `t`, -/
def handed (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d))
    ∗ (∃ d, owns (c : Thread nD τ) (stg8 t) fullShare ((data m 0 c).before 8 t d))
    ∗ (∃ d, owns (c : Thread nD τ) (stg9 t) fullShare ((data m 0 c).before 9 t d))
    ∗ (∃ d, owns (c : Thread nD τ) (stg10 t) fullShare ((data m 0 c).before 10 t d))
    ∗ (∃ d, owns (c : Thread nD τ) (stg11 t) fullShare ((data m 0 c).before 11 t d))
    ∗ (∃ d, owns (c : Thread nD τ) (stg12 t) fullShare ((data m 0 c).before 12 t d))
    ∗ (∃ d, owns (c : Thread nD τ) (stg13 t) fullShare ((data m 0 c).before 13 t d))
    ∗ (∃ d, owns (c : Thread nD τ) (stg14 t) fullShare ((data m 0 c).before 14 t d))
    ∗ (∃ d, owns (c : Thread nD τ) (stg15 t) fullShare ((data m 0 c).before 15 t d)))

/-- and what it hands back. -/
def returned (c : Dev nD) (t : Fin cfg0.N) : sProp 𝕄 :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ owns (c : Thread nD τ) (stg7 t) fullShare ((data m 0 c).after 7 t)
    ∗ owns (c : Thread nD τ) (stg8 t) fullShare ((data m 0 c).after 8 t)
    ∗ owns (c : Thread nD τ) (stg9 t) fullShare ((data m 0 c).after 9 t)
    ∗ owns (c : Thread nD τ) (stg10 t) fullShare ((data m 0 c).after 10 t)
    ∗ owns (c : Thread nD τ) (stg11 t) fullShare ((data m 0 c).after 11 t)
    ∗ owns (c : Thread nD τ) (stg12 t) fullShare ((data m 0 c).after 12 t)
    ∗ owns (c : Thread nD τ) (stg13 t) fullShare ((data m 0 c).after 13 t)
    ∗ owns (c : Thread nD τ) (stg14 t) fullShare ((data m 0 c).after 14 t)
    ∗ owns (c : Thread nD τ) (stg15 t) fullShare ((data m 0 c).after 15 t))

set_option maxHeartbeats 1600000 in
/-- The body at any point. -/
theorem point (c : Dev nD) (t : Fin cfg0.N) :
    handed m c t ⊢ wp frame (wpE (defs₀ (F := F)) Variants.none c none) Set.univ (bodyOf t) (fun _ => returned m c t) := by
  unfold handed returned bodyOf
  simp only [before0, before1, before2, before3, before4, before5, before6, before7, before8, before9, before10, before11, before12]
  rw [show (data m 0 c).Φ t.succ = (data m 0 c).Φ t.castSucc from rfl,
    show (data m 0 c).owesAt () t.succ = (data m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c Set.univ (grid0.coords t) _ _ _ _ _ _ _ _ _ _ _ _ _ _ _ _ _ _ _ _ _ _ _ _ _ _ _ _ _ _ _ _ (block m c 0 t) (block m c 1 t) (block m c 2 t) (block m c 3 t) (block m c 4 t) (block m c 5 t) (block m c 6 t) (block m c 7 t) (block m c 8 t) (block m c 9 t) (block m c 10 t) (block m c 11 t) (block m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) :
    defs₀ (F := F) .tc cfg0.body (cfg0.bodyArgs t (cfg0.slots t)) = bodyOf t := by
  unfold defs₀; rw [Defs.onTc_tc]

/-- What the pipeline asks of the body, at every point. -/
theorem obligation (c : Dev nD) : BodyObligation (data (F := F) m 0 c) (defs₀ (F := F)) Variants.none () Set.univ := fun t => by
  rw [bigSep_W0, bigSep_W0, body_row]
  exact triple_restated (point m c t) rfl .rfl fun _ => .rfl

/-! ## The run -/

set_option backward.isDefEq.respectTransparency.types false in
set_option maxHeartbeats 800000 in
/-- The program terminates without a fault, every array of the pipeline at what the proof data says, every other
    buffer as found, every semaphore at zero. -/
theorem run : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := program_is_pipeline m Variants.none) (hA := data_arrays m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((data m 0 c).arrAt_in 0 rfl _).trans ((data_arrays m c 0).trans (V_arg0 m c))),
      ((h c).1 1).trans (((data m 0 c).arrAt_in 1 rfl _).trans ((data_arrays m c 1).trans (V_arg1 m c))),
      ((h c).1 2).trans (((data m 0 c).arrAt_in 2 rfl _).trans ((data_arrays m c 2).trans (V_arg2 m c))),
      ((h c).1 3).trans (((data m 0 c).arrAt_in 3 rfl _).trans ((data_arrays m c 3).trans (V_arg3 m c))),
      ((h c).1 4).trans (((data m 0 c).arrAt_in 4 rfl _).trans ((data_arrays m c 4).trans (V_arg4 m c))),
      ((h c).1 5).trans (((data m 0 c).arrAt_in 5 rfl _).trans ((data_arrays m c 5).trans (V_arg5 m c))),
      ((h c).1 6).trans (((data m 0 c).arrAt_in 6 rfl _).trans ((data_arrays m c 6).trans (V_arg6 m c))),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c)⟩) ((θ_run defs _ _).mono (fun _ h => h.1) (run m ρ))

/-- The arguments end as they were and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run m ρ))

/-- The result arrays end at what the proof data says. -/
theorem run_blocks : θ_run defs (onTc (τ := τ) (main (F := F))) ⟨m, fun _ => 0, ρ⟩ (fun r => ∀ c : Dev nD,
      r.2.mem ((c.tc : Thread nD τ).loc main_v6_0) = (data m 0 c).arrAt 13 cfg0.N
      ∧ r.2.mem ((c.tc : Thread nD τ).loc main_v6_1) = (data m 0 c).arrAt 14 cfg0.N) :=
  (θ_run defs _ _).mono (fun _ h c => ⟨(h.1 c).1 13, (h.1 c).1 14⟩) (run m ρ)

end Cert.Kernel3Ideal.OutProjection

end
-- ==== Proof.OutProjection.Spec.lean ====
/-
  The output projection, written on its own, and the two arrays both programs are shown to compute with it.

  A token's row joins three parts: 384 entries as they come, 256 entries normalized, and 384 entries gated by an activation
  and then normalized. The joined row times a matrix, scaled by the batch's gate, is added to the token's residual row;
  that row, normalized and modulated, is what the experts read.
-/
module

public import proofs.«01_k».proof.Proof.Projection.Spec

@[expose] public section

noncomputable section

namespace Cert.OutProjection

open Idealize.ShloMosaic Idealize.ShloMosaic.ValueIdx
open Cert.Projection (eps one modulated rowOf Tokens Modulation Weights)

/-- The words of 256 and 384, the lengths of the two normalized parts. -/
abbrev width256 : EReal := Ideal.ofBits .f32 0x43800000#32
abbrev width384 : EReal := Ideal.ofBits .f32 0x43C00000#32
/-- The word of one half. -/
abbrev half : EReal := Ideal.ofBits .f32 0x3F000000#32
/-- The words of the activation's two constants: 0.044715 and the root of 2/π. -/
abbrev cubic : EReal := Ideal.ofBits .f32 0x3D372713#32
abbrev slope : EReal := Ideal.ofBits .f32 0x3F4C422A#32

/-- The activation: GELU by its hyperbolic tangent. -/
def gelu (x : EReal) : EReal := half * x * (one + Ideal.tanh (slope * (x + cubic * (x * x * x))))

/-- A row over its root mean square, with the norm's weights. -/
def normed {n : Nat} (width : EReal) (x g : Fin n → EReal) (k : Fin n) : EReal :=
  x k * Ideal.rsqrt (Ideal.div (∑ j, x j * x j) width + eps) * g k

/-- The gated part before its norm: the forward and backward rows' sum, times the activation of the gate. -/
def gated (hf hb p : Fin 384 → EReal) (k : Fin 384) : EReal := (hf k + hb k) * gelu (p k)

/-- The three parts, joined. -/
def joined (a : Fin 384 → EReal) (b : Fin 256 → EReal) (c : Fin 384 → EReal) (k : Fin 1024) : EReal :=
  if h : k.val < 384 then a ⟨k.val, h⟩ else if h' : k.val < 640 then b ⟨k.val - 384, by omega⟩ else c ⟨k.val - 640, by omega⟩

/-- A token's joined row, from what its three parts are made of. -/
def mixed (ya : Fin 384 → EReal) (yb gb : Fin 256 → EReal) (hf hb p gc : Fin 384 → EReal) : Fin 1024 → EReal :=
  joined ya (normed width256 yb gb) (normed width384 (gated hf hb p) gc)

/-- An entry of a token's residual row: what was there, plus the gate times the joined row's product with a column. -/
def added (x gate : EReal) (row column : Fin 1024 → EReal) : EReal := x + gate * ∑ k, row k * column k

/-- A sum over a joined row, part by part. -/
theorem sum_joined (a : Fin 384 → EReal) (b : Fin 256 → EReal) (c : Fin 384 → EReal) (w : Fin 1024 → EReal) :
    (∑ k, joined a b c k * w k)
      = (∑ k : Fin 384, a k * w ⟨k.val, by omega⟩) + (∑ k : Fin 256, b k * w ⟨384 + k.val, by omega⟩) + ∑ k : Fin 384, c k * w ⟨640 + k.val, by omega⟩ := by
  have h := Fin.sum_univ_add (a := 640) (b := 384) (fun k : Fin (640 + 384) => joined a b c k * w k)
  have h' := Fin.sum_univ_add (a := 384) (b := 256) (fun k : Fin (384 + 256) => joined a b c (Fin.castAdd 384 k : Fin (640 + 384)) * w (Fin.castAdd 384 k : Fin (640 + 384)))
  refine h.trans (congrArg₂ (· + ·) (h'.trans (congrArg₂ (· + ·) ?_ ?_)) ?_)
  · refine Finset.sum_congr rfl fun k _ => congrArg₂ (· * ·) ?_ rfl
    exact dif_pos k.isLt
  · refine Finset.sum_congr rfl fun k _ => congrArg₂ (· * ·) ?_ rfl
    refine (dif_neg (show ¬ 384 + k.val < 384 by omega)).trans ((dif_pos (show 384 + k.val < 640 by omega)).trans (congrArg b (Fin.ext ?_)))
    show 384 + k.val - 384 = k.val; omega
  · refine Finset.sum_congr rfl fun k _ => congrArg₂ (· * ·) ?_ rfl
    refine (dif_neg (show ¬ 640 + k.val < 384 by omega)).trans ((dif_neg (show ¬ 640 + k.val < 640 by omega)).trans (congrArg c (Fin.ext ?_)))
    show 640 + k.val - 640 = k.val; omega

/-! ## The whole arrays -/

/-- The shapes of the arguments that are not the projection's, and of the second result. -/
abbrev Part384 : Shape := ⟨2, ![40960, 384]⟩
abbrev Part256 : Shape := ⟨2, ![40960, 256]⟩
abbrev Gates : Shape := ⟨2, ![40960, 3072]⟩
abbrev Square : Shape := ⟨2, ![1024, 1024]⟩
abbrev Weights256 : Shape := ⟨1, ![256]⟩
abbrev Weights384 : Shape := ⟨1, ![384]⟩
abbrev Strips : Shape := ⟨2, ![327680, 128]⟩

/-- Token `r`'s joined row. The gate is the last 384 of the first projection's 3072 columns. -/
def mixedRow (ya : Part384.Idx → EReal) (yb : Part256.Idx → EReal) (hf hb : Part384.Idx → EReal) (p : Gates.Idx → EReal)
    (gb : Weights256.Idx → EReal) (gc : Weights384.Idx → EReal) (r : Fin 40960) : Fin 1024 → EReal :=
  mixed (fun k => ya (ix2 r k)) (fun k => yb (ix2 r k)) (fun k => gb (ix1 k)) (fun k => hf (ix2 r k)) (fun k => hb (ix2 r k))
    (fun k => p (ix2 r ⟨2688 + k.val, by omega⟩)) (fun k => gc (ix1 k))

/-- The first result: every token's residual row. -/
def residual (ya : Part384.Idx → EReal) (yb : Part256.Idx → EReal) (hf hb : Part384.Idx → EReal) (p : Gates.Idx → EReal)
    (x : Tokens.Idx → EReal) (mod : Modulation.Idx → EReal) (w : Square.Idx → EReal) (gb : Weights256.Idx → EReal) (gc : Weights384.Idx → EReal) :
    Tokens.Idx → EReal := fun y =>
  added (x (ix2 (y 0) (y 1))) (mod (ix3 (rowOf (y 0)) 2 (y 1))) (mixedRow ya yb hf hb p gb gc (y 0)) (fun k => w (ix2 k (y 1)))

/-- Those rows, normalized and modulated. -/
def hidden (R : Tokens.Idx → EReal) (mod : Modulation.Idx → EReal) (g : Weights.Idx → EReal) (r : Fin 40960) (k : Fin 1024) : EReal :=
  modulated (fun j => R (ix2 r j)) (fun j => g (ix1 j)) (fun j => mod (ix3 (rowOf r) 4 j)) (fun j => mod (ix3 (rowOf r) 3 j)) k

/-- The second result: each such row of 1024 laid out as eight rows of 128. -/
def strips (R : Tokens.Idx → EReal) (mod : Modulation.Idx → EReal) (g : Weights.Idx → EReal) : Strips.Idx → EReal := fun y =>
  hidden R mod g ⟨(y 0).val / 8, by have := idx2_lt0 y; omega⟩ ⟨128 * ((y 0).val % 8) + (y 1).val, by have := idx2_lt1 y; omega⟩

end Cert.OutProjection

end
-- ==== Proof.OutProjection.Net.lean ====
/-
  What the output projection's body stores, read at an index, over the reals.
-/
module

public import proofs.«01_k».proof.Proof.OutProjection.Run
public import proofs.«01_k».proof.Proof.OutProjection.Spec
public import Idealize.ShloMosaic.Lib.ValueIdx
public import Idealize.ShloMosaic.Lib.Pipeline.Value

@[expose] public section

set_option maxRecDepth 16384

noncomputable section

namespace Cert.Kernel3Ideal.OutProjection

open Idealize.ShloMosaic Idealize.ShloMosaic.ValueIdx
open Cert.Kernel3Ideal Cert.Kernel3Ideal.Gen

/-! ## The body's products -/

/-- The product of 256 rows of 384 with as many of the matrix's rows, read at an index. -/
theorem product384_apply (l : FVec Ideal S256x384 .bf16) (r : FVec Ideal S384x1024 .bf16) (j : S256x1024.Idx) :
    matmul dot_S256x384_S384x1024_S256x1024_1_0_0_1_n_n none l r (constant S256x1024 .f32 0x00000000#32) j
      = ∑ k : Fin 384, l (ix2 (n0 := 256) (j 0) k) * r (ix2 (n1 := 1024) k (j 1)) := by
  simp only [matmul]
  rw [Ideal.matmul_constant_zero_apply, ← Equiv.sum_comp (contrEquiv1 dot_S256x384_S384x1024_S256x1024_1_0_0_1_n_n 384 rfl rfl).symm]
  refine Finset.sum_congr rfl fun k _ => ?_
  have hk := contrEquiv1_symm_val dot_S256x384_S384x1024_S256x1024_1_0_0_1_n_n 384 rfl rfl k
  congr 1
  · refine congrArg l (funext fun a => Fin.ext ?_)
    match a with
    | ⟨0, _⟩ => simp [DotDims.lhsIdx, dot_S256x384_S384x1024_S256x1024_1_0_0_1_n_n]; rfl
    | ⟨1, _⟩ => refine Eq.trans ?_ hk; simp [DotDims.lhsIdx, dot_S256x384_S384x1024_S256x1024_1_0_0_1_n_n]; rfl
  · refine congrArg r (funext fun a => Fin.ext ?_)
    match a with
    | ⟨0, _⟩ => refine Eq.trans ?_ hk; simp [DotDims.rhsIdx, dot_S256x384_S384x1024_S256x1024_1_0_0_1_n_n]; rfl
    | ⟨1, _⟩ => simp [DotDims.rhsIdx, dot_S256x384_S384x1024_S256x1024_1_0_0_1_n_n]; rfl

/-- The product of 256 rows of 256 with as many of the matrix's rows, read at an index. -/
theorem product256_apply (l : FVec Ideal S256x256 .bf16) (r : FVec Ideal S256x1024 .bf16) (j : S256x1024.Idx) :
    matmul dot_S256x256_S256x1024_S256x1024_1_0_0_1_n_n none l r (constant S256x1024 .f32 0x00000000#32) j
      = ∑ k : Fin 256, l (ix2 (n0 := 256) (j 0) k) * r (ix2 (n1 := 1024) k (j 1)) := by
  simp only [matmul]
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  congr 1
  · refine congrArg l (funext fun a => Fin.ext ?_)
    match a with
    | ⟨0, _⟩ => simp [DotDims.lhsIdx, dot_S256x256_S256x1024_S256x1024_1_0_0_1_n_n]; rfl
    | ⟨1, _⟩ => refine Eq.trans ?_ hk; simp [DotDims.lhsIdx, dot_S256x256_S256x1024_S256x1024_1_0_0_1_n_n]; rfl
  · refine congrArg r (funext fun a => Fin.ext ?_)
    match a with
    | ⟨0, _⟩ => refine Eq.trans ?_ hk; simp [DotDims.rhsIdx, dot_S256x256_S256x1024_S256x1024_1_0_0_1_n_n]; rfl
    | ⟨1, _⟩ => simp [DotDims.rhsIdx, dot_S256x256_S256x1024_S256x1024_1_0_0_1_n_n]; rfl

/-! ## Columns, rows, and row sums -/

theorem column256_apply (v : FVec Ideal S256x1 .f32) (n : Fin 256) (k : Fin 256) :
    broadcastTo S256x256 v broadcasts_S256x1_S256x256 (ix2 n k) = v (ix2 n 0) :=
  broadcastTo_apply _ _ _ (ix2 (n0 := 256) (n1 := 1) n 0) (fun a => by match a with | ⟨0, _⟩ => rfl | ⟨1, _⟩ => rfl)

theorem column384_apply (v : FVec Ideal S256x1 .f32) (n : Fin 256) (k : Fin 384) :
    broadcastTo S256x384 v broadcasts_S256x1_S256x384 (ix2 n k) = v (ix2 n 0) :=
  broadcastTo_apply _ _ _ (ix2 (n0 := 256) (n1 := 1) n 0) (fun a => by match a with | ⟨0, _⟩ => rfl | ⟨1, _⟩ => rfl)

theorem column_apply (v : FVec Ideal S256x1 .f32) (n : Fin 256) (k : Fin 1024) :
    broadcastTo S256x1024 v broadcasts_S256x1_S256x1024 (ix2 n k) = v (ix2 n 0) :=
  broadcastTo_apply _ _ _ (ix2 (n0 := 256) (n1 := 1) n 0) (fun a => by match a with | ⟨0, _⟩ => rfl | ⟨1, _⟩ => rfl)

theorem row256_apply (v : FVec Ideal S1x256 .f32) (n : Fin 256) (k : Fin 256) :
    broadcastTo S256x256 v broadcasts_S1x256_S256x256 (ix2 n k) = v (ix2 0 k) :=
  broadcastTo_apply _ _ _ (ix2 (n0 := 1) (n1 := 256) 0 k) (fun a => by match a with | ⟨0, _⟩ => rfl | ⟨1, _⟩ => rfl)

theorem row384_apply (v : FVec Ideal S1x384 .f32) (n : Fin 256) (k : Fin 384) :
    broadcastTo S256x384 v broadcasts_S1x384_S256x384 (ix2 n k) = v (ix2 0 k) :=
  broadcastTo_apply _ _ _ (ix2 (n0 := 1) (n1 := 384) 0 k) (fun a => by match a with | ⟨0, _⟩ => rfl | ⟨1, _⟩ => rfl)

theorem row_apply (v : FVec Ideal S1x1024 .f32) (n : Fin 256) (k : Fin 1024) :
    broadcastTo S256x1024 v broadcasts_S1x1024_S256x1024 (ix2 n k) = v (ix2 0 k) :=
  broadcastTo_apply _ _ _ (ix2 (n0 := 1) (n1 := 1024) 0 k) (fun a => by match a with | ⟨0, _⟩ => rfl | ⟨1, _⟩ => rfl)

/-- A modulation row without its leading unit axis. -/
theorem slab_apply (v : FVec Ideal S1x1x1024 .f32) (k : Fin 1024) :
    shapeCast S1x1024 v shapeCasts_S1x1x1024_S1x1024 (ix2 0 k) = v (ix3 0 0 k) :=
  shapeCast_apply _ _ _ _ (by
    rw [Shape.rowMajor_val_three, Shape.rowMajor_val_two]
    show (0 * 1 + 0) * 1024 + k.val = 0 * 1024 + k.val; omega)

theorem sums256_apply (v : FVec Ideal S256x256 .f32) (n : Fin 256) :
    shapeCast S256x1 (multiReduction .add [1] S256 v 0x00000000#32 reduces_S256x256_S256 (.inl rfl) rfl) shapeCasts_S256_S256x1 (ix2 n 0)
      = ∑ k : Fin 256, v (ix2 n k) := by
  refine (shapeCast_apply _ _ _ (ix1 n : S256.Idx) (by
    rw [Shape.rowMajor_val_one, Shape.rowMajor_val_two]
    show n.val = n.val * 1 + 0; omega)).trans ?_
  refine (Ideal.multiReduction_add_single _ _ _ _ _ _).trans (Finset.sum_congr rfl fun k _ => congrArg v (funext fun a => Fin.ext ?_))
  match a with
  | ⟨0, _⟩ => rfl
  | ⟨1, _⟩ => rfl

theorem sums384_apply (v : FVec Ideal S256x384 .f32) (n : Fin 256) :
    shapeCast S256x1 (multiReduction .add [1] S256 v 0x00000000#32 reduces_S256x384_S256 (.inl rfl) rfl) shapeCasts_S256_S256x1 (ix2 n 0)
      = ∑ k : Fin 384, v (ix2 n k) := by
  refine (shapeCast_apply _ _ _ (ix1 n : S256.Idx) (by
    rw [Shape.rowMajor_val_one, Shape.rowMajor_val_two]
    show n.val = n.val * 1 + 0; omega)).trans ?_
  refine (Ideal.multiReduction_add_single _ _ _ _ _ _).trans (Finset.sum_congr rfl fun k _ => congrArg v (funext fun a => Fin.ext ?_))
  match a with
  | ⟨0, _⟩ => rfl
  | ⟨1, _⟩ => rfl

theorem sums_apply (v : FVec Ideal S256x1024 .f32) (n : Fin 256) :
    shapeCast S256x1 (multiReduction .add [1] S256 v 0x00000000#32 reduces_S256x1024_S256 (.inl rfl) rfl) shapeCasts_S256_S256x1 (ix2 n 0)
      = ∑ k : Fin 1024, v (ix2 n k) := by
  refine (shapeCast_apply _ _ _ (ix1 n : S256.Idx) (by
    rw [Shape.rowMajor_val_one, Shape.rowMajor_val_two]
    show n.val = n.val * 1 + 0; omega)).trans ?_
  refine (Ideal.multiReduction_add_single _ _ _ _ _ _).trans (Finset.sum_congr rfl fun k _ => congrArg v (funext fun a => Fin.ext ?_))
  match a with
  | ⟨0, _⟩ => rfl
  | ⟨1, _⟩ => rfl

/-! ## The parts of a row -/

/-- The normalized part. -/
theorem second_apply (y : Vec Ideal S256x256 .f32) (g : Vec Ideal S1x256 .f32) (n : Fin 256) (k : Fin 256) :
    k0_pay3 y g (ix2 n k) = Cert.OutProjection.normed Cert.OutProjection.width256 (fun j => y (ix2 n j)) (fun j => g (ix2 0 j)) k := by
  dsimp only [k0_pay3]
  rw [shapeCast_self, mulf_apply, mulf_apply, column256_apply, row256_apply]
  unfold Cert.OutProjection.normed
  have hs : (∑ j, (fun j => y (ix2 n j)) j * (fun j => y (ix2 n j)) j : EReal) = _ := (sums256_apply (mulf y y) n).symm
  rw [hs]
  rfl

/-- The gated part before its norm. -/
theorem gated_apply (hf hb p : Vec Ideal S256x384 .f32) (n : Fin 256) (k : Fin 384) :
    k0_pay4 hf hb p (ix2 n k) = Cert.OutProjection.gated (fun j => hf (ix2 n j)) (fun j => hb (ix2 n j)) (fun j => p (ix2 n j)) k := rfl

/-- The mean of its squares. -/
theorem gated_mean (hf hb p : Vec Ideal S256x384 .f32) (n : Fin 256) :
    k0_pay5 hf hb p (ix2 n 0)
      = Ideal.div (∑ k, Cert.OutProjection.gated (fun j => hf (ix2 n j)) (fun j => hb (ix2 n j)) (fun j => p (ix2 n j)) k
          * Cert.OutProjection.gated (fun j => hf (ix2 n j)) (fun j => hb (ix2 n j)) (fun j => p (ix2 n j)) k) Cert.OutProjection.width384 := by
  dsimp only [k0_pay5]
  rw [divf_apply, sums384_apply]
  rfl

/-- The residual row the body stores. -/
theorem residual_payload (yb : Vec Ideal S256x256 .f32) (gb : Vec Ideal S1x256 .f32) (hf hb p : Vec Ideal S256x384 .f32) (gc : Vec Ideal S1x384 .f32)
    (ya : Vec Ideal S256x384 .f32) (wa : Vec Ideal S384x1024 .bf16) (wb : Vec Ideal S256x1024 .bf16) (wc : Vec Ideal S384x1024 .bf16)
    (x : Vec Ideal S256x1024 .f32) (gate : Vec Ideal S1x1x1024 .f32) (n : Fin 256) (f : Fin 1024) :
    k0_pay7 (k0_pay3 yb gb) (k0_pay4 hf hb p) (k0_pay5 hf hb p) (k0_pay6 (F := Ideal)) gc ya wa wb wc x gate (ix2 n f)
      = x (ix2 n f) + gate (ix3 0 0 f) * ((∑ k : Fin 384, ya (ix2 n k) * wa (ix2 k f))
          + (∑ k : Fin 256, Cert.OutProjection.normed Cert.OutProjection.width256 (fun j => yb (ix2 n j)) (fun j => gb (ix2 0 j)) k * wb (ix2 k f))
          + ∑ k : Fin 384, Cert.OutProjection.normed Cert.OutProjection.width384
              (Cert.OutProjection.gated (fun j => hf (ix2 n j)) (fun j => hb (ix2 n j)) (fun j => p (ix2 n j))) (fun j => gc (ix2 0 j)) k * wc (ix2 k f)) := by
  dsimp only [k0_pay7]
  have e0 : (ix2 (n0 := 256) (n1 := 1024) n f) 0 = n := rfl
  have e1 : (ix2 (n0 := 256) (n1 := 1024) n f) 1 = f := rfl
  rw [shapeCast_self, shapeCast_self, shapeCast_self, shapeCast_self, addf_apply, mulf_apply, row_apply, slab_apply, addf_apply, addf_apply,
    product384_apply, product256_apply, product384_apply, e0, e1]
  refine congrArg (x (ix2 n f) + ·) (congrArg (gate (ix3 0 0 f) * ·) (congrArg₂ (· + ·) (congrArg₂ (· + ·) rfl ?_) ?_))
  · exact Finset.sum_congr rfl fun k _ => congrArg (· * wb (ix2 k f)) (second_apply yb gb n k)
  · refine Finset.sum_congr rfl fun k _ => congrArg (· * wc (ix2 k f)) ?_
    rw [truncf_apply, mulf_apply, mulf_apply, column384_apply, row384_apply, gated_apply]
    unfold Cert.OutProjection.normed
    rw [← gated_mean hf hb p n]
    rfl

/-- The modulated row, from the residual rows and their squares' means. -/
theorem hidden_payload (R : FVec Ideal S256x1024 .f32) (M : FVec Ideal S256x1 .f32) (n : Fin 256)
    (hM : M (ix2 n 0) = Ideal.div (∑ k : Fin 1024, R (ix2 n k) * R (ix2 n k)) Cert.Projection.width)
    (g : Vec Ideal S1x1024 .f32) (sc sh : Vec Ideal S1x1x1024 .f32) (k : Fin 1024) :
    k0_pay10 R M (k0_pay9 (F := Ideal)) g sc sh (ix2 n k)
      = Cert.Projection.modulated (fun j => R (ix2 n j)) (fun j => g (ix2 0 j)) (fun j => sc (ix3 0 0 j)) (fun j => sh (ix3 0 0 j)) k := by
  dsimp only [k0_pay10]
  rw [shapeCast_self, addf_apply, mulf_apply, mulf_apply, mulf_apply, row_apply, row_apply, row_apply, column_apply, addf_apply, broadcast_apply,
    slab_apply, slab_apply]
  unfold Cert.Projection.modulated Cert.Projection.scaleOf
  rw [← hM]
  rfl

end Cert.Kernel3Ideal.OutProjection

end
-- ==== Proof.OutProjection.Value.lean ====
/-
  The output projection's results over the reals.

  What a point writes back is its block of two arrays of the arguments, `Cert.OutProjection.residual` and
  `Cert.OutProjection.strips`: the 256 rows it reads are its tokens', the modulation rows it reads are their batch's. The
  160 blocks fill each array.
-/
module

public import proofs.«01_k».proof.Proof.OutProjection.Net

@[expose] public section

set_option maxRecDepth 16384

noncomputable section

namespace Cert.Kernel3Ideal.OutProjection

open Idealize.ShloMosaic Idealize.ShloMosaic.TcCoe Idealize.ShloMosaic.ValueIdx
open Idealize.SL.Sem
open Idealize.ShloMosaic.Pipeline (Dat)
open Cert.Kernel3Ideal Cert.Kernel3Ideal.Gen

variable (m : (ℓ : Loc nD τ sig) → Buf (Elt Ideal) ℓ) (ρ : Dev nD → PrngReg)

/-! ## Points -/

theorem coord_word (t : Fin grid0.N) : (BitVec.ofNat 32 (grid0.coords t 0).val).toNat = t.val := by
  have h := t.isLt; change t.val < 160 at h
  rw [Pipeline.Grid.coords_val t 0 (S := 1) (B := 160) (by decide) rfl, BitVec.toNat_ofNat]; omega

/-- The modulation rows a point reads: batch 0 for the context's 32 points, then a batch per 16 points. -/
theorem mod_row : ∀ t : Fin grid0.N, cc0_transform_6 (grid0.coords t) 0 = if t.val < 32 then 0 else 1 + (t.val - 32) / 16 := by
  decide +kernel

/-- Both results are written back at every point. -/
theorem flush13 : ∀ t : Fin cfg0.N, (cfg0.win 13).flush t = true :=
  (fun t => (Pipeline.Window.flush_reads win0_13 rfl 0 (by decide) (by decide) (Pipeline.Window.sep_of_coord cc0_transform_13 0 0 (fun _ => rfl) (by decide)) (P := 1) (m := 0) (by decide) rfl t).mpr (Nat.mod_one _) : ∀ t : Fin grid0.N, win0_13.flush t = true)

theorem flush14 : ∀ t : Fin cfg0.N, (cfg0.win 14).flush t = true :=
  (fun t => (Pipeline.Window.flush_reads win0_14 rfl 0 (by decide) (by decide) (Pipeline.Window.sep_of_coord cc0_transform_14 0 0 (fun _ => rfl) (by decide)) (P := 1) (m := 0) (by decide) rfl t).mpr (Nat.mod_one _) : ∀ t : Fin grid0.N, win0_14.flush t = true)

/-! ## The arrays as the pipeline finds them -/

/-- The matrix, narrowed on the way in, is the argument. -/
theorem matrix_entry (c : Dev nD) : V m c main_v0 = m ((c : Thread nD τ).loc main_arg7) := by
  unfold V hostOps0
  simp [StableHlo.after]
  rfl

theorem part256_entry (c : Dev nD) (k : Fin 256) :
    (V m c main_v1 : S1x256.Idx → EReal) (ix2 0 k) = (m ((c : Thread nD τ).loc main_arg8) : S256.Idx → EReal) (ix1 k) := by
  have e : (V m c main_v1 : S1x256.Idx → EReal) = shapeCast S1x256 (m ((c : Thread nD τ).loc main_arg8) : S256.Idx → EReal) shapeCasts_S256_S1x256 := by
    unfold V hostOps0
    simp [StableHlo.after]
    rfl
  rw [e]
  exact shapeCast_apply (s := S256) _ _ _ (ix1 k) (by
    rw [Shape.rowMajor_val_one, Shape.rowMajor_val_two]
    show k.val = 0 * 256 + k.val; omega)

theorem part384_entry (c : Dev nD) (k : Fin 384) :
    (V m c main_v2 : S1x384.Idx → EReal) (ix2 0 k) = (m ((c : Thread nD τ).loc main_arg9) : S384.Idx → EReal) (ix1 k) := by
  have e : (V m c main_v2 : S1x384.Idx → EReal) = shapeCast S1x384 (m ((c : Thread nD τ).loc main_arg9) : S384.Idx → EReal) shapeCasts_S384_S1x384 := by
    unfold V hostOps0
    simp [StableHlo.after]
    rfl
  rw [e]
  exact shapeCast_apply (s := S384) _ _ _ (ix1 k) (by
    rw [Shape.rowMajor_val_one, Shape.rowMajor_val_two]
    show k.val = 0 * 384 + k.val; omega)

theorem norm_entry (c : Dev nD) (k : Fin 1024) :
    (V m c main_v3 : S1x1024.Idx → EReal) (ix2 0 k) = (m ((c : Thread nD τ).loc main_arg10) : S1024.Idx → EReal) (ix1 k) := by
  have e : (V m c main_v3 : S1x1024.Idx → EReal) = shapeCast S1x1024 (m ((c : Thread nD τ).loc main_arg10) : S1024.Idx → EReal) shapeCasts_S1024_S1x1024 := by
    unfold V hostOps0
    simp [StableHlo.after]
    rfl
  rw [e]
  exact shapeCast_apply (s := S1024) _ _ _ (ix1 k) (by
    rw [Shape.rowMajor_val_one, Shape.rowMajor_val_two]
    show k.val = 0 * 1024 + k.val; omega)

/-! ## Where a block's entries sit in their arrays -/

section Places
variable (t : Fin grid0.N)

theorem place0 (y : S256x384.Idx) (a : Fin 2) : ((((cfg0.win 0).blk t).view.emb y : S40960x384.Idx) a).val = cc0_transform_0 (grid0.coords t) a * S256x384.size a + (y a).val :=
  Pipeline.Window.rect_emb_val (cfg0.win 0) t y a rfl

theorem place1 (y : S256x256.Idx) (a : Fin 2) : ((((cfg0.win 1).blk t).view.emb y : S40960x256.Idx) a).val = cc0_transform_1 (grid0.coords t) a * S256x256.size a + (y a).val :=
  Pipeline.Window.rect_emb_val (cfg0.win 1) t y a rfl

theorem place2 (y : S256x384.Idx) (a : Fin 2) : ((((cfg0.win 2).blk t).view.emb y : S40960x384.Idx) a).val = cc0_transform_2 (grid0.coords t) a * S256x384.size a + (y a).val :=
  Pipeline.Window.rect_emb_val (cfg0.win 2) t y a rfl

theorem place3 (y : S256x384.Idx) (a : Fin 2) : ((((cfg0.win 3).blk t).view.emb y : S40960x384.Idx) a).val = cc0_transform_3 (grid0.coords t) a * S256x384.size a + (y a).val :=
  Pipeline.Window.rect_emb_val (cfg0.win 3) t y a rfl

theorem place4 (y : S256x384.Idx) (a : Fin 2) : ((((cfg0.win 4).blk t).view.emb y : S40960x3072.Idx) a).val = cc0_transform_4 (grid0.coords t) a * S256x384.size a + (y a).val :=
  Pipeline.Window.rect_emb_val (cfg0.win 4) t y a rfl

theorem place5 (y : S256x1024.Idx) (a : Fin 2) : ((((cfg0.win 5).blk t).view.emb y : S40960x1024.Idx) a).val = cc0_transform_5 (grid0.coords t) a * S256x1024.size a + (y a).val :=
  Pipeline.Window.rect_emb_val (cfg0.win 5) t y a rfl

theorem place6 (y : S1x6x1024.Idx) (a : Fin 3) : ((((cfg0.win 6).blk t).view.emb y : S16x6x1024.Idx) a).val = cc0_transform_6 (grid0.coords t) a * S1x6x1024.size a + (y a).val :=
  Pipeline.Window.rect_emb_val (cfg0.win 6) t y a rfl

theorem place7 (y : S1024x1024.Idx) (a : Fin 2) : ((((cfg0.win 7).blk t).view.emb y : S1024x1024.Idx) a).val = cc0_transform_7 (grid0.coords t) a * S1024x1024.size a + (y a).val :=
  Pipeline.Window.rect_emb_val (cfg0.win 7) t y a rfl

theorem place8 (y : S1x256.Idx) (a : Fin 2) : ((((cfg0.win 8).blk t).view.emb y : S1x256.Idx) a).val = cc0_transform_8 (grid0.coords t) a * S1x256.size a + (y a).val :=
  Pipeline.Window.rect_emb_val (cfg0.win 8) t y a rfl

theorem place9 (y : S1x384.Idx) (a : Fin 2) : ((((cfg0.win 9).blk t).view.emb y : S1x384.Idx) a).val = cc0_transform_9 (grid0.coords t) a * S1x384.size a + (y a).val :=
  Pipeline.Window.rect_emb_val (cfg0.win 9) t y a rfl

theorem place10 (y : S1x1024.Idx) (a : Fin 2) : ((((cfg0.win 10).blk t).view.emb y : S1x1024.Idx) a).val = cc0_transform_10 (grid0.coords t) a * S1x1024.size a + (y a).val :=
  Pipeline.Window.rect_emb_val (cfg0.win 10) t y a rfl

theorem place13 (y : S256x1024.Idx) (a : Fin 2) : ((((cfg0.win 13).blk t).view.emb y : S40960x1024.Idx) a).val = cc0_transform_13 (grid0.coords t) a * S256x1024.size a + (y a).val :=
  Pipeline.Window.rect_emb_val (cfg0.win 13) t y a rfl

theorem place14 (y : S2048x128.Idx) (a : Fin 2) : ((((cfg0.win 14).blk t).view.emb y : S327680x128.Idx) a).val = cc0_transform_14 (grid0.coords t) a * S2048x128.size a + (y a).val :=
  Pipeline.Window.rect_emb_val (cfg0.win 14) t y a rfl

end Places

/-! ## The blocks a point reads -/

section Blocks
variable (c : Dev nD) (t : Fin grid0.N)

/-- Token `n` of point `t`. -/
abbrev token (n : Fin 256) : Fin 40960 := ⟨256 * t.val + n.val, by have h := t.isLt; change t.val < 160 at h; omega⟩

theorem block0_apply (n : Fin 256) (k : Fin 384) :
    (block m c 0 t : S256x384.Idx → EReal) (ix2 n k) = (m ((c : Thread nD τ).loc main_arg0) : S40960x384.Idx → EReal) (ix2 (token t n) k) := by
  refine Eq.trans ?_ (congrFun (V_arg0 m c) _)
  unfold block
  refine congrArg (V m c main_arg0 : S40960x384.Idx → EReal) (?_ : (((cfg0.win 0).blk t).view.emb _ : S40960x384.Idx) = _)
  funext (a : Fin 2)
  refine Fin.ext ((place0 t _ a).trans ?_)
  match a with
  | ⟨0, _⟩ => refine (congrArg (· * 256 + n.val) (coord_word t)).trans ?_; show t.val * 256 + n.val = 256 * t.val + n.val; omega
  | ⟨1, _⟩ => show 0 * 384 + k.val = k.val; omega

theorem block1_apply (n : Fin 256) (k : Fin 256) :
    (block m c 1 t : S256x256.Idx → EReal) (ix2 n k) = (m ((c : Thread nD τ).loc main_arg1) : S40960x256.Idx → EReal) (ix2 (token t n) k) := by
  refine Eq.trans ?_ (congrFun (V_arg1 m c) _)
  unfold block
  refine congrArg (V m c main_arg1 : S40960x256.Idx → EReal) (?_ : (((cfg0.win 1).blk t).view.emb _ : S40960x256.Idx) = _)
  funext (a : Fin 2)
  refine Fin.ext ((place1 t _ a).trans ?_)
  match a with
  | ⟨0, _⟩ => refine (congrArg (· * 256 + n.val) (coord_word t)).trans ?_; show t.val * 256 + n.val = 256 * t.val + n.val; omega
  | ⟨1, _⟩ => show 0 * 256 + k.val = k.val; omega

theorem block2_apply (n : Fin 256) (k : Fin 384) :
    (block m c 2 t : S256x384.Idx → EReal) (ix2 n k) = (m ((c : Thread nD τ).loc main_arg2) : S40960x384.Idx → EReal) (ix2 (token t n) k) := by
  refine Eq.trans ?_ (congrFun (V_arg2 m c) _)
  unfold block
  refine congrArg (V m c main_arg2 : S40960x384.Idx → EReal) (?_ : (((cfg0.win 2).blk t).view.emb _ : S40960x384.Idx) = _)
  funext (a : Fin 2)
  refine Fin.ext ((place2 t _ a).trans ?_)
  match a with
  | ⟨0, _⟩ => refine (congrArg (· * 256 + n.val) (coord_word t)).trans ?_; show t.val * 256 + n.val = 256 * t.val + n.val; omega
  | ⟨1, _⟩ => show 0 * 384 + k.val = k.val; omega

theorem block3_apply (n : Fin 256) (k : Fin 384) :
    (block m c 3 t : S256x384.Idx → EReal) (ix2 n k) = (m ((c : Thread nD τ).loc main_arg3) : S40960x384.Idx → EReal) (ix2 (token t n) k) := by
  refine Eq.trans ?_ (congrFun (V_arg3 m c) _)
  unfold block
  refine congrArg (V m c main_arg3 : S40960x384.Idx → EReal) (?_ : (((cfg0.win 3).blk t).view.emb _ : S40960x384.Idx) = _)
  funext (a : Fin 2)
  refine Fin.ext ((place3 t _ a).trans ?_)
  match a with
  | ⟨0, _⟩ => refine (congrArg (· * 256 + n.val) (coord_word t)).trans ?_; show t.val * 256 + n.val = 256 * t.val + n.val; omega
  | ⟨1, _⟩ => show 0 * 384 + k.val = k.val; omega

theorem block4_apply (n : Fin 256) (k : Fin 384) :
    (block m c 4 t : S256x384.Idx → EReal) (ix2 n k) = (m ((c : Thread nD τ).loc main_arg4) : S40960x3072.Idx → EReal) (ix2 (token t n) ⟨2688 + k.val, by omega⟩) := by
  refine Eq.trans ?_ (congrFun (V_arg4 m c) _)
  unfold block
  refine congrArg (V m c main_arg4 : S40960x3072.Idx → EReal) (?_ : (((cfg0.win 4).blk t).view.emb _ : S40960x3072.Idx) = _)
  funext (a : Fin 2)
  refine Fin.ext ((place4 t _ a).trans ?_)
  match a with
  | ⟨0, _⟩ => refine (congrArg (· * 256 + n.val) (coord_word t)).trans ?_; show t.val * 256 + n.val = 256 * t.val + n.val; omega
  | ⟨1, _⟩ => show 7 * 384 + k.val = 2688 + k.val; omega

theorem block5_apply (n : Fin 256) (k : Fin 1024) :
    (block m c 5 t : S256x1024.Idx → EReal) (ix2 n k) = (m ((c : Thread nD τ).loc main_arg5) : S40960x1024.Idx → EReal) (ix2 (token t n) k) := by
  refine Eq.trans ?_ (congrFun (V_arg5 m c) _)
  unfold block
  refine congrArg (V m c main_arg5 : S40960x1024.Idx → EReal) (?_ : (((cfg0.win 5).blk t).view.emb _ : S40960x1024.Idx) = _)
  funext (a : Fin 2)
  refine Fin.ext ((place5 t _ a).trans ?_)
  match a with
  | ⟨0, _⟩ => refine (congrArg (· * 256 + n.val) (coord_word t)).trans ?_; show t.val * 256 + n.val = 256 * t.val + n.val; omega
  | ⟨1, _⟩ => show 0 * 1024 + k.val = k.val; omega

theorem block6_apply (s : Fin 6) (n : Fin 256) (k : Fin 1024) :
    (block m c 6 t : S1x6x1024.Idx → EReal) (ix3 0 s k)
      = (m ((c : Thread nD τ).loc main_arg6) : S16x6x1024.Idx → EReal) (ix3 (Cert.Projection.rowOf (token t n)) s k) := by
  refine Eq.trans ?_ (congrFun (V_arg6 m c) _)
  unfold block
  refine congrArg (V m c main_arg6 : S16x6x1024.Idx → EReal) (?_ : (((cfg0.win 6).blk t).view.emb _ : S16x6x1024.Idx) = _)
  funext (a : Fin 3)
  refine Fin.ext ((place6 t _ a).trans ?_)
  match a with
  | ⟨0, _⟩ =>
    refine (congrArg (· * 1 + 0) (mod_row t)).trans ?_
    show _ = (Cert.Projection.rowOf (token t n)).val
    unfold Cert.Projection.rowOf
    have hn := n.isLt
    by_cases ht : t.val < 32
    · rw [if_pos ht, if_pos (show (token t n).val < 8192 by show 256 * t.val + n.val < 8192; omega)]; rfl
    · rw [if_neg ht, if_neg (show ¬ (token t n).val < 8192 by show ¬ 256 * t.val + n.val < 8192; omega)]
      show (1 + (t.val - 32) / 16) * 1 + 0 = 1 + (256 * t.val + n.val - 8192) / 4096
      omega
  | ⟨1, _⟩ => show 0 * 6 + s.val = s.val; omega
  | ⟨2, _⟩ => show 0 * 1024 + k.val = k.val; omega

theorem block7_apply (k : Fin 1024) (f : Fin 1024) :
    (block m c 7 t : S1024x1024.Idx → EReal) (ix2 k f) = (m ((c : Thread nD τ).loc main_arg7) : S1024x1024.Idx → EReal) (ix2 k f) := by
  refine Eq.trans ?_ (congrFun (matrix_entry m c) _)
  unfold block
  refine congrArg (V m c main_v0 : S1024x1024.Idx → EReal) (?_ : (((cfg0.win 7).blk t).view.emb _ : S1024x1024.Idx) = _)
  funext (a : Fin 2)
  refine Fin.ext ((place7 t _ a).trans ?_)
  match a with
  | ⟨0, _⟩ => show 0 * 1024 + k.val = k.val; omega
  | ⟨1, _⟩ => show 0 * 1024 + f.val = f.val; omega

theorem block8_apply (k : Fin 256) :
    (block m c 8 t : S1x256.Idx → EReal) (ix2 0 k) = (m ((c : Thread nD τ).loc main_arg8) : S256.Idx → EReal) (ix1 k) := by
  refine Eq.trans ?_ (part256_entry m c k)
  unfold block
  refine congrArg (V m c main_v1 : S1x256.Idx → EReal) (?_ : (((cfg0.win 8).blk t).view.emb _ : S1x256.Idx) = _)
  funext (a : Fin 2)
  refine Fin.ext ((place8 t _ a).trans ?_)
  match a with
  | ⟨0, _⟩ => rfl
  | ⟨1, _⟩ => show 0 * 256 + k.val = k.val; omega

theorem block9_apply (k : Fin 384) :
    (block m c 9 t : S1x384.Idx → EReal) (ix2 0 k) = (m ((c : Thread nD τ).loc main_arg9) : S384.Idx → EReal) (ix1 k) := by
  refine Eq.trans ?_ (part384_entry m c k)
  unfold block
  refine congrArg (V m c main_v2 : S1x384.Idx → EReal) (?_ : (((cfg0.win 9).blk t).view.emb _ : S1x384.Idx) = _)
  funext (a : Fin 2)
  refine Fin.ext ((place9 t _ a).trans ?_)
  match a with
  | ⟨0, _⟩ => rfl
  | ⟨1, _⟩ => show 0 * 384 + k.val = k.val; omega

theorem block10_apply (k : Fin 1024) :
    (block m c 10 t : S1x1024.Idx → EReal) (ix2 0 k) = (m ((c : Thread nD τ).loc main_arg10) : S1024.Idx → EReal) (ix1 k) := by
  refine Eq.trans ?_ (norm_entry m c k)
  unfold block
  refine congrArg (V m c main_v3 : S1x1024.Idx → EReal) (?_ : (((cfg0.win 10).blk t).view.emb _ : S1x1024.Idx) = _)
  funext (a : Fin 2)
  refine Fin.ext ((place10 t _ a).trans ?_)
  match a with
  | ⟨0, _⟩ => rfl
  | ⟨1, _⟩ => show 0 * 1024 + k.val = k.val; omega

end Blocks

/-! ## The body's loads -/

theorem load_mod2 (x : Vec Ideal S1x6x1024 .f32) (k : Fin 1024) :
    View.ld x (Rect.unit (s := S1x6x1024) ![0, 2, 0] S1x1x1024.size inb_S1x6x1024_S1x1x1024_0_2_0) (ix3 (n0 := 1) (n1 := 1) (n2 := 1024) 0 0 k) = x (ix3 0 2 k) := by
  refine congrArg x (funext fun a => Fin.ext ?_)
  match a with
  | ⟨0, _⟩ => rfl
  | ⟨1, _⟩ => rfl
  | ⟨2, _⟩ => show 0 + 1 * k.val = k.val; omega

theorem load_mod3 (x : Vec Ideal S1x6x1024 .f32) (k : Fin 1024) :
    View.ld x (Rect.unit (s := S1x6x1024) ![0, 3, 0] S1x1x1024.size inb_S1x6x1024_S1x1x1024_0_3_0) (ix3 (n0 := 1) (n1 := 1) (n2 := 1024) 0 0 k) = x (ix3 0 3 k) := by
  refine congrArg x (funext fun a => Fin.ext ?_)
  match a with
  | ⟨0, _⟩ => rfl
  | ⟨1, _⟩ => rfl
  | ⟨2, _⟩ => show 0 + 1 * k.val = k.val; omega

theorem load_mod4 (x : Vec Ideal S1x6x1024 .f32) (k : Fin 1024) :
    View.ld x (Rect.unit (s := S1x6x1024) ![0, 4, 0] S1x1x1024.size inb_S1x6x1024_S1x1x1024_0_4_0) (ix3 (n0 := 1) (n1 := 1) (n2 := 1024) 0 0 k) = x (ix3 0 4 k) := by
  refine congrArg x (funext fun a => Fin.ext ?_)
  match a with
  | ⟨0, _⟩ => rfl
  | ⟨1, _⟩ => rfl
  | ⟨2, _⟩ => show 0 + 1 * k.val = k.val; omega

theorem load_rows0 (x : Vec Ideal S1024x1024 .bf16) (k : Fin 384) (f : Fin 1024) :
    View.ld x (Rect.unit (s := S1024x1024) ![0, 0] S384x1024.size inb_S1024x1024_S384x1024_0_0) (ix2 (n0 := 384) (n1 := 1024) k f) = x (ix2 ⟨k.val, by omega⟩ f) := by
  refine congrArg x (funext fun a => Fin.ext ?_)
  match a with
  | ⟨0, _⟩ => show 0 + 1 * k.val = k.val; omega
  | ⟨1, _⟩ => show 0 + 1 * f.val = f.val; omega

theorem load_rows384 (x : Vec Ideal S1024x1024 .bf16) (k : Fin 256) (f : Fin 1024) :
    View.ld x (Rect.unit (s := S1024x1024) ![384, 0] S256x1024.size inb_S1024x1024_S256x1024_384_0) (ix2 (n0 := 256) (n1 := 1024) k f) = x (ix2 ⟨384 + k.val, by omega⟩ f) := by
  refine congrArg x (funext fun a => Fin.ext ?_)
  match a with
  | ⟨0, _⟩ => show 384 + 1 * k.val = 384 + k.val; omega
  | ⟨1, _⟩ => show 0 + 1 * f.val = f.val; omega

theorem load_rows640 (x : Vec Ideal S1024x1024 .bf16) (k : Fin 384) (f : Fin 1024) :
    View.ld x (Rect.unit (s := S1024x1024) ![640, 0] S384x1024.size inb_S1024x1024_S384x1024_640_0) (ix2 (n0 := 384) (n1 := 1024) k f) = x (ix2 ⟨640 + k.val, by omega⟩ f) := by
  refine congrArg x (funext fun a => Fin.ext ?_)
  match a with
  | ⟨0, _⟩ => show 640 + 1 * k.val = 640 + k.val; omega
  | ⟨1, _⟩ => show 0 + 1 * f.val = f.val; omega

/-! ## The arrays -/

/-- What the first result array is shown to hold. -/
def rows (c : Dev nD) : Buf (Elt Ideal) ((c : Thread nD τ).loc main_v6_0) :=
  Cert.OutProjection.residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What the second is shown to hold. -/
def strips (c : Dev nD) : Buf (Elt Ideal) ((c : Thread nD τ).loc main_v6_1) :=
  Cert.OutProjection.strips (rows m c) (m ((c : Thread nD τ).loc main_arg6)) (m ((c : Thread nD τ).loc main_arg10))

theorem mixed_congr {ya ya' : Fin 384 → EReal} {yb yb' gb gb' : Fin 256 → EReal} {hf hf' hb hb' p p' gc gc' : Fin 384 → EReal}
    (h0 : ya = ya') (h1 : yb = yb') (h2 : gb = gb') (h3 : hf = hf') (h4 : hb = hb') (h5 : p = p') (h6 : gc = gc') :
    Cert.OutProjection.mixed ya yb gb hf hb p gc = Cert.OutProjection.mixed ya' yb' gb' hf' hb' p' gc' := by
  subst h0 h1 h2 h3 h4 h5 h6; rfl

theorem modulated_congr {x x' g g' sc sc' sh sh' : Fin 1024 → EReal} (hx : x = x') (hg : g = g') (hsc : sc = sc') (hsh : sh = sh') (k : Fin 1024) :
    Cert.Projection.modulated x g sc sh k = Cert.Projection.modulated x' g' sc' sh' k := by
  subst hx hg hsc hsh; rfl

/-- The residual rows a point stores, read at an index of its block, from the blocks. -/
theorem residual_apply (x0 : Vec Ideal S256x384 .f32) (x1 : Vec Ideal S256x256 .f32) (x2 x3 x4 : Vec Ideal S256x384 .f32) (x5 : Vec Ideal S256x1024 .f32)
    (x6 : Vec Ideal S1x6x1024 .f32) (x7 : Vec Ideal S1024x1024 .bf16) (x8 : Vec Ideal S1x256 .f32) (x9 : Vec Ideal S1x384 .f32)
    (x10 : Vec Ideal S1x1024 .f32) (x11 : Vec Ideal S32x1024 .f32) (x12 : Vec Ideal S32x1 .f32) (n : Fin 256) (f : Fin 1024) :
    residual x0 x1 x2 x3 x4 x5 x6 x7 x8 x9 x10 x11 x12 (ix2 n f)
      = Cert.OutProjection.added (x5 (ix2 n f)) (x6 (ix3 0 2 f))
          (Cert.OutProjection.mixed (fun k => x0 (ix2 n k)) (fun k => x1 (ix2 n k)) (fun k => x8 (ix2 0 k)) (fun k => x2 (ix2 n k)) (fun k => x3 (ix2 n k))
            (fun k => x4 (ix2 n k)) (fun k => x9 (ix2 0 k)))
          (fun k => x7 (ix2 k f)) := by
  unfold residual
  rw [View.ld_unit_zero (S := S256x384) zero2 inb_S256x384_S256x384_0_0, View.ld_unit_zero (S := S256x256) zero2 inb_S256x256_S256x256_0_0, View.ld_unit_zero (S := S256x384) zero2 inb_S256x384_S256x384_0_0, View.ld_unit_zero (S := S256x1024) zero2 inb_S256x1024_S256x1024_0_0, View.ld_unit_zero (S := S1x256) zero2 inb_S1x256_S1x256_0_0, View.ld_unit_zero (S := S1x384) zero2 inb_S1x384_S1x384_0_0,
    View.ld_unit_zero (S := S256x384) zero2 inb_S256x384_S256x384_0_0, View.ld_unit_zero (S := S256x384) zero2 inb_S256x384_S256x384_0_0]
  refine (residual_payload _ _ _ _ _ _ _ _ _ _ _ _ n f).trans ?_
  unfold Cert.OutProjection.added Cert.OutProjection.mixed
  rw [Cert.OutProjection.sum_joined, load_mod2]
  refine congrArg (x5 (ix2 n f) + ·) (congrArg (x6 (ix3 0 2 f) * ·) (congrArg₂ (· + ·) (congrArg₂ (· + ·) ?_ ?_) ?_))
  · exact Finset.sum_congr rfl fun k _ => congrArg (x0 (ix2 n k) * ·) (load_rows0 x7 k f)
  · exact Finset.sum_congr rfl fun k _ => congrArg (_ * ·) (load_rows384 x7 k f)
  · exact Finset.sum_congr rfl fun k _ => congrArg (_ * ·) (load_rows640 x7 k f)

/-- What point `t` stores of the first result, at an entry of its block, is the array at the entry's place. -/
theorem rows_apply (c : Dev nD) (t : Fin grid0.N) (n : Fin 256) (f : Fin 1024) :
    residual (block m c 0 t) (block m c 1 t) (block m c 2 t) (block m c 3 t) (block m c 4 t) (block m c 5 t) (block m c 6 t) (block m c 7 t) (block m c 8 t) (block m c 9 t) (block m c 10 t) (block m c 11 t) (block m c 12 t) (ix2 n f) = rows m c (ix2 (token t n) f) := by
  refine (residual_apply _ _ _ _ _ _ _ _ _ _ _ _ _ n f).trans ?_
  unfold rows Cert.OutProjection.residual Cert.OutProjection.added
  refine congrArg₂ (· + ·) (block5_apply m c t n f) (congrArg₂ (· * ·) (block6_apply m c t 2 n f) (Finset.sum_congr rfl fun k _ =>
    congrArg₂ (· * ·) (congrFun ?_ k) (block7_apply m c t k f)))
  exact mixed_congr (funext fun j => block0_apply m c t n j) (funext fun j => block1_apply m c t n j) (funext fun j => block8_apply m c t j)
    (funext fun j => block2_apply m c t n j) (funext fun j => block3_apply m c t n j) (funext fun j => block4_apply m c t n j) (funext fun j => block9_apply m c t j)

/-- The modulated rows a point makes, at an index. -/
theorem hidden_apply (c : Dev nD) (t : Fin grid0.N) (n : Fin 256) (k : Fin 1024) :
    hidden (block m c 0 t) (block m c 1 t) (block m c 2 t) (block m c 3 t) (block m c 4 t) (block m c 5 t) (block m c 6 t) (block m c 7 t) (block m c 8 t) (block m c 9 t) (block m c 10 t) (block m c 11 t) (block m c 12 t) (ix2 n k)
      = Cert.OutProjection.hidden (rows m c) (m ((c : Thread nD τ).loc main_arg6)) (m ((c : Thread nD τ).loc main_arg10)) (token t n) k := by
  unfold hidden
  have hM : means (block m c 0 t) (block m c 1 t) (block m c 2 t) (block m c 3 t) (block m c 4 t) (block m c 5 t) (block m c 6 t) (block m c 7 t) (block m c 8 t) (block m c 9 t) (block m c 10 t) (block m c 11 t) (block m c 12 t) (ix2 n 0)
      = Ideal.div (∑ k : Fin 1024, residual (block m c 0 t) (block m c 1 t) (block m c 2 t) (block m c 3 t) (block m c 4 t) (block m c 5 t) (block m c 6 t) (block m c 7 t) (block m c 8 t) (block m c 9 t) (block m c 10 t) (block m c 11 t) (block m c 12 t) (ix2 n k) * residual (block m c 0 t) (block m c 1 t) (block m c 2 t) (block m c 3 t) (block m c 4 t) (block m c 5 t) (block m c 6 t) (block m c 7 t) (block m c 8 t) (block m c 9 t) (block m c 10 t) (block m c 11 t) (block m c 12 t) (ix2 n k)) Cert.Projection.width := by
    unfold means residual
    dsimp only [k0_pay8]
    rw [divf_apply, sums_apply]
    rfl
  refine (hidden_payload _ _ n hM _ _ _ k).trans ?_
  unfold Cert.OutProjection.hidden
  rw [View.ld_unit_zero (S := S1x1024) zero2 inb_S1x1024_S1x1024_0_0]
  exact modulated_congr (funext fun j => rows_apply m c t n j) (funext fun j => block10_apply m c t j)
    (funext fun j => (load_mod4 _ j).trans (block6_apply m c t 4 n j)) (funext fun j => (load_mod3 _ j).trans (block6_apply m c t 3 n j)) k

/-- What point `t` writes back of the first result is its block of the array. -/
theorem rows_written_back (c : Dev nD) (t : Fin cfg0.N) :
    (data m 0 c).flushed 13 t = ((cfg0.win 13).blk t).view.read (Elt Ideal) (rows m c) := by
  refine (congrArg ((cfg0.win 13).cut (grid0.coords t)) (after13 m c t)).trans ?_
  funext (y : S256x1024.Idx)
  have e : (((cfg0.win 13).blk t).view.emb y : S40960x1024.Idx) = ix2 (token t (y 0)) (y 1) := by
    funext (a : Fin 2)
    refine Fin.ext ((place13 t y a).trans ?_)
    match a with
    | ⟨0, _⟩ => refine (congrArg (· * 256 + (y 0).val) (coord_word t)).trans ?_; show t.val * 256 + (y 0).val = 256 * t.val + (y 0).val; omega
    | ⟨1, _⟩ => show 0 * 1024 + (y 1).val = (y 1).val; omega
  refine Eq.trans ?_ (congrArg (rows m c) e.symm)
  refine Eq.trans ?_ (rows_apply m c t (y 0) (y 1))
  refine congrArg (residual (block m c 0 t) (block m c 1 t) (block m c 2 t) (block m c 3 t) (block m c 4 t) (block m c 5 t) (block m c 6 t) (block m c 7 t) (block m c 8 t) (block m c 9 t) (block m c 10 t) (block m c 11 t) (block m c 12 t)) (funext fun a => ?_)
  match a with
  | ⟨0, _⟩ => rfl
  | ⟨1, _⟩ => rfl

/-- What it writes back of the second is its block of that array. -/
theorem strips_written_back (c : Dev nD) (t : Fin cfg0.N) :
    (data m 0 c).flushed 14 t = ((cfg0.win 14).blk t).view.read (Elt Ideal) (strips m c) := by
  refine (congrArg ((cfg0.win 14).cut (grid0.coords t)) (after14 m c t)).trans ?_
  funext (y : S2048x128.Idx)
  have h0 := idx2_lt0 y; have h1 := idx2_lt1 y
  have ht := t.isLt; change t.val < 160 at ht
  have e : (((cfg0.win 14).blk t).view.emb y : S327680x128.Idx) = ix2 (n0 := 327680) (n1 := 128) ⟨2048 * t.val + (y 0).val, by omega⟩ (y 1) := by
    funext (a : Fin 2)
    refine Fin.ext ((place14 t y a).trans ?_)
    match a with
    | ⟨0, _⟩ => refine (congrArg (· * 2048 + (y 0).val) (coord_word t)).trans ?_; show t.val * 2048 + (y 0).val = 2048 * t.val + (y 0).val; omega
    | ⟨1, _⟩ => show 0 * 128 + (y 1).val = (y 1).val; omega
  refine Eq.trans ?_ (congrArg (strips m c) e.symm)
  have er : rowOf y = ix2 (n0 := 256) (n1 := 1024) ⟨(y 0).val / 8, by omega⟩ ⟨128 * ((y 0).val % 8) + (y 1).val, by omega⟩ := by
    funext (a : Fin 2)
    match a with
    | ⟨0, _⟩ => rfl
    | ⟨1, _⟩ => rfl
  refine Eq.trans (congrArg (hidden (block m c 0 t) (block m c 1 t) (block m c 2 t) (block m c 3 t) (block m c 4 t) (block m c 5 t) (block m c 6 t) (block m c 7 t) (block m c 8 t) (block m c 9 t) (block m c 10 t) (block m c 11 t) (block m c 12 t)) er) ((hidden_apply m c t _ _).trans ?_)
  unfold strips Cert.OutProjection.strips
  refine congrArg₂ (Cert.OutProjection.hidden (rows m c) _ _) (Fin.ext ?_) (Fin.ext ?_)
  · show 256 * t.val + (y 0).val / 8 = (2048 * t.val + (y 0).val) / 8; omega
  · show 128 * ((y 0).val % 8) + (y 1).val = 128 * ((2048 * t.val + (y 0).val) % 8) + (y 1).val; omega

/-- An element a view places is among the view's elements. -/
theorem mem_of_place {κ : Kind} {sp : Space} {s : Shape} {e : EltTy} (v : View sig κ sp s e) (x : s.Idx) (i : v.ty.Idx) (h : v.emb x = i) : i ∈ v.set :=
  h ▸ v.emb_mem_set x

/-- The blocks fill the array. -/
theorem rows_filled (i : S40960x1024.Idx) :
    ∃ t : Fin cfg0.N, (cfg0.win 13).flush t = true ∧ i ∈ ((cfg0.win 13).blk t).view.set := by
  have h0 := idx2_lt0 i; have h1 := idx2_lt1 i
  have ht : (i 0).val / 256 < grid0.N := by show _ < 160; omega
  refine ⟨⟨(i 0).val / 256, ht⟩, flush13 _, ?_⟩
  refine mem_of_place ((cfg0.win 13).blk ⟨(i 0).val / 256, ht⟩).view
    (ix2 (n0 := 256) (n1 := 1024) ⟨(i 0).val % 256, by omega⟩ (i 1) : S256x1024.Idx) i ?_
  funext (a : Fin 2)
  refine Fin.ext ((place13 _ _ a).trans ?_)
  match a with
  | ⟨0, _⟩ =>
    refine (congrArg (· * 256 + (i 0).val % 256) (coord_word ⟨(i 0).val / 256, ht⟩)).trans ?_
    show (i 0).val / 256 * 256 + (i 0).val % 256 = (i 0).val; omega
  | ⟨1, _⟩ => show 0 * 1024 + (i 1).val = (i 1).val; omega

/-- The array ends at what it is shown to hold. -/
theorem rows_final (c : Dev nD) : (data m 0 c).arrAt 13 cfg0.N = rows m c :=
  (data m 0 c).arrAt_eq_of_cover 13 (rows m c) (fun t _ => rows_written_back m c t) rows_filled

/-- The blocks fill the array. -/
theorem strips_filled (i : S327680x128.Idx) :
    ∃ t : Fin cfg0.N, (cfg0.win 14).flush t = true ∧ i ∈ ((cfg0.win 14).blk t).view.set := by
  have h0 := idx2_lt0 i; have h1 := idx2_lt1 i
  have ht : (i 0).val / 2048 < grid0.N := by show _ < 160; omega
  refine ⟨⟨(i 0).val / 2048, ht⟩, flush14 _, ?_⟩
  refine mem_of_place ((cfg0.win 14).blk ⟨(i 0).val / 2048, ht⟩).view
    (ix2 (n0 := 2048) (n1 := 128) ⟨(i 0).val % 2048, by omega⟩ (i 1) : S2048x128.Idx) i ?_
  funext (a : Fin 2)
  refine Fin.ext ((place14 _ _ a).trans ?_)
  match a with
  | ⟨0, _⟩ =>
    refine (congrArg (· * 2048 + (i 0).val % 2048) (coord_word ⟨(i 0).val / 2048, ht⟩)).trans ?_
    show (i 0).val / 2048 * 2048 + (i 0).val % 2048 = (i 0).val; omega
  | ⟨1, _⟩ => show 0 * 128 + (i 1).val = (i 1).val; omega

/-- The array ends at what it is shown to hold. -/
theorem strips_final (c : Dev nD) : (data m 0 c).arrAt 14 cfg0.N = strips m c :=
  (data m 0 c).arrAt_eq_of_cover 14 (strips m c) (fun t _ => strips_written_back m c t) strips_filled

end Cert.Kernel3Ideal.OutProjection

end
-- ==== Proof.OutProjection.Reference.lean ====
/-
  The output projection's reference over the reals.

  The reference normalizes and joins each token's three parts and multiplies the joined row by the matrix. Then it splits
  the tokens into the context's 32 sequences of 256 and the latents' 8 sequences of 4096, adds the gated product to each
  group's residual rows, normalizes and modulates them, and joins the two groups. Read at an index, its results are
  `Cert.OutProjection.residual` and `Cert.OutProjection.strips` of the arguments.
-/
module

public import proofs.«01_k».proof.Proof.Gen.Reference3Ideal.Read
public import proofs.«01_k».proof.Proof.OutProjection.Spec
public import Idealize.ShloMosaic.Lib.ValueIdx

@[expose] public section

set_option maxRecDepth 16384

noncomputable section

namespace Cert.Reference3Ideal.OutProjection

open Idealize.ShloMosaic Idealize.ShloMosaic.TcCoe Idealize.ShloMosaic.ValueIdx
open Cert.Reference3Ideal Cert.Reference3Ideal.Gen Cert.Reference3Ideal.Read

variable (x0 : (⟨S40960x384, .f32⟩ : BufTy).Contents (Elt Ideal)) (x1 : (⟨S40960x256, .f32⟩ : BufTy).Contents (Elt Ideal))
  (x2 x3 : (⟨S40960x384, .f32⟩ : BufTy).Contents (Elt Ideal)) (x4 : (⟨S40960x3072, .f32⟩ : BufTy).Contents (Elt Ideal))
  (x5 : (⟨S40960x1024, .f32⟩ : BufTy).Contents (Elt Ideal)) (x6 : (⟨S16x6x1024, .f32⟩ : BufTy).Contents (Elt Ideal))
  (x7 : (⟨S1024x1024, .f32⟩ : BufTy).Contents (Elt Ideal)) (x8 : (⟨S256, .f32⟩ : BufTy).Contents (Elt Ideal))
  (x9 : (⟨S384, .f32⟩ : BufTy).Contents (Elt Ideal)) (x10 : (⟨S1024, .f32⟩ : BufTy).Contents (Elt Ideal))

theorem zero_word : (FloatOps.ofBits .f32 0x00000000#32 : Ideal .f32) = (0 : EReal) := Ideal.ofBits_zero_f32

/-! ## The joined rows -/

/-- The gate's activation. -/
theorem gelu_apply (r : Fin 40960) (k : Fin 384) :
    val_main_v14 (F := Ideal) x4 (ix2 r k) = Cert.OutProjection.gelu (x4 (ix2 r ⟨2688 + k.val, by omega⟩)) := by
  have i : idx_main_v1 (ix2 r k) = ix2 (n0 := 40960) (n1 := 3072) r ⟨2688 + k.val, by omega⟩ := funext fun a => by match a with | ⟨0, _⟩ => rfl | ⟨1, _⟩ => rfl
  have e : val_main_v1 (F := Ideal) x4 (ix2 r k) = x4 (ix2 r ⟨2688 + k.val, by omega⟩) := by rw [val_main_v1_apply, i]
  rw [val_main_v14_apply, val_main_v13_apply, val_main_v12_apply, val_main_v11_apply, val_main_v10_apply, val_main_v9_apply, val_main_v8_apply, val_main_v7_apply,
    val_main_v6_apply, val_main_v5_apply, val_main_v4_apply, val_main_v3_apply, val_main_v2_apply, e]
  generalize (x4 (ix2 r ⟨2688 + k.val, by omega⟩) : EReal) = x
  unfold Cert.OutProjection.gelu
  refine Eq.trans (?_ : _ = x * (Cert.OutProjection.half * _)) ((mul_left_comm x Cert.OutProjection.half _).trans (mul_assoc Cert.OutProjection.half x _).symm)
  rfl

/-- The gated part before its norm. -/
theorem gated_apply (r : Fin 40960) (k : Fin 384) :
    val_main_v15 (F := Ideal) x2 x3 x4 (ix2 r k)
      = Cert.OutProjection.gated (fun k => x2 (ix2 r k)) (fun k => x3 (ix2 r k)) (fun k => x4 (ix2 r ⟨2688 + k.val, by omega⟩)) k := by
  rw [val_main_v15_apply, val_main_v0_apply, gelu_apply]; rfl

/-- The normalized part. -/
theorem second_apply (r : Fin 40960) (k : Fin 256) :
    val_main_v28 (F := Ideal) x1 x8 (ix2 r k) = Cert.OutProjection.normed Cert.OutProjection.width256 (fun k => x1 (ix2 r k)) (fun k => x8 (ix1 k)) k := by
  have i1 : idx_main_v24 (ix2 r k) = ix2 (n1 := 1) r 0 := funext fun a => by match a with | ⟨0, _⟩ => rfl | ⟨1, _⟩ => rfl
  have i2 : idx_main_v18 (ix2 (n1 := 1) r 0) = ix1 r := funext fun a => by match a with | ⟨0, _⟩ => rfl
  have i3 : idx_main_v26 (idx_main_v27 (ix2 r k)) = ix1 k := funext fun a => by match a with | ⟨0, _⟩ => rfl
  have e : (fun k : Fin 256 => val_main_v16 (F := Ideal) x1 (idx_main_v17 (ix1 r) k)) = fun k => x1 (ix2 r k) * x1 (ix2 r k) := funext fun k => by
    have i : idx_main_v17 (ix1 r) k = ix2 r k := funext fun a => by match a with | ⟨0, _⟩ => rfl | ⟨1, _⟩ => rfl
    rw [i, val_main_v16_apply]; rfl
  rw [val_main_v28_apply, val_main_v25_apply, val_main_v27_apply, val_main_v26_apply, val_main_v24_apply, i1, i3, val_main_v23_apply, val_main_v22_apply, val_main_v20_apply, val_main_v21_apply,
    val_main_v19_apply, val_main_v18_apply, i2, val_main_v17_apply, e, val_main_cst_3_apply, zero_word, zero_add, val_main_cst_4_apply, val_main_cst_5_apply]
  rfl

/-- The gated part, normalized. -/
theorem third_apply (r : Fin 40960) (k : Fin 384) :
    val_main_v41 (F := Ideal) x2 x3 x4 x9 (ix2 r k)
      = Cert.OutProjection.normed Cert.OutProjection.width384
          (Cert.OutProjection.gated (fun k => x2 (ix2 r k)) (fun k => x3 (ix2 r k)) (fun k => x4 (ix2 r ⟨2688 + k.val, by omega⟩))) (fun k => x9 (ix1 k)) k := by
  have i1 : idx_main_v37 (ix2 r k) = ix2 (n1 := 1) r 0 := funext fun a => by match a with | ⟨0, _⟩ => rfl | ⟨1, _⟩ => rfl
  have i2 : idx_main_v31 (ix2 (n1 := 1) r 0) = ix1 r := funext fun a => by match a with | ⟨0, _⟩ => rfl
  have i3 : idx_main_v39 (idx_main_v40 (ix2 r k)) = ix1 k := funext fun a => by match a with | ⟨0, _⟩ => rfl
  have e : (fun k : Fin 384 => val_main_v29 (F := Ideal) x2 x3 x4 (idx_main_v30 (ix1 r) k))
      = fun k => Cert.OutProjection.gated (fun k => x2 (ix2 r k)) (fun k => x3 (ix2 r k)) (fun k => x4 (ix2 r ⟨2688 + k.val, by omega⟩)) k
        * Cert.OutProjection.gated (fun k => x2 (ix2 r k)) (fun k => x3 (ix2 r k)) (fun k => x4 (ix2 r ⟨2688 + k.val, by omega⟩)) k := funext fun k => by
    have i : idx_main_v30 (ix1 r) k = ix2 r k := funext fun a => by match a with | ⟨0, _⟩ => rfl | ⟨1, _⟩ => rfl
    rw [i, val_main_v29_apply, gated_apply]; rfl
  rw [val_main_v41_apply, val_main_v38_apply, val_main_v40_apply, val_main_v39_apply, val_main_v37_apply, i1, i3, val_main_v36_apply, val_main_v35_apply, val_main_v33_apply, val_main_v34_apply,
    val_main_v32_apply, val_main_v31_apply, i2, val_main_v30_apply, e, val_main_cst_6_apply, zero_word, zero_add, val_main_cst_7_apply, val_main_cst_8_apply, gated_apply]
  rfl

/-- A token's joined row. -/
theorem joined_apply (r : Fin 40960) (k : Fin 1024) :
    val_main_v42 (F := Ideal) x0 x1 x2 x3 x4 x8 x9 (ix2 r k) = Cert.OutProjection.mixedRow x0 x1 x2 x3 x4 x8 x9 r k := by
  unfold val_main_v42 Cert.OutProjection.mixedRow Cert.OutProjection.mixed Cert.OutProjection.joined
  have hk := k.isLt
  by_cases h : k.val < 384
  · rw [dif_pos h]
    refine Eq.trans (concatenate_apply_piece (t := S40960x1024) 1 _ _ _ 0 (by show 0 < 3; decide) S40960x384 _ rfl rfl 0 rfl
      (ix2 (n0 := 40960) (n1 := 384) r ⟨k.val, by omega⟩) ?_ ?_) rfl
    · intro b hb
      match b with
      | ⟨0, _⟩ => rfl
      | ⟨1, _⟩ => exact absurd rfl hb
    · show 0 + (k.val) = k.val; omega
  · rw [dif_neg h]
    by_cases h' : k.val < 640
    · rw [dif_pos h']
      refine Eq.trans (concatenate_apply_piece (t := S40960x1024) 1 _ _ _ 1 (by show 1 < 3; decide) S40960x256 _ rfl rfl 384 rfl
        (ix2 (n0 := 40960) (n1 := 256) r ⟨k.val - 384, by omega⟩) ?_ ?_) (second_apply x1 x8 r _)
      · intro b hb
        match b with
        | ⟨0, _⟩ => rfl
        | ⟨1, _⟩ => exact absurd rfl hb
      · show 384 + (k.val - 384) = k.val; omega
    · rw [dif_neg h']
      refine Eq.trans (concatenate_apply_piece (t := S40960x1024) 1 _ _ _ 2 (by show 2 < 3; decide) S40960x384 _ rfl rfl 640 rfl
        (ix2 (n0 := 40960) (n1 := 384) r ⟨k.val - 640, by omega⟩) ?_ ?_) (third_apply x2 x3 x4 x9 r _)
      · intro b hb
        match b with
        | ⟨0, _⟩ => rfl
        | ⟨1, _⟩ => exact absurd rfl hb
      · show 640 + (k.val - 640) = k.val; omega

/-- The joined row times the matrix. -/
theorem product_apply (r : Fin 40960) (f : Fin 1024) :
    val_main_v43 (F := Ideal) x0 x1 x2 x3 x4 x7 x8 x9 (ix2 r f) = ∑ k : Fin 1024, Cert.OutProjection.mixedRow x0 x1 x2 x3 x4 x8 x9 r k * x7 (ix2 k f) := by
  rw [val_main_v43_apply]
  refine Finset.sum_congr rfl fun k _ => ?_
  have il : lidx_main_v43 (ix2 (n0 := 40960) (n1 := 1024) r f) k = ix2 r k := funext fun a => by match a with | ⟨0, _⟩ => rfl | ⟨1, _⟩ => rfl
  have ir : ridx_main_v43 (ix2 (n0 := 40960) (n1 := 1024) r f) k = ix2 k f := funext fun a => by match a with | ⟨0, _⟩ => rfl | ⟨1, _⟩ => rfl
  rw [il, ir, joined_apply]

/-! ## The context -/

/-- The tokens' rows, sequence by sequence. -/
theorem context_token (b : Fin 32) (n : Fin 256) (k : Fin 1024) (r : Fin 40960) (hr : r.val = 256 * b.val + n.val) :
    val_main_v45 (F := Ideal) x5 (ix3 b n k) = x5 (ix2 r k) := by
  rw [val_main_v45_apply, val_main_v44_apply]
  refine congrArg x5 (funext fun a => Fin.ext ?_)
  have hk := k.isLt
  match a with
  | ⟨0, _⟩ => show ((b.val * 256 + n.val) * 1024 + k.val) / 1024 = r.val; omega
  | ⟨1, _⟩ => show ((b.val * 256 + n.val) * 1024 + k.val) % 1024 = k.val; omega

/-- The products' rows, likewise. -/
theorem context_product (b : Fin 32) (n : Fin 256) (k : Fin 1024) (r : Fin 40960) (hr : r.val = 256 * b.val + n.val) :
    val_main_v47 (F := Ideal) x0 x1 x2 x3 x4 x7 x8 x9 (ix3 b n k) = ∑ j : Fin 1024, Cert.OutProjection.mixedRow x0 x1 x2 x3 x4 x8 x9 r j * x7 (ix2 j k) := by
  rw [val_main_v47_apply, val_main_v46_apply, ← product_apply]
  refine congrArg (val_main_v43 (F := Ideal) x0 x1 x2 x3 x4 x7 x8 x9) (funext fun a => Fin.ext ?_)
  have hk := k.isLt
  match a with
  | ⟨0, _⟩ => show ((b.val * 256 + n.val) * 1024 + k.val) / 1024 = r.val; omega
  | ⟨1, _⟩ => show ((b.val * 256 + n.val) * 1024 + k.val) % 1024 = k.val; omega

/-- The modulation's gate. -/
theorem context_gate (k : Fin 1024) : val_main_v51 (F := Ideal) x6 (ix3 (n0 := 1) (n1 := 1) 0 0 k) = x6 (ix3 0 2 k) := by
  rw [val_main_v51_apply, val_main_v50_apply, val_main_v49_apply, val_main_v48_apply]
  refine congrArg x6 (funext fun a => Fin.ext ?_)
  have hk := k.isLt
  match a with
  | ⟨0, _⟩ => rfl
  | ⟨1, _⟩ => rfl
  | ⟨2, _⟩ => show (0 * 1024 + k.val) % 1024 = k.val; omega

/-- The modulation's shift. -/
theorem context_shift (k : Fin 1024) : val_main_v54 (F := Ideal) x6 (ix3 (n0 := 1) (n1 := 1) 0 0 k) = x6 (ix3 0 3 k) := by
  rw [val_main_v54_apply, val_main_v53_apply, val_main_v52_apply, val_main_v48_apply]
  refine congrArg x6 (funext fun a => Fin.ext ?_)
  have hk := k.isLt
  match a with
  | ⟨0, _⟩ => rfl
  | ⟨1, _⟩ => rfl
  | ⟨2, _⟩ => show (0 * 1024 + k.val) % 1024 = k.val; omega

/-- The modulation's scale. -/
theorem context_scale (k : Fin 1024) : val_main_v57 (F := Ideal) x6 (ix3 (n0 := 1) (n1 := 1) 0 0 k) = x6 (ix3 0 4 k) := by
  rw [val_main_v57_apply, val_main_v56_apply, val_main_v55_apply, val_main_v48_apply]
  refine congrArg x6 (funext fun a => Fin.ext ?_)
  have hk := k.isLt
  match a with
  | ⟨0, _⟩ => rfl
  | ⟨1, _⟩ => rfl
  | ⟨2, _⟩ => show (0 * 1024 + k.val) % 1024 = k.val; omega

theorem context_row (b : Fin 32) (n : Fin 256) (r : Fin 40960) (hr : r.val = 256 * b.val + n.val) : Cert.Projection.rowOf r = 0 := by
    unfold Cert.Projection.rowOf
    have hn := n.isLt
    exact if_pos (by omega)

/-- The residual rows. -/
theorem context_residual (b : Fin 32) (n : Fin 256) (k : Fin 1024) (r : Fin 40960) (hr : r.val = 256 * b.val + n.val) :
    val_main_v60 (F := Ideal) x0 x1 x2 x3 x4 x5 x6 x7 x8 x9 (ix3 b n k) = Cert.OutProjection.residual x0 x1 x2 x3 x4 x5 x6 x7 x8 x9 (ix2 r k) := by
  have i : idx_main_v58 (ix3 b n k) = ix3 (n0 := 1) (n1 := 1) 0 0 k := funext fun a => by match a with | ⟨0, _⟩ => rfl | ⟨1, _⟩ => rfl | ⟨2, _⟩ => rfl
  rw [val_main_v60_apply, val_main_v59_apply, val_main_v58_apply, i, context_token x5 b n k r hr, context_product x0 x1 x2 x3 x4 x7 x8 x9 b n k r hr, context_gate]
  show _ = Cert.OutProjection.added (x5 (ix2 r k)) (x6 (ix3 (Cert.Projection.rowOf r) 2 k)) (Cert.OutProjection.mixedRow x0 x1 x2 x3 x4 x8 x9 r) (fun j => x7 (ix2 j k))
  rw [context_row b n r hr]
  rfl

/-- The inverse root mean square of a residual row. -/
theorem context_rsqrt (b : Fin 32) (n : Fin 256) (r : Fin 40960) (hr : r.val = 256 * b.val + n.val) :
    val_main_v68 (F := Ideal) x0 x1 x2 x3 x4 x5 x6 x7 x8 x9 (ix3 (n2 := 1) b n 0) = Cert.Projection.scaleOf fun j => Cert.OutProjection.residual x0 x1 x2 x3 x4 x5 x6 x7 x8 x9 (ix2 r j) := by
  have e : (fun k : Fin 1024 => val_main_v61 (F := Ideal) x0 x1 x2 x3 x4 x5 x6 x7 x8 x9 (idx_main_v62 (ix2 b n) k))
      = fun k => Cert.OutProjection.residual x0 x1 x2 x3 x4 x5 x6 x7 x8 x9 (ix2 r k) * Cert.OutProjection.residual x0 x1 x2 x3 x4 x5 x6 x7 x8 x9 (ix2 r k) := funext fun k => by
    have i : idx_main_v62 (ix2 b n) k = ix3 b n k := funext fun a => by match a with | ⟨0, _⟩ => rfl | ⟨1, _⟩ => rfl | ⟨2, _⟩ => rfl
    rw [i, val_main_v61_apply, context_residual x0 x1 x2 x3 x4 x5 x6 x7 x8 x9 b n k r hr]; rfl
  have i : idx_main_v63 (ix3 (n2 := 1) b n 0) = ix2 b n := funext fun a => by match a with | ⟨0, _⟩ => rfl | ⟨1, _⟩ => rfl
  rw [val_main_v68_apply, val_main_v67_apply, val_main_v65_apply, val_main_v66_apply, val_main_v64_apply, val_main_v63_apply, val_main_cst_10_apply, val_main_cst_11_apply, i, val_main_v62_apply, e, val_main_cst_9_apply, zero_word, zero_add]
  rfl

/-- The modulated rows. -/
theorem context_hidden (b : Fin 32) (n : Fin 256) (k : Fin 1024) (r : Fin 40960) (hr : r.val = 256 * b.val + n.val) :
    val_main_v79 (F := Ideal) x0 x1 x2 x3 x4 x5 x6 x7 x8 x9 x10 (ix3 b n k) = Cert.OutProjection.hidden (Cert.OutProjection.residual x0 x1 x2 x3 x4 x5 x6 x7 x8 x9) x6 x10 r k := by
  have i1 : idx_main_v69 (ix3 b n k) = ix3 (n2 := 1) b n 0 := funext fun a => by match a with | ⟨0, _⟩ => rfl | ⟨1, _⟩ => rfl | ⟨2, _⟩ => rfl
  have i2 : idx_main_v76 (ix3 b n k) = ix3 (n0 := 1) (n1 := 1) 0 0 k := funext fun a => by match a with | ⟨0, _⟩ => rfl | ⟨1, _⟩ => rfl | ⟨2, _⟩ => rfl
  have i3 : idx_main_v78 (ix3 b n k) = ix3 (n0 := 1) (n1 := 1) 0 0 k := funext fun a => by match a with | ⟨0, _⟩ => rfl | ⟨1, _⟩ => rfl | ⟨2, _⟩ => rfl
  have i4 : idx_main_v71 (idx_main_v72 (ix3 b n k)) = ix1 k := funext fun a => by match a with | ⟨0, _⟩ => rfl
  rw [val_main_v79_apply, val_main_v77_apply, val_main_v73_apply, val_main_v70_apply, val_main_v69_apply, val_main_v72_apply, val_main_v71_apply, val_main_v76_apply, val_main_v75_apply, val_main_v74_apply, val_main_cst_12_apply, val_main_v78_apply, i1, i2, i3, i4,
    context_residual x0 x1 x2 x3 x4 x5 x6 x7 x8 x9 b n k r hr, context_rsqrt x0 x1 x2 x3 x4 x5 x6 x7 x8 x9 b n r hr, context_scale, context_shift]
  unfold Cert.OutProjection.hidden Cert.Projection.modulated
  rw [context_row b n r hr]
  rfl

/-- The residual rows, one after another. -/
theorem context_residual_rows (j : Fin 8192) (k : Fin 1024) (r : Fin 40960) (hr : r.val = j.val) :
    val_main_v116 (F := Ideal) x0 x1 x2 x3 x4 x5 x6 x7 x8 x9 (ix2 j k) = Cert.OutProjection.residual x0 x1 x2 x3 x4 x5 x6 x7 x8 x9 (ix2 r k) := by
  have hj := j.isLt; have hk := k.isLt
  have i : idx_main_v116 (ix2 j k) = ix3 (n0 := 32) (n1 := 256) ⟨j.val / 256, by omega⟩ ⟨j.val % 256, by omega⟩ k := funext fun a => Fin.ext (by
    match a with
    | ⟨0, _⟩ => show (j.val * 1024 + k.val) / 262144 = j.val / 256; omega
    | ⟨1, _⟩ => show (j.val * 1024 + k.val) / 1024 % 256 = j.val % 256; omega
    | ⟨2, _⟩ => show (j.val * 1024 + k.val) % 1024 = k.val; omega)
  rw [val_main_v116_apply, i]
  refine context_residual x0 x1 x2 x3 x4 x5 x6 x7 x8 x9 _ _ k r ?_
  show r.val = 256 * (j.val / 256) + j.val % 256
  omega

/-- The modulated rows, one after another. -/
theorem context_hidden_rows (j : Fin 8192) (k : Fin 1024) (r : Fin 40960) (hr : r.val = j.val) :
    val_main_v119 (F := Ideal) x0 x1 x2 x3 x4 x5 x6 x7 x8 x9 x10 (ix2 j k) = Cert.OutProjection.hidden (Cert.OutProjection.residual x0 x1 x2 x3 x4 x5 x6 x7 x8 x9) x6 x10 r k := by
  have hj := j.isLt; have hk := k.isLt
  have i : idx_main_v119 (ix2 j k) = ix3 (n0 := 32) (n1 := 256) ⟨j.val / 256, by omega⟩ ⟨j.val % 256, by omega⟩ k := funext fun a => Fin.ext (by
    match a with
    | ⟨0, _⟩ => show (j.val * 1024 + k.val) / 262144 = j.val / 256; omega
    | ⟨1, _⟩ => show (j.val * 1024 + k.val) / 1024 % 256 = j.val % 256; omega
    | ⟨2, _⟩ => show (j.val * 1024 + k.val) % 1024 = k.val; omega)
  rw [val_main_v119_apply, i]
  refine context_hidden x0 x1 x2 x3 x4 x5 x6 x7 x8 x9 x10 _ _ k r ?_
  show r.val = 256 * (j.val / 256) + j.val % 256
  omega

/-! ## The latents -/

/-- The tokens' rows, sequence by sequence. -/
theorem latent_token (b : Fin 8) (n : Fin 4096) (k : Fin 1024) (r : Fin 40960) (hr : r.val = 8192 + 4096 * b.val + n.val) :
    val_main_v81 (F := Ideal) x5 (ix3 b n k) = x5 (ix2 r k) := by
  rw [val_main_v81_apply, val_main_v80_apply]
  refine congrArg x5 (funext fun a => Fin.ext ?_)
  have hk := k.isLt
  match a with
  | ⟨0, _⟩ => show 8192 + ((b.val * 4096 + n.val) * 1024 + k.val) / 1024 = r.val; omega
  | ⟨1, _⟩ => show ((b.val * 4096 + n.val) * 1024 + k.val) % 1024 = k.val; omega

/-- The products' rows, likewise. -/
theorem latent_product (b : Fin 8) (n : Fin 4096) (k : Fin 1024) (r : Fin 40960) (hr : r.val = 8192 + 4096 * b.val + n.val) :
    val_main_v83 (F := Ideal) x0 x1 x2 x3 x4 x7 x8 x9 (ix3 b n k) = ∑ j : Fin 1024, Cert.OutProjection.mixedRow x0 x1 x2 x3 x4 x8 x9 r j * x7 (ix2 j k) := by
  rw [val_main_v83_apply, val_main_v82_apply, ← product_apply]
  refine congrArg (val_main_v43 (F := Ideal) x0 x1 x2 x3 x4 x7 x8 x9) (funext fun a => Fin.ext ?_)
  have hk := k.isLt
  match a with
  | ⟨0, _⟩ => show 8192 + ((b.val * 4096 + n.val) * 1024 + k.val) / 1024 = r.val; omega
  | ⟨1, _⟩ => show ((b.val * 4096 + n.val) * 1024 + k.val) % 1024 = k.val; omega

/-- The modulation's gate. -/
theorem latent_gate (b : Fin 8) (k : Fin 1024) : val_main_v87 (F := Ideal) x6 (ix3 (n0 := 8) (n1 := 1) b 0 k) = x6 (ix3 ⟨1 + b.val, by omega⟩ 2 k) := by
  rw [val_main_v87_apply, val_main_v86_apply, val_main_v85_apply, val_main_v84_apply]
  refine congrArg x6 (funext fun a => Fin.ext ?_)
  have hk := k.isLt
  match a with
  | ⟨0, _⟩ => show 1 + (b.val * 1024 + k.val) / 1024 = 1 + b.val; omega
  | ⟨1, _⟩ => rfl
  | ⟨2, _⟩ => show (b.val * 1024 + k.val) % 1024 = k.val; omega

/-- The modulation's shift. -/
theorem latent_shift (b : Fin 8) (k : Fin 1024) : val_main_v90 (F := Ideal) x6 (ix3 (n0 := 8) (n1 := 1) b 0 k) = x6 (ix3 ⟨1 + b.val, by omega⟩ 3 k) := by
  rw [val_main_v90_apply, val_main_v89_apply, val_main_v88_apply, val_main_v84_apply]
  refine congrArg x6 (funext fun a => Fin.ext ?_)
  have hk := k.isLt
  match a with
  | ⟨0, _⟩ => show 1 + (b.val * 1024 + k.val) / 1024 = 1 + b.val; omega
  | ⟨1, _⟩ => rfl
  | ⟨2, _⟩ => show (b.val * 1024 + k.val) % 1024 = k.val; omega

/-- The modulation's scale. -/
theorem latent_scale (b : Fin 8) (k : Fin 1024) : val_main_v93 (F := Ideal) x6 (ix3 (n0 := 8) (n1 := 1) b 0 k) = x6 (ix3 ⟨1 + b.val, by omega⟩ 4 k) := by
  rw [val_main_v93_apply, val_main_v92_apply, val_main_v91_apply, val_main_v84_apply]
  refine congrArg x6 (funext fun a => Fin.ext ?_)
  have hk := k.isLt
  match a with
  | ⟨0, _⟩ => show 1 + (b.val * 1024 + k.val) / 1024 = 1 + b.val; omega
  | ⟨1, _⟩ => rfl
  | ⟨2, _⟩ => show (b.val * 1024 + k.val) % 1024 = k.val; omega

theorem latent_row (b : Fin 8) (n : Fin 4096) (r : Fin 40960) (hr : r.val = 8192 + 4096 * b.val + n.val) : Cert.Projection.rowOf r = ⟨1 + b.val, by omega⟩ := by
    unfold Cert.Projection.rowOf
    have hn := n.isLt
    rw [if_neg (by omega)]; exact Fin.ext (by show 1 + (r.val - 8192) / 4096 = 1 + b.val; omega)

/-- The residual rows. -/
theorem latent_residual (b : Fin 8) (n : Fin 4096) (k : Fin 1024) (r : Fin 40960) (hr : r.val = 8192 + 4096 * b.val + n.val) :
    val_main_v96 (F := Ideal) x0 x1 x2 x3 x4 x5 x6 x7 x8 x9 (ix3 b n k) = Cert.OutProjection.residual x0 x1 x2 x3 x4 x5 x6 x7 x8 x9 (ix2 r k) := by
  have i : idx_main_v94 (ix3 b n k) = ix3 (n0 := 8) (n1 := 1) b 0 k := funext fun a => by match a with | ⟨0, _⟩ => rfl | ⟨1, _⟩ => rfl | ⟨2, _⟩ => rfl
  rw [val_main_v96_apply, val_main_v95_apply, val_main_v94_apply, i, latent_token x5 b n k r hr, latent_product x0 x1 x2 x3 x4 x7 x8 x9 b n k r hr, latent_gate]
  show _ = Cert.OutProjection.added (x5 (ix2 r k)) (x6 (ix3 (Cert.Projection.rowOf r) 2 k)) (Cert.OutProjection.mixedRow x0 x1 x2 x3 x4 x8 x9 r) (fun j => x7 (ix2 j k))
  rw [latent_row b n r hr]
  rfl

/-- The inverse root mean square of a residual row. -/
theorem latent_rsqrt (b : Fin 8) (n : Fin 4096) (r : Fin 40960) (hr : r.val = 8192 + 4096 * b.val + n.val) :
    val_main_v104 (F := Ideal) x0 x1 x2 x3 x4 x5 x6 x7 x8 x9 (ix3 (n2 := 1) b n 0) = Cert.Projection.scaleOf fun j => Cert.OutProjection.residual x0 x1 x2 x3 x4 x5 x6 x7 x8 x9 (ix2 r j) := by
  have e : (fun k : Fin 1024 => val_main_v97 (F := Ideal) x0 x1 x2 x3 x4 x5 x6 x7 x8 x9 (idx_main_v98 (ix2 b n) k))
      = fun k => Cert.OutProjection.residual x0 x1 x2 x3 x4 x5 x6 x7 x8 x9 (ix2 r k) * Cert.OutProjection.residual x0 x1 x2 x3 x4 x5 x6 x7 x8 x9 (ix2 r k) := funext fun k => by
    have i : idx_main_v98 (ix2 b n) k = ix3 b n k := funext fun a => by match a with | ⟨0, _⟩ => rfl | ⟨1, _⟩ => rfl | ⟨2, _⟩ => rfl
    rw [i, val_main_v97_apply, latent_residual x0 x1 x2 x3 x4 x5 x6 x7 x8 x9 b n k r hr]; rfl
  have i : idx_main_v99 (ix3 (n2 := 1) b n 0) = ix2 b n := funext fun a => by match a with | ⟨0, _⟩ => rfl | ⟨1, _⟩ => rfl
  rw [val_main_v104_apply, val_main_v103_apply, val_main_v101_apply, val_main_v102_apply, val_main_v100_apply, val_main_v99_apply, val_main_cst_14_apply, val_main_cst_15_apply, i, val_main_v98_apply, e, val_main_cst_13_apply, zero_word, zero_add]
  rfl

/-- The modulated rows. -/
theorem latent_hidden (b : Fin 8) (n : Fin 4096) (k : Fin 1024) (r : Fin 40960) (hr : r.val = 8192 + 4096 * b.val + n.val) :
    val_main_v115 (F := Ideal) x0 x1 x2 x3 x4 x5 x6 x7 x8 x9 x10 (ix3 b n k) = Cert.OutProjection.hidden (Cert.OutProjection.residual x0 x1 x2 x3 x4 x5 x6 x7 x8 x9) x6 x10 r k := by
  have i1 : idx_main_v105 (ix3 b n k) = ix3 (n2 := 1) b n 0 := funext fun a => by match a with | ⟨0, _⟩ => rfl | ⟨1, _⟩ => rfl | ⟨2, _⟩ => rfl
  have i2 : idx_main_v112 (ix3 b n k) = ix3 (n0 := 8) (n1 := 1) b 0 k := funext fun a => by match a with | ⟨0, _⟩ => rfl | ⟨1, _⟩ => rfl | ⟨2, _⟩ => rfl
  have i3 : idx_main_v114 (ix3 b n k) = ix3 (n0 := 8) (n1 := 1) b 0 k := funext fun a => by match a with | ⟨0, _⟩ => rfl | ⟨1, _⟩ => rfl | ⟨2, _⟩ => rfl
  have i4 : idx_main_v107 (idx_main_v108 (ix3 b n k)) = ix1 k := funext fun a => by match a with | ⟨0, _⟩ => rfl
  rw [val_main_v115_apply, val_main_v113_apply, val_main_v109_apply, val_main_v106_apply, val_main_v105_apply, val_main_v108_apply, val_main_v107_apply, val_main_v112_apply, val_main_v111_apply, val_main_v110_apply, val_main_cst_16_apply, val_main_v114_apply, i1, i2, i3, i4,
    latent_residual x0 x1 x2 x3 x4 x5 x6 x7 x8 x9 b n k r hr, latent_rsqrt x0 x1 x2 x3 x4 x5 x6 x7 x8 x9 b n r hr, latent_scale, latent_shift]
  unfold Cert.OutProjection.hidden Cert.Projection.modulated
  rw [latent_row b n r hr]
  rfl

/-- The residual rows, one after another. -/
theorem latent_residual_rows (j : Fin 32768) (k : Fin 1024) (r : Fin 40960) (hr : r.val = 8192 + j.val) :
    val_main_v117 (F := Ideal) x0 x1 x2 x3 x4 x5 x6 x7 x8 x9 (ix2 j k) = Cert.OutProjection.residual x0 x1 x2 x3 x4 x5 x6 x7 x8 x9 (ix2 r k) := by
  have hj := j.isLt; have hk := k.isLt
  have i : idx_main_v117 (ix2 j k) = ix3 (n0 := 8) (n1 := 4096) ⟨j.val / 4096, by omega⟩ ⟨j.val % 4096, by omega⟩ k := funext fun a => Fin.ext (by
    match a with
    | ⟨0, _⟩ => show (j.val * 1024 + k.val) / 4194304 = j.val / 4096; omega
    | ⟨1, _⟩ => show (j.val * 1024 + k.val) / 1024 % 4096 = j.val % 4096; omega
    | ⟨2, _⟩ => show (j.val * 1024 + k.val) % 1024 = k.val; omega)
  rw [val_main_v117_apply, i]
  refine latent_residual x0 x1 x2 x3 x4 x5 x6 x7 x8 x9 _ _ k r ?_
  show r.val = 8192 + 4096 * (j.val / 4096) + j.val % 4096
  omega

/-- The modulated rows, one after another. -/
theorem latent_hidden_rows (j : Fin 32768) (k : Fin 1024) (r : Fin 40960) (hr : r.val = 8192 + j.val) :
    val_main_v120 (F := Ideal) x0 x1 x2 x3 x4 x5 x6 x7 x8 x9 x10 (ix2 j k) = Cert.OutProjection.hidden (Cert.OutProjection.residual x0 x1 x2 x3 x4 x5 x6 x7 x8 x9) x6 x10 r k := by
  have hj := j.isLt; have hk := k.isLt
  have i : idx_main_v120 (ix2 j k) = ix3 (n0 := 8) (n1 := 4096) ⟨j.val / 4096, by omega⟩ ⟨j.val % 4096, by omega⟩ k := funext fun a => Fin.ext (by
    match a with
    | ⟨0, _⟩ => show (j.val * 1024 + k.val) / 4194304 = j.val / 4096; omega
    | ⟨1, _⟩ => show (j.val * 1024 + k.val) / 1024 % 4096 = j.val % 4096; omega
    | ⟨2, _⟩ => show (j.val * 1024 + k.val) % 1024 = k.val; omega)
  rw [val_main_v120_apply, i]
  refine latent_hidden x0 x1 x2 x3 x4 x5 x6 x7 x8 x9 x10 _ _ k r ?_
  show r.val = 8192 + 4096 * (j.val / 4096) + j.val % 4096
  omega

/-! ## The whole arrays -/

/-- The residual rows of all tokens. -/
theorem residual_apply (r : Fin 40960) (k : Fin 1024) : val_main_v118 (F := Ideal) x0 x1 x2 x3 x4 x5 x6 x7 x8 x9 (ix2 r k) = Cert.OutProjection.residual x0 x1 x2 x3 x4 x5 x6 x7 x8 x9 (ix2 r k) := by
  unfold val_main_v118
  by_cases h : r.val < 8192
  · refine Eq.trans (concatenate_apply_piece (t := S40960x1024) 0 _ _ _ 0 (by show 0 < 2; decide) S8192x1024 _ rfl rfl 0 rfl
      (ix2 (n0 := 8192) (n1 := 1024) ⟨r.val, h⟩ k) ?_ ?_) (context_residual_rows x0 x1 x2 x3 x4 x5 x6 x7 x8 x9 _ k r rfl)
    · intro b hb
      match b with
      | ⟨0, _⟩ => exact absurd rfl hb
      | ⟨1, _⟩ => rfl
    · show 0 + r.val = r.val; omega
  · refine Eq.trans (concatenate_apply_piece (t := S40960x1024) 0 _ _ _ 1 (by show 1 < 2; decide) S32768x1024 _ rfl rfl 8192 rfl
      (ix2 (n0 := 32768) (n1 := 1024) ⟨r.val - 8192, by omega⟩ k) ?_ ?_) (latent_residual_rows x0 x1 x2 x3 x4 x5 x6 x7 x8 x9 _ k r (by show r.val = 8192 + (r.val - 8192); omega))
    · intro b hb
      match b with
      | ⟨0, _⟩ => exact absurd rfl hb
      | ⟨1, _⟩ => rfl
    · show 8192 + (r.val - 8192) = r.val; omega

/-- The modulated rows of all tokens. -/
theorem hidden_apply (r : Fin 40960) (k : Fin 1024) : val_main_v121 (F := Ideal) x0 x1 x2 x3 x4 x5 x6 x7 x8 x9 x10 (ix2 r k) = Cert.OutProjection.hidden (Cert.OutProjection.residual x0 x1 x2 x3 x4 x5 x6 x7 x8 x9) x6 x10 r k := by
  unfold val_main_v121
  by_cases h : r.val < 8192
  · refine Eq.trans (concatenate_apply_piece (t := S40960x1024) 0 _ _ _ 0 (by show 0 < 2; decide) S8192x1024 _ rfl rfl 0 rfl
      (ix2 (n0 := 8192) (n1 := 1024) ⟨r.val, h⟩ k) ?_ ?_) (context_hidden_rows x0 x1 x2 x3 x4 x5 x6 x7 x8 x9 x10 _ k r rfl)
    · intro b hb
      match b with
      | ⟨0, _⟩ => exact absurd rfl hb
      | ⟨1, _⟩ => rfl
    · show 0 + r.val = r.val; omega
  · refine Eq.trans (concatenate_apply_piece (t := S40960x1024) 0 _ _ _ 1 (by show 1 < 2; decide) S32768x1024 _ rfl rfl 8192 rfl
      (ix2 (n0 := 32768) (n1 := 1024) ⟨r.val - 8192, by omega⟩ k) ?_ ?_) (latent_hidden_rows x0 x1 x2 x3 x4 x5 x6 x7 x8 x9 x10 _ k r (by show r.val = 8192 + (r.val - 8192); omega))
    · intro b hb
      match b with
      | ⟨0, _⟩ => exact absurd rfl hb
      | ⟨1, _⟩ => rfl
    · show 8192 + (r.val - 8192) = r.val; omega

/-- The reference's first result, at every index. -/
theorem residual_eq : val_main_v118 (F := Ideal) x0 x1 x2 x3 x4 x5 x6 x7 x8 x9 = Cert.OutProjection.residual x0 x1 x2 x3 x4 x5 x6 x7 x8 x9 := by
  funext (y : S40960x1024.Idx)
  have e : y = ix2 (n0 := 40960) (n1 := 1024) (y 0) (y 1) := funext fun a => by match a with | ⟨0, _⟩ => rfl | ⟨1, _⟩ => rfl
  rw [e]
  exact residual_apply x0 x1 x2 x3 x4 x5 x6 x7 x8 x9 (y 0) (y 1)

/-- Its second. -/
theorem strips_eq : val_main_v122 (F := Ideal) x0 x1 x2 x3 x4 x5 x6 x7 x8 x9 x10 = Cert.OutProjection.strips (Cert.OutProjection.residual x0 x1 x2 x3 x4 x5 x6 x7 x8 x9) x6 x10 := by
  funext (y : S327680x128.Idx)
  have h0 := idx2_lt0 y; have h1 := idx2_lt1 y
  have i : idx_main_v122 y = ix2 (n0 := 40960) (n1 := 1024) ⟨(y 0).val / 8, by omega⟩ ⟨128 * ((y 0).val % 8) + (y 1).val, by omega⟩ := funext fun a => Fin.ext (by
    match a with
    | ⟨0, _⟩ => show ((y 0).val * 128 + (y 1).val) / 1024 = (y 0).val / 8; omega
    | ⟨1, _⟩ => show ((y 0).val * 128 + (y 1).val) % 1024 = 128 * ((y 0).val % 8) + (y 1).val; omega)
  rw [val_main_v122_apply, i]
  exact hidden_apply x0 x1 x2 x3 x4 x5 x6 x7 x8 x9 x10 _ _

end Cert.Reference3Ideal.OutProjection

end
-- ==== Proof.Recurrence.Scan.lean ====
/-
  The scan by doubling, over the reals.

  Of the recurrence `h n = a n * h (n - 1) + u n`, a window of `s` rows that ends at row `n` acts on the state before it as
  `x ↦ decay s n * x + gain s n`; rows before row 0 act as the identity. Two windows one behind the other make one window
  (`decay_add`, `gain_add`), and a window that reaches past row 0 applied to the first state is the state (`window_eq_state`).
-/
module

public import Mathlib.Data.Real.Basic
public import Mathlib.Tactic.Ring

@[expose] public section

noncomputable section

namespace Cert.Recurrence

variable (a u : ℕ → ℝ)

/-- What a window of `s` rows that ends at row `n` multiplies the state before it by. -/
def decay : ℕ → ℕ → ℝ
  | 0, _ => 1
  | s + 1, n => a n * (if 1 ≤ n then decay s (n - 1) else 1)

/-- What a window of `s` rows that ends at row `n` makes of the state 0. -/
def gain : ℕ → ℕ → ℝ
  | 0, _ => 0
  | s + 1, n => a n * (if 1 ≤ n then gain s (n - 1) else 0) + u n

/-- The state after row `n`, from `x` before row 0. -/
def state (x : ℝ) : ℕ → ℝ
  | 0 => a 0 * x + u 0
  | n + 1 => a (n + 1) * state x n + u (n + 1)

theorem decay_succ (s n : ℕ) : decay a (s + 1) n = a n * (if 1 ≤ n then decay a s (n - 1) else 1) := rfl

theorem gain_succ (s n : ℕ) : gain a u (s + 1) n = a n * (if 1 ≤ n then gain a u s (n - 1) else 0) + u n := rfl

theorem decay_one (n : ℕ) : decay a 1 n = a n := by
  simp [decay]

theorem gain_one (n : ℕ) : gain a u 1 n = u n := by
  simp [gain]

/-- A window behind a window: the factors multiply. -/
theorem decay_add (s t : ℕ) : ∀ n, decay a (s + t) n = decay a s n * (if s ≤ n then decay a t (n - s) else 1) := by
  induction s with
  | zero => intro n; simp [decay]
  | succ s ih =>
    intro n
    rw [show s + 1 + t = (s + t) + 1 by omega]
    rw [decay_succ, decay_succ]
    by_cases h : 1 ≤ n
    · rw [if_pos h, if_pos h, ih (n - 1)]
      by_cases h' : s + 1 ≤ n
      · rw [if_pos h', if_pos (show s ≤ n - 1 by omega), show n - 1 - s = n - (s + 1) by omega]; ring
      · rw [if_neg h', if_neg (show ¬ s ≤ n - 1 by omega)]; ring
    · rw [if_neg h, if_neg h, if_neg (show ¬ s + 1 ≤ n by omega)]; ring

/-- A window behind a window: the later one acts on what the earlier one makes. -/
theorem gain_add (s t : ℕ) : ∀ n, gain a u (s + t) n = decay a s n * (if s ≤ n then gain a u t (n - s) else 0) + gain a u s n := by
  induction s with
  | zero => intro n; simp [decay, gain]
  | succ s ih =>
    intro n
    rw [show s + 1 + t = (s + t) + 1 by omega]
    rw [gain_succ, gain_succ, decay_succ]
    by_cases h : 1 ≤ n
    · rw [if_pos h, if_pos h, if_pos h, ih (n - 1)]
      by_cases h' : s + 1 ≤ n
      · rw [if_pos h', if_pos (show s ≤ n - 1 by omega), show n - 1 - s = n - (s + 1) by omega]; ring
      · rw [if_neg h', if_neg (show ¬ s ≤ n - 1 by omega)]; ring
    · rw [if_neg h, if_neg h, if_neg h, if_neg (show ¬ s + 1 ≤ n by omega)]; ring

/-- A window that reaches past row 0, applied to the first state, is the state. -/
theorem window_eq_state (x : ℝ) : ∀ s n, n < s → decay a s n * x + gain a u s n = state a u x n := by
  intro s
  induction s with
  | zero => intro n h; omega
  | succ s ih =>
    intro n h
    rw [decay_succ, gain_succ]
    cases n with
    | zero => simp [state]
    | succ n =>
      rw [if_pos (by omega), if_pos (by omega), Nat.add_sub_cancel]
      show _ = a (n + 1) * state a u x n + u (n + 1)
      rw [← ih n (by omega)]; ring

/-- The state after `b` rows and then `n + 1` more is the state after `n + 1` rows from there. -/
theorem state_shift (x : ℝ) (b : ℕ) : ∀ n, state a u x (b + 1 + n) = state (fun k => a (b + 1 + k)) (fun k => u (b + 1 + k)) (state a u x b) n
  | 0 => rfl
  | n + 1 => by
    show a (b + 1 + n + 1) * state a u x (b + 1 + n) + u (b + 1 + n + 1) = _
    rw [state_shift x b n]; rfl

end Cert.Recurrence

end
-- ==== Proof.Recurrence.Spec.lean ====
/-
  The gated recurrence over the reals: what both programs compute from finite operands.
-/
module

public import proofs.«01_k».proof.Proof.Recurrence.Scan
public import Idealize.ShloMosaic.PureOps.Ideal

@[expose] public section

noncomputable section

namespace Cert.Recurrence

open Idealize.ShloMosaic

/-- Four taps along a grid row of 64 columns, two behind to one ahead, zero outside the row. -/
def conv (x : ℕ → ℝ) (w : Fin 4 → ℝ) (b : ℝ) (s : ℕ) : ℝ :=
  (if 2 ≤ s % 64 then x (s - 2) else 0) * w 0 + (if 1 ≤ s % 64 then x (s - 1) else 0) * w 1 + x s * w 2
    + (if s % 64 < 63 then x (s + 1) else 0) * w 3 + b

/-- The head of a channel. -/
def head (k : Fin 384) : Fin 6 := ⟨k.val / 64, by omega⟩

/-- A channel's place in its head. -/
def within (k : Fin 384) : Fin 64 := ⟨k.val % 64, by omega⟩

/-- A head's channel. -/
def channel (h : Fin 6) (i : Fin 64) : Fin 384 := ⟨64 * h.val + i.val, by omega⟩

/-- A gate's argument: the channel's head times its matrix, plus the bias. -/
def gate (y : Fin 384 → ℝ) (W : Fin 6 → Fin 64 → Fin 64 → ℝ) (b : ℝ) (k : Fin 384) : ℝ :=
  (∑ i : Fin 64, y (channel (head k) i) * W (head k) i (within k)) + b

/-- The logistic function. -/
def sigm (g : ℝ) : ℝ := 1 / (1 + Real.exp (-g))

/-- The softplus of `-l`. -/
def soft (l : ℝ) : ℝ := max (-l) 0 + Real.log (1 + Real.exp (-|l|))

/-- The logarithm of a factor. -/
def logOf (g l : ℝ) : ℝ := -8 * sigm g * soft l

/-- A row's gain. -/
def gainOf (L g y : ℝ) : ℝ := Real.sqrt (-(Real.exp (2 * L) - 1)) * sigm g * y

/-- The real operands of one direction. -/
structure Operands where
  /-- sequence, row, channel -/
  x : ℕ → ℕ → Fin 384 → ℝ
  cw : Fin 4 → Fin 384 → ℝ
  cb : Fin 384 → ℝ
  wa : Fin 6 → Fin 64 → Fin 64 → ℝ
  ba : Fin 384 → ℝ
  wx : Fin 6 → Fin 64 → Fin 64 → ℝ
  bx : Fin 384 → ℝ
  lam : Fin 384 → ℝ
  h0 : ℕ → Fin 384 → ℝ

namespace Operands
variable (P : Operands) (b s : ℕ) (k : Fin 384)

/-- The convolved entry. -/
def y : ℝ := conv (fun n => P.x b n k) (fun j => P.cw j k) (P.cb k) s

/-- The logarithm of the factor. -/
def L : ℝ := logOf (gate (P.y b s) P.wa (P.ba k) k) (P.lam k)

/-- The factor. -/
def a : ℝ := Real.exp (P.L b s k)

/-- The gain. -/
def u : ℝ := gainOf (P.L b s k) (gate (P.y b s) P.wx (P.bx k) k) (P.y b s k)

/-- The state. -/
def H : ℝ := state (fun n => P.a b n k) (fun n => P.u b n k) (P.h0 b k) s

/-- The state of the other direction after its row `s`, the `s`-th of a sequence of 4096 counted from the last. -/
def B : ℝ := state (fun n => P.a b (4095 - n) k) (fun n => P.u b (4095 - n) k) (P.h0 b k) s

end Operands

theorem sigm_pos (g : ℝ) : 0 < sigm g := by unfold sigm; positivity

theorem soft_nonneg (l : ℝ) : 0 ≤ soft l := by
  unfold soft
  refine add_nonneg (le_max_right _ _) (Real.log_nonneg ?_)
  have := Real.exp_pos (-|l|)
  linarith

theorem logOf_nonpos (g l : ℝ) : logOf g l ≤ 0 := by
  have h := mul_nonneg (sigm_pos g).le (soft_nonneg l)
  unfold logOf
  nlinarith

/-- The square root's argument in the two spellings. -/
theorem root_arg (L : ℝ) : (0 - Real.tanh L) * (Real.exp L * Real.exp L + 1) = -(Real.exp (2 * L) - 1) := by
  rw [Real.tanh_eq_sinh_div_cosh, Real.sinh_eq, Real.cosh_eq, two_mul, Real.exp_add, Real.exp_neg]
  have h := Real.exp_pos L
  have : Real.exp L * Real.exp L + 1 ≠ 0 := by positivity
  field_simp
  ring

/-! ## The operations on finite values -/

theorem one_coe : (1 : EReal) = ((1 : ℝ) : EReal) := rfl
theorem zero_coe : (0 : EReal) = ((0 : ℝ) : EReal) := rfl

theorem div_coe (x y : ℝ) (h : y ≠ 0) : Ideal.div (x : EReal) y = ((x / y : ℝ) : EReal) := by
  unfold Ideal.div
  rw [if_neg (by exact_mod_cast h), ← EReal.coe_inv, ← EReal.coe_mul, div_eq_mul_inv]

theorem max_coe (x y : ℝ) : max (x : EReal) y = ((max x y : ℝ) : EReal) :=
  (Monotone.map_max (f := ((↑) : ℝ → EReal)) fun _ _ h => EReal.coe_le_coe_iff.2 h).symm

theorem abs_coe (x : ℝ) : max (x : EReal) (-x) = ((|x| : ℝ) : EReal) := by
  rw [← EReal.coe_neg, max_coe]; rfl

theorem log1p_exp_coe (x : ℝ) : Ideal.log1p (Ideal.exp (x : EReal)) = ((Real.log (1 + Real.exp x) : ℝ) : EReal) := by
  have h : ¬ (1 + Real.exp x ≤ 0) := by have := Real.exp_pos x; linarith
  unfold Ideal.log1p
  rw [Ideal.exp_coe, one_coe, ← EReal.coe_add]
  simp only [Ideal.log_coe]
  first
    | rw [if_neg h]
    | rw [if_neg (by rw [add_comm]; exact h), add_comm]

theorem sigm_coe (g : ℝ) : Ideal.div 1 (1 + Ideal.exp (0 - (g : EReal))) = (sigm g : EReal) := by
  rw [zero_coe, ← EReal.coe_sub, Ideal.exp_coe, one_coe, ← EReal.coe_add, div_coe _ _ (by positivity), zero_sub]
  rfl

theorem soft_coe (l : ℝ) : max (0 - (l : EReal)) 0 + Ideal.log1p (Ideal.exp (0 - max (l : EReal) (-l))) = (soft l : EReal) := by
  rw [abs_coe, zero_coe, ← EReal.coe_sub, ← EReal.coe_sub, max_coe, log1p_exp_coe, ← EReal.coe_add, zero_sub, zero_sub]
  rfl

theorem sqrt_coe_nonneg (x : ℝ) (h : 0 ≤ x) : Ideal.sqrt (x : EReal) = (Real.sqrt x : EReal) := by
  rw [Ideal.sqrt_coe, if_neg (not_lt.2 h)]

theorem root_nonneg (L : ℝ) (h : L ≤ 0) : 0 ≤ -(Real.exp (2 * L) - 1) := by
  have : Real.exp (2 * L) ≤ 1 := Real.exp_le_one_iff.2 (by linarith)
  linarith

/-- The kernel's spelling of the gain. -/
theorem gain_kernel (L g y : ℝ) (h : L ≤ 0) :
    Ideal.sqrt ((0 - Ideal.tanh (L : EReal)) * (Ideal.exp (L : EReal) * Ideal.exp (L : EReal) + 1)) * (sigm g : EReal) * (y : EReal) = (gainOf L g y : EReal) := by
  rw [Ideal.tanh_coe, Ideal.exp_coe, zero_coe, one_coe, ← EReal.coe_sub, ← EReal.coe_mul, ← EReal.coe_add, ← EReal.coe_mul, root_arg,
    sqrt_coe_nonneg _ (root_nonneg L h), ← EReal.coe_mul, ← EReal.coe_mul]
  rfl

/-- The reference's spelling of the gain. -/
theorem gain_reference (L g y : ℝ) (h : L ≤ 0) :
    Ideal.sqrt (-(Ideal.exp (((2 : ℝ) : EReal) * (L : EReal)) - 1)) * (sigm g : EReal) * (y : EReal) = (gainOf L g y : EReal) := by
  rw [← EReal.coe_mul, Ideal.exp_coe, one_coe, ← EReal.coe_sub, ← EReal.coe_neg, sqrt_coe_nonneg _ (root_nonneg L h), ← EReal.coe_mul, ← EReal.coe_mul]
  rfl

/-- A finite sum of finite values. -/
theorem sum_coe {ι : Type*} (s : Finset ι) (f : ι → ℝ) : (∑ i ∈ s, (f i : EReal)) = ((∑ i ∈ s, f i : ℝ) : EReal) := by
  classical
  induction s using Finset.induction_on with
  | empty => rfl
  | insert i s hi ih => rw [Finset.sum_insert hi, Finset.sum_insert hi, ih, EReal.coe_add]

/-- A sum over the channels, head by head. -/
theorem sum_heads (f : Fin 384 → ℝ) : ∑ l, f l = ∑ h : Fin 6, ∑ i : Fin 64, f (channel h i) := by
  rw [← Finset.sum_product', Finset.univ_product_univ]
  symm
  refine Fintype.sum_bijective (fun p : Fin 6 × Fin 64 => channel p.1 p.2) ⟨?_, ?_⟩ _ _ fun _ => rfl
  · rintro ⟨h, i⟩ ⟨h', i'⟩ e
    have e' : 64 * h.val + i.val = 64 * h'.val + i'.val := congrArg Fin.val e
    have h1 := i.isLt
    have h2 := i'.isLt
    exact Prod.ext (Fin.ext (by show h.val = h'.val; omega)) (Fin.ext (by show i.val = i'.val; omega))
  · intro l
    exact ⟨(head l, within l), Fin.ext (by show 64 * (l.val / 64) + l.val % 64 = l.val; omega)⟩

/-- The product with the block diagonal of the heads' matrices is the head's own product. -/
theorem gate_blocks (y : Fin 384 → ℝ) (W : Fin 6 → Fin 64 → Fin 64 → ℝ) (b : ℝ) (k : Fin 384) :
    (∑ l, y l * (if head l = head k then W (head l) (within l) (within k) else 0)) + b = gate y W b k := by
  have hh : ∀ (h : Fin 6) (i : Fin 64), head (channel h i) = h := fun h i => Fin.ext (by show (64 * h.val + i.val) / 64 = h.val; omega)
  have hw : ∀ (h : Fin 6) (i : Fin 64), within (channel h i) = i := fun h i => Fin.ext (by show (64 * h.val + i.val) % 64 = i.val; omega)
  unfold gate
  rw [sum_heads]
  simp only [hh, hw]
  rw [Finset.sum_eq_single (head k)]
  · simp
  · intro h _ hne
    simp [hne]
  · intro h
    exact absurd (Finset.mem_univ _) h

end Cert.Recurrence

end
-- ==== Proof.Recurrence.Args.lean ====
/-
  The recurrence's nine arrays, and the real numbers they stand for when every entry is one.
-/
module

public import proofs.«01_k».proof.Proof.Recurrence.Spec
public import Idealize.ShloMosaic.Lib.ValueIdx

@[expose] public section

noncomputable section

namespace Cert.Recurrence

open Idealize.ShloMosaic Idealize.ShloMosaic.ValueIdx

/-- Every entry is a real number. -/
def AllReal {ι : Type} (x : ι → EReal) : Prop := ∀ i, ∃ r : ℝ, x i = (r : EReal)

/-- An entry that is a real number is the one it reads as. -/
theorem AllReal.coe {ι : Type} {x : ι → EReal} (h : AllReal x) (i : ι) : x i = ((x i).toReal : EReal) := by
  obtain ⟨r, e⟩ := h i
  rw [e, EReal.toReal_coe]

/-- The arguments: the projected tokens, the convolution's rows and bias, the two gates' matrices and biases, the
    decay's exponent, the states before the first row. -/
structure Arrays where
  p : (⟨2, ![40960, 3072]⟩ : Shape).Idx → EReal
  cw : (⟨2, ![4, 384]⟩ : Shape).Idx → EReal
  cb : (⟨1, ![384]⟩ : Shape).Idx → EReal
  wa : (⟨4, ![2, 6, 64, 64]⟩ : Shape).Idx → EReal
  ba : (⟨2, ![2, 384]⟩ : Shape).Idx → EReal
  wx : (⟨4, ![2, 6, 64, 64]⟩ : Shape).Idx → EReal
  bx : (⟨2, ![2, 384]⟩ : Shape).Idx → EReal
  lam : (⟨2, ![2, 384]⟩ : Shape).Idx → EReal
  h0 : (⟨3, ![8, 2, 384]⟩ : Shape).Idx → EReal

namespace Arrays
variable (A : Arrays)

/-- Every entry of every argument is a real number. -/
structure Real : Prop where
  p : AllReal A.p
  cw : AllReal A.cw
  cb : AllReal A.cb
  wa : AllReal A.wa
  ba : AllReal A.ba
  wx : AllReal A.wx
  bx : AllReal A.bx
  lam : AllReal A.lam
  h0 : AllReal A.h0

/-- Row `s` of sequence `b` is token `8192 + 4096 b + s`. -/
abbrev token (b s : ℕ) : Fin 40960 := ⟨(8192 + 4096 * b + s) % 40960, Nat.mod_lt _ (by decide)⟩

/-- A channel's column in the projected tokens. -/
abbrev column (k : Fin 384) : Fin 3072 := ⟨2304 + k.val, by omega⟩

/-- The real numbers the arguments stand for: the tokens after the context, the columns of this layer, the first direction. -/
def operands : Operands where
  x b s k := (A.p (ix2 (token b s) (column k))).toReal
  cw j k := (A.cw (ix2 j k)).toReal
  cb k := (A.cb (ix1 k)).toReal
  wa h i j := (A.wa (ix4 0 h i j)).toReal
  ba k := (A.ba (ix2 0 k)).toReal
  wx h i j := (A.wx (ix4 0 h i j)).toReal
  bx k := (A.bx (ix2 0 k)).toReal
  lam k := (A.lam (ix2 0 k)).toReal
  h0 b k := (A.h0 (ix3 ⟨b % 8, Nat.mod_lt _ (by decide)⟩ 0 k)).toReal

/-- The real numbers of the second direction, which runs from a sequence's last row to its first. -/
def backward : Operands where
  x b s k := (A.p (ix2 (token b s) (column k))).toReal
  cw j k := (A.cw (ix2 j k)).toReal
  cb k := (A.cb (ix1 k)).toReal
  wa h i j := (A.wa (ix4 1 h i j)).toReal
  ba k := (A.ba (ix2 1 k)).toReal
  wx h i j := (A.wx (ix4 1 h i j)).toReal
  bx k := (A.bx (ix2 1 k)).toReal
  lam k := (A.lam (ix2 1 k)).toReal
  h0 b k := (A.h0 (ix3 ⟨b % 8, Nat.mod_lt _ (by decide)⟩ 1 k)).toReal

end Arrays

end Cert.Recurrence

end
-- ==== Proof.Recurrence.Pre.lean ====
/-
  What the precondition says: every entry of every argument is a real number.
-/
module

public import proofs.«01_k».proof.Pre_finite
public import proofs.«01_k».proof.Proof.Recurrence.Args
public import Idealize.ShloMosaic.Lib.ReduceAll

@[expose] public section

set_option maxRecDepth 16384

noncomputable section

namespace Cert.Recurrence

open Idealize.ShloMosaic

theorem inf_word : Ideal.ofBits .f32 0x7F800000#32 = ⊤ := by
  simp [Ideal.ofBits, Ideal.ieee]

/-- A number whose absolute value is less than infinity is a real one. -/
theorem real_of_abs (x : EReal) (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

instance : Subsingleton Cert.Pre_finite.S_.Idx := ⟨fun a b => funext fun i => i.elim0⟩

section
variable [Cert.Pre_finite.Facts]

/-- The precondition's conjunction of nine, taken apart. -/
theorem real_of_finite (A : Arrays) (h : Cert.Pre_finite.fn (F := Ideal) A.p A.cw A.cb A.wa A.ba A.wx A.bx A.lam A.h0 = fun _ => 1#1) : A.Real := by
  have e := congrFun h (fun i : Fin 0 => i.elim0)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact {
    p := fun i => real_of_abs _ (Host.reduce_andi_all _ _ _ _ _ e0 i)
    cw := fun i => real_of_abs _ (Host.reduce_andi_all _ _ _ _ _ e1 i)
    cb := fun i => real_of_abs _ (Host.reduce_andi_all _ _ _ _ _ e2 i)
    wa := fun i => real_of_abs _ (Host.reduce_andi_all _ _ _ _ _ e3 i)
    ba := fun i => real_of_abs _ (Host.reduce_andi_all _ _ _ _ _ e4 i)
    wx := fun i => real_of_abs _ (Host.reduce_andi_all _ _ _ _ _ e5 i)
    bx := fun i => real_of_abs _ (Host.reduce_andi_all _ _ _ _ _ e6 i)
    lam := fun i => real_of_abs _ (Host.reduce_andi_all _ _ _ _ _ e7 i)
    h0 := fun i => real_of_abs _ (Host.reduce_andi_all _ _ _ _ _ e8 i) }

end

end Cert.Recurrence

end
-- ==== Proof.Recurrence.Entries.lean ====
/-
  The recurrence's arrays as the kernel's pipeline finds them, and the blocks a point reads.
-/
module

public import proofs.«01_k».proof.Proof.Gen.Kernel4Ideal.Value
public import proofs.«01_k».proof.Proof.Recurrence.Args
public import Idealize.ShloMosaic.Lib.ValueIdx
public import Idealize.ShloMosaic.Lib.Pointwise.Tactic
public import Idealize.ShloMosaic.Lib.Pipeline.Value

@[expose] public section

set_option maxRecDepth 16384

noncomputable section

namespace Cert.Kernel4Ideal.Recurrence

open Idealize.ShloMosaic Idealize.ShloMosaic.TcCoe
open Idealize.ShloMosaic.ValueIdx hiding ix1 ix2 ix3 ix4
open Idealize.SL.Sem
open Cert.Kernel4Ideal Cert.Kernel4Ideal.Gen Cert.Recurrence

variable (m : (ℓ : Loc nD τ sig) → Buf (Elt Ideal) ℓ)

/-! ## A gate's matrix, a block to a head -/

/-- The head's matrices on the diagonal of one matrix. -/
def diag (w : S6x64x64.Idx → EReal) : S384x384.Idx → EReal :=
  shapeCast S384x384 (mulf
    (broadcastInDim S6x64x6x64 ![0, 1, 2, 3] bcast_S6x64x1x64_S6x64x6x64_0_1_2_3 (broadcastInDim S6x64x1x64 ![0, 1, 3] bcast_S6x64x64_S6x64x1x64_0_1_3 w) : FVec Ideal S6x64x6x64 .f32)
    (broadcastInDim S6x64x6x64 ![0, 1, 2, 3] bcast_S6x1x6x1_S6x64x6x64_0_1_2_3 (broadcastInDim S6x1x6x1 ![0, 2] bcast_S6x6_S6x1x6x1_0_2
      (uitofp (F := Ideal) .f32 (cmpi .eq (addi (iotaInDim S6x6 32 0) (broadcastInDim S6x6 ![] bcast_S_S6x6 (constantI S_ 32 0#32))) (iotaInDim S6x6 32 1))))))
    shapeCasts_S6x64x6x64_S384x384

theorem same_head : ∀ a b : Fin 6, IntOp.cmpi .eq (IntOp.addi (BitVec.ofNat 32 a.val) 0#32) (BitVec.ofNat 32 b.val) = if a = b then 1#1 else 0#1 := by
  decide +kernel

theorem diag_apply (w : S6x64x64.Idx → EReal) (l k : Fin 384) :
    diag w (ix2 l k) = if head l = head k then w (ix3 (head l) (within l) (within k)) else 0 := by
  unfold diag
  rw [shapeCast_apply (s := S6x64x6x64) _ _ _ (ix4 (head l) (within l) (head k) (within k)) (by
    rw [Shape.rowMajor_val_four, Shape.rowMajor_val_two]
    show ((l.val / 64 * 64 + l.val % 64) * 6 + k.val / 64) * 64 + k.val % 64 = l.val * 384 + k.val
    omega)]
  generalize head l = a, within l = b, head k = d, within k = e
  pointwise
  rw [same_head]
  by_cases h : a = d
  · rw [if_pos h, if_pos h]
    show w (ix3 a b e) * (((1 : ℕ) : ℝ) : EReal) = _
    rw [Nat.cast_one, EReal.coe_one, mul_one]
  · rw [if_neg h, if_neg h]
    show w (ix3 a b e) * (((0 : ℕ) : ℝ) : EReal) = _
    rw [Nat.cast_zero, EReal.coe_zero, mul_zero]

/-- One direction's matrices of a gate's two. -/
def forward (w : S2x6x64x64.Idx → EReal) : S6x64x64.Idx → EReal :=
  shapeCast S6x64x64 (extractStridedSlice S1x6x64x64 ![0, 0, 0, 0] w slices_S2x6x64x64_S1x6x64x64_0_0_0_0) shapeCasts_S1x6x64x64_S6x64x64

theorem forward_apply (w : S2x6x64x64.Idx → EReal) (h : Fin 6) (i j : Fin 64) : forward w (ix3 h i j) = w (ix4 0 h i j) := by
  unfold forward
  rw [shapeCast_apply (s := S1x6x64x64) _ _ _ (ix4 0 h i j) (by
    rw [Shape.rowMajor_val_four, Shape.rowMajor_val_three]
    show ((0 * 6 + h.val) * 64 + i.val) * 64 + j.val = (h.val * 64 + i.val) * 64 + j.val
    omega)]
  pointwise

/-- The other direction's matrices. -/
def other (w : S2x6x64x64.Idx → EReal) : S6x64x64.Idx → EReal :=
  shapeCast S6x64x64 (extractStridedSlice S1x6x64x64 ![1, 0, 0, 0] w slices_S2x6x64x64_S1x6x64x64_1_0_0_0) shapeCasts_S1x6x64x64_S6x64x64

/-- The other direction's row of two. -/
def otherRow (w : S2x384.Idx → EReal) : S384.Idx → EReal :=
  shapeCast S384 (extractStridedSlice S1x384 ![1, 0] w slices_S2x384_S1x384_1_0) shapeCasts_S1x384_S384

/-- One direction's row of two. -/
def forwardRow (w : S2x384.Idx → EReal) : S384.Idx → EReal :=
  shapeCast S384 (extractStridedSlice S1x384 ![0, 0] w slices_S2x384_S1x384_0_0) shapeCasts_S1x384_S384

theorem forwardRow_apply (w : S2x384.Idx → EReal) (k : Fin 384) : forwardRow w (ix1 k) = w (ix2 0 k) := by
  unfold forwardRow
  rw [shapeCast_apply (s := S1x384) _ _ _ (ix2 0 k) (by
    rw [Shape.rowMajor_val_two, Shape.rowMajor_val_one]
    show 0 * 384 + k.val = k.val
    omega)]
  pointwise

/-! ## The arrays as the pipeline finds them -/

/-- Two matrices, side by side. -/
def beside {α : Type} (a x : S384x384.Idx → α) : S384x768.Idx → α :=
  concatenate S384x768 1 [⟨S384x384, a⟩, ⟨S384x384, x⟩] concatenates_S384x384_S384x384_S384x768_d1

/-- Two matrices, one per direction. -/
def stacked {α : Type} (a x : S1x384x768.Idx → α) : S2x384x768.Idx → α :=
  concatenate S2x384x768 0 [⟨S1x384x768, a⟩, ⟨S1x384x768, x⟩] concatenates_S1x384x768_S1x384x768_S2x384x768_d0

/-- Two rows, one after the other. -/
def besideRow {α : Type} (a x : S384.Idx → α) : S768.Idx → α :=
  concatenate S768 0 [⟨S384, a⟩, ⟨S384, x⟩] concatenates_S384_S384_S768_d0

/-- Two rows, one per direction. -/
def stackedRow {α : Type} (a x : S1x1x768.Idx → α) : S2x1x768.Idx → α :=
  concatenate S2x1x768 0 [⟨S1x1x768, a⟩, ⟨S1x1x768, x⟩] concatenates_S1x1x768_S1x1x768_S2x1x768_d0

/-- Two gates' matrices, side by side. -/
def sideBySide (a x : S6x64x64.Idx → EReal) : S1x384x768.Idx → EReal :=
  broadcastInDim S1x384x768 ![1, 2] bcast_S384x768_S1x384x768_1_2 (beside (diag a) (diag x))

/-- Two gates' biases, one after the other. -/
def inTurn (a x : S384.Idx → EReal) : S1x1x768.Idx → EReal :=
  broadcastInDim S1x1x768 ![1, 2] bcast_S1x768_S1x1x768_1_2 (broadcastInDim S1x768 ![1] bcast_S768_S1x768_1 (besideRow a x))

section Fold
theorem beside_fold {α : Type} (a x : S384x384.Idx → α) (h) : concatenate S384x768 1 [⟨S384x384, a⟩, ⟨S384x384, x⟩] h = beside a x := rfl
theorem stacked_fold {α : Type} (a x : S1x384x768.Idx → α) (h) : concatenate S2x384x768 0 [⟨S1x384x768, a⟩, ⟨S1x384x768, x⟩] h = stacked a x := rfl
theorem besideRow_fold {α : Type} (a x : S384.Idx → α) (h) : concatenate S768 0 [⟨S384, a⟩, ⟨S384, x⟩] h = besideRow a x := rfl
theorem stackedRow_fold {α : Type} (a x : S1x1x768.Idx → α) (h) : concatenate S2x1x768 0 [⟨S1x1x768, a⟩, ⟨S1x1x768, x⟩] h = stackedRow a x := rfl
end Fold

set_option maxHeartbeats 4000000 in
theorem matrices_entry (c : Dev nD) :
    (V m c main_v60 : S2x384x768.Idx → EReal) = stacked
      (sideBySide (forward (m ((c : Thread nD τ).loc main_arg3))) (forward (m ((c : Thread nD τ).loc main_arg5))))
      (sideBySide (other (m ((c : Thread nD τ).loc main_arg3))) (other (m ((c : Thread nD τ).loc main_arg5)))) := by
  unfold V hostOps0
  simp only [beside_fold, stacked_fold]
  after_results_simp
  unfold sideBySide diag forward other
  exact congr (congrArg stacked (congrArg (broadcastInDim S1x384x768 ![1, 2] bcast_S384x768_S1x384x768_1_2) (congr (congrArg beside rfl) rfl)))
    (congrArg (broadcastInDim S1x384x768 ![1, 2] bcast_S384x768_S1x384x768_1_2) (congr (congrArg beside rfl) rfl))

set_option maxHeartbeats 4000000 in
theorem biases_entry (c : Dev nD) :
    (V m c main_v75 : S2x1x768.Idx → EReal) = stackedRow
      (inTurn (forwardRow (m ((c : Thread nD τ).loc main_arg4))) (forwardRow (m ((c : Thread nD τ).loc main_arg6))))
      (inTurn (otherRow (m ((c : Thread nD τ).loc main_arg4))) (otherRow (m ((c : Thread nD τ).loc main_arg6)))) := by
  unfold V hostOps0
  simp only [besideRow_fold, stackedRow_fold]
  after_results_simp
  rfl

theorem stacked_apply {α : Type} (a x : S1x384x768.Idx → α) (l : Fin 384) (k : Fin 768) : stacked a x (ix3 0 l k) = a (ix3 0 l k) :=
  concatenate_pair_apply_left (t := S2x384x768) 0 a x _ _ rfl (ix3 0 l k) fun b => by
    match b with
    | ⟨0, _⟩ => rfl
    | ⟨1, _⟩ => rfl
    | ⟨2, _⟩ => rfl

theorem stackedRow_apply {α : Type} (a x : S1x1x768.Idx → α) (k : Fin 768) : stackedRow a x (ix3 0 0 k) = a (ix3 0 0 k) :=
  concatenate_pair_apply_left (t := S2x1x768) 0 a x _ _ rfl (ix3 0 0 k) fun b => by
    match b with
    | ⟨0, _⟩ => rfl
    | ⟨1, _⟩ => rfl
    | ⟨2, _⟩ => rfl

theorem beside_left {α : Type} (a x : S384x384.Idx → α) (l k : Fin 384) : beside a x (ix2 l ⟨k.val, by omega⟩) = a (ix2 l k) :=
  concatenate_pair_apply_left (t := S384x768) 1 a x _ _ rfl (ix2 l k) fun b => by
    match b with
    | ⟨0, _⟩ => rfl
    | ⟨1, _⟩ => rfl

theorem beside_right {α : Type} (a x : S384x384.Idx → α) (l k : Fin 384) : beside a x (ix2 l ⟨384 + k.val, by omega⟩) = x (ix2 l k) :=
  concatenate_pair_apply_right (t := S384x768) 1 a x _ _ rfl rfl (ix2 l k) (fun b hb => by
    match b with
    | ⟨0, _⟩ => rfl
    | ⟨1, _⟩ => exact absurd rfl hb) (Nat.add_comm k.val 384)

theorem besideRow_left {α : Type} (a x : S384.Idx → α) (k : Fin 384) : besideRow a x (ix1 ⟨k.val, by omega⟩) = a (ix1 k) :=
  concatenate_pair_apply_left (t := S768) 0 a x _ _ rfl (ix1 k) fun b => by
    match b with
    | ⟨0, _⟩ => rfl

theorem besideRow_right {α : Type} (a x : S384.Idx → α) (k : Fin 384) : besideRow a x (ix1 ⟨384 + k.val, by omega⟩) = x (ix1 k) :=
  concatenate_pair_apply_right (t := S768) 0 a x _ _ rfl rfl (ix1 k) (fun b hb => by
    match b with
    | ⟨0, _⟩ => exact absurd rfl hb) (Nat.add_comm k.val 384)

theorem sideBySide_apply (a x : S6x64x64.Idx → EReal) (l : Fin 384) (k : Fin 768) : sideBySide a x (ix3 0 l k) = beside (diag a) (diag x) (ix2 l k) := by
  unfold sideBySide
  pointwise

theorem inTurn_apply (a x : S384.Idx → EReal) (k : Fin 768) : inTurn a x (ix3 0 0 k) = besideRow a x (ix1 k) := by
  unfold inTurn
  pointwise

theorem bias_entry (c : Dev nD) (k : Fin 384) :
    (V m c main_v76 : S1x384.Idx → EReal) (ix2 0 k) = (m ((c : Thread nD τ).loc main_arg2) : S384.Idx → EReal) (ix1 k) := by
  have e : (V m c main_v76 : S1x384.Idx → EReal) = shapeCast S1x384 (m ((c : Thread nD τ).loc main_arg2) : S384.Idx → EReal) shapeCasts_S384_S1x384 := by
    unfold V hostOps0
    simp [StableHlo.after]
    rfl
  rw [e]
  exact shapeCast_apply (s := S384) _ _ _ (ix1 k) (by
    rw [Shape.rowMajor_val_one, Shape.rowMajor_val_two]
    show k.val = 0 * 384 + k.val; omega)

theorem exponent_entry (c : Dev nD) (k : Fin 384) :
    (V m c main_v77 : S2x1x384.Idx → EReal) (ix3 0 0 k) = (m ((c : Thread nD τ).loc main_arg7) : S2x384.Idx → EReal) (ix2 0 k) := by
  have e : (V m c main_v77 : S2x1x384.Idx → EReal) = shapeCast S2x1x384 (m ((c : Thread nD τ).loc main_arg7) : S2x384.Idx → EReal) shapeCasts_S2x384_S2x1x384 := by
    unfold V hostOps0
    simp [StableHlo.after]
    rfl
  rw [e]
  exact shapeCast_apply (s := S2x384) _ _ _ (ix2 0 k) (by
    rw [Shape.rowMajor_val_three, Shape.rowMajor_val_two]
    show 0 * 384 + k.val = (0 * 1 + 0) * 384 + k.val; omega)

theorem start_entry (c : Dev nD) (b : Fin 8) (k : Fin 384) :
    (V m c main_v78 : S8x2x1x384.Idx → EReal) (ix4 b 0 0 k) = (m ((c : Thread nD τ).loc main_arg8) : S8x2x384.Idx → EReal) (ix3 b 0 k) := by
  have e : (V m c main_v78 : S8x2x1x384.Idx → EReal) = shapeCast S8x2x1x384 (m ((c : Thread nD τ).loc main_arg8) : S8x2x384.Idx → EReal) shapeCasts_S8x2x384_S8x2x1x384 := by
    unfold V hostOps0
    simp [StableHlo.after]
    rfl
  rw [e]
  exact shapeCast_apply (s := S8x2x384) _ _ _ (ix3 b 0 k) (by
    rw [Shape.rowMajor_val_four, Shape.rowMajor_val_three]
    show (b.val * 2 + 0) * 384 + k.val = ((b.val * 2 + 0) * 1 + 0) * 384 + k.val; omega)

/-! ## Points -/

theorem tokens_row : ∀ t : Fin grid0.N, cc0_transform_0 (grid0.coords t) 0 = 32 + t.val := by decide +kernel
theorem tokens_column : ∀ t : Fin grid0.N, cc0_transform_0 (grid0.coords t) 1 = 6 := by decide +kernel
theorem start_row : ∀ t : Fin grid0.N, cc0_transform_6 (grid0.coords t) 0 = t.val / 16 := by decide +kernel

/-! ## Where a block's entries sit in their arrays -/

section Places
variable (t : Fin grid0.N)

theorem place0 (y : S256x384.Idx) (a : Fin 2) : ((((cfg0.win 0).blk t).view.emb y : S40960x3072.Idx) a).val = cc0_transform_0 (grid0.coords t) a * S256x384.size a + (y a).val :=
  Pipeline.Window.rect_emb_val (cfg0.win 0) t y a rfl

theorem place1 (y : S4x384.Idx) (a : Fin 2) : ((((cfg0.win 1).blk t).view.emb y : S4x384.Idx) a).val = cc0_transform_1 (grid0.coords t) a * S4x384.size a + (y a).val :=
  Pipeline.Window.rect_emb_val (cfg0.win 1) t y a rfl

theorem place2 (y : S1x384.Idx) (a : Fin 2) : ((((cfg0.win 2).blk t).view.emb y : S1x384.Idx) a).val = cc0_transform_2 (grid0.coords t) a * S1x384.size a + (y a).val :=
  Pipeline.Window.rect_emb_val (cfg0.win 2) t y a rfl

theorem place3 (y : S1x384x768.Idx) (a : Fin 3) : ((((cfg0.win 3).blk t).view.emb y : S2x384x768.Idx) a).val = cc0_transform_3 (grid0.coords t) a * S1x384x768.size a + (y a).val :=
  Pipeline.Window.rect_emb_val (cfg0.win 3) t y a rfl

theorem place4 (y : S1x1x768.Idx) (a : Fin 3) : ((((cfg0.win 4).blk t).view.emb y : S2x1x768.Idx) a).val = cc0_transform_4 (grid0.coords t) a * S1x1x768.size a + (y a).val :=
  Pipeline.Window.rect_emb_val (cfg0.win 4) t y a rfl

theorem place5 (y : S1x1x384.Idx) (a : Fin 3) : ((((cfg0.win 5).blk t).view.emb y : S2x1x384.Idx) a).val = cc0_transform_5 (grid0.coords t) a * S1x1x384.size a + (y a).val :=
  Pipeline.Window.rect_emb_val (cfg0.win 5) t y a rfl

theorem place6 (y : S1x1x1x384.Idx) (a : Fin 4) : ((((cfg0.win 6).blk t).view.emb y : S8x2x1x384.Idx) a).val = cc0_transform_6 (grid0.coords t) a * S1x1x1x384.size a + (y a).val :=
  Pipeline.Window.rect_emb_val (cfg0.win 6) t y a rfl

end Places

/-! ## The blocks a point reads -/

section Blocks
variable (c : Dev nD) (t : Fin grid0.N)

theorem block0_apply (n : Fin 256) (k : Fin 384) :
    (iblk m c 0 t : S256x384.Idx → EReal) (ix2 n k)
      = (m ((c : Thread nD τ).loc main_arg0) : S40960x3072.Idx → EReal) (ix2 (Arrays.token (t.val / 16) (256 * (t.val % 16) + n.val)) (Arrays.column k)) := by
  refine Eq.trans ?_ (congrFun (V_main_arg0 m c) _)
  unfold iblk
  refine congrArg (V m c main_arg0 : S40960x3072.Idx → EReal) (?_ : (((cfg0.win 0).blk t).view.emb _ : S40960x3072.Idx) = _)
  funext (a : Fin 2)
  refine Fin.ext ((place0 t _ a).trans ?_)
  have ht := t.isLt
  change t.val < 128 at ht
  have hn := n.isLt
  match a with
  | ⟨0, _⟩ =>
    refine (congrArg (· * 256 + n.val) (tokens_row t)).trans ?_
    show (32 + t.val) * 256 + n.val = (8192 + 4096 * (t.val / 16) + (256 * (t.val % 16) + n.val)) % 40960
    omega
  | ⟨1, _⟩ =>
    refine (congrArg (· * 384 + k.val) (tokens_column t)).trans ?_
    show 6 * 384 + k.val = 2304 + k.val
    omega

theorem block1_apply (j : Fin 4) (k : Fin 384) :
    (iblk m c 1 t : S4x384.Idx → EReal) (ix2 j k) = (m ((c : Thread nD τ).loc main_arg1) : S4x384.Idx → EReal) (ix2 j k) := by
  refine Eq.trans ?_ (congrFun (V_main_arg1 m c) _)
  unfold iblk
  refine congrArg (V m c main_arg1 : S4x384.Idx → EReal) (?_ : (((cfg0.win 1).blk t).view.emb _ : S4x384.Idx) = _)
  funext (a : Fin 2)
  refine Fin.ext ((place1 t _ a).trans ?_)
  match a with
  | ⟨0, _⟩ => show 0 * 4 + j.val = j.val; omega
  | ⟨1, _⟩ => show 0 * 384 + k.val = k.val; omega

theorem block2_apply (k : Fin 384) :
    (iblk m c 2 t : S1x384.Idx → EReal) (ix2 0 k) = (m ((c : Thread nD τ).loc main_arg2) : S384.Idx → EReal) (ix1 k) := by
  refine Eq.trans ?_ (bias_entry m c k)
  unfold iblk
  refine congrArg (V m c main_v76 : S1x384.Idx → EReal) (?_ : (((cfg0.win 2).blk t).view.emb _ : S1x384.Idx) = _)
  funext (a : Fin 2)
  refine Fin.ext ((place2 t _ a).trans ?_)
  match a with
  | ⟨0, _⟩ => rfl
  | ⟨1, _⟩ => show 0 * 384 + k.val = k.val; omega

theorem block3_apply (l : Fin 384) (k : Fin 768) :
    (iblk m c 3 t : S1x384x768.Idx → EReal) (ix3 0 l k)
      = beside (diag (forward (m ((c : Thread nD τ).loc main_arg3)))) (diag (forward (m ((c : Thread nD τ).loc main_arg5)))) (ix2 l k) := by
  refine Eq.trans ?_ ((congrFun (matrices_entry m c) (ix3 0 l k)).trans ((stacked_apply _ _ l k).trans (sideBySide_apply _ _ l k)))
  unfold iblk
  refine congrArg (V m c main_v60 : S2x384x768.Idx → EReal) (?_ : (((cfg0.win 3).blk t).view.emb _ : S2x384x768.Idx) = _)
  funext (a : Fin 3)
  refine Fin.ext ((place3 t _ a).trans ?_)
  match a with
  | ⟨0, _⟩ => rfl
  | ⟨1, _⟩ => show 0 * 384 + l.val = l.val; omega
  | ⟨2, _⟩ => show 0 * 768 + k.val = k.val; omega

theorem block4_apply (k : Fin 768) :
    (iblk m c 4 t : S1x1x768.Idx → EReal) (ix3 0 0 k)
      = besideRow (forwardRow (m ((c : Thread nD τ).loc main_arg4))) (forwardRow (m ((c : Thread nD τ).loc main_arg6))) (ix1 k) := by
  refine Eq.trans ?_ ((congrFun (biases_entry m c) (ix3 0 0 k)).trans ((stackedRow_apply _ _ k).trans (inTurn_apply _ _ k)))
  unfold iblk
  refine congrArg (V m c main_v75 : S2x1x768.Idx → EReal) (?_ : (((cfg0.win 4).blk t).view.emb _ : S2x1x768.Idx) = _)
  funext (a : Fin 3)
  refine Fin.ext ((place4 t _ a).trans ?_)
  match a with
  | ⟨0, _⟩ => rfl
  | ⟨1, _⟩ => rfl
  | ⟨2, _⟩ => show 0 * 768 + k.val = k.val; omega

theorem block5_apply (k : Fin 384) :
    (iblk m c 5 t : S1x1x384.Idx → EReal) (ix3 0 0 k) = (m ((c : Thread nD τ).loc main_arg7) : S2x384.Idx → EReal) (ix2 0 k) := by
  refine Eq.trans ?_ (exponent_entry m c k)
  unfold iblk
  refine congrArg (V m c main_v77 : S2x1x384.Idx → EReal) (?_ : (((cfg0.win 5).blk t).view.emb _ : S2x1x384.Idx) = _)
  funext (a : Fin 3)
  refine Fin.ext ((place5 t _ a).trans ?_)
  match a with
  | ⟨0, _⟩ => rfl
  | ⟨1, _⟩ => rfl
  | ⟨2, _⟩ => show 0 * 384 + k.val = k.val; omega

theorem block6_apply (k : Fin 384) :
    (iblk m c 6 t : S1x1x1x384.Idx → EReal) (ix4 0 0 0 k)
      = (m ((c : Thread nD τ).loc main_arg8) : S8x2x384.Idx → EReal) (ix3 ⟨t.val / 16 % 8, Nat.mod_lt _ (by decide)⟩ 0 k) := by
  refine Eq.trans ?_ (start_entry m c ⟨t.val / 16 % 8, Nat.mod_lt _ (by decide)⟩ k)
  unfold iblk
  refine congrArg (V m c main_v78 : S8x2x1x384.Idx → EReal) (?_ : (((cfg0.win 6).blk t).view.emb _ : S8x2x1x384.Idx) = _)
  funext (a : Fin 4)
  refine Fin.ext ((place6 t _ a).trans ?_)
  have ht := t.isLt
  change t.val < 128 at ht
  match a with
  | ⟨0, _⟩ =>
    refine (congrArg (· * 1 + 0) (start_row t)).trans ?_
    show t.val / 16 * 1 + 0 = t.val / 16 % 8
    omega
  | ⟨1, _⟩ => rfl
  | ⟨2, _⟩ => rfl
  | ⟨3, _⟩ => show 0 * 384 + k.val = k.val; omega

end Blocks

end Cert.Kernel4Ideal.Recurrence

end
-- ==== Proof.Recurrence.Block.lean ====
/-
  What a point of the recurrence's grid leaves, as a function of the blocks it reads and of the state it starts from.

  A block of 256 rows is scanned by doubling: with steps 1, 2, 4, … 128 each row's pair (factor, gain) is joined with the pair
  that lies the step behind it (`joinA`, `joinU`). The state of every row then is the factor times the state before the block,
  plus the gain; the last row's state is kept for the next block. At the first block of a sequence the state before it is
  read from the first-states array; at the last one the state is written out as the sequence's final state.
-/
module

public import proofs.«01_k».proof.Proof.Gen.Kernel4Ideal.Frame
public import Idealize.ShloMosaic.Lib.ValueIdx
public import Idealize.ShloMosaic.Lib.Pipeline.Value

@[expose] public section

set_option maxRecDepth 16384

noncomputable section

namespace Cert.Kernel4Ideal.Recurrence

open Idealize.ShloMosaic Idealize.ShloMosaic.ValueIdx Idealize.ShloMosaic.Tactic
open Cert.Kernel4Ideal Cert.Kernel4Ideal.Gen

variable {F : FTy → Type} [FloatOps F]

/-- The row numbers of a block. -/
def rows : IVec S256x1 32 := iota .tc S256x1 32 [0] iota_S256x1_d0_w32

/-- The rows `w` behind; `d` where there are none. -/
def behind (w : BitVec 32) (d : F .f32) (x : FVec F S256x384 .f32) : FVec F S256x384 .f32 :=
  select (broadcastTo S256x384 (shapeCast S256x1 (cmpi .sge rows (broadcast S256x1 w)) shapeCasts_S256x1_S256x1) broadcasts_S256x1_S256x384)
    (dynamicRotate 0 w none x rotates_S256x384_d0) (broadcast S256x384 d)

/-- Factors joined with those `w` behind. -/
def joinA (w : BitVec 32) (a : FVec F S256x384 .f32) : FVec F S256x384 .f32 :=
  mulf a (behind w (Scalar.ofBits .f32 0x3F800000#32) a)

/-- Gains joined with those `w` behind. -/
def joinU (w : BitVec 32) (a u : FVec F S256x384 .f32) : FVec F S256x384 .f32 :=
  addf (mulf a (behind w (Scalar.ofBits .f32 0x00000000#32) u)) u

/-- The convolved rows. -/
def convolved (x : Vec F S256x384 .f32) (cw : Vec F S4x384 .f32) (cb : Vec F S1x384 .f32) : FVec F S256x384 .f32 :=
  k0_pay7 x k0_pay5 cw (k0_pay6 x cw) cb

section Values
variable (x : Vec F S256x384 .f32) (cw : Vec F S4x384 .f32) (cb : Vec F S1x384 .f32) (wg : Vec F S1x384x768 .f32) (bg : Vec F S1x1x768 .f32)
  (lam : Vec F S1x1x384 .f32)

/-- The logarithms of the rows' factors. -/
def logs : FVec F S256x384 .f32 := k0_pay14 (k0_pay9 (convolved x cw cb) wg bg) (k0_pay12 lam) (k0_pay13 lam)

/-- The rows' factors. -/
def factors : FVec F S256x384 .f32 := exp (logs x cw cb wg bg lam)

/-- The rows' gains. -/
def gains : FVec F S256x384 .f32 :=
  mulf (mulf (sqrt (mulf (subf (broadcast S256x384 (Scalar.ofBits .f32 0x00000000#32)) (tanh (logs x cw cb wg bg lam)))
      (addf (mulf (factors x cw cb wg bg lam) (factors x cw cb wg bg lam)) (broadcast S256x384 (Scalar.ofBits .f32 0x3F800000#32)))))
    (k0_pay10 (convolved x cw cb) wg bg)) (convolved x cw cb)

end Values

/-- The states of a block's rows, from factors `a`, gains `u` and the state before the block. -/
def scanned (a u : FVec F S256x384 .f32) (carry : Vec F S1x384 .f32) : FVec F S256x384 .f32 :=
  let a1 := joinA 1#32 a
  let u1 := joinU 1#32 a u
  let a2 := joinA 2#32 a1
  let u2 := joinU 2#32 a1 u1
  let a3 := joinA 4#32 a2
  let u3 := joinU 4#32 a2 u2
  let a4 := joinA 8#32 a3
  let u4 := joinU 8#32 a3 u3
  let a5 := joinA 16#32 a4
  let u5 := joinU 16#32 a4 u4
  let a6 := joinA 32#32 a5
  let u6 := joinU 32#32 a5 u5
  let a7 := joinA 64#32 a6
  let u7 := joinU 64#32 a6 u6
  let a8 := joinA 128#32 a7
  let u8 := joinU 128#32 a7 u7
  addf (mulf a8 (broadcastTo S256x384 carry broadcasts_S1x384_S256x384)) u8

/-- The last row of a block. -/
def lastRow (h : FVec F S256x384 .f32) : FVec F S1x384 .f32 :=
  extractStridedSlice S1x384 ![255, 0] h slices_S256x384_o255_0_S1x384

/-- What a point leaves in its block of the states. -/
def states (x : Vec F S256x384 .f32) (cw : Vec F S4x384 .f32) (cb : Vec F S1x384 .f32) (wg : Vec F S1x384x768 .f32) (bg : Vec F S1x1x768 .f32)
    (lam : Vec F S1x1x384 .f32) (carry : Vec F S1x384 .f32) : FVec F S256x384 .f32 :=
  scanned (factors x cw cb wg bg lam) (gains x cw cb wg bg lam) carry

/-- A sequence's first state, as a row. -/
def first (h0 : Vec F S1x1x1x384 .f32) : FVec F S1x384 .f32 := shapeCast S1x384 h0 shapeCasts_S1x1x1x384_S1x384

/-- A state as a block of the final states. -/
def final (h : FVec F S1x384 .f32) : FVec F S1x1x384 .f32 := shapeCast S1x1x384 h shapeCasts_S1x384_S1x1x384

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The printed values of the scan, step by step -/

section Steps
variable (v82 v109 v117 a u : FVec F S256x384 .f32) (v123 v124 : FVec F S1x384 .f32) (carry : Vec F S1x384 .f32)

/-- The mask of the rows that have a row `w` behind. -/
def mask (w : BitVec 32) : IVec S256x384 1 :=
  broadcastTo S256x384 (shapeCast S256x1 (cmpi .sge rows (broadcast S256x1 w)) shapeCasts_S256x1_S256x1) broadcasts_S256x1_S256x384

/-- The rows rotated by `w`. -/
def turned (w : BitVec 32) (x : FVec F S256x384 .f32) : FVec F S256x384 .f32 := dynamicRotate 0 w none x rotates_S256x384_d0

/-- The gains before the scan. -/
def gain0 (l gi xm : FVec F S256x384 .f32) : FVec F S256x384 .f32 :=
  mulf (mulf (sqrt (mulf (subf (broadcast S256x384 (Scalar.ofBits .f32 0x00000000#32)) (tanh l))
    (addf (mulf (exp l) (exp l)) (broadcast S256x384 (Scalar.ofBits .f32 0x3F800000#32))))) gi) xm

theorem fold_rows : iota .tc S256x1 32 [0] iota_S256x1_d0_w32 = rows := rfl
theorem step1A : k0_pay18 rows v109 v123 v124 = joinA 1#32 (exp (k0_pay14 v109 v123 v124)) := rfl
theorem step1U : k0_pay17 rows v82 v109 v117 v123 v124 = joinU 1#32 (exp (k0_pay14 v109 v123 v124)) (gain0 (k0_pay14 v109 v123 v124) v117 v82) := rfl
theorem step2a : k0_pay20 rows v109 v123 v124 = behind 2#32 (Scalar.ofBits .f32 0x3F800000#32) (k0_pay18 rows v109 v123 v124) := rfl
theorem step2u : k0_pay21 rows v82 v109 v117 v123 v124 = turned 2#32 (k0_pay17 rows v82 v109 v117 v123 v124) := rfl
theorem step2m : k0_pay22 rows = mask 2#32 := rfl
theorem step8A : k0_pay29 rows a (behind 2#32 (Scalar.ofBits .f32 0x3F800000#32) a) = joinA 8#32 (joinA 4#32 (joinA 2#32 a)) := rfl
theorem step8U : k0_pay28 rows u a (behind 2#32 (Scalar.ofBits .f32 0x3F800000#32) a) (turned 2#32 u) (mask 2#32) k0_pay23
    = joinU 8#32 (joinA 4#32 (joinA 2#32 a)) (joinU 4#32 (joinA 2#32 a) (joinU 2#32 a u)) := rfl
theorem step16a : k0_pay31 rows a (behind 2#32 (Scalar.ofBits .f32 0x3F800000#32) a)
    = behind 16#32 (Scalar.ofBits .f32 0x3F800000#32) (k0_pay29 rows a (behind 2#32 (Scalar.ofBits .f32 0x3F800000#32) a)) := rfl
theorem step16u : k0_pay32 rows u a (behind 2#32 (Scalar.ofBits .f32 0x3F800000#32) a) (turned 2#32 u) (mask 2#32) k0_pay23
    = turned 16#32 (k0_pay28 rows u a (behind 2#32 (Scalar.ofBits .f32 0x3F800000#32) a) (turned 2#32 u) (mask 2#32) k0_pay23) := rfl
theorem step16m : k0_pay33 rows = mask 16#32 := rfl
theorem step64A : k0_pay40 rows a (behind 16#32 (Scalar.ofBits .f32 0x3F800000#32) a) = joinA 64#32 (joinA 32#32 (joinA 16#32 a)) := rfl
theorem step64U : k0_pay39 rows u a (behind 16#32 (Scalar.ofBits .f32 0x3F800000#32) a) (turned 16#32 u) (mask 16#32) k0_pay34
    = joinU 64#32 (joinA 32#32 (joinA 16#32 a)) (joinU 32#32 (joinA 16#32 a) (joinU 16#32 a u)) := rfl
theorem step128a : k0_pay42 rows a (behind 16#32 (Scalar.ofBits .f32 0x3F800000#32) a)
    = behind 128#32 (Scalar.ofBits .f32 0x3F800000#32) (k0_pay40 rows a (behind 16#32 (Scalar.ofBits .f32 0x3F800000#32) a)) := rfl
theorem step128u : k0_pay43 rows u a (behind 16#32 (Scalar.ofBits .f32 0x3F800000#32) a) (turned 16#32 u) (mask 16#32) k0_pay34
    = turned 128#32 (k0_pay39 rows u a (behind 16#32 (Scalar.ofBits .f32 0x3F800000#32) a) (turned 16#32 u) (mask 16#32) k0_pay34) := rfl
theorem step128m : k0_pay44 rows = mask 128#32 := rfl
theorem stepLast : k0_pay1 u a (behind 128#32 (Scalar.ofBits .f32 0x3F800000#32) a) (turned 128#32 u) (mask 128#32) k0_pay45 carry
    = addf (mulf (joinA 128#32 a) (broadcastTo S256x384 carry broadcasts_S1x384_S256x384)) (joinU 128#32 a u) := rfl
theorem stepKept : k0_pay2 u a (behind 128#32 (Scalar.ofBits .f32 0x3F800000#32) a) (turned 128#32 u) (mask 128#32) k0_pay45 carry
    = lastRow (k0_pay1 u a (behind 128#32 (Scalar.ofBits .f32 0x3F800000#32) a) (turned 128#32 u) (mask 128#32) k0_pay45 carry) :=
  shapeCast_self _ _
theorem step3 (h : Vec F S1x384 .f32) : k0_pay3 h = final h := rfl
theorem step4 (h : Vec F S1x1x1x384 .f32) : k0_pay4 h = first h := shapeCast_self _ _

end Steps

section Cases
variable (c : Dev nD) (i : grid0.Coords)
  (arg2 : Memref sig .tc .vmem S256x384 .f32) (harg2 : arg2.IsWhole) (arg3 : Memref sig .tc .vmem S4x384 .f32) (harg3 : arg3.IsWhole)
  (arg4 : Memref sig .tc .vmem S1x384 .f32) (harg4 : arg4.IsWhole) (arg5 : Memref sig .tc .vmem S1x384x768 .f32) (harg5 : arg5.IsWhole)
  (arg6 : Memref sig .tc .vmem S1x1x768 .f32) (harg6 : arg6.IsWhole) (arg7 : Memref sig .tc .vmem S1x1x384 .f32) (harg7 : arg7.IsWhole)
  (arg8 : Memref sig .tc .vmem S1x1x1x384 .f32) (harg8 : arg8.IsWhole) (arg9 : Memref sig .tc .vmem S256x384 .f32) (harg9 : arg9.IsWhole)
  (arg10 : Memref sig .tc .vmem S1x1x384 .f32) (harg10 : arg10.IsWhole) (arg11 : Memref sig .tc .vmem S1x384 .f32) (harg11 : arg11.IsWhole)
  (x0 : Vec F S256x384 .f32) (x1 : Vec F S4x384 .f32) (x2 : Vec F S1x384 .f32) (x3 : Vec F S1x384x768 .f32) (x4 : Vec F S1x1x768 .f32)
  (x5 : Vec F S1x1x384 .f32) (x6 : Vec F S1x1x1x384 .f32) (xs : Vec F S1x384 .f32)

/-- A middle block: the rows' states. -/
theorem states_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 hc0 hc1 x0 x1 x2 x3 x4 x5 x6 xs
      = states x0 x1 x2 x3 x4 x5 xs := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero (S := S256x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A middle block keeps its last row's state. -/
theorem kept_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs
      = lastRow (states x0 x1 x2 x3 x4 x5 xs) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero (S := S1x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A sequence's first block: the rows' states, from the first state. -/
theorem states_A (hc0 : cond0_0 i) (hc1 : ¬cond0_1 i) :
    out0_A_7 c i arg2 harg2 arg3 harg3 arg4 harg4 arg5 harg5 arg6 harg6 arg7 harg7 arg8 harg8 arg9 harg9 arg10 harg10 arg11 harg11 hc0 hc1 x0 x1 x2 x3 x4 x5 x6
      = states x0 x1 x2 x3 x4 x5 (first x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S256x384) hz2, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A sequence's first block keeps its last row's state. -/
theorem kept_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6
      = lastRow (states x0 x1 x2 x3 x4 x5 (first x6)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x384) hz2, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A sequence's last block: the rows' states. -/
theorem states_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs
      = states x0 x1 x2 x3 x4 x5 xs := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S256x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A sequence's last block keeps its last row's state. -/
theorem kept_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs
      = lastRow (states x0 x1 x2 x3 x4 x5 xs) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S1x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A sequence's last block writes that state out. -/
theorem final_C (hc0 : ¬cond0_0 i) (hc1 : cond0_1 i) :
    out0_C_8 c i arg2 harg2 arg3 harg3 arg4 harg4 arg5 harg5 arg6 harg6 arg7 harg7 arg8 harg8 arg9 harg9 arg10 harg10 arg11 harg11 hc0 hc1 x0 x1 x2 x3 x4 x5 x6 xs
      = final (lastRow (states x0 x1 x2 x3 x4 x5 xs)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S1x1x384) hz3, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

end Cases

end Cert.Kernel4Ideal.Recurrence

end
-- ==== Proof.Recurrence.Net.lean ====
/-
  What the recurrence's body leaves, read at an index, over the reals.
-/
module

public import proofs.«01_k».proof.Proof.Recurrence.Spec
public import proofs.«01_k».proof.Proof.Recurrence.Block
public import Idealize.ShloMosaic.Lib.ValueIdx
public import Idealize.ShloMosaic.Lib.Pointwise.Tactic
public import Idealize.ShloMosaic.Lib.Pipeline.Value

@[expose] public section

set_option maxRecDepth 16384

noncomputable section

namespace Cert.Kernel4Ideal.Recurrence

open Idealize.ShloMosaic
open Idealize.ShloMosaic.ValueIdx hiding ix1 ix2 ix3 ix4
open Cert.Kernel4Ideal Cert.Kernel4Ideal.Gen Cert.Recurrence

/-! ## The masks -/

theorem remainder (x : BitVec 32) : IntOp.remsi ArithUnit.vector x 64#32 = x.srem 64#32 := by
  unfold IntOp.remsi
  exact if_neg (by unfold IntOp.SDivCorner; rintro (h | ⟨_, h⟩) <;> revert h <;> decide)

theorem pos_words : ∀ n : Fin 256,
    Scalar.select (IntOp.andi (IntOp.xori (IntOp.cmpi .slt ((BitVec.ofNat 32 n.val).srem 64#32) 0#32) 0#1)
        (IntOp.cmpi .ne ((BitVec.ofNat 32 n.val).srem 64#32) 0#32))
      (IntOp.addi ((BitVec.ofNat 32 n.val).srem 64#32) 64#32) ((BitVec.ofNat 32 n.val).srem 64#32)
    = BitVec.ofNat 32 (n.val % 64) := by
  decide +kernel

/-- The column of a block's row in its grid row. -/
theorem pos_apply (n : Fin 256) : k0_pay5 (ix2 n 0) = BitVec.ofNat 32 (n.val % 64) := by
  unfold k0_pay5
  pointwise
  have e1 : (Scalar.select (Scalar.cmpi CmpIPredicate.eq 64#32 0#32) 1#32 64#32) = 64#32 := by decide
  have e2 : Scalar.cmpi CmpIPredicate.slt 64#32 0#32 = 0#1 := by decide
  simp only [e1, e2, remainder]
  exact pos_words n

theorem mask2 : ∀ m : Fin 64, IntOp.andi (IntOp.cmpi .sge (IntOp.addi (BitVec.ofNat 32 m.val) 4294967294#32) 0#32)
    (IntOp.cmpi .slt (IntOp.addi (BitVec.ofNat 32 m.val) 4294967294#32) 64#32) = if 2 ≤ m.val then 1#1 else 0#1 := by
  decide +kernel

theorem mask1 : ∀ m : Fin 64, IntOp.andi (IntOp.cmpi .sge (IntOp.addi (BitVec.ofNat 32 m.val) 4294967295#32) 0#32)
    (IntOp.cmpi .slt (IntOp.addi (BitVec.ofNat 32 m.val) 4294967295#32) 64#32) = if 1 ≤ m.val then 1#1 else 0#1 := by
  decide +kernel

theorem mask3 : ∀ m : Fin 64, IntOp.andi (IntOp.cmpi .sge (IntOp.addi (BitVec.ofNat 32 m.val) 1#32) 0#32)
    (IntOp.cmpi .slt (IntOp.addi (BitVec.ofNat 32 m.val) 1#32) 64#32) = if m.val < 63 then 1#1 else 0#1 := by
  decide +kernel

theorem select_if {α : Type} (p : Prop) [Decidable p] (a b : α) : Scalar.select (if p then 1#1 else 0#1) a b = if p then a else b := by
  unfold Scalar.select
  split <;> simp

theorem conv0 (x : Vec Ideal S256x384 .f32) (cw : Vec Ideal S4x384 .f32) (n : Fin 256) (k : Fin 384) :
    k0_pay6 x cw (ix2 n k) = cw (ix2 0 k) * (if 2 ≤ n.val % 64 then x (ix2 ⟨(n.val + 256 - 2) % 256, by omega⟩ k) else 0) := by
  unfold k0_pay6
  simp only [shapeCast_self]
  pointwise
  rw [pos_apply, mask2 ⟨n.val % 64, by omega⟩, select_if]

/-- The rows of the convolution. -/
theorem conv_apply (x : Vec Ideal S256x384 .f32) (cw : Vec Ideal S4x384 .f32) (cb : Vec Ideal S1x384 .f32) (n : Fin 256) (k : Fin 384) :
    convolved x cw cb (ix2 n k)
      = cw (ix2 0 k) * (if 2 ≤ n.val % 64 then x (ix2 ⟨(n.val + 256 - 2) % 256, by omega⟩ k) else 0)
        + cw (ix2 1 k) * (if 1 ≤ n.val % 64 then x (ix2 ⟨(n.val + 256 - 1) % 256, by omega⟩ k) else 0)
        + cw (ix2 2 k) * x (ix2 n k)
        + cw (ix2 3 k) * (if n.val % 64 < 63 then x (ix2 ⟨(n.val + 256 - 255) % 256, by omega⟩ k) else 0)
        + cb (ix2 0 k) := by
  unfold convolved k0_pay7
  simp only [shapeCast_self]
  pointwise
  rw [conv0, pos_apply, mask1 ⟨n.val % 64, by omega⟩, mask3 ⟨n.val % 64, by omega⟩, select_if, select_if]

theorem row_words : ∀ (v : Fin 8) (n : Fin 256), IntOp.cmpi .sge (BitVec.ofNat 32 n.val) (BitVec.ofNat 32 (2 ^ v.val)) = if 2 ^ v.val ≤ n.val then 1#1 else 0#1 := by
  decide +kernel

theorem row_apply (n : Fin 256) : rows (ix2 n 0) = BitVec.ofNat 32 n.val := by
  unfold rows
  pointwise

theorem behind_apply (v : Fin 8) (d : EReal) (x : FVec Ideal S256x384 .f32) (n : Fin 256) (k : Fin 384) :
    behind (BitVec.ofNat 32 (2 ^ v.val)) d x (ix2 n k) = if h : 2 ^ v.val ≤ n.val then x (ix2 ⟨n.val - 2 ^ v.val, Nat.lt_of_le_of_lt (Nat.sub_le _ _) n.isLt⟩ k) else d := by
  have hv : 2 ^ v.val < 256 := by
    have h := v.isLt
    calc 2 ^ v.val ≤ 2 ^ 7 := Nat.pow_le_pow_right (by norm_num) (by omega)
      _ < 256 := by norm_num
  unfold behind
  simp only [shapeCast_self]
  pointwise
  rw [row_apply, row_words v n, select_if]
  by_cases h : 2 ^ v.val ≤ n.val
  · rw [if_pos h, dif_pos h]
    refine congrArg (fun i => x (ix2 i k)) (Fin.ext ?_)
    show (n.val + 256 - (2 ^ v.val % 2 ^ 32) % 256) % 256 = n.val - 2 ^ v.val
    have hn := n.isLt
    generalize 2 ^ v.val = w at *
    omega
  · rw [if_neg h, dif_neg h]

/-! ## The gates -/

local notation "D" => dot_S256x384_S384x768_S256x768_1_0_0_1_n_n

/-- The body's product of 256 rows with the gates' matrix, read at an index. -/
theorem product_apply (l : FVec Ideal S256x384 .bf16) (r : FVec Ideal S384x768 .bf16) (n : Fin 256) (c : Fin 768) :
    Ideal.matmul D l r (constant S256x768 .f32 0#32 : FVec Ideal S256x768 .f32) (ix2 n c) = ∑ k : Fin 384, l (ix2 n k) * r (ix2 k c) := by
  refine (Ideal.matmul_constant_zero_apply D none l r _).trans ?_
  rw [← Equiv.sum_comp (contrEquiv1 D 384 rfl rfl).symm]
  refine Finset.sum_congr rfl fun k _ => ?_
  have hk := contrEquiv1_symm_val D 384 rfl rfl k
  congr 1
  · refine congrArg l (funext fun a => Fin.ext ?_)
    match a with
    | ⟨0, _⟩ => simp [DotDims.lhsIdx, dot_S256x384_S384x768_S256x768_1_0_0_1_n_n]; rfl
    | ⟨1, _⟩ => refine Eq.trans ?_ hk; simp [DotDims.lhsIdx, dot_S256x384_S384x768_S256x768_1_0_0_1_n_n]; rfl
  · refine congrArg r (funext fun a => Fin.ext ?_)
    match a with
    | ⟨0, _⟩ => refine Eq.trans ?_ hk; simp [DotDims.rhsIdx, dot_S256x384_S384x768_S256x768_1_0_0_1_n_n]; rfl
    | ⟨1, _⟩ => simp [DotDims.rhsIdx, dot_S256x384_S384x768_S256x768_1_0_0_1_n_n]; rfl

/-- The gates' matrix without its leading unit axis. -/
theorem matrix_apply (w : Vec Ideal S1x384x768 .f32) (l : Fin 384) (c : Fin 768) :
    shapeCast S384x768 w shapeCasts_S1x384x768_S384x768 (ix2 l c) = w (ix3 0 l c) :=
  shapeCast_apply _ _ _ _ (by
    rw [Shape.rowMajor_val_three, Shape.rowMajor_val_two]
    show (0 * 384 + l.val) * 768 + c.val = l.val * 768 + c.val; omega)

/-- The gates' bias without its leading unit axis. -/
theorem bias_apply (w : Vec Ideal S1x1x768 .f32) (c : Fin 768) :
    shapeCast S1x768 w shapeCasts_S1x1x768_S1x768 (ix2 0 c) = w (ix3 0 0 c) :=
  shapeCast_apply _ _ _ _ (by
    rw [Shape.rowMajor_val_three, Shape.rowMajor_val_two]
    show (0 * 1 + 0) * 768 + c.val = 0 * 768 + c.val; omega)

/-- The decay parameter without its leading unit axis. -/
theorem lam_apply (w : Vec Ideal S1x1x384 .f32) (c : Fin 384) :
    shapeCast S1x384 w shapeCasts_S1x1x384_S1x384 (ix2 0 c) = w (ix3 0 0 c) :=
  shapeCast_apply _ _ _ _ (by
    rw [Shape.rowMajor_val_three, Shape.rowMajor_val_two]
    show (0 * 1 + 0) * 384 + c.val = 0 * 384 + c.val; omega)

theorem sub_self_coe (r : ℝ) : (r : EReal) - (r : EReal) = 0 := by
  rw [← EReal.coe_sub, sub_self]; rfl

/-- The three products add up to the one product of finite operands. -/
theorem gates_apply (x : FVec Ideal S256x384 .f32) (wg : Vec Ideal S1x384x768 .f32) (bg : Vec Ideal S1x1x768 .f32) (n : Fin 256) (c : Fin 768)
    (y w : Fin 384 → ℝ) (b : ℝ) (hx : ∀ l, x (ix2 n l) = (y l : EReal)) (hw : ∀ l, wg (ix3 0 l c) = (w l : EReal)) (hb : bg (ix3 0 0 c) = (b : EReal)) :
    k0_pay8 x wg bg (ix2 n c) = (((∑ l, y l * w l) + b : ℝ) : EReal) := by
  unfold k0_pay8
  pointwise
  rw [product_apply, product_apply, product_apply, bias_apply, hb]
  have e1 : ∀ k : Fin 384, (truncf FTy.bf16 x bitsLt_bf16_f32 : FVec Ideal S256x384 .bf16) (ix2 n k) = (y k : EReal) := fun k => hx k
  have e2 : ∀ k : Fin 384, (truncf FTy.bf16 (shapeCast S384x768 wg shapeCasts_S1x384x768_S384x768) bitsLt_bf16_f32 : FVec Ideal S384x768 .bf16) (ix2 k c) = (w k : EReal) :=
    fun k => (matrix_apply wg k c).trans (hw k)
  have e3 : ∀ k : Fin 384, (truncf FTy.bf16 (subf x (extf FTy.f32 (truncf FTy.bf16 x bitsLt_bf16_f32) bitsLt_bf16_f32)) bitsLt_bf16_f32 : FVec Ideal S256x384 .bf16) (ix2 n k) = 0 := fun k => by
    show (x (ix2 n k) : EReal) - x (ix2 n k) = 0
    rw [hx k, sub_self_coe]
  have e4 : ∀ k : Fin 384, (truncf FTy.bf16 (subf (shapeCast S384x768 wg shapeCasts_S1x384x768_S384x768)
      (extf FTy.f32 (truncf FTy.bf16 (shapeCast S384x768 wg shapeCasts_S1x384x768_S384x768) bitsLt_bf16_f32) bitsLt_bf16_f32)) bitsLt_bf16_f32 : FVec Ideal S384x768 .bf16) (ix2 k c) = 0 := fun k => by
    show (shapeCast S384x768 wg shapeCasts_S1x384x768_S384x768 (ix2 k c) : EReal) - shapeCast S384x768 wg shapeCasts_S1x384x768_S384x768 (ix2 k c) = 0
    rw [matrix_apply, hw k, sub_self_coe]
  simp only [e1, e2, e3, e4, mul_zero, zero_mul, Finset.sum_const_zero, add_zero]
  simp only [← EReal.coe_mul]
  rw [sum_coe, ← EReal.coe_add]

theorem minus_eight : Ideal.ofBits .f32 0xC1000000#32 = ((-8 : ℝ) : EReal) := by
  simp [Ideal.ofBits, Ideal.ieee, -EReal.coe_mul, -EReal.coe_neg]; norm_num

/-- The first gate of a row. -/
theorem first_gate (x : FVec Ideal S256x384 .f32) (wg : Vec Ideal S1x384x768 .f32) (bg : Vec Ideal S1x1x768 .f32) (n : Fin 256) (k : Fin 384) (g : ℝ)
    (h : k0_pay8 x wg bg (ix2 n ⟨k.val, by omega⟩) = (g : EReal)) : k0_pay9 x wg bg (ix2 n k) = (sigm g : EReal) := by
  have e := sigm_coe g
  rw [← h] at e
  unfold k0_pay9
  pointwise
  exact e

/-- The second gate of a row. -/
theorem second_gate (x : FVec Ideal S256x384 .f32) (wg : Vec Ideal S1x384x768 .f32) (bg : Vec Ideal S1x1x768 .f32) (n : Fin 256) (k : Fin 384) (g : ℝ)
    (h : k0_pay8 x wg bg (ix2 n ⟨384 + k.val, by omega⟩) = (g : EReal)) : k0_pay10 x wg bg (ix2 n k) = (sigm g : EReal) := by
  have e := sigm_coe g
  rw [← h] at e
  unfold k0_pay10
  pointwise
  exact e

/-- The logarithm of a row's factor. -/
theorem log_apply' (x : FVec Ideal S256x384 .f32) (lam : Vec Ideal S1x1x384 .f32) (n : Fin 256) (k : Fin 384) (g l : ℝ)
    (hg : x (ix2 n k) = (sigm g : EReal)) (hl : lam (ix3 0 0 k) = (l : EReal)) :
    k0_pay14 x (k0_pay12 lam) (k0_pay13 lam) (ix2 n k) = (logOf g l : EReal) := by
  unfold k0_pay14 k0_pay12 k0_pay13 k0_pay11
  pointwise
  rw [minus_eight, hg, lam_apply, hl]
  refine Eq.trans (congrArg (((-8 : ℝ) : EReal) * (sigm g : EReal) * ·) (soft_coe l)) ?_
  rw [← EReal.coe_mul, ← EReal.coe_mul]
  rfl

/-! ## A block over the reals -/

/-- What a block's operands hold: rows from `base` on of sequence `b`. -/
structure Holds (P : Operands) (b base : ℕ) (x : Vec Ideal S256x384 .f32) (cw : Vec Ideal S4x384 .f32) (cb : Vec Ideal S1x384 .f32)
    (wg : Vec Ideal S1x384x768 .f32) (bg : Vec Ideal S1x1x768 .f32) (lam : Vec Ideal S1x1x384 .f32) : Prop where
  hbase : base % 256 = 0
  hx : ∀ (n : Fin 256) (k : Fin 384), x (ix2 n k) = (P.x b (base + n.val) k : EReal)
  hcw : ∀ (j : Fin 4) (k : Fin 384), cw (ix2 j k) = (P.cw j k : EReal)
  hcb : ∀ k : Fin 384, cb (ix2 0 k) = (P.cb k : EReal)
  hwa : ∀ l k : Fin 384, wg (ix3 0 l ⟨k.val, by omega⟩) = ((if head l = head k then P.wa (head l) (within l) (within k) else 0 : ℝ) : EReal)
  hwx : ∀ l k : Fin 384, wg (ix3 0 l ⟨384 + k.val, by omega⟩) = ((if head l = head k then P.wx (head l) (within l) (within k) else 0 : ℝ) : EReal)
  hba : ∀ k : Fin 384, bg (ix3 0 0 ⟨k.val, by omega⟩) = (P.ba k : EReal)
  hbx : ∀ k : Fin 384, bg (ix3 0 0 ⟨384 + k.val, by omega⟩) = (P.bx k : EReal)
  hlam : ∀ k : Fin 384, lam (ix3 0 0 k) = (P.lam k : EReal)

section Real
variable {P : Operands} {b base : ℕ} {x : Vec Ideal S256x384 .f32} {cw : Vec Ideal S4x384 .f32} {cb : Vec Ideal S1x384 .f32}
  {wg : Vec Ideal S1x384x768 .f32} {bg : Vec Ideal S1x1x768 .f32} {lam : Vec Ideal S1x1x384 .f32} (H : Holds P b base x cw cb wg bg lam)
include H

/-- The convolved rows. -/
theorem convolved_real (n : Fin 256) (k : Fin 384) : convolved x cw cb (ix2 n k) = (P.y b (base + n.val) k : EReal) := by
  have hb := H.hbase
  have hm : (base + n.val) % 64 = n.val % 64 := by omega
  rw [conv_apply, H.hcw, H.hcw, H.hcw, H.hcw, H.hcb, H.hx n k]
  have t2 : (if 2 ≤ n.val % 64 then x (ix2 ⟨(n.val + 256 - 2) % 256, by omega⟩ k) else 0)
      = ((if 2 ≤ (base + n.val) % 64 then P.x b (base + n.val - 2) k else 0 : ℝ) : EReal) := by
    rw [hm]
    split
    · rw [H.hx]
      refine congrArg (fun s => (P.x b s k : EReal)) ?_
      show base + (n.val + 256 - 2) % 256 = _
      omega
    · rfl
  have t1 : (if 1 ≤ n.val % 64 then x (ix2 ⟨(n.val + 256 - 1) % 256, by omega⟩ k) else 0)
      = ((if 1 ≤ (base + n.val) % 64 then P.x b (base + n.val - 1) k else 0 : ℝ) : EReal) := by
    rw [hm]
    split
    · rw [H.hx]
      refine congrArg (fun s => (P.x b s k : EReal)) ?_
      show base + (n.val + 256 - 1) % 256 = _
      omega
    · rfl
  have t3 : (if n.val % 64 < 63 then x (ix2 ⟨(n.val + 256 - 255) % 256, by omega⟩ k) else 0)
      = ((if (base + n.val) % 64 < 63 then P.x b (base + n.val + 1) k else 0 : ℝ) : EReal) := by
    rw [hm]
    split
    · rw [H.hx]
      refine congrArg (fun s => (P.x b s k : EReal)) ?_
      show base + (n.val + 256 - 255) % 256 = _
      omega
    · rfl
  rw [t1, t2, t3]
  simp only [← EReal.coe_mul, ← EReal.coe_add]
  refine congrArg _ ?_
  unfold Operands.y conv
  ring

theorem wa_real (n : Fin 256) (k : Fin 384) :
    k0_pay8 (convolved x cw cb) wg bg (ix2 n ⟨k.val, by omega⟩) = (gate (P.y b (base + n.val)) P.wa (P.ba k) k : EReal) := by
  rw [gates_apply _ _ _ _ _ _ _ _ (convolved_real H n) (fun l => H.hwa l k) (H.hba k), gate_blocks]

theorem wx_real (n : Fin 256) (k : Fin 384) :
    k0_pay8 (convolved x cw cb) wg bg (ix2 n ⟨384 + k.val, by omega⟩) = (gate (P.y b (base + n.val)) P.wx (P.bx k) k : EReal) := by
  rw [gates_apply _ _ _ _ _ _ _ _ (convolved_real H n) (fun l => H.hwx l k) (H.hbx k), gate_blocks]

/-- The logarithms of the factors. -/
theorem logs_real (n : Fin 256) (k : Fin 384) : logs x cw cb wg bg lam (ix2 n k) = (P.L b (base + n.val) k : EReal) := by
  unfold logs
  exact log_apply' _ _ n k _ _ (first_gate _ _ _ n k _ (wa_real H n k)) (H.hlam k)

/-- The factors. -/
theorem factors_real (n : Fin 256) (k : Fin 384) : factors x cw cb wg bg lam (ix2 n k) = (P.a b (base + n.val) k : EReal) := by
  show Ideal.exp (logs x cw cb wg bg lam (ix2 n k)) = _
  rw [logs_real H, Ideal.exp_coe]
  rfl

/-- The gains. -/
theorem gains_real (n : Fin 256) (k : Fin 384) : gains x cw cb wg bg lam (ix2 n k) = (P.u b (base + n.val) k : EReal) := by
  have e := gain_kernel (P.L b (base + n.val) k) (gate (P.y b (base + n.val)) P.wx (P.bx k) k) (P.y b (base + n.val) k) (logOf_nonpos _ _)
  rw [← logs_real H, ← second_gate _ _ _ n k _ (wx_real H n k), ← convolved_real H n k] at e
  unfold gains factors
  pointwise
  exact e

end Real

/-! ## The scan over the reals -/

section ScanReal
variable {k : Fin 384} {A U : ℕ → ℝ}

/-- Joined factors reach twice as far. -/
theorem joinA_real (v : Fin 8) (a : FVec Ideal S256x384 .f32) (h : ∀ n : Fin 256, a (ix2 n k) = (decay A (2 ^ v.val) n.val : EReal)) (n : Fin 256) :
    joinA (BitVec.ofNat 32 (2 ^ v.val)) a (ix2 n k) = (decay A (2 ^ (v.val + 1)) n.val : EReal) := by
  have e : 2 ^ (v.val + 1) = 2 ^ v.val + 2 ^ v.val := by rw [pow_succ]; omega
  show a (ix2 n k) * behind (BitVec.ofNat 32 (2 ^ v.val)) (Ideal.ofBits .f32 0x3F800000#32) a (ix2 n k) = _
  rw [behind_apply, e, decay_add, h n, EReal.coe_mul]
  refine congrArg _ ?_
  by_cases hn : 2 ^ v.val ≤ n.val
  · rw [dif_pos hn, if_pos hn, h]
  · rw [dif_neg hn, if_neg hn, Ideal.ofBits_one_f32]; rfl

/-- Joined gains reach twice as far. -/
theorem joinU_real (v : Fin 8) (a u : FVec Ideal S256x384 .f32) (h : ∀ n : Fin 256, a (ix2 n k) = (decay A (2 ^ v.val) n.val : EReal))
    (hu : ∀ n : Fin 256, u (ix2 n k) = (gain A U (2 ^ v.val) n.val : EReal)) (n : Fin 256) :
    joinU (BitVec.ofNat 32 (2 ^ v.val)) a u (ix2 n k) = (gain A U (2 ^ (v.val + 1)) n.val : EReal) := by
  have e : 2 ^ (v.val + 1) = 2 ^ v.val + 2 ^ v.val := by rw [pow_succ]; omega
  show a (ix2 n k) * behind (BitVec.ofNat 32 (2 ^ v.val)) (Ideal.ofBits .f32 0x00000000#32) u (ix2 n k) + u (ix2 n k) = _
  rw [behind_apply, e, gain_add, h n, hu n, EReal.coe_add, EReal.coe_mul]
  refine congrArg (fun z => _ * z + _) ?_
  by_cases hn : 2 ^ v.val ≤ n.val
  · rw [dif_pos hn, if_pos hn, hu]
  · rw [dif_neg hn, if_neg hn, Ideal.ofBits_zero_f32]; rfl

/-- A block's scan gives the states of its rows. -/
theorem scanned_real (a u : FVec Ideal S256x384 .f32) (c : Vec Ideal S1x384 .f32) (x : ℝ) (ha : ∀ n : Fin 256, a (ix2 n k) = (A n.val : EReal))
    (hu : ∀ n : Fin 256, u (ix2 n k) = (U n.val : EReal)) (hc : c (ix2 0 k) = (x : EReal)) (n : Fin 256) :
    scanned a u c (ix2 n k) = (state A U x n.val : EReal) := by
  have a0 : ∀ n : Fin 256, a (ix2 n k) = (decay A (2 ^ 0) n.val : EReal) := fun n => by rw [ha, pow_zero, decay_one]
  have u0 : ∀ n : Fin 256, u (ix2 n k) = (gain A U (2 ^ 0) n.val : EReal) := fun n => by rw [hu, pow_zero, gain_one]
  have a1 := joinA_real 0 _ a0
  have u1 := joinU_real 0 _ _ a0 u0
  have a2 := joinA_real 1 _ a1
  have u2 := joinU_real 1 _ _ a1 u1
  have a3 := joinA_real 2 _ a2
  have u3 := joinU_real 2 _ _ a2 u2
  have a4 := joinA_real 3 _ a3
  have u4 := joinU_real 3 _ _ a3 u3
  have a5 := joinA_real 4 _ a4
  have u5 := joinU_real 4 _ _ a4 u4
  have a6 := joinA_real 5 _ a5
  have u6 := joinU_real 5 _ _ a5 u5
  have a7 := joinA_real 6 _ a6
  have u7 := joinU_real 6 _ _ a6 u6
  have a8 := joinA_real 7 _ a7 n
  have u8 := joinU_real 7 _ _ a7 u7 n
  have hrow : broadcastTo S256x384 c broadcasts_S1x384_S256x384 (ix2 n k) = (x : EReal) := by
    pointwise
    exact hc
  rw [← window_eq_state (A) (U) x (n := n.val) (s := 256) n.isLt, EReal.coe_add, EReal.coe_mul]
  refine Eq.trans ?_ (congrArg₂ (· + ·) (congrArg₂ (· * ·) a8 hrow) u8)
  rfl

end ScanReal

end Cert.Kernel4Ideal.Recurrence

end
-- ==== Proof.Recurrence.Value.lean ====
/-
  The recurrence's results over the reals.

  A point's block of the states is the recurrence over its 256 rows from the state kept by the point before, which is the
  sequence's state at the row before: by induction the blocks are the sequences' states, and the last point of a sequence
  leaves its last state.
-/
module

public import proofs.«01_k».proof.Proof.Recurrence.Entries
public import proofs.«01_k».proof.Proof.Recurrence.Net

@[expose] public section

set_option maxRecDepth 16384

noncomputable section

namespace Cert.Kernel4Ideal.Recurrence

open Idealize.ShloMosaic Idealize.ShloMosaic.TcCoe
open Idealize.ShloMosaic.ValueIdx hiding ix1 ix2 ix3 ix4
open Idealize.SL.Sem
open Cert.Kernel4Ideal Cert.Kernel4Ideal.Gen Cert.Recurrence

variable (m : (ℓ : Loc nD τ sig) → Buf (Elt Ideal) ℓ)

/-- The nine arguments, as one device has them. -/
def arrays (c : Dev nD) : Arrays where
  p := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)
  h0 := m ((c : Thread nD τ).loc main_arg8)

/-- The real numbers the device's arguments stand for. -/
abbrev ops (c : Dev nD) : Operands := (arrays m c).operands

/-- What a point leaves: its rows' states, the last of them kept, and at a sequence's last point the last written out. -/
def Leaves (m : (ℓ : Loc nD τ sig) → Buf (Elt Ideal) ℓ) (c : Dev nD) (t : Fin grid0.N) (o : Vec Ideal S256x384 .f32 × Vec Ideal S1x1x384 .f32 × Vec Ideal S1x384 .f32) : Prop :=
  (∀ (n : Fin 256) (k : Fin 384), o.1 (ix2 n k) = ((ops m c).H (t.val / 16) (256 * (t.val % 16) + n.val) k : EReal))
  ∧ (∀ k : Fin 384, o.2.2 (ix2 0 k) = ((ops m c).H (t.val / 16) (256 * (t.val % 16) + 255) k : EReal))
  ∧ (t.val % 16 = 15 → ∀ k : Fin 384, o.2.1 (ix3 0 0 k) = ((ops m c).H (t.val / 16) (256 * (t.val % 16) + 255) k : EReal))

section
variable {m} {c : Dev nD} (R : (arrays m c).Real)
include R

theorem ofHead (l k : Fin 384) (w : S2x6x64x64.Idx → EReal) (h : AllReal w) :
    diag (forward w) (ix2 l k) = ((if head l = head k then (w (ix4 0 (head l) (within l) (within k))).toReal else 0 : ℝ) : EReal) := by
  rw [diag_apply]
  split
  · rw [forward_apply]; exact h.coe _
  · exact EReal.coe_zero.symm

/-- A point's blocks are its rows of its sequence. -/
theorem holds (t : Fin grid0.N) :
    Holds (ops m c) (t.val / 16) (256 * (t.val % 16)) (iblk m c 0 t) (iblk m c 1 t) (iblk m c 2 t) (iblk m c 3 t) (iblk m c 4 t) (iblk m c 5 t) where
  hbase := by omega
  hx n k := (block0_apply m c t n k).trans (R.p.coe _)
  hcw j k := (block1_apply m c t j k).trans (R.cw.coe _)
  hcb k := (block2_apply m c t k).trans (R.cb.coe _)
  hwa l k := (block3_apply m c t l _).trans ((beside_left _ _ l k).trans (ofHead R l k _ R.wa))
  hwx l k := (block3_apply m c t l _).trans ((beside_right _ _ l k).trans (ofHead R l k _ R.wx))
  hba k := (block4_apply m c t _).trans ((besideRow_left _ _ k).trans ((forwardRow_apply _ k).trans (R.ba.coe _)))
  hbx k := (block4_apply m c t _).trans ((besideRow_right _ _ k).trans ((forwardRow_apply _ k).trans (R.bx.coe _)))
  hlam k := (block5_apply m c t k).trans (R.lam.coe _)

/-- The state before a sequence's first row. -/
theorem first_real (t : Fin grid0.N) (k : Fin 384) : first (F := Ideal) (iblk m c 6 t) (ix2 0 k) = ((ops m c).h0 (t.val / 16) k : EReal) := by
  unfold first
  rw [shapeCast_apply (s := S1x1x1x384) _ _ _ (ix4 0 0 0 k) (by
    rw [Shape.rowMajor_val_four, Shape.rowMajor_val_two]
    show ((0 * 1 + 0) * 1 + 0) * 384 + k.val = 0 * 384 + k.val
    omega)]
  exact (block6_apply m c t k).trans (R.h0.coe _)

/-- The rows' states, from the state kept. -/
theorem states_real (t : Fin grid0.N) (carry : Vec Ideal S1x384 .f32) (k : Fin 384) (x : ℝ) (hc : carry (ix2 0 k) = (x : EReal)) (n : Fin 256) :
    states (F := Ideal) (iblk m c 0 t) (iblk m c 1 t) (iblk m c 2 t) (iblk m c 3 t) (iblk m c 4 t) (iblk m c 5 t) carry (ix2 n k)
      = (state (fun i => (ops m c).a (t.val / 16) (256 * (t.val % 16) + i) k) (fun i => (ops m c).u (t.val / 16) (256 * (t.val % 16) + i) k) x n.val : EReal) :=
  scanned_real (A := fun i => (ops m c).a (t.val / 16) (256 * (t.val % 16) + i) k) (U := fun i => (ops m c).u (t.val / 16) (256 * (t.val % 16) + i) k)
    _ _ carry x (fun n => factors_real (holds R t) n k) (fun n => gains_real (holds R t) n k) hc n

/-- In a sequence's first block the states are the sequence's. -/
theorem states_first (t : Fin grid0.N) (h0 : t.val % 16 = 0) (k : Fin 384) (n : Fin 256) :
    states (F := Ideal) (iblk m c 0 t) (iblk m c 1 t) (iblk m c 2 t) (iblk m c 3 t) (iblk m c 4 t) (iblk m c 5 t) (first (iblk m c 6 t)) (ix2 n k)
      = ((ops m c).H (t.val / 16) (256 * (t.val % 16) + n.val) k : EReal) := by
  rw [states_real R t _ k _ (first_real R t k) n, h0]
  simp only [Nat.mul_zero, Nat.zero_add]
  rfl

/-- In a later block they are, from the state at the row before. -/
theorem states_later (t : Fin grid0.N) (h0 : ¬t.val % 16 = 0) (carry : Vec Ideal S1x384 .f32) (k : Fin 384)
    (hc : carry (ix2 0 k) = ((ops m c).H (t.val / 16) (256 * (t.val % 16) - 1) k : EReal)) (n : Fin 256) :
    states (F := Ideal) (iblk m c 0 t) (iblk m c 1 t) (iblk m c 2 t) (iblk m c 3 t) (iblk m c 4 t) (iblk m c 5 t) carry (ix2 n k)
      = ((ops m c).H (t.val / 16) (256 * (t.val % 16) + n.val) k : EReal) := by
  rw [states_real R t carry k _ hc n]
  have e := state_shift (fun i => (ops m c).a (t.val / 16) i k) (fun i => (ops m c).u (t.val / 16) i k) ((ops m c).h0 (t.val / 16) k) (256 * (t.val % 16) - 1) n.val
  have e1 : 256 * (t.val % 16) - 1 + 1 = 256 * (t.val % 16) := by omega
  rw [e1] at e
  exact congrArg _ e.symm

omit R in
/-- The last row of a block. -/
theorem lastRow_real (h : FVec Ideal S256x384 .f32) (k : Fin 384) : lastRow h (ix2 0 k) = h (ix2 255 k) := by
  unfold lastRow
  pointwise

/-- A point's step leaves them, from the state kept by the point before. -/
theorem leaves_step (t : Fin cfg0.N) (acc : Vec Ideal S256x384 .f32 × Vec Ideal S1x1x384 .f32 × Vec Ideal S1x384 .f32)
    (hacc : ¬t.val % 16 = 0 → ∀ k : Fin 384, acc.2.2 (ix2 0 k) = ((ops m c).H (t.val / 16) (256 * (t.val % 16) - 1) k : EReal)) :
    Leaves m c t (Value.stAt0 m c t.val t.isLt acc) := by
  by_cases h0 : t.val % 16 = 0
  · have h1 : ¬t.val % 16 = 15 := by omega
    rw [Value.stAt0_A m c t acc h0 h1]
    refine ⟨fun n k => ?_, fun k => ?_, fun h => absurd h h1⟩
    · dsimp only
      rw [states_A]
      exact states_first R t h0 k n
    · dsimp only
      rw [kept_A, lastRow_real]
      exact states_first R t h0 k 255
  · by_cases h1 : t.val % 16 = 15
    · rw [Value.stAt0_C m c t acc h0 h1]
      refine ⟨fun n k => ?_, fun k => ?_, fun _ k => ?_⟩
      · dsimp only
        rw [states_C]
        exact states_later R t h0 _ k (hacc h0 k) n
      · dsimp only
        rw [kept_C, lastRow_real]
        exact states_later R t h0 _ k (hacc h0 k) 255
      · dsimp only
        rw [final_C]
        unfold final
        rw [shapeCast_apply (s := S1x384) _ _ _ (ix2 0 k) (by
          rw [Shape.rowMajor_val_three, Shape.rowMajor_val_two]
          show 0 * 384 + k.val = (0 * 1 + 0) * 384 + k.val
          omega), lastRow_real]
        exact states_later R t h0 _ k (hacc h0 k) 255
    · rw [Value.stAt0_B m c t acc h0 h1]
      refine ⟨fun n k => ?_, fun k => ?_, fun h => absurd h h1⟩
      · dsimp only
        rw [states_B]
        exact states_later R t h0 _ k (hacc h0 k) n
      · dsimp only
        rw [kept_B, lastRow_real]
        exact states_later R t h0 _ k (hacc h0 k) 255

/-- Every point leaves them. -/
theorem leaves : ∀ (n : ℕ) (hn : n < cfg0.N), Leaves m c ⟨n, hn⟩ (outsAt0 m c n hn)
  | 0, hn => by
    rw [Value.outsAt0_zero]
    exact leaves_step R ⟨0, hn⟩ _ (fun h => absurd rfl h)
  | n + 1, hn => by
    rw [Value.outsAt0_succ]
    refine leaves_step R ⟨n + 1, hn⟩ _ (fun h k => ((leaves n (Nat.lt_of_succ_lt hn)).2.1 k).trans ?_)
    change ¬(n + 1) % 16 = 0 at h
    show ((ops m c).H (n / 16) (256 * (n % 16) + 255) k : EReal) = ((ops m c).H ((n + 1) / 16) (256 * ((n + 1) % 16) - 1) k : EReal)
    have e1 : (n + 1) / 16 = n / 16 := by omega
    have e2 : 256 * ((n + 1) % 16) - 1 = 256 * (n % 16) + 255 := by omega
    rw [e1, e2]

/-! ## The arrays -/

/-- The states: row `r` of the array is row `r % 4096` of sequence `r / 4096`. -/
theorem states_result (r : Fin 32768) (k : Fin 384) :
    (Value.G7 m c : S32768x384.Idx → EReal) (ix2 r k) = ((ops m c).H (r.val / 4096) (r.val % 4096) k : EReal) := by
  have hr := r.isLt
  have hk := k.isLt
  have hp : Value.pt7Of (ix2 r k) = r.val / 256 := by
    show 1 * (r.val / 256 - 0) + 1 * (k.val / 384 - 0) = r.val / 256
    omega
  have hN : Value.pt7Of (ix2 r k) < cfg0.N := by rw [hp]; show r.val / 256 < 128; omega
  have hl : Value.loc7Of (ix2 r k) = ix2 (⟨r.val % 256, by omega⟩ : Fin 256) k := by
    funext (a : Fin 2)
    refine Fin.ext ?_
    match a with
    | ⟨0, _⟩ => rfl
    | ⟨1, _⟩ => show k.val % 384 = k.val; omega
  unfold Value.G7
  rw [dif_pos hN, ← Value.outsAt0_sweep m c _ hN, hl, (leaves R _ hN).1]
  show ((ops m c).H (Value.pt7Of (ix2 r k) / 16) (256 * (Value.pt7Of (ix2 r k) % 16) + r.val % 256) k : EReal) = _
  rw [hp]
  have e1 : r.val / 256 / 16 = r.val / 4096 := by omega
  have e2 : 256 * (r.val / 256 % 16) + r.val % 256 = r.val % 4096 := by omega
  rw [e1, e2]

/-- The last states. -/
theorem final_result (b : Fin 8) (k : Fin 384) :
    (Value.G8 m c : S8x1x384.Idx → EReal) (ix3 b 0 k) = ((ops m c).H b.val 4095 k : EReal) := by
  have hb := b.isLt
  have hk := k.isLt
  have hp : Value.pt8Of (ix3 b 0 k) = 16 * b.val + 15 := by
    show 16 * (1 * (b.val / 1 - 0) + 1 * (0 / 1 - 0) + 1 * (k.val / 384 - 0)) + 15 = 16 * b.val + 15
    omega
  have hN : Value.pt8Of (ix3 b 0 k) < cfg0.N := by rw [hp]; show 16 * b.val + 15 < 128; omega
  have hl : Value.loc8Of (ix3 b 0 k) = ix3 0 0 k := by
    funext (a : Fin 3)
    refine Fin.ext ?_
    match a with
    | ⟨0, _⟩ => show b.val % 1 = 0; omega
    | ⟨1, _⟩ => rfl
    | ⟨2, _⟩ => show k.val % 384 = k.val; omega
  unfold Value.G8
  rw [dif_pos hN, ← Value.outsAt0_sweep m c _ hN, hl, (leaves R _ hN).2.2 (by show Value.pt8Of (ix3 b 0 k) % 16 = 15; rw [hp]; omega)]
  show ((ops m c).H (Value.pt8Of (ix3 b 0 k) / 16) (256 * (Value.pt8Of (ix3 b 0 k) % 16) + 255) k : EReal) = _
  rw [hp]
  have e1 : (16 * b.val + 15) / 16 = b.val := by omega
  have e2 : 256 * ((16 * b.val + 15) % 16) + 255 = 4095 := by omega
  rw [e1, e2]

end

end Cert.Kernel4Ideal.Recurrence

end
-- ==== Proof.Recurrence.RefEntry.lean ====
/-
  The plain program's arrays at its loop's entry, as functions of its arguments.
-/
module

public import proofs.«01_k».proof.Proof.Gen.Reference4Ideal.Run
public import proofs.«01_k».proof.Proof.Recurrence.Args

@[expose] public section

set_option maxRecDepth 16384

noncomputable section

namespace Cert.Reference4Ideal.Recurrence

open Idealize.ShloMosaic Idealize.ShloMosaic.TcCoe Idealize.ShloMosaic.StableHlo
open Idealize.SL.Sem
open Cert.Reference4Ideal Cert.Reference4Ideal.Gen Cert.Reference4Ideal.Value

/-- The tokens' channels, by sequence, grid row and column. -/
def grid (p : FVec Ideal S40960x3072 .f32) : FVec Ideal S8x64x64x384 .f32 :=
  shapeCast S8x64x64x384 (extractStridedSlice S32768x384 ![8192, 2304] p slices_S40960x3072_S32768x384_8192_2304) shapeCasts_S32768x384_S8x64x64x384

/-- The grid's rows with two zeros before and one after. -/
def padded (g : FVec Ideal S8x64x64x384 .f32) (z : IVec S_ 32) : FVec Ideal S8x64x67x384 .f32 :=
  pad S8x64x67x384 ![0, 0, 2, 0] ![0, 0, 1, 0] ![0, 0, 0, 0] g (sitofp (F := Ideal) .f32 z) pads_S8x64x64x384_S8x64x67x384_000_000_210_000 h_S_

/-- A row, at every place of the grid. -/
def everywhere (w : FVec Ideal S1x384 .f32) : FVec Ideal S8x64x64x384 .f32 :=
  broadcastInDim S8x64x64x384 ![0, 1, 2, 3] bcast_S1x1x1x384_S8x64x64x384_0_1_2_3
    (broadcastInDim S1x1x1x384 ![3] bcast_S384_S1x1x1x384_3 (shapeCast S384 w shapeCasts_S1x384_S384))

/-- A row, at every row of every sequence. -/
def everyRow (w : FVec Ideal S384 .f32) : FVec Ideal S8x4096x384 .f32 :=
  broadcastInDim S8x4096x384 ![0, 1, 2] bcast_S1x1x384_S8x4096x384_0_1_2 (broadcastInDim S1x1x384 ![2] bcast_S384_S1x1x384_2 w)

/-- The four taps' sum. -/
def taps (x : FVec Ideal S8x64x67x384 .f32) (w : FVec Ideal S4x384 .f32) : FVec Ideal S8x64x64x384 .f32 :=
  addf (addf (addf
    (mulf (extractStridedSlice S8x64x64x384 ![0, 0, 0, 0] x slices_S8x64x67x384_S8x64x64x384_0_0_0_0) (everywhere (extractStridedSlice S1x384 ![0, 0] w slices_S4x384_S1x384_0_0)))
    (mulf (extractStridedSlice S8x64x64x384 ![0, 0, 1, 0] x slices_S8x64x67x384_S8x64x64x384_0_0_1_0) (everywhere (extractStridedSlice S1x384 ![1, 0] w slices_S4x384_S1x384_1_0))))
    (mulf (extractStridedSlice S8x64x64x384 ![0, 0, 2, 0] x slices_S8x64x67x384_S8x64x64x384_0_0_2_0) (everywhere (extractStridedSlice S1x384 ![2, 0] w slices_S4x384_S1x384_2_0))))
    (mulf (extractStridedSlice S8x64x64x384 ![0, 0, 3, 0] x slices_S8x64x67x384_S8x64x64x384_0_0_3_0) (everywhere (extractStridedSlice S1x384 ![3, 0] w slices_S4x384_S1x384_3_0)))

/-- The convolved rows. -/
def convolved (x : FVec Ideal S8x64x67x384 .f32) (w : FVec Ideal S4x384 .f32) (b : FVec Ideal S384 .f32) : FVec Ideal S8x4096x384 .f32 :=
  addf (shapeCast S8x4096x384 (taps x w) shapeCasts_S8x64x64x384_S8x4096x384) (everyRow b)

/-- A gate's argument. -/
def gateArg (y : FVec Ideal S8x4096x384 .f32) (w : FVec Ideal S2x6x64x64 .f32) (b : FVec Ideal S2x384 .f32) : FVec Ideal S8x4096x384 .f32 :=
  addf (shapeCast S8x4096x384 (transpose S8x4096x6x64 [2, 3, 0, 1] (Host.dotGeneral (F := Ideal) dot_S6x64x64_S8x4096x6x64_S6x64x8x4096_1_3_2_01_0_2 none
      (shapeCast S6x64x64 (extractStridedSlice S1x6x64x64 ![0, 0, 0, 0] w slices_S2x6x64x64_S1x6x64x64_0_0_0_0) shapeCasts_S1x6x64x64_S6x64x64)
      (shapeCast S8x4096x6x64 y shapeCasts_S8x4096x384_S8x4096x6x64)) transposes_S6x64x8x4096_S8x4096x6x64_2_3_0_1) shapeCasts_S8x4096x6x64_S8x4096x384)
    (everyRow (shapeCast S384 (extractStridedSlice S1x384 ![0, 0] b slices_S2x384_S1x384_0_0) shapeCasts_S1x384_S384))

/-- A number, everywhere. -/
def const (w : BitVec 32) : FVec Ideal S8x4096x384 .f32 := broadcastInDim S8x4096x384 ![] bcast_S_S8x4096x384 (constant S_ .f32 w)

/-- A gate. -/
def gateOf (g : FVec Ideal S8x4096x384 .f32) : FVec Ideal S8x4096x384 .f32 :=
  Host.divf (const 0x3F800000#32) (addf (const 0x3F800000#32) (Host.exp (Host.negf g)))

/-- The decay's exponent, negated. -/
def minus (lam : FVec Ideal S2x384 .f32) : FVec Ideal S384 .f32 :=
  Host.negf (shapeCast S384 (extractStridedSlice S1x384 ![0, 0] lam slices_S2x384_S1x384_0_0) shapeCasts_S1x384_S384)

/-- Zero, for every channel. -/
def nought : FVec Ideal S384 .f32 := broadcastInDim S384 ![] bcast_S_S384 (constant S_ .f32 0x00000000#32)

/-- The softplus. -/
def softplus (x : FVec Ideal S384 .f32) : FVec Ideal S384 .f32 :=
  select (cmpf .une (subf x nought) (subf x nought)) (addf x nought)
    (addf (maximumf x nought) (Host.log1p (Host.exp (Host.negf (Host.absf (subf x nought))))))

/-- The factors' logarithms. -/
def logs (r : FVec Ideal S8x4096x384 .f32) (s : FVec Ideal S384 .f32) : FVec Ideal S8x4096x384 .f32 := mulf (mulf (const 0xC1000000#32) r) (everyRow s)

/-- The gains. -/
def gainsOf (l i y : FVec Ideal S8x4096x384 .f32) : FVec Ideal S8x4096x384 .f32 :=
  mulf (mulf (Host.sqrt (Host.negf (Host.expm1 (mulf (const 0x40000000#32) l)))) i) y

/-! ## The stretches before the loop -/

section Stretches
variable (V : Valuation τ sig (Elt Ideal))

theorem stretch0_v1 : after hostOps0 V (Proc.devRef .tc main_v1) = grid (V (Proc.devRef .tc main_arg0)) := by
  after_results_simp
  rfl

theorem stretch0_c : after hostOps0 V (Proc.devRef .tc main_c) = constantI S_ 32 0#32 := by
  after_results_simp

theorem stretch1_v2 : after hostOps0_1 V (Proc.devRef .tc main_v2) = padded (V (Proc.devRef .tc main_v1)) (V (Proc.devRef .tc main_c)) := by
  after_results_simp
  rfl

set_option maxHeartbeats 4000000 in
theorem stretch2_v33 : after hostOps0_2 V (Proc.devRef .tc main_v33)
    = convolved (V (Proc.devRef .tc main_v2)) (V (Proc.devRef .tc main_arg1)) (V (Proc.devRef .tc main_arg2)) := by
  after_results_simp
  rfl

set_option maxHeartbeats 4000000 in
theorem stretch2_v68 : after hostOps0_2 V (Proc.devRef .tc main_v68)
    = mulf (const 0xC1000000#32) (gateOf (gateArg (convolved (V (Proc.devRef .tc main_v2)) (V (Proc.devRef .tc main_arg1)) (V (Proc.devRef .tc main_arg2)))
      (V (Proc.devRef .tc main_arg3)) (V (Proc.devRef .tc main_arg4)))) := by
  after_results_simp
  rfl

set_option maxHeartbeats 4000000 in
theorem stretch2_v66 : after hostOps0_2 V (Proc.devRef .tc main_v66)
    = gateOf (gateArg (convolved (V (Proc.devRef .tc main_v2)) (V (Proc.devRef .tc main_arg1)) (V (Proc.devRef .tc main_arg2)))
      (V (Proc.devRef .tc main_arg5)) (V (Proc.devRef .tc main_arg6))) := by
  after_results_simp
  rfl

set_option maxHeartbeats 4000000 in
theorem stretch2_v71 : after hostOps0_2 V (Proc.devRef .tc main_v71) = minus (V (Proc.devRef .tc main_arg7)) := by
  after_results_simp
  rfl

theorem stretch3_v72 : after hostOps0_3 V (Proc.devRef .tc main_v72) = softplus (V (Proc.devRef .tc main_v71)) := by
  after_results_simp
  rfl

/-- The two arrays of the loop's steps, by row. -/
def byRow (x : FVec Ideal S8x4096x384 .f32) : FVec Ideal S4096x8x384 .f32 := transpose S4096x8x384 [1, 0, 2] x transposes_S8x4096x384_S4096x8x384_1_0_2

theorem stretch4_a : after hostOps0_4 V (Proc.devRef .tc main_v89_0)
    = byRow (Host.exp (F := Ideal) (mulf (V (Proc.devRef .tc main_v68)) (everyRow (V (Proc.devRef .tc main_v72))))) := by
  after_results_simp
  rfl

theorem stretch4_u : after hostOps0_4 V (Proc.devRef .tc main_v89_1)
    = byRow (gainsOf (mulf (V (Proc.devRef .tc main_v68)) (everyRow (V (Proc.devRef .tc main_v72)))) (V (Proc.devRef .tc main_v66)) (V (Proc.devRef .tc main_v33))) := by
  after_results_simp
  rfl

/-- The states before the first row. -/
def startOf (h : FVec Ideal S8x2x384 .f32) : FVec Ideal S8x384 .f32 :=
  shapeCast S8x384 (extractStridedSlice S8x1x384 ![0, 0, 0] h slices_S8x2x384_S8x1x384_0_0_0) shapeCasts_S8x1x384_S8x384

theorem stretch4_h : after hostOps0_4 V (Proc.devRef .tc main_v89_3) = startOf (V (Proc.devRef .tc main_arg8)) := by
  after_results_simp
  rfl

end Stretches

/-! ## The loop's entry -/

section Entry
variable (m : (ℓ : Loc nD τ sig) → Buf (Elt Ideal) ℓ) (c : Dev nD)

/-- The convolved rows of the arguments. -/
def rowsOf : FVec Ideal S8x4096x384 .f32 :=
  convolved (padded (grid (m ((c : Thread nD τ).loc main_arg0))) (constantI S_ 32 0#32)) (m ((c : Thread nD τ).loc main_arg1)) (m ((c : Thread nD τ).loc main_arg2))

/-- The factors' logarithms of the arguments. -/
def logsOf : FVec Ideal S8x4096x384 .f32 :=
  logs (gateOf (gateArg (rowsOf m c) (m ((c : Thread nD τ).loc main_arg3)) (m ((c : Thread nD τ).loc main_arg4))))
    (softplus (minus (m ((c : Thread nD τ).loc main_arg7))))

/-- The contents after the first two stretches. -/
abbrev at2 : Valuation τ sig (Elt Ideal) := after hostOps0_1 (after hostOps0 (launchContents m c))

theorem at2_v2 : at2 m c (Proc.devRef .tc main_v2) = padded (grid (m ((c : Thread nD τ).loc main_arg0))) (constantI S_ 32 0#32) := by
  unfold at2
  rw [stretch1_v2, stretch0_v1, stretch0_c]

theorem at2_arg (r : Ref sig .tc) (h1 : r ∉ hostOps0_1_W) (h0 : r ∉ hostOps0_W) :
    at2 m c (Proc.devRef .tc r) = launchContents m c (Proc.devRef .tc r) :=
  (after_of_writes_sub hostOps0_1 _ hostOps0_1_writes h1).trans (after_of_writes_sub hostOps0 _ hostOps0_writes h0)

abbrev at3 : Valuation τ sig (Elt Ideal) := after hostOps0_2 (at2 m c)

theorem at3_v33 : at3 m c (Proc.devRef .tc main_v33) = rowsOf m c := by
  unfold at3
  rw [stretch2_v33, at2_v2, at2_arg m c main_arg1 (by decide) (by decide), at2_arg m c main_arg2 (by decide) (by decide)]
  rfl

theorem at3_v68 : at3 m c (Proc.devRef .tc main_v68) = mulf (const 0xC1000000#32) (gateOf (gateArg (rowsOf m c) (m ((c : Thread nD τ).loc main_arg3)) (m ((c : Thread nD τ).loc main_arg4)))) := by
  unfold at3
  rw [stretch2_v68, at2_v2, at2_arg m c main_arg1 (by decide) (by decide), at2_arg m c main_arg2 (by decide) (by decide),
    at2_arg m c main_arg3 (by decide) (by decide), at2_arg m c main_arg4 (by decide) (by decide)]
  rfl

theorem at3_v66 : at3 m c (Proc.devRef .tc main_v66) = gateOf (gateArg (rowsOf m c) (m ((c : Thread nD τ).loc main_arg5)) (m ((c : Thread nD τ).loc main_arg6))) := by
  unfold at3
  rw [stretch2_v66, at2_v2, at2_arg m c main_arg1 (by decide) (by decide), at2_arg m c main_arg2 (by decide) (by decide),
    at2_arg m c main_arg5 (by decide) (by decide), at2_arg m c main_arg6 (by decide) (by decide)]
  rfl

abbrev at4 : Valuation τ sig (Elt Ideal) := after hostOps0_3 (at3 m c)

theorem at4_v72 : at4 m c (Proc.devRef .tc main_v72) = softplus (minus (m ((c : Thread nD τ).loc main_arg7))) := by
  unfold at4 at3
  rw [stretch3_v72, stretch2_v71, at2_arg m c main_arg7 (by decide) (by decide)]

theorem at4_keep (r : Ref sig .tc) (h : r ∉ hostOps0_3_W) : at4 m c (Proc.devRef .tc r) = at3 m c (Proc.devRef .tc r) :=
  after_of_writes_sub hostOps0_3 _ hostOps0_3_writes h

theorem entry_a : entryContents preI m c (Proc.devRef .tc main_v89_0) = byRow (Host.exp (F := Ideal) (logsOf m c)) := by
  show after hostOps0_4 (at4 m c) (Proc.devRef .tc main_v89_0) = _
  rw [stretch4_a, at4_v72, at4_keep m c main_v68 (by decide), at3_v68]
  rfl

theorem entry_u : entryContents preI m c (Proc.devRef .tc main_v89_1)
    = byRow (gainsOf (logsOf m c) (gateOf (gateArg (rowsOf m c) (m ((c : Thread nD τ).loc main_arg5)) (m ((c : Thread nD τ).loc main_arg6)))) (rowsOf m c)) := by
  show after hostOps0_4 (at4 m c) (Proc.devRef .tc main_v89_1) = _
  rw [stretch4_u, at4_v72, at4_keep m c main_v68 (by decide), at3_v68, at4_keep m c main_v66 (by decide), at3_v66, at4_keep m c main_v33 (by decide), at3_v33]
  rfl

theorem entry_h : entryContents preI m c (Proc.devRef .tc main_v89_3) = startOf (m ((c : Thread nD τ).loc main_arg8)) := by
  show after hostOps0_4 (at4 m c) (Proc.devRef .tc main_v89_3) = _
  rw [stretch4_h, at4_keep m c main_arg8 (by decide)]
  unfold at3
  rw [after_of_writes_sub hostOps0_2 _ hostOps0_2_writes (by decide), at2_arg m c main_arg8 (by decide) (by decide)]

end Entry

end Cert.Reference4Ideal.Recurrence

end
-- ==== Proof.Recurrence.RefReads.lean ====
/-
  The plain program's arrays before its loop, read at an index, over the reals.
-/
module

public import proofs.«01_k».proof.Proof.Recurrence.RefEntry
public import proofs.«01_k».proof.Proof.Recurrence.Spec
public import Idealize.ShloMosaic.Lib.ValueIdx
public import Idealize.ShloMosaic.Lib.Pointwise.Tactic
public import Idealize.ShloMosaic.Lib.KernelVsHost
public import Idealize.ShloMosaic.Lib.Pipeline.Value

@[expose] public section

set_option maxRecDepth 16384

noncomputable section

namespace Cert.Reference4Ideal.Recurrence

open Idealize.ShloMosaic Idealize.ShloMosaic.TcCoe
open Idealize.SL.Sem
open Idealize.ShloMosaic.ValueIdx hiding ix1 ix2 ix3 ix4
open Cert.Reference4Ideal Cert.Reference4Ideal.Gen Cert.Recurrence

theorem grid_apply (p : FVec Ideal S40960x3072 .f32) (b : Fin 8) (r t : Fin 64) (k : Fin 384) :
    grid p (ix4 b r t k) = p (ix2 (Arrays.token b.val (64 * r.val + t.val)) (Arrays.column k)) := by
  unfold grid
  rw [shapeCast_apply (s := S32768x384) _ _ _ (ix2 ⟨4096 * b.val + 64 * r.val + t.val, by omega⟩ k) (by
    rw [Shape.rowMajor_val_two, Shape.rowMajor_val_four]
    show (4096 * b.val + 64 * r.val + t.val) * 384 + k.val = ((b.val * 64 + r.val) * 64 + t.val) * 384 + k.val; omega)]
  pointwise
  exact congrArg (fun i => p (ix2 i (Arrays.column k))) (Fin.ext (by
    show 8192 + (4096 * b.val + 64 * r.val + t.val) = (8192 + 4096 * b.val + (64 * r.val + t.val)) % 40960; omega))

theorem padded_inside (g : FVec Ideal S8x64x64x384 .f32) (z : IVec S_ 32) (b : Fin 8) (r : Fin 64) (q : Fin 67) (t : Fin 64) (k : Fin 384) (h : q.val = 2 + t.val) :
    padded g z (ix4 b r q k) = g (ix4 b r t k) := by
  unfold padded
  refine pad_apply_of_inside _ _ _ _ _ _ _ _ (ix4 b r t k) fun a => ?_
  match a with
  | ⟨0, _⟩ => show b.val = 0 + b.val * 1; omega
  | ⟨1, _⟩ => show r.val = 0 + r.val * 1; omega
  | ⟨2, _⟩ => show q.val = 2 + t.val * 1; omega
  | ⟨3, _⟩ => show k.val = 0 + k.val * 1; omega

theorem padded_outside (g : FVec Ideal S8x64x64x384 .f32) (b : Fin 8) (r : Fin 64) (q : Fin 67) (k : Fin 384) (h : q.val < 2 ∨ q.val = 66) :
    padded g (constantI S_ 32 0#32) (ix4 b r q k) = 0 := by
  unfold padded
  refine (pad_apply_of_not_inside _ _ _ _ _ _ _ _ ⟨2, by decide⟩ ?_).trans ?_
  · show ¬(2 ≤ q.val ∧ (q.val - 2) % 1 = 0 ∧ (q.val - 2) / 1 < 64)
    omega
  · show (((0#32).toInt : ℝ) : EReal) = 0
    simp

theorem everywhere_apply (w : FVec Ideal S1x384 .f32) (b : Fin 8) (r t : Fin 64) (k : Fin 384) : everywhere w (ix4 b r t k) = w (ix2 0 k) := by
  unfold everywhere
  pointwise
  rw [shapeCast_apply (s := S1x384) _ _ _ (ix2 0 k) (by rw [Shape.rowMajor_val_two, Shape.rowMajor_val_one]; show 0 * 384 + k.val = k.val; omega)]

theorem everyRow_apply (w : FVec Ideal S384 .f32) (b : Fin 8) (s : Fin 4096) (k : Fin 384) : everyRow w (ix3 b s k) = w (ix1 k) := by
  unfold everyRow
  pointwise

theorem taps_apply (x : FVec Ideal S8x64x67x384 .f32) (w : FVec Ideal S4x384 .f32) (b : Fin 8) (r t : Fin 64) (k : Fin 384) :
    taps x w (ix4 b r t k)
      = x (ix4 b r ⟨t.val, by omega⟩ k) * w (ix2 0 k) + x (ix4 b r ⟨1 + t.val, by omega⟩ k) * w (ix2 1 k)
        + x (ix4 b r ⟨2 + t.val, by omega⟩ k) * w (ix2 2 k) + x (ix4 b r ⟨3 + t.val, by omega⟩ k) * w (ix2 3 k) := by
  unfold taps
  pointwise
  simp only [everywhere_apply]
  pointwise

local notation "D" => dot_S6x64x64_S8x4096x6x64_S6x64x8x4096_1_3_2_01_0_2

/-- The product by heads, read at an index. -/
theorem product_apply (w : FVec Ideal S6x64x64 .f32) (y : FVec Ideal S8x4096x6x64 .f32) (h : Fin 6) (j : Fin 64) (b : Fin 8) (s : Fin 4096) :
    (Ideal.matmul D w y fun _ => 0) (ix4 h j b s) = ∑ i : Fin 64, w (ix3 h i j) * y (ix4 b s h i) := by
  refine (zero_add _).trans ?_
  rw [← Equiv.sum_comp (contrEquiv1 D 64 rfl rfl).symm]
  refine Finset.sum_congr rfl fun k _ => ?_
  have hk := contrEquiv1_symm_val D 64 rfl rfl k
  congr 1
  · refine congrArg w (funext fun a => Fin.ext ?_)
    match a with
    | ⟨0, _⟩ => simp [DotDims.lhsIdx, dot_S6x64x64_S8x4096x6x64_S6x64x8x4096_1_3_2_01_0_2]; rfl
    | ⟨1, _⟩ => refine Eq.trans ?_ hk; simp [DotDims.lhsIdx, dot_S6x64x64_S8x4096x6x64_S6x64x8x4096_1_3_2_01_0_2]; rfl
    | ⟨2, _⟩ => simp [DotDims.lhsIdx, dot_S6x64x64_S8x4096x6x64_S6x64x8x4096_1_3_2_01_0_2]; rfl
  · refine congrArg y (funext fun a => Fin.ext ?_)
    match a with
    | ⟨0, _⟩ => simp [DotDims.rhsIdx, dot_S6x64x64_S8x4096x6x64_S6x64x8x4096_1_3_2_01_0_2]; rfl
    | ⟨1, _⟩ => simp [DotDims.rhsIdx, dot_S6x64x64_S8x4096x6x64_S6x64x8x4096_1_3_2_01_0_2]; rfl
    | ⟨2, _⟩ => simp [DotDims.rhsIdx, dot_S6x64x64_S8x4096x6x64_S6x64x8x4096_1_3_2_01_0_2]; rfl
    | ⟨3, _⟩ => refine Eq.trans ?_ hk; simp [DotDims.rhsIdx, dot_S6x64x64_S8x4096x6x64_S6x64x8x4096_1_3_2_01_0_2]; rfl

theorem gateArg_apply (y : FVec Ideal S8x4096x384 .f32) (w : FVec Ideal S2x6x64x64 .f32) (bi : FVec Ideal S2x384 .f32) (b : Fin 8) (s : Fin 4096) (k : Fin 384) :
    gateArg y w bi (ix3 b s k) = (∑ i : Fin 64, w (ix4 0 (head k) i (within k)) * y (ix3 b s (channel (head k) i))) + bi (ix2 0 k) := by
  unfold gateArg
  show shapeCast _ _ _ (ix3 b s k) + everyRow _ (ix3 b s k) = _
  rw [everyRow_apply,
    shapeCast_apply (s := S1x384) _ _ _ (ix2 0 k) (by rw [Shape.rowMajor_val_two, Shape.rowMajor_val_one]; show 0 * 384 + k.val = k.val; omega),
    shapeCast_apply (s := S8x4096x6x64) _ _ _ (ix4 b s (head k) (within k)) (by
      rw [Shape.rowMajor_val_four, Shape.rowMajor_val_three]
      show ((b.val * 4096 + s.val) * 6 + k.val / 64) * 64 + k.val % 64 = (b.val * 4096 + s.val) * 384 + k.val; omega)]
  congr 1
  · pointwise
    rw [product_apply]
    refine Finset.sum_congr rfl fun i _ => ?_
    rw [shapeCast_apply (s := S1x6x64x64) _ _ _ (ix4 0 (head k) i (within k)) (by
        rw [Shape.rowMajor_val_four, Shape.rowMajor_val_three]
        show ((0 * 6 + (head k).val) * 64 + i.val) * 64 + (within k).val = ((head k).val * 64 + i.val) * 64 + (within k).val; omega),
      shapeCast_apply (s := S8x4096x384) _ _ _ (ix3 b s (channel (head k) i)) (by
        rw [Shape.rowMajor_val_four, Shape.rowMajor_val_three]
        show (b.val * 4096 + s.val) * 384 + (64 * (head k).val + i.val) = ((b.val * 4096 + s.val) * 6 + (head k).val) * 64 + i.val; omega)]
    pointwise
  · pointwise

theorem const_apply (w : BitVec 32) (i : S8x4096x384.Idx) : const w i = Ideal.ofBits .f32 w := rfl

theorem gateOf_coe (g : FVec Ideal S8x4096x384 .f32) (i : S8x4096x384.Idx) (x : ℝ) (h : g i = (x : EReal)) : gateOf g i = (sigm x : EReal) := by
  show Ideal.div (const 0x3F800000#32 i) (const 0x3F800000#32 i + Ideal.exp (-(g i))) = _
  rw [const_apply, Ideal.ofBits_one_f32, h, ← sigm_coe, zero_sub]

theorem minus_apply (lam : FVec Ideal S2x384 .f32) (k : Fin 384) : minus lam (ix1 k) = -(lam (ix2 0 k)) := by
  show -(shapeCast S384 _ _ (ix1 k)) = _
  rw [shapeCast_apply (s := S1x384) _ _ _ (ix2 0 k) (by rw [Shape.rowMajor_val_two, Shape.rowMajor_val_one]; show 0 * 384 + k.val = k.val; omega)]
  pointwise

theorem softplus_coe (x : FVec Ideal S384 .f32) (i : S384.Idx) (l : ℝ) (h : x i = -(l : EReal)) : softplus x i = (soft l : EReal) := by
  have hn : nought i = 0 := Ideal.ofBits_zero_f32
  show Scalar.select (Ideal.cmp .une (x i - nought i) (x i - nought i)) (x i + nought i)
    (max (x i) (nought i) + Ideal.log1p (Ideal.exp (-(max (x i - nought i) (-(x i - nought i)))))) = _
  have hc : Ideal.cmp .une (x i - nought i) (x i - nought i) = 0#1 := by simp [Ideal.cmp]
  rw [hc, hn, sub_zero, h, ← soft_coe, neg_neg, max_comm (-(l : EReal)) l, zero_sub, zero_sub]
  rfl

theorem minus8 : Ideal.ofBits .f32 0xC1000000#32 = ((-8 : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul, -EReal.coe_neg]; norm_num

theorem convolved_apply (x : FVec Ideal S8x64x67x384 .f32) (w : FVec Ideal S4x384 .f32) (bi : FVec Ideal S384 .f32) (b : Fin 8) (s : Fin 4096) (k : Fin 384) :
    convolved x w bi (ix3 b s k) = taps x w (ix4 b ⟨s.val / 64, by omega⟩ ⟨s.val % 64, by omega⟩ k) + bi (ix1 k) := by
  show shapeCast _ _ _ (ix3 b s k) + everyRow _ (ix3 b s k) = _
  rw [everyRow_apply, shapeCast_apply (s := S8x64x64x384) _ _ _ (ix4 b ⟨s.val / 64, by omega⟩ ⟨s.val % 64, by omega⟩ k) (by
    rw [Shape.rowMajor_val_four, Shape.rowMajor_val_three]
    show ((b.val * 64 + s.val / 64) * 64 + s.val % 64) * 384 + k.val = (b.val * 4096 + s.val) * 384 + k.val; omega)]

/-! ## The arguments' real numbers -/

section Read
variable (m : (ℓ : Loc nD τ sig) → Buf (Elt Ideal) ℓ) (c : Dev nD)

/-- The plain program's arguments. -/
def arrays : Arrays where
  p := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)
  h0 := m ((c : Thread nD τ).loc main_arg8)

/-- The real numbers they stand for. -/
abbrev ops : Operands := (arrays m c).operands

variable {m c} (R : (arrays m c).Real)
include R

/-- The grid's rows with their zeros. -/
theorem padded_coe (b : Fin 8) (r : Fin 64) (q : Fin 67) (k : Fin 384) :
    padded (grid (arrays m c).p) (constantI S_ 32 0#32) (ix4 b r q k)
      = ((if 2 ≤ q.val ∧ q.val < 66 then (ops m c).x b.val (64 * r.val + q.val - 2) k else 0 : ℝ) : EReal) := by
  by_cases h : 2 ≤ q.val ∧ q.val < 66
  · rw [if_pos h, padded_inside _ _ b r q ⟨q.val - 2, by omega⟩ k (by show q.val = 2 + (q.val - 2); omega), grid_apply]
    refine (R.p.coe _).trans ?_
    show _ = (((arrays m c).p (ix2 (Arrays.token b.val (64 * r.val + q.val - 2)) (Arrays.column k))).toReal : EReal)
    rw [show 64 * r.val + q.val - 2 = 64 * r.val + (q.val - 2) by omega]
  · rw [if_neg h, padded_outside _ b r q k (by omega)]
    rfl

/-- The convolved rows. -/
theorem rows_coe (b : Fin 8) (s : Fin 4096) (k : Fin 384) : rowsOf m c (ix3 b s k) = ((ops m c).y b.val s.val k : EReal) := by
  refine (convolved_apply _ _ _ b s k).trans ?_
  rw [taps_apply]
  refine (congr (congrArg _ (congr (congrArg _ (congr (congrArg _ (congr (congrArg _
    (congr (congrArg _ (padded_coe R b _ _ k)) (R.cw.coe (ix2 0 k)))) (congr (congrArg _ (padded_coe R b _ _ k)) (R.cw.coe (ix2 1 k)))))
    (congr (congrArg _ (padded_coe R b _ _ k)) (R.cw.coe (ix2 2 k))))) (congr (congrArg _ (padded_coe R b _ _ k)) (R.cw.coe (ix2 3 k)))))
    (R.cb.coe (ix1 k))).trans ?_
  simp only [← EReal.coe_mul, ← EReal.coe_add]
  refine congrArg _ ?_
  have key : ∀ (X : ℕ → ℝ) (a : ℕ) (n : ℕ) (p : Prop) [Decidable p], (p ↔ 2 ≤ a ∧ a < 66) → (p → 64 * (s.val / 64) + a - 2 = n) →
      (if 2 ≤ a ∧ a < 66 then X (64 * (s.val / 64) + a - 2) else 0) = if p then X n else 0 := by
    intro X a n p _ h1 h2
    by_cases hp : p
    · rw [if_pos hp, if_pos (h1.1 hp), h2 hp]
    · rw [if_neg hp, if_neg fun h => hp (h1.2 h)]
  unfold Operands.y conv
  have e0 := key (fun n => (ops m c).x b.val n k) (s.val % 64) (s.val - 2) (2 ≤ s.val % 64) (by omega) (by omega)
  have e1 := key (fun n => (ops m c).x b.val n k) (1 + s.val % 64) (s.val - 1) (1 ≤ s.val % 64) (by omega) (by omega)
  have e2 := key (fun n => (ops m c).x b.val n k) (2 + s.val % 64) s.val True ⟨fun _ => by omega, fun _ => trivial⟩ (by omega)
  have e3 := key (fun n => (ops m c).x b.val n k) (3 + s.val % 64) (s.val + 1) (s.val % 64 < 63) (by omega) (by omega)
  rw [if_pos trivial] at e2
  rw [← e0, ← e1, ← e3]
  refine Eq.trans ?_ (congrArg (fun z => _ + _ + z * _ + _ + _) e2)
  rfl

theorem argA_coe (b : Fin 8) (s : Fin 4096) (k : Fin 384) :
    gateArg (rowsOf m c) (arrays m c).wa (arrays m c).ba (ix3 b s k) = (gate ((ops m c).y b.val s.val) (ops m c).wa ((ops m c).ba k) k : EReal) := by
  rw [gateArg_apply, R.ba.coe (ix2 0 k)]
  unfold gate
  rw [EReal.coe_add, ← sum_coe]
  refine congr (congrArg _ (Finset.sum_congr rfl fun i _ => ?_)) rfl
  rw [rows_coe R, R.wa.coe (ix4 0 (head k) i (within k)), ← EReal.coe_mul, mul_comm]
  rfl

theorem argX_coe (b : Fin 8) (s : Fin 4096) (k : Fin 384) :
    gateArg (rowsOf m c) (arrays m c).wx (arrays m c).bx (ix3 b s k) = (gate ((ops m c).y b.val s.val) (ops m c).wx ((ops m c).bx k) k : EReal) := by
  rw [gateArg_apply, R.bx.coe (ix2 0 k)]
  unfold gate
  rw [EReal.coe_add, ← sum_coe]
  refine congr (congrArg _ (Finset.sum_congr rfl fun i _ => ?_)) rfl
  rw [rows_coe R, R.wx.coe (ix4 0 (head k) i (within k)), ← EReal.coe_mul, mul_comm]
  rfl

theorem soft_row (k : Fin 384) : softplus (minus (arrays m c).lam) (ix1 k) = (soft ((ops m c).lam k) : EReal) := by
  refine softplus_coe _ _ _ ?_
  rw [minus_apply, R.lam.coe (ix2 0 k)]
  rfl

theorem logs_coe (b : Fin 8) (s : Fin 4096) (k : Fin 384) : logsOf m c (ix3 b s k) = ((ops m c).L b.val s.val k : EReal) := by
  show Ideal.ofBits .f32 0xC1000000#32 * gateOf (gateArg (rowsOf m c) (arrays m c).wa (arrays m c).ba) (ix3 b s k)
    * everyRow (softplus (minus (arrays m c).lam)) (ix3 b s k) = _
  rw [minus8, gateOf_coe _ _ _ (argA_coe R b s k), everyRow_apply, soft_row R, ← EReal.coe_mul, ← EReal.coe_mul]
  rfl

theorem factor_coe (b : Fin 8) (s : Fin 4096) (k : Fin 384) : Host.exp (F := Ideal) (logsOf m c) (ix3 b s k) = ((ops m c).a b.val s.val k : EReal) := by
  show Ideal.exp (logsOf m c (ix3 b s k)) = _
  rw [logs_coe R, Ideal.exp_coe]
  rfl

theorem gain_coe (b : Fin 8) (s : Fin 4096) (k : Fin 384) :
    gainsOf (logsOf m c) (gateOf (gateArg (rowsOf m c) (arrays m c).wx (arrays m c).bx)) (rowsOf m c) (ix3 b s k) = ((ops m c).u b.val s.val k : EReal) := by
  show Ideal.sqrt (-(Ideal.exp (Ideal.ofBits .f32 0x40000000#32 * logsOf m c (ix3 b s k)) - 1))
    * gateOf (gateArg (rowsOf m c) (arrays m c).wx (arrays m c).bx) (ix3 b s k) * rowsOf m c (ix3 b s k) = _
  rw [two, logs_coe R, gateOf_coe _ _ _ (argX_coe R b s k), rows_coe R]
  exact gain_reference _ _ _ (logOf_nonpos _ _)

omit R in
/-- The steps' arrays, by row. -/
theorem byRow_apply (x : FVec Ideal S8x4096x384 .f32) (b : Fin 8) (s : Fin 4096) (k : Fin 384) : byRow x (ix3 s b k) = x (ix3 b s k) := by
  unfold byRow
  pointwise

theorem start_coe (b : Fin 8) (k : Fin 384) : startOf (arrays m c).h0 (ix2 b k) = ((ops m c).h0 b.val k : EReal) := by
  unfold startOf
  rw [shapeCast_apply (s := S8x1x384) _ _ _ (ix3 b 0 k) (by
    rw [Shape.rowMajor_val_three, Shape.rowMajor_val_two]; show (b.val * 1 + 0) * 384 + k.val = b.val * 384 + k.val; omega)]
  pointwise
  refine (R.h0.coe _).trans ?_
  show _ = (((arrays m c).h0 (ix3 ⟨b.val % 8, _⟩ 0 k)).toReal : EReal)
  refine congrArg (fun i => (((arrays m c).h0 (ix3 i 0 k)).toReal : EReal)) (Fin.ext ?_)
  show b.val = b.val % 8; omega

end Read

end Cert.Reference4Ideal.Recurrence

end
-- ==== Proof.Recurrence.Reference.lean ====
/-
  The plain program's results: the state of every row and the last one, over the reals.

  One trip of the loop reads the row of factors and the row of gains at the counter, steps the state, and writes it into the
  row of the results at the counter.
-/
module

public import proofs.«01_k».proof.Proof.Recurrence.RefReads

@[expose] public section

set_option maxRecDepth 16384

noncomputable section

namespace Cert.Reference4Ideal.Recurrence

open Idealize.ShloMosaic Idealize.ShloMosaic.TcCoe Idealize.ShloMosaic.StableHlo
open Idealize.SL.Sem
open Idealize.ShloMosaic.ValueIdx hiding ix1 ix2 ix3 ix4
open Cert.Reference4Ideal Cert.Reference4Ideal.Gen Cert.Reference4Ideal.Value Cert.Recurrence

/-- Where a trip's row starts, from the counter. -/
abbrev starts (n : (⟨S_, .i32⟩ : BufTy).Contents (Elt Ideal)) : Fin 3 → Int := fun k =>
  (((![n, constantI S_ 32 0#32, constantI S_ 32 0#32] : Fin 3 → (⟨S_, .i32⟩ : BufTy).Contents (Elt Ideal))) k (Shape.Idx.first h_S_)).toInt

section Rows
variable (n : (⟨S_, .i32⟩ : BufTy).Contents (Elt Ideal)) (s : Fin 4096) (hn : (n (Shape.Idx.first h_S_)).toInt = (s.val : Int))
include hn

/-- The row at the counter. -/
theorem row_apply (x : FVec Ideal S4096x8x384 .f32) (b : Fin 8) (k : Fin 384) :
    shapeCast S8x384 (Host.dynamicSlice S1x8x384 x (starts n) sliceFits_S4096x8x384_S1x8x384) shapeCasts_S1x8x384_S8x384 (ix2 b k) = x (ix3 s b k) := by
  rw [shapeCast_apply (s := S1x8x384) _ _ _ (ix3 0 b k) (by
    rw [Shape.rowMajor_val_three, Shape.rowMajor_val_two]; show (0 * 8 + b.val) * 384 + k.val = b.val * 384 + k.val; omega),
    Host.dynamicSlice_apply]
  refine congrArg x (funext fun a => Fin.ext ?_)
  match a with
  | ⟨0, _⟩ =>
    show Host.clampedStart S4096x8x384 S1x8x384 _ (starts n) 0 + 0 = s.val
    rw [Host.clampedStart_of_le _ _ _ s.val hn (by show s.val + 1 ≤ 4096; omega), Nat.add_zero]
  | ⟨1, _⟩ =>
    show Host.clampedStart S4096x8x384 S1x8x384 _ (starts n) 1 + b.val = b.val
    rw [Host.clampedStart_of_le _ _ _ 0 rfl (by decide), zero_add]
  | ⟨2, _⟩ =>
    show Host.clampedStart S4096x8x384 S1x8x384 _ (starts n) 2 + k.val = k.val
    rw [Host.clampedStart_of_le _ _ _ 0 rfl (by decide), zero_add]

/-- The results after a trip: the row at the counter is the state's, every other row is as it was. -/
theorem written_apply (x : FVec Ideal S4096x8x384 .f32) (h : FVec Ideal S8x384 .f32) (r : Fin 4096) (b : Fin 8) (k : Fin 384) :
    Host.dynamicUpdateSlice x (broadcastInDim S1x8x384 ![1, 2] bcast_S8x384_S1x8x384_1_2 h) (starts n) updateFits_S4096x8x384_S1x8x384 (ix3 r b k)
      = if r = s then h (ix2 b k) else x (ix3 r b k) := by
  have c0 : Host.clampedStart S4096x8x384 S1x8x384 updateFits_S4096x8x384_S1x8x384.1 (starts n) 0 = s.val :=
    Host.clampedStart_of_le _ _ _ s.val hn (by show s.val + 1 ≤ 4096; omega)
  have c1 : Host.clampedStart S4096x8x384 S1x8x384 updateFits_S4096x8x384_S1x8x384.1 (starts n) 1 = 0 :=
    Host.clampedStart_of_le _ _ _ 0 rfl (by decide)
  have c2 : Host.clampedStart S4096x8x384 S1x8x384 updateFits_S4096x8x384_S1x8x384.1 (starts n) 2 = 0 :=
    Host.clampedStart_of_le _ _ _ 0 rfl (by decide)
  rw [Host.dynamicUpdateSlice_apply]
  by_cases e : r = s
  · rw [if_pos e, dif_pos (by
      intro a
      match a with
      | ⟨0, _⟩ =>
        show Host.clampedStart S4096x8x384 S1x8x384 _ (starts n) 0 ≤ r.val ∧ r.val < Host.clampedStart S4096x8x384 S1x8x384 _ (starts n) 0 + 1
        rw [c0, e]; omega
      | ⟨1, _⟩ =>
        show Host.clampedStart S4096x8x384 S1x8x384 _ (starts n) 1 ≤ b.val ∧ b.val < Host.clampedStart S4096x8x384 S1x8x384 _ (starts n) 1 + 8
        rw [c1]; omega
      | ⟨2, _⟩ =>
        show Host.clampedStart S4096x8x384 S1x8x384 _ (starts n) 2 ≤ k.val ∧ k.val < Host.clampedStart S4096x8x384 S1x8x384 _ (starts n) 2 + 384
        rw [c2]; omega)]
    refine Eq.trans (congrArg (broadcastInDim S1x8x384 ![1, 2] bcast_S8x384_S1x8x384_1_2 h) (a₂ := ix3 0 b k) (funext fun a => Fin.ext ?_)) (by pointwise)
    match a with
    | ⟨0, _⟩ => show r.val - Host.clampedStart S4096x8x384 S1x8x384 _ (starts n) 0 = 0; rw [c0, e]; omega
    | ⟨1, _⟩ => show b.val - Host.clampedStart S4096x8x384 S1x8x384 _ (starts n) 1 = b.val; rw [c1]; omega
    | ⟨2, _⟩ => show k.val - Host.clampedStart S4096x8x384 S1x8x384 _ (starts n) 2 = k.val; rw [c2]; omega
  · rw [if_neg e, dif_neg fun hin => e (Fin.ext ?_)]
    have h0 := hin ⟨0, by decide⟩
    have h1 : Host.clampedStart S4096x8x384 S1x8x384 updateFits_S4096x8x384_S1x8x384.1 (starts n) 0 ≤ r.val
      ∧ r.val < Host.clampedStart S4096x8x384 S1x8x384 updateFits_S4096x8x384_S1x8x384.1 (starts n) 0 + 1 := h0
    rw [c0] at h1
    omega

end Rows

/-! ## The loop -/

section Loop
variable {m : (ℓ : Loc nD τ sig) → Buf (Elt Ideal) ℓ} {c : Dev nD} (R : (arrays m c).Real)

theorem trips_a : ∀ j : ℕ, (STEP^[j] (entryContents preI m c)) (Proc.devRef .tc main_v89_0) = entryContents preI m c (Proc.devRef .tc main_v89_0)
  | 0 => rfl
  | j + 1 => by rw [Function.iterate_succ_apply', STEP_main_v89_0]; exact trips_a j

theorem trips_u : ∀ j : ℕ, (STEP^[j] (entryContents preI m c)) (Proc.devRef .tc main_v89_1) = entryContents preI m c (Proc.devRef .tc main_v89_1)
  | 0 => rfl
  | j + 1 => by rw [Function.iterate_succ_apply', STEP_main_v89_1]; exact trips_u j

/-- The counter after `j` trips. -/
theorem trips_counter (j : Fin 4096) :
    ((STEP^[j.val] (entryContents preI m c)) (Proc.devRef .tc main_v89_2) (Shape.Idx.first h_S_)).toInt = (j.val : Int) := by
  rw [← atK_agree m c j.val main_v89_2 (by decide), atK_ctr]
  show (Scf.iv 0#32 1#32 j.val).toInt = _
  unfold Scf.iv
  have h := j.isLt
  rw [BitVec.mul_one, BitVec.zero_add, BitVec.toInt_eq_toNat_of_lt (by rw [BitVec.toNat_ofNat]; omega), BitVec.toNat_ofNat]
  omega

/-- The state before row `j`. -/
def before (P : Operands) (b : ℕ) (k : Fin 384) : ℕ → ℝ
  | 0 => P.h0 b k
  | j + 1 => P.H b j k

theorem before_step (P : Operands) (b : ℕ) (k : Fin 384) : ∀ j : ℕ, P.H b j k = P.a b j k * before P b k j + P.u b j k
  | 0 => rfl
  | _ + 1 => rfl

include R

/-- One trip's state. -/
theorem trip_state (j : Fin 4096) (b : Fin 8) (k : Fin 384)
    (ih : ∀ (b : Fin 8) (k : Fin 384), (STEP^[j.val] (entryContents preI m c)) (Proc.devRef .tc main_v89_3) (ix2 b k) = (before (ops m c) b.val k j.val : EReal)) :
    res_main_while0b_v96 (STEP^[j.val] (entryContents preI m c)) (ix2 b k) = ((ops m c).H b.val j.val k : EReal) := by
  unfold res_main_while0b_v96
  refine (congr (congrArg _ (congr (congrArg _ (row_apply _ j (trips_counter j) _ b k)) (ih b k))) (row_apply _ j (trips_counter j) _ b k)).trans ?_
  rw [trips_a, trips_u, entry_a, entry_u]
  refine (congr (congrArg _ (congr (congrArg _ ((byRow_apply _ b j k).trans (factor_coe R b j k))) rfl)) ((byRow_apply _ b j k).trans (gain_coe R b j k))).trans ?_
  rw [before_step]
  exact (congrArg (· + _) (EReal.coe_mul _ _).symm).trans (EReal.coe_add _ _).symm

/-- The state after `j` trips. -/
theorem trips_state : ∀ (j : ℕ) (hj : j ≤ 4096) (b : Fin 8) (k : Fin 384),
    (STEP^[j] (entryContents preI m c)) (Proc.devRef .tc main_v89_3) (ix2 b k) = (before (ops m c) b.val k j : EReal)
  | 0, _, b, k => by
    rw [Function.iterate_zero, id_eq, entry_h]
    exact start_coe R b k
  | j + 1, hj, b, k => by
    rw [Function.iterate_succ_apply', STEP_main_v89_3]
    exact trip_state R ⟨j, by omega⟩ b k (trips_state j (by omega))

/-- The rows written after `j` trips. -/
theorem trips_rows : ∀ (j : ℕ) (hj : j ≤ 4096) (r : Fin 4096) (hr : r.val < j) (b : Fin 8) (k : Fin 384),
    (STEP^[j] (entryContents preI m c)) (Proc.devRef .tc main_v89_4) (ix3 r b k) = ((ops m c).H b.val r.val k : EReal)
  | 0, _, _, hr, _, _ => absurd hr (by omega)
  | j + 1, hj, r, hr, b, k => by
    rw [Function.iterate_succ_apply', STEP_main_v89_4]
    refine (written_apply _ ⟨j, by omega⟩ (trips_counter ⟨j, by omega⟩) _ _ r b k).trans ?_
    by_cases e : r = ⟨j, by omega⟩
    · rw [if_pos e, e]
      exact trip_state R ⟨j, by omega⟩ b k (trips_state R j (by omega))
    · rw [if_neg e]
      exact trips_rows j (by omega) r (by have : r.val ≠ j := fun h => e (Fin.ext h); omega) b k

/-- Every row's state, by tokens. -/
theorem states_result (r : Fin 32768) (k : Fin 384) :
    out_main_v91 (STEP^[4096] (entryContents preI m c)) (ix2 r k) = ((ops m c).H (r.val / 4096) (r.val % 4096) k : EReal) := by
  unfold out_main_v91
  show shapeCast S32768x384 _ _ (ix2 r k) = _
  rw [shapeCast_apply (s := S8x4096x384) _ _ _ (ix3 ⟨r.val / 4096, by omega⟩ ⟨r.val % 4096, by omega⟩ k) (by
    rw [Shape.rowMajor_val_three, Shape.rowMajor_val_two]
    show (r.val / 4096 * 4096 + r.val % 4096) * 384 + k.val = r.val * 384 + k.val; omega)]
  pointwise
  exact trips_rows R 4096 le_rfl ⟨r.val % 4096, by omega⟩ (by show r.val % 4096 < 4096; omega) ⟨r.val / 4096, by omega⟩ k

/-- The last row's state. -/
theorem final_result (b : Fin 8) (k : Fin 384) :
    out_main_v92 (STEP^[4096] (entryContents preI m c)) (ix3 b 0 k) = ((ops m c).H b.val 4095 k : EReal) := by
  unfold out_main_v92
  pointwise
  exact trips_rows R 4096 le_rfl ⟨4095, by omega⟩ (by decide) b k

end Loop

end Cert.Reference4Ideal.Recurrence

end
-- ==== Proof.Recurrence.Backward.Entries.lean ====
/-
  The backward recurrence's arrays as the kernel's pipeline finds them, and the blocks a point reads.
-/
module

public import proofs.«01_k».proof.Proof.Gen.Kernel5Ideal.Value
public import proofs.«01_k».proof.Proof.Recurrence.Entries

@[expose] public section

set_option maxRecDepth 16384

noncomputable section

namespace Cert.Kernel5Ideal.Recurrence

open Idealize.ShloMosaic Idealize.ShloMosaic.TcCoe
open Idealize.ShloMosaic.ValueIdx hiding ix1 ix2 ix3 ix4
open Idealize.SL.Sem
open Cert.Kernel5Ideal Cert.Kernel5Ideal.Gen Cert.Recurrence
open Cert.Kernel4Ideal.Recurrence (diag forward other otherRow forwardRow beside stacked besideRow stackedRow sideBySide inTurn
  beside_fold stacked_fold besideRow_fold stackedRow_fold sideBySide_apply inTurn_apply)

variable (m : (ℓ : Loc nD τ sig) → Buf (Elt Ideal) ℓ)

set_option maxHeartbeats 4000000 in
theorem matrices_entry (c : Dev nD) :
    (V m c main_v60 : S2x384x768.Idx → EReal) = stacked
      (sideBySide (forward (m ((c : Thread nD τ).loc main_arg3))) (forward (m ((c : Thread nD τ).loc main_arg5))))
      (sideBySide (other (m ((c : Thread nD τ).loc main_arg3))) (other (m ((c : Thread nD τ).loc main_arg5)))) := by
  unfold V hostOps0
  simp only [beside_fold, stacked_fold]
  after_results_simp
  unfold sideBySide diag forward other
  exact congr (congrArg stacked (congrArg (broadcastInDim S1x384x768 ![1, 2] bcast_S384x768_S1x384x768_1_2) (congr (congrArg beside rfl) rfl)))
    (congrArg (broadcastInDim S1x384x768 ![1, 2] bcast_S384x768_S1x384x768_1_2) (congr (congrArg beside rfl) rfl))

set_option maxHeartbeats 4000000 in
theorem biases_entry (c : Dev nD) :
    (V m c main_v75 : S2x1x768.Idx → EReal) = stackedRow
      (inTurn (forwardRow (m ((c : Thread nD τ).loc main_arg4))) (forwardRow (m ((c : Thread nD τ).loc main_arg6))))
      (inTurn (otherRow (m ((c : Thread nD τ).loc main_arg4))) (otherRow (m ((c : Thread nD τ).loc main_arg6)))) := by
  unfold V hostOps0
  simp only [besideRow_fold, stackedRow_fold]
  after_results_simp
  rfl

theorem other_apply (w : S2x6x64x64.Idx → EReal) (h : Fin 6) (i j : Fin 64) : other w (ix3 h i j) = w (ix4 1 h i j) := by
  unfold other
  rw [shapeCast_apply (s := S1x6x64x64) _ _ _ (ix4 0 h i j) (by
    rw [Shape.rowMajor_val_four, Shape.rowMajor_val_three]
    show ((0 * 6 + h.val) * 64 + i.val) * 64 + j.val = (h.val * 64 + i.val) * 64 + j.val
    omega)]
  pointwise

theorem otherRow_apply (w : S2x384.Idx → EReal) (k : Fin 384) : otherRow w (ix1 k) = w (ix2 1 k) := by
  unfold otherRow
  rw [shapeCast_apply (s := S1x384) _ _ _ (ix2 0 k) (by
    rw [Shape.rowMajor_val_two, Shape.rowMajor_val_one]
    show 0 * 384 + k.val = k.val
    omega)]
  pointwise

theorem stacked_second {α : Type} (a x : S1x384x768.Idx → α) (l : Fin 384) (k : Fin 768) : stacked a x (ix3 1 l k) = x (ix3 0 l k) :=
  concatenate_pair_apply_right (t := S2x384x768) 0 a x _ _ rfl rfl (ix3 0 l k) (fun b hb => by
    match b with
    | ⟨0, _⟩ => exact absurd rfl hb
    | ⟨1, _⟩ => rfl
    | ⟨2, _⟩ => rfl) rfl

theorem stackedRow_second {α : Type} (a x : S1x1x768.Idx → α) (k : Fin 768) : stackedRow a x (ix3 1 0 k) = x (ix3 0 0 k) :=
  concatenate_pair_apply_right (t := S2x1x768) 0 a x _ _ rfl rfl (ix3 0 0 k) (fun b hb => by
    match b with
    | ⟨0, _⟩ => exact absurd rfl hb
    | ⟨1, _⟩ => rfl
    | ⟨2, _⟩ => rfl) rfl

theorem bias_entry (c : Dev nD) (k : Fin 384) :
    (V m c main_v76 : S1x384.Idx → EReal) (ix2 0 k) = (m ((c : Thread nD τ).loc main_arg2) : S384.Idx → EReal) (ix1 k) := by
  have e : (V m c main_v76 : S1x384.Idx → EReal) = shapeCast S1x384 (m ((c : Thread nD τ).loc main_arg2) : S384.Idx → EReal) shapeCasts_S384_S1x384 := by
    unfold V hostOps0
    simp [StableHlo.after]
    rfl
  rw [e]
  exact shapeCast_apply (s := S384) _ _ _ (ix1 k) (by
    rw [Shape.rowMajor_val_one, Shape.rowMajor_val_two]
    show k.val = 0 * 384 + k.val; omega)

theorem exponent_entry (c : Dev nD) (k : Fin 384) :
    (V m c main_v77 : S2x1x384.Idx → EReal) (ix3 1 0 k) = (m ((c : Thread nD τ).loc main_arg7) : S2x384.Idx → EReal) (ix2 1 k) := by
  have e : (V m c main_v77 : S2x1x384.Idx → EReal) = shapeCast S2x1x384 (m ((c : Thread nD τ).loc main_arg7) : S2x384.Idx → EReal) shapeCasts_S2x384_S2x1x384 := by
    unfold V hostOps0
    simp [StableHlo.after]
    rfl
  rw [e]
  exact shapeCast_apply (s := S2x384) _ _ _ (ix2 1 k) (by
    rw [Shape.rowMajor_val_three, Shape.rowMajor_val_two]
    show 1 * 384 + k.val = (1 * 1 + 0) * 384 + k.val; omega)

theorem start_entry (c : Dev nD) (b : Fin 8) (k : Fin 384) :
    (V m c main_v78 : S8x2x1x384.Idx → EReal) (ix4 b 1 0 k) = (m ((c : Thread nD τ).loc main_arg8) : S8x2x384.Idx → EReal) (ix3 b 1 k) := by
  have e : (V m c main_v78 : S8x2x1x384.Idx → EReal) = shapeCast S8x2x1x384 (m ((c : Thread nD τ).loc main_arg8) : S8x2x384.Idx → EReal) shapeCasts_S8x2x384_S8x2x1x384 := by
    unfold V hostOps0
    simp [StableHlo.after]
    rfl
  rw [e]
  exact shapeCast_apply (s := S8x2x384) _ _ _ (ix3 b 1 k) (by
    rw [Shape.rowMajor_val_four, Shape.rowMajor_val_three]
    show (b.val * 2 + 1) * 384 + k.val = ((b.val * 2 + 1) * 1 + 0) * 384 + k.val; omega)

/-! ## Points -/

theorem tokens_row : ∀ t : Fin grid0.N, cc0_transform_0 (grid0.coords t) 0 = 32 + 16 * (t.val / 16) + (15 - t.val % 16) := by decide +kernel
theorem tokens_column : ∀ t : Fin grid0.N, cc0_transform_0 (grid0.coords t) 1 = 6 := by decide +kernel
theorem states_row : ∀ t : Fin grid0.N, cc0_transform_7 (grid0.coords t) 0 = 16 * (t.val / 16) + (15 - t.val % 16) := by decide +kernel
theorem final_row : ∀ t : Fin grid0.N, cc0_transform_8 (grid0.coords t) 0 = t.val / 16 := by decide +kernel
theorem start_row : ∀ t : Fin grid0.N, cc0_transform_6 (grid0.coords t) 0 = t.val / 16 := by decide +kernel

/-! ## Where a block's entries sit in their arrays -/

section Places
variable (t : Fin grid0.N)

theorem place0 (y : S256x384.Idx) (a : Fin 2) : ((((cfg0.win 0).blk t).view.emb y : S40960x3072.Idx) a).val = cc0_transform_0 (grid0.coords t) a * S256x384.size a + (y a).val :=
  Pipeline.Window.rect_emb_val (cfg0.win 0) t y a rfl

theorem place1 (y : S4x384.Idx) (a : Fin 2) : ((((cfg0.win 1).blk t).view.emb y : S4x384.Idx) a).val = cc0_transform_1 (grid0.coords t) a * S4x384.size a + (y a).val :=
  Pipeline.Window.rect_emb_val (cfg0.win 1) t y a rfl

theorem place2 (y : S1x384.Idx) (a : Fin 2) : ((((cfg0.win 2).blk t).view.emb y : S1x384.Idx) a).val = cc0_transform_2 (grid0.coords t) a * S1x384.size a + (y a).val :=
  Pipeline.Window.rect_emb_val (cfg0.win 2) t y a rfl

theorem place3 (y : S1x384x768.Idx) (a : Fin 3) : ((((cfg0.win 3).blk t).view.emb y : S2x384x768.Idx) a).val = cc0_transform_3 (grid0.coords t) a * S1x384x768.size a + (y a).val :=
  Pipeline.Window.rect_emb_val (cfg0.win 3) t y a rfl

theorem place4 (y : S1x1x768.Idx) (a : Fin 3) : ((((cfg0.win 4).blk t).view.emb y : S2x1x768.Idx) a).val = cc0_transform_4 (grid0.coords t) a * S1x1x768.size a + (y a).val :=
  Pipeline.Window.rect_emb_val (cfg0.win 4) t y a rfl

theorem place5 (y : S1x1x384.Idx) (a : Fin 3) : ((((cfg0.win 5).blk t).view.emb y : S2x1x384.Idx) a).val = cc0_transform_5 (grid0.coords t) a * S1x1x384.size a + (y a).val :=
  Pipeline.Window.rect_emb_val (cfg0.win 5) t y a rfl

theorem place7 (y : S256x384.Idx) (a : Fin 2) : ((((cfg0.win 7).blk t).view.emb y : S32768x384.Idx) a).val = cc0_transform_7 (grid0.coords t) a * S256x384.size a + (y a).val :=
  Pipeline.Window.rect_emb_val (cfg0.win 7) t y a rfl

theorem place8 (y : S1x1x384.Idx) (a : Fin 3) : ((((cfg0.win 8).blk t).view.emb y : S8x1x384.Idx) a).val = cc0_transform_8 (grid0.coords t) a * S1x1x384.size a + (y a).val :=
  Pipeline.Window.rect_emb_val (cfg0.win 8) t y a rfl

theorem place6 (y : S1x1x1x384.Idx) (a : Fin 4) : ((((cfg0.win 6).blk t).view.emb y : S8x2x1x384.Idx) a).val = cc0_transform_6 (grid0.coords t) a * S1x1x1x384.size a + (y a).val :=
  Pipeline.Window.rect_emb_val (cfg0.win 6) t y a rfl

end Places

/-! ## The blocks a point reads -/

section Blocks
variable (c : Dev nD) (t : Fin grid0.N)

theorem block0_apply (n : Fin 256) (k : Fin 384) :
    (iblk m c 0 t : S256x384.Idx → EReal) (ix2 n k)
      = (m ((c : Thread nD τ).loc main_arg0) : S40960x3072.Idx → EReal) (ix2 (Arrays.token (t.val / 16) (256 * (15 - t.val % 16) + n.val)) (Arrays.column k)) := by
  refine Eq.trans ?_ (congrFun (V_main_arg0 m c) _)
  unfold iblk
  refine congrArg (V m c main_arg0 : S40960x3072.Idx → EReal) (?_ : (((cfg0.win 0).blk t).view.emb _ : S40960x3072.Idx) = _)
  funext (a : Fin 2)
  refine Fin.ext ((place0 t _ a).trans ?_)
  have ht := t.isLt
  change t.val < 128 at ht
  have hn := n.isLt
  match a with
  | ⟨0, _⟩ =>
    refine (congrArg (· * 256 + n.val) (tokens_row t)).trans ?_
    show (32 + 16 * (t.val / 16) + (15 - t.val % 16)) * 256 + n.val = (8192 + 4096 * (t.val / 16) + (256 * (15 - t.val % 16) + n.val)) % 40960
    omega
  | ⟨1, _⟩ =>
    refine (congrArg (· * 384 + k.val) (tokens_column t)).trans ?_
    show 6 * 384 + k.val = 2304 + k.val
    omega

theorem block1_apply (j : Fin 4) (k : Fin 384) :
    (iblk m c 1 t : S4x384.Idx → EReal) (ix2 j k) = (m ((c : Thread nD τ).loc main_arg1) : S4x384.Idx → EReal) (ix2 j k) := by
  refine Eq.trans ?_ (congrFun (V_main_arg1 m c) _)
  unfold iblk
  refine congrArg (V m c main_arg1 : S4x384.Idx → EReal) (?_ : (((cfg0.win 1).blk t).view.emb _ : S4x384.Idx) = _)
  funext (a : Fin 2)
  refine Fin.ext ((place1 t _ a).trans ?_)
  match a with
  | ⟨0, _⟩ => show 0 * 4 + j.val = j.val; omega
  | ⟨1, _⟩ => show 0 * 384 + k.val = k.val; omega

theorem block2_apply (k : Fin 384) :
    (iblk m c 2 t : S1x384.Idx → EReal) (ix2 0 k) = (m ((c : Thread nD τ).loc main_arg2) : S384.Idx → EReal) (ix1 k) := by
  refine Eq.trans ?_ (bias_entry m c k)
  unfold iblk
  refine congrArg (V m c main_v76 : S1x384.Idx → EReal) (?_ : (((cfg0.win 2).blk t).view.emb _ : S1x384.Idx) = _)
  funext (a : Fin 2)
  refine Fin.ext ((place2 t _ a).trans ?_)
  match a with
  | ⟨0, _⟩ => rfl
  | ⟨1, _⟩ => show 0 * 384 + k.val = k.val; omega

theorem block3_apply (l : Fin 384) (k : Fin 768) :
    (iblk m c 3 t : S1x384x768.Idx → EReal) (ix3 0 l k)
      = beside (diag (other (m ((c : Thread nD τ).loc main_arg3)))) (diag (other (m ((c : Thread nD τ).loc main_arg5)))) (ix2 l k) := by
  refine Eq.trans ?_ ((congrFun (matrices_entry m c) (ix3 1 l k)).trans ((stacked_second _ _ l k).trans (sideBySide_apply _ _ l k)))
  unfold iblk
  refine congrArg (V m c main_v60 : S2x384x768.Idx → EReal) (?_ : (((cfg0.win 3).blk t).view.emb _ : S2x384x768.Idx) = _)
  funext (a : Fin 3)
  refine Fin.ext ((place3 t _ a).trans ?_)
  match a with
  | ⟨0, _⟩ => rfl
  | ⟨1, _⟩ => show 0 * 384 + l.val = l.val; omega
  | ⟨2, _⟩ => show 0 * 768 + k.val = k.val; omega

theorem block4_apply (k : Fin 768) :
    (iblk m c 4 t : S1x1x768.Idx → EReal) (ix3 0 0 k)
      = besideRow (otherRow (m ((c : Thread nD τ).loc main_arg4))) (otherRow (m ((c : Thread nD τ).loc main_arg6))) (ix1 k) := by
  refine Eq.trans ?_ ((congrFun (biases_entry m c) (ix3 1 0 k)).trans ((stackedRow_second _ _ k).trans (inTurn_apply _ _ k)))
  unfold iblk
  refine congrArg (V m c main_v75 : S2x1x768.Idx → EReal) (?_ : (((cfg0.win 4).blk t).view.emb _ : S2x1x768.Idx) = _)
  funext (a : Fin 3)
  refine Fin.ext ((place4 t _ a).trans ?_)
  match a with
  | ⟨0, _⟩ => rfl
  | ⟨1, _⟩ => rfl
  | ⟨2, _⟩ => show 0 * 768 + k.val = k.val; omega

theorem block5_apply (k : Fin 384) :
    (iblk m c 5 t : S1x1x384.Idx → EReal) (ix3 0 0 k) = (m ((c : Thread nD τ).loc main_arg7) : S2x384.Idx → EReal) (ix2 1 k) := by
  refine Eq.trans ?_ (exponent_entry m c k)
  unfold iblk
  refine congrArg (V m c main_v77 : S2x1x384.Idx → EReal) (?_ : (((cfg0.win 5).blk t).view.emb _ : S2x1x384.Idx) = _)
  funext (a : Fin 3)
  refine Fin.ext ((place5 t _ a).trans ?_)
  match a with
  | ⟨0, _⟩ => rfl
  | ⟨1, _⟩ => rfl
  | ⟨2, _⟩ => show 0 * 384 + k.val = k.val; omega

theorem block6_apply (k : Fin 384) :
    (iblk m c 6 t : S1x1x1x384.Idx → EReal) (ix4 0 0 0 k)
      = (m ((c : Thread nD τ).loc main_arg8) : S8x2x384.Idx → EReal) (ix3 ⟨t.val / 16 % 8, Nat.mod_lt _ (by decide)⟩ 1 k) := by
  refine Eq.trans ?_ (start_entry m c ⟨t.val / 16 % 8, Nat.mod_lt _ (by decide)⟩ k)
  unfold iblk
  refine congrArg (V m c main_v78 : S8x2x1x384.Idx → EReal) (?_ : (((cfg0.win 6).blk t).view.emb _ : S8x2x1x384.Idx) = _)
  funext (a : Fin 4)
  refine Fin.ext ((place6 t _ a).trans ?_)
  have ht := t.isLt
  change t.val < 128 at ht
  match a with
  | ⟨0, _⟩ =>
    refine (congrArg (· * 1 + 0) (start_row t)).trans ?_
    show t.val / 16 * 1 + 0 = t.val / 16 % 8
    omega
  | ⟨1, _⟩ => rfl
  | ⟨2, _⟩ => rfl
  | ⟨3, _⟩ => show 0 * 384 + k.val = k.val; omega

end Blocks

end Cert.Kernel5Ideal.Recurrence

end
-- ==== Proof.Recurrence.Backward.Block.lean ====
/-
  What a point of the backward recurrence's grid leaves, as a function of the blocks it reads and of the state it starts from.

  The rows, their factors and their gains are the forward recurrence's, of the other direction's matrices. The scan joins each
  row's pair (factor, gain) with the pair that lies the step ahead of it, and the first row's state is kept for the block before.
-/
module

public import proofs.«01_k».proof.Proof.Gen.Kernel5Ideal.Frame
public import proofs.«01_k».proof.Proof.Recurrence.Block
public import Idealize.ShloMosaic.Lib.ValueIdx
public import Idealize.ShloMosaic.Lib.Pipeline.Value

@[expose] public section

set_option maxRecDepth 16384

noncomputable section

namespace Cert.Kernel5Ideal.Recurrence

open Idealize.ShloMosaic Idealize.ShloMosaic.ValueIdx Idealize.ShloMosaic.Tactic
open Cert.Kernel5Ideal Cert.Kernel5Ideal.Gen
open Cert.Kernel4Ideal.Recurrence (rows convolved logs factors gains first final gain0 turned hz2 hz3 hz4)

variable {F : FTy → Type} [FloatOps F]

/-- The mask of the rows before row `w`. -/
def mask (w : BitVec 32) : IVec S256x384 1 :=
  broadcastTo S256x384 (shapeCast S256x1 (cmpi .slt rows (broadcast S256x1 w)) shapeCasts_S256x1_S256x1) broadcasts_S256x1_S256x384

/-- The rows `256 - w` ahead; `d` where there are none. -/
def ahead (w : BitVec 32) (d : F .f32) (x : FVec F S256x384 .f32) : FVec F S256x384 .f32 :=
  select (mask w) (turned w x) (broadcast S256x384 d)

/-- Factors joined with those `256 - w` ahead. -/
def joinA (w : BitVec 32) (a : FVec F S256x384 .f32) : FVec F S256x384 .f32 :=
  mulf a (ahead w (Scalar.ofBits .f32 0x3F800000#32) a)

/-- Gains joined with those `256 - w` ahead. -/
def joinU (w : BitVec 32) (a u : FVec F S256x384 .f32) : FVec F S256x384 .f32 :=
  addf (mulf a (ahead w (Scalar.ofBits .f32 0x00000000#32) u)) u

/-- The states of a block's rows, from factors `a`, gains `u` and the state before the block. -/
def scanned (a u : FVec F S256x384 .f32) (carry : Vec F S1x384 .f32) : FVec F S256x384 .f32 :=
  let a1 := joinA 255#32 a
  let u1 := joinU 255#32 a u
  let a2 := joinA 254#32 a1
  let u2 := joinU 254#32 a1 u1
  let a3 := joinA 252#32 a2
  let u3 := joinU 252#32 a2 u2
  let a4 := joinA 248#32 a3
  let u4 := joinU 248#32 a3 u3
  let a5 := joinA 240#32 a4
  let u5 := joinU 240#32 a4 u4
  let a6 := joinA 224#32 a5
  let u6 := joinU 224#32 a5 u5
  let a7 := joinA 192#32 a6
  let u7 := joinU 192#32 a6 u6
  let a8 := joinA 128#32 a7
  let u8 := joinU 128#32 a7 u7
  addf (mulf a8 (broadcastTo S256x384 carry broadcasts_S1x384_S256x384)) u8

/-- The first row of a block. -/
def firstRow (h : FVec F S256x384 .f32) : FVec F S1x384 .f32 :=
  extractStridedSlice S1x384 ![0, 0] h slices_S256x384_o0_0_S1x384

/-- What a point leaves in its block of the states. -/
def states (x : Vec F S256x384 .f32) (cw : Vec F S4x384 .f32) (cb : Vec F S1x384 .f32) (wg : Vec F S1x384x768 .f32) (bg : Vec F S1x1x768 .f32)
    (lam : Vec F S1x1x384 .f32) (carry : Vec F S1x384 .f32) : FVec F S256x384 .f32 :=
  scanned (factors x cw cb wg bg lam) (gains x cw cb wg bg lam) carry

/-! ## The printed values of the scan, step by step -/

section Steps
variable (v82 v109 v117 a u : FVec F S256x384 .f32) (v123 v124 : FVec F S1x384 .f32) (carry : Vec F S1x384 .f32)

theorem fold_rows : iota .tc S256x1 32 [0] iota_S256x1_d0_w32 = rows := rfl
theorem step1A : k0_pay18 rows v109 v123 v124 = joinA 255#32 (exp (k0_pay14 v109 v123 v124)) := rfl
theorem step1U : k0_pay17 rows v82 v109 v117 v123 v124 = joinU 255#32 (exp (k0_pay14 v109 v123 v124)) (gain0 (k0_pay14 v109 v123 v124) v117 v82) := rfl
theorem step2a : k0_pay20 rows v109 v123 v124 = ahead 254#32 (Scalar.ofBits .f32 0x3F800000#32) (k0_pay18 rows v109 v123 v124) := rfl
theorem step2u : k0_pay21 rows v82 v109 v117 v123 v124 = turned 254#32 (k0_pay17 rows v82 v109 v117 v123 v124) := rfl
theorem step2m : k0_pay22 rows = mask 254#32 := rfl
theorem step8A : k0_pay29 rows a (ahead 254#32 (Scalar.ofBits .f32 0x3F800000#32) a) = joinA 248#32 (joinA 252#32 (joinA 254#32 a)) := rfl
theorem step8U : k0_pay28 rows u a (ahead 254#32 (Scalar.ofBits .f32 0x3F800000#32) a) (turned 254#32 u) (mask 254#32) k0_pay23
    = joinU 248#32 (joinA 252#32 (joinA 254#32 a)) (joinU 252#32 (joinA 254#32 a) (joinU 254#32 a u)) := rfl
theorem step16a : k0_pay31 rows a (ahead 254#32 (Scalar.ofBits .f32 0x3F800000#32) a)
    = ahead 240#32 (Scalar.ofBits .f32 0x3F800000#32) (k0_pay29 rows a (ahead 254#32 (Scalar.ofBits .f32 0x3F800000#32) a)) := rfl
theorem step16u : k0_pay32 rows u a (ahead 254#32 (Scalar.ofBits .f32 0x3F800000#32) a) (turned 254#32 u) (mask 254#32) k0_pay23
    = turned 240#32 (k0_pay28 rows u a (ahead 254#32 (Scalar.ofBits .f32 0x3F800000#32) a) (turned 254#32 u) (mask 254#32) k0_pay23) := rfl
theorem step16m : k0_pay33 rows = mask 240#32 := rfl
theorem step64A : k0_pay40 rows a (ahead 240#32 (Scalar.ofBits .f32 0x3F800000#32) a) = joinA 192#32 (joinA 224#32 (joinA 240#32 a)) := rfl
theorem step64U : k0_pay39 rows u a (ahead 240#32 (Scalar.ofBits .f32 0x3F800000#32) a) (turned 240#32 u) (mask 240#32) k0_pay34
    = joinU 192#32 (joinA 224#32 (joinA 240#32 a)) (joinU 224#32 (joinA 240#32 a) (joinU 240#32 a u)) := rfl
theorem step128a : k0_pay42 rows a (ahead 240#32 (Scalar.ofBits .f32 0x3F800000#32) a)
    = ahead 128#32 (Scalar.ofBits .f32 0x3F800000#32) (k0_pay40 rows a (ahead 240#32 (Scalar.ofBits .f32 0x3F800000#32) a)) := rfl
theorem step128u : k0_pay43 rows u a (ahead 240#32 (Scalar.ofBits .f32 0x3F800000#32) a) (turned 240#32 u) (mask 240#32) k0_pay34
    = turned 128#32 (k0_pay39 rows u a (ahead 240#32 (Scalar.ofBits .f32 0x3F800000#32) a) (turned 240#32 u) (mask 240#32) k0_pay34) := rfl
theorem step128m : k0_pay44 rows = mask 128#32 := rfl
theorem stepLast : k0_pay1 u a (ahead 128#32 (Scalar.ofBits .f32 0x3F800000#32) a) (turned 128#32 u) (mask 128#32) k0_pay45 carry
    = addf (mulf (joinA 128#32 a) (broadcastTo S256x384 carry broadcasts_S1x384_S256x384)) (joinU 128#32 a u) := rfl
theorem stepKept : k0_pay2 u a (ahead 128#32 (Scalar.ofBits .f32 0x3F800000#32) a) (turned 128#32 u) (mask 128#32) k0_pay45 carry
    = firstRow (k0_pay1 u a (ahead 128#32 (Scalar.ofBits .f32 0x3F800000#32) a) (turned 128#32 u) (mask 128#32) k0_pay45 carry) :=
  shapeCast_self _ _
theorem step3 (h : Vec F S1x384 .f32) : k0_pay3 h = final h := rfl
theorem step4 (h : Vec F S1x1x1x384 .f32) : k0_pay4 h = first h := shapeCast_self _ _

end Steps

section Cases
variable (c : Dev nD) (i : grid0.Coords)
  (arg2 : Memref sig .tc .vmem S256x384 .f32) (harg2 : arg2.IsWhole) (arg3 : Memref sig .tc .vmem S4x384 .f32) (harg3 : arg3.IsWhole)
  (arg4 : Memref sig .tc .vmem S1x384 .f32) (harg4 : arg4.IsWhole) (arg5 : Memref sig .tc .vmem S1x384x768 .f32) (harg5 : arg5.IsWhole)
  (arg6 : Memref sig .tc .vmem S1x1x768 .f32) (harg6 : arg6.IsWhole) (arg7 : Memref sig .tc .vmem S1x1x384 .f32) (harg7 : arg7.IsWhole)
  (arg8 : Memref sig .tc .vmem S1x1x1x384 .f32) (harg8 : arg8.IsWhole) (arg9 : Memref sig .tc .vmem S256x384 .f32) (harg9 : arg9.IsWhole)
  (arg10 : Memref sig .tc .vmem S1x1x384 .f32) (harg10 : arg10.IsWhole) (arg11 : Memref sig .tc .vmem S1x384 .f32) (harg11 : arg11.IsWhole)
  (x0 : Vec F S256x384 .f32) (x1 : Vec F S4x384 .f32) (x2 : Vec F S1x384 .f32) (x3 : Vec F S1x384x768 .f32) (x4 : Vec F S1x1x768 .f32)
  (x5 : Vec F S1x1x384 .f32) (x6 : Vec F S1x1x1x384 .f32) (xs : Vec F S1x384 .f32)

/-- A middle block: the rows' states. -/
theorem states_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 hc0 hc1 x0 x1 x2 x3 x4 x5 x6 xs
      = states x0 x1 x2 x3 x4 x5 xs := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero (S := S256x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A middle block keeps its first row's state. -/
theorem kept_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs
      = firstRow (states x0 x1 x2 x3 x4 x5 xs) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero (S := S1x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A run's first block: the rows' states, from the first state. -/
theorem states_A (hc0 : cond0_0 i) (hc1 : ¬cond0_1 i) :
    out0_A_7 c i arg2 harg2 arg3 harg3 arg4 harg4 arg5 harg5 arg6 harg6 arg7 harg7 arg8 harg8 arg9 harg9 arg10 harg10 arg11 harg11 hc0 hc1 x0 x1 x2 x3 x4 x5 x6
      = states x0 x1 x2 x3 x4 x5 (first x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S256x384) hz2, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A run's first block keeps its first row's state. -/
theorem kept_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6
      = firstRow (states x0 x1 x2 x3 x4 x5 (first x6)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x384) hz2, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A run's last block: the rows' states. -/
theorem states_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs
      = states x0 x1 x2 x3 x4 x5 xs := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S256x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A run's last block keeps its first row's state. -/
theorem kept_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs
      = firstRow (states x0 x1 x2 x3 x4 x5 xs) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S1x384) hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

/-- A run's last block writes that state out. -/
theorem final_C (hc0 : ¬cond0_0 i) (hc1 : cond0_1 i) :
    out0_C_8 c i arg2 harg2 arg3 harg3 arg4 harg4 arg5 harg5 arg6 harg6 arg7 harg7 arg8 harg8 arg9 harg9 arg10 harg10 arg11 harg11 hc0 hc1 x0 x1 x2 x3 x4 x5 x6 xs
      = final (firstRow (states x0 x1 x2 x3 x4 x5 xs)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero (S := S1x1x384) hz3, View.readCov_unit_zero (S := S1x384) _ hz2]
  simp only [View.readAt_eq_ld, harg2.read_unread, harg3.read_unread, harg4.read_unread, harg5.read_unread, harg6.read_unread, harg7.read_unread, harg8.read_unread,
    harg11.read_unread,
    View.ld_unit_zero (S := S256x384) hz2, View.ld_unit_zero (S := S4x384) hz2, View.ld_unit_zero (S := S1x384) hz2, View.ld_unit_zero (S := S1x384x768) hz3,
    View.ld_unit_zero (S := S1x1x768) hz3, View.ld_unit_zero (S := S1x1x384) hz3, View.ld_unit_zero (S := S1x1x1x384) hz4]
  rw [fold_rows]
  simp only [step3, step4, step1A, step1U, step2a, step2u, step2m, step8A, step8U, step16a, step16u, step16m, step64A, step64U, step128a, step128u, step128m,
    stepKept, stepLast]
  rfl

end Cases

end Cert.Kernel5Ideal.Recurrence

end
-- ==== Proof.Recurrence.Backward.Net.lean ====
/-
  The scan of the backward recurrence's body, read at an index, over the reals.
-/
module

public import proofs.«01_k».proof.Proof.Recurrence.Net
public import proofs.«01_k».proof.Proof.Recurrence.Backward.Block

@[expose] public section

set_option maxRecDepth 16384

noncomputable section

namespace Cert.Kernel5Ideal.Recurrence

open Idealize.ShloMosaic Idealize.ShloMosaic.TcCoe
open Idealize.ShloMosaic.ValueIdx hiding ix1 ix2 ix3 ix4
open Idealize.SL.Sem
open Cert.Kernel5Ideal Cert.Kernel5Ideal.Gen Cert.Recurrence
open Cert.Kernel4Ideal.Recurrence (rows row_apply select_if)

theorem row_words : ∀ (v : Fin 8) (n : Fin 256), IntOp.cmpi .slt (BitVec.ofNat 32 n.val) (BitVec.ofNat 32 (256 - 2 ^ v.val)) = if n.val + 2 ^ v.val < 256 then 1#1 else 0#1 := by
  decide +kernel

theorem ahead_apply (v : Fin 8) (d : EReal) (x : FVec Ideal S256x384 .f32) (n : Fin 256) (k : Fin 384) :
    ahead (BitVec.ofNat 32 (256 - 2 ^ v.val)) d x (ix2 n k) = if h : n.val + 2 ^ v.val < 256 then x (ix2 ⟨n.val + 2 ^ v.val, h⟩ k) else d := by
  have hv : 2 ^ v.val < 256 := by
    have h := v.isLt
    calc 2 ^ v.val ≤ 2 ^ 7 := Nat.pow_le_pow_right (by norm_num) (by omega)
      _ < 256 := by norm_num
  unfold ahead mask Cert.Kernel4Ideal.Recurrence.turned
  simp only [shapeCast_self]
  pointwise
  rw [row_apply, row_words v n, select_if]
  by_cases h : n.val + 2 ^ v.val < 256
  · rw [if_pos h, dif_pos h]
    refine congrArg (fun i => x (ix2 i k)) (Fin.ext ?_)
    show (n.val + 256 - ((256 - 2 ^ v.val) % 2 ^ 32) % 256) % 256 = n.val + 2 ^ v.val
    have hn := n.isLt
    have hp : 0 < 2 ^ v.val := Nat.pos_of_ne_zero (by positivity)
    generalize 2 ^ v.val = w at *
    omega
  · rw [if_neg h, dif_neg h]

/-! ## The scan over the reals -/

section ScanReal
variable {k : Fin 384} {A U : ℕ → ℝ}

/-- Joined factors reach twice as far. -/
theorem joinA_real (v : Fin 8) (a : FVec Ideal S256x384 .f32) (h : ∀ n : Fin 256, a (ix2 n k) = (decay A (2 ^ v.val) (255 - n.val) : EReal)) (n : Fin 256) :
    joinA (BitVec.ofNat 32 (256 - 2 ^ v.val)) a (ix2 n k) = (decay A (2 ^ (v.val + 1)) (255 - n.val) : EReal) := by
  have e : 2 ^ (v.val + 1) = 2 ^ v.val + 2 ^ v.val := by rw [pow_succ]; omega
  show a (ix2 n k) * ahead (BitVec.ofNat 32 (256 - 2 ^ v.val)) (Ideal.ofBits .f32 0x3F800000#32) a (ix2 n k) = _
  rw [ahead_apply, e, decay_add, h n, EReal.coe_mul]
  refine congrArg _ ?_
  have hnl := n.isLt
  by_cases hn : n.val + 2 ^ v.val < 256
  · rw [dif_pos hn, if_pos (by omega), h]
    show (decay A _ (255 - (n.val + 2 ^ v.val)) : EReal) = _
    rw [Nat.sub_sub]
  · rw [dif_neg hn, if_neg (by omega), Ideal.ofBits_one_f32]; rfl

/-- Joined gains reach twice as far. -/
theorem joinU_real (v : Fin 8) (a u : FVec Ideal S256x384 .f32) (h : ∀ n : Fin 256, a (ix2 n k) = (decay A (2 ^ v.val) (255 - n.val) : EReal))
    (hu : ∀ n : Fin 256, u (ix2 n k) = (gain A U (2 ^ v.val) (255 - n.val) : EReal)) (n : Fin 256) :
    joinU (BitVec.ofNat 32 (256 - 2 ^ v.val)) a u (ix2 n k) = (gain A U (2 ^ (v.val + 1)) (255 - n.val) : EReal) := by
  have e : 2 ^ (v.val + 1) = 2 ^ v.val + 2 ^ v.val := by rw [pow_succ]; omega
  show a (ix2 n k) * ahead (BitVec.ofNat 32 (256 - 2 ^ v.val)) (Ideal.ofBits .f32 0x00000000#32) u (ix2 n k) + u (ix2 n k) = _
  rw [ahead_apply, e, gain_add, h n, hu n, EReal.coe_add, EReal.coe_mul]
  refine congrArg (fun z => _ * z + _) ?_
  have hnl := n.isLt
  by_cases hn : n.val + 2 ^ v.val < 256
  · rw [dif_pos hn, if_pos (by omega), hu]
    show (gain A U _ (255 - (n.val + 2 ^ v.val)) : EReal) = _
    rw [Nat.sub_sub]
  · rw [dif_neg hn, if_neg (by omega), Ideal.ofBits_zero_f32]; rfl

/-- A block's scan gives the states of its rows. -/
theorem scanned_real (a u : FVec Ideal S256x384 .f32) (c : Vec Ideal S1x384 .f32) (x : ℝ) (ha : ∀ n : Fin 256, a (ix2 n k) = (A (255 - n.val) : EReal))
    (hu : ∀ n : Fin 256, u (ix2 n k) = (U (255 - n.val) : EReal)) (hc : c (ix2 0 k) = (x : EReal)) (n : Fin 256) :
    scanned a u c (ix2 n k) = (state A U x (255 - n.val) : EReal) := by
  have a0 : ∀ n : Fin 256, a (ix2 n k) = (decay A (2 ^ 0) (255 - n.val) : EReal) := fun n => by rw [ha, pow_zero, decay_one]
  have u0 : ∀ n : Fin 256, u (ix2 n k) = (gain A U (2 ^ 0) (255 - n.val) : EReal) := fun n => by rw [hu, pow_zero, gain_one]
  have a1 := joinA_real 0 _ a0
  have u1 := joinU_real 0 _ _ a0 u0
  have a2 := joinA_real 1 _ a1
  have u2 := joinU_real 1 _ _ a1 u1
  have a3 := joinA_real 2 _ a2
  have u3 := joinU_real 2 _ _ a2 u2
  have a4 := joinA_real 3 _ a3
  have u4 := joinU_real 3 _ _ a3 u3
  have a5 := joinA_real 4 _ a4
  have u5 := joinU_real 4 _ _ a4 u4
  have a6 := joinA_real 5 _ a5
  have u6 := joinU_real 5 _ _ a5 u5
  have a7 := joinA_real 6 _ a6
  have u7 := joinU_real 6 _ _ a6 u6
  have a8 := joinA_real 7 _ a7 n
  have u8 := joinU_real 7 _ _ a7 u7 n
  have hrow : broadcastTo S256x384 c broadcasts_S1x384_S256x384 (ix2 n k) = (x : EReal) := by
    pointwise
    exact hc
  rw [← window_eq_state (A) (U) x (n := 255 - n.val) (s := 256) (by omega), EReal.coe_add, EReal.coe_mul]
  refine Eq.trans ?_ (congrArg₂ (· + ·) (congrArg₂ (· * ·) a8 hrow) u8)
  rfl

end ScanReal

end Cert.Kernel5Ideal.Recurrence

end
-- ==== Proof.Recurrence.Backward.Value.lean ====
/-
  The backward recurrence's results over the reals.

  A point's block of the states is the recurrence over its 256 rows, taken from the last to the first, from the state kept by the
  point before, which is the sequence's state at the row after: by induction the blocks are the sequences' states, and the last
  point of a sequence leaves the state of its first row.
-/
module

public import proofs.«01_k».proof.Proof.Recurrence.Backward.Entries
public import proofs.«01_k».proof.Proof.Recurrence.Backward.Net

@[expose] public section

set_option maxRecDepth 16384

noncomputable section

namespace Cert.Kernel5Ideal.Recurrence

open Idealize.ShloMosaic Idealize.ShloMosaic.TcCoe
open Idealize.ShloMosaic.ValueIdx hiding ix1 ix2 ix3 ix4
open Idealize.SL.Sem
open Cert.Kernel5Ideal Cert.Kernel5Ideal.Gen Cert.Recurrence
open Cert.Kernel4Ideal.Recurrence (diag other otherRow first final diag_apply beside_left beside_right besideRow_left besideRow_right
  Holds factors_real gains_real)

variable (m : (ℓ : Loc nD τ sig) → Buf (Elt Ideal) ℓ)

/-- The nine arguments, as one device has them. -/
def arrays (c : Dev nD) : Arrays where
  p := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)
  h0 := m ((c : Thread nD τ).loc main_arg8)

/-- The real numbers the device's arguments stand for. -/
abbrev ops (c : Dev nD) : Operands := (arrays m c).backward

/-- What a point leaves: its rows' states, the first row's kept, and at a sequence's last point the first row's written out. -/
def Leaves (m : (ℓ : Loc nD τ sig) → Buf (Elt Ideal) ℓ) (c : Dev nD) (t : Fin grid0.N) (o : Vec Ideal S256x384 .f32 × Vec Ideal S1x1x384 .f32 × Vec Ideal S1x384 .f32) : Prop :=
  (∀ (n : Fin 256) (k : Fin 384), o.1 (ix2 n k) = ((ops m c).B (t.val / 16) (256 * (t.val % 16) + (255 - n.val)) k : EReal))
  ∧ (∀ k : Fin 384, o.2.2 (ix2 0 k) = ((ops m c).B (t.val / 16) (256 * (t.val % 16) + 255) k : EReal))
  ∧ (t.val % 16 = 15 → ∀ k : Fin 384, o.2.1 (ix3 0 0 k) = ((ops m c).B (t.val / 16) (256 * (t.val % 16) + 255) k : EReal))

section
variable {m} {c : Dev nD} (R : (arrays m c).Real)
include R

theorem ofHead (l k : Fin 384) (w : S2x6x64x64.Idx → EReal) (h : AllReal w) :
    diag (other w) (ix2 l k) = ((if head l = head k then (w (ix4 1 (head l) (within l) (within k))).toReal else 0 : ℝ) : EReal) := by
  rw [diag_apply]
  split
  · rw [other_apply]; exact h.coe _
  · exact EReal.coe_zero.symm

/-- A point's blocks are its rows of its sequence. -/
theorem holds (t : Fin grid0.N) :
    Holds (ops m c) (t.val / 16) (256 * (15 - t.val % 16)) (iblk m c 0 t) (iblk m c 1 t) (iblk m c 2 t) (iblk m c 3 t) (iblk m c 4 t) (iblk m c 5 t) where
  hbase := by omega
  hx n k := (block0_apply m c t n k).trans (R.p.coe _)
  hcw j k := (block1_apply m c t j k).trans (R.cw.coe _)
  hcb k := (block2_apply m c t k).trans (R.cb.coe _)
  hwa l k := (block3_apply m c t l _).trans ((beside_left _ _ l k).trans (ofHead R l k _ R.wa))
  hwx l k := (block3_apply m c t l _).trans ((beside_right _ _ l k).trans (ofHead R l k _ R.wx))
  hba k := (block4_apply m c t _).trans ((besideRow_left _ _ k).trans ((otherRow_apply _ k).trans (R.ba.coe _)))
  hbx k := (block4_apply m c t _).trans ((besideRow_right _ _ k).trans ((otherRow_apply _ k).trans (R.bx.coe _)))
  hlam k := (block5_apply m c t k).trans (R.lam.coe _)

/-- The state a sequence's run starts from. -/
theorem first_real (t : Fin grid0.N) (k : Fin 384) : first (F := Ideal) (iblk m c 6 t) (ix2 0 k) = ((ops m c).h0 (t.val / 16) k : EReal) := by
  unfold first
  rw [shapeCast_apply (s := S1x1x1x384) _ _ _ (ix4 0 0 0 k) (by
    rw [Shape.rowMajor_val_four, Shape.rowMajor_val_two]
    show ((0 * 1 + 0) * 1 + 0) * 384 + k.val = 0 * 384 + k.val
    omega)]
  exact (block6_apply m c t k).trans (R.h0.coe _)

omit R in
theorem turn (t : Fin grid0.N) (n : Fin 256) : 256 * (15 - t.val % 16) + n.val = 4095 - (256 * (t.val % 16) + (255 - n.val)) := by
  have := n.isLt
  omega

/-- The rows' states, from the state kept. -/
theorem states_real (t : Fin grid0.N) (carry : Vec Ideal S1x384 .f32) (k : Fin 384) (x : ℝ) (hc : carry (ix2 0 k) = (x : EReal)) (n : Fin 256) :
    states (F := Ideal) (iblk m c 0 t) (iblk m c 1 t) (iblk m c 2 t) (iblk m c 3 t) (iblk m c 4 t) (iblk m c 5 t) carry (ix2 n k)
      = (state (fun i => (ops m c).a (t.val / 16) (4095 - (256 * (t.val % 16) + i)) k) (fun i => (ops m c).u (t.val / 16) (4095 - (256 * (t.val % 16) + i)) k) x (255 - n.val) : EReal) :=
  scanned_real (A := fun i => (ops m c).a (t.val / 16) (4095 - (256 * (t.val % 16) + i)) k) (U := fun i => (ops m c).u (t.val / 16) (4095 - (256 * (t.val % 16) + i)) k)
    _ _ carry x (fun n => (factors_real (holds R t) n k).trans (congrArg (fun s => ((ops m c).a (t.val / 16) s k : EReal)) (turn t n)))
    (fun n => (gains_real (holds R t) n k).trans (congrArg (fun s => ((ops m c).u (t.val / 16) s k : EReal)) (turn t n))) hc n

/-- In the first block of a run the states are the sequence's. -/
theorem states_first (t : Fin grid0.N) (h0 : t.val % 16 = 0) (k : Fin 384) (n : Fin 256) :
    states (F := Ideal) (iblk m c 0 t) (iblk m c 1 t) (iblk m c 2 t) (iblk m c 3 t) (iblk m c 4 t) (iblk m c 5 t) (first (iblk m c 6 t)) (ix2 n k)
      = ((ops m c).B (t.val / 16) (256 * (t.val % 16) + (255 - n.val)) k : EReal) := by
  rw [states_real R t _ k _ (first_real R t k) n, h0]
  simp only [Nat.mul_zero, Nat.zero_add]
  rfl

/-- In a later block they are, from the state at the row before. -/
theorem states_later (t : Fin grid0.N) (h0 : ¬t.val % 16 = 0) (carry : Vec Ideal S1x384 .f32) (k : Fin 384)
    (hc : carry (ix2 0 k) = ((ops m c).B (t.val / 16) (256 * (t.val % 16) - 1) k : EReal)) (n : Fin 256) :
    states (F := Ideal) (iblk m c 0 t) (iblk m c 1 t) (iblk m c 2 t) (iblk m c 3 t) (iblk m c 4 t) (iblk m c 5 t) carry (ix2 n k)
      = ((ops m c).B (t.val / 16) (256 * (t.val % 16) + (255 - n.val)) k : EReal) := by
  rw [states_real R t carry k _ hc n]
  have e := state_shift (fun i => (ops m c).a (t.val / 16) (4095 - i) k) (fun i => (ops m c).u (t.val / 16) (4095 - i) k) ((ops m c).h0 (t.val / 16) k) (256 * (t.val % 16) - 1) (255 - n.val)
  have e1 : 256 * (t.val % 16) - 1 + 1 = 256 * (t.val % 16) := by omega
  rw [e1] at e
  exact congrArg _ e.symm

omit R in
/-- The first row of a block. -/
theorem firstRow_real (h : FVec Ideal S256x384 .f32) (k : Fin 384) : firstRow h (ix2 0 k) = h (ix2 0 k) := by
  unfold firstRow
  pointwise

/-- Every point leaves them: from what the point before kept. -/
theorem leaves_at (t : Fin cfg0.N)
    (hacc : ¬t.val % 16 = 0 → ∀ k : Fin 384, (outsAt0 m c (t.val - 1) (Nat.lt_of_le_of_lt (Nat.sub_le _ _) t.isLt)).2.2 (ix2 0 k)
      = ((ops m c).B (t.val / 16) (256 * (t.val % 16) - 1) k : EReal)) :
    Leaves m c t (outsAt0 m c t.val t.isLt) := by
  by_cases h0 : t.val % 16 = 0
  · have h1 : ¬t.val % 16 = 15 := by omega
    rw [outsAt0_A m c t h0 h1]
    refine ⟨fun n k => ?_, fun k => ?_, fun h => absurd h h1⟩
    · dsimp only
      rw [states_A]
      exact states_first R t h0 k n
    · dsimp only
      rw [kept_A, firstRow_real]
      exact states_first R t h0 k 0
  · by_cases h1 : t.val % 16 = 15
    · rw [outsAt0_C m c t h0 h1]
      refine ⟨fun n k => ?_, fun k => ?_, fun _ k => ?_⟩
      · dsimp only
        rw [states_C]
        exact states_later R t h0 _ k (hacc h0 k) n
      · dsimp only
        rw [kept_C, firstRow_real]
        exact states_later R t h0 _ k (hacc h0 k) 0
      · dsimp only
        rw [final_C]
        unfold final
        rw [shapeCast_apply (s := S1x384) _ _ _ (ix2 0 k) (by
          rw [Shape.rowMajor_val_three, Shape.rowMajor_val_two]
          show 0 * 384 + k.val = (0 * 1 + 0) * 384 + k.val
          omega), firstRow_real]
        exact states_later R t h0 _ k (hacc h0 k) 0
    · rw [outsAt0_B m c t h0 h1]
      refine ⟨fun n k => ?_, fun k => ?_, fun h => absurd h h1⟩
      · dsimp only
        rw [states_B]
        exact states_later R t h0 _ k (hacc h0 k) n
      · dsimp only
        rw [kept_B, firstRow_real]
        exact states_later R t h0 _ k (hacc h0 k) 0

theorem leaves : ∀ (n : ℕ) (hn : n < cfg0.N), Leaves m c ⟨n, hn⟩ (outsAt0 m c n hn)
  | 0, hn => leaves_at R ⟨0, hn⟩ (fun h => absurd rfl h)
  | n + 1, hn => by
    refine leaves_at R ⟨n + 1, hn⟩ (fun h k => ((leaves n (Nat.lt_of_succ_lt hn)).2.1 k).trans ?_)
    change ¬(n + 1) % 16 = 0 at h
    show ((ops m c).B (n / 16) (256 * (n % 16) + 255) k : EReal) = ((ops m c).B ((n + 1) / 16) (256 * ((n + 1) % 16) - 1) k : EReal)
    have e1 : (n + 1) / 16 = n / 16 := by omega
    have e2 : 256 * ((n + 1) % 16) - 1 = 256 * (n % 16) + 255 := by omega
    rw [e1, e2]

/-! ## The arrays -/

omit R in
/-- The states as one array: row `r` of the array is row `r % 4096` of sequence `r / 4096`. -/
def allStates (m : (ℓ : Loc nD τ sig) → Buf (Elt Ideal) ℓ) (c : Dev nD) : Buf (Elt Ideal) ((c : Thread nD τ).loc main_v79_0) := fun i : S32768x384.Idx =>
  ((ops m c).B ((i 0).val / 4096) (4095 - (i 0).val % 4096) (i 1) : EReal)

omit R in
/-- The sequences' final states as one array. -/
def allFinal (m : (ℓ : Loc nD τ sig) → Buf (Elt Ideal) ℓ) (c : Dev nD) : Buf (Elt Ideal) ((c : Thread nD τ).loc main_v79_1) := fun i : S8x1x384.Idx =>
  ((ops m c).B (i 0).val 4095 (i 2) : EReal)

/-- A point writes back its block of the states. -/
theorem states_block (t : Fin cfg0.N) : (dats m 0 c).flushed 7 t = ((cfg0.win 7).blk t).view.read (Elt Ideal) (allStates m c) := by
  rw [Value.flushed7]
  funext (y : S256x384.Idx)
  have hy : (y 0).val < 256 := (y 0).isLt
  have hl : (cfg0.win 7).xinj (grid0.coords t) y = (ix2 (y 0) (y 1) : S256x384.Idx) := by
    funext (a : Fin 2)
    refine Fin.ext ?_
    match a with
    | ⟨0, _⟩ => rfl
    | ⟨1, _⟩ => rfl
  show (outsAt0 m c t.val t.isLt).1 ((cfg0.win 7).xinj (grid0.coords t) y) = allStates m c (((cfg0.win 7).blk t).view.emb y)
  refine (congrArg (outsAt0 m c t.val t.isLt).1 hl).trans (((leaves R t.val t.isLt).1 (y 0) (y 1)).trans ?_)
  have b0 : ((((cfg0.win 7).blk t).view.emb y : S32768x384.Idx) 0).val = (16 * (t.val / 16) + (15 - t.val % 16)) * 256 + (y 0).val :=
    (place7 t y 0).trans (congrArg (· * 256 + (y 0).val) (states_row t))
  have b1 : (((cfg0.win 7).blk t).view.emb y : S32768x384.Idx) 1 = y 1 :=
    Fin.ext ((place7 t y 1).trans (by show 0 * 384 + (y 1).val = (y 1).val; omega))
  unfold allStates
  dsimp only
  rw [b0, b1]
  have e1 : ((16 * (t.val / 16) + (15 - t.val % 16)) * 256 + (y 0).val) / 4096 = t.val / 16 := by omega
  have e2 : 4095 - ((16 * (t.val / 16) + (15 - t.val % 16)) * 256 + (y 0).val) % 4096 = 256 * (t.val % 16) + (255 - (y 0).val) := by omega
  rw [e1, e2]

/-- The last point of a sequence writes back its final state. -/
theorem final_block (t : Fin cfg0.N) (hf : (cfg0.win 8).flush t = true) :
    (dats m 0 c).flushed 8 t = ((cfg0.win 8).blk t).view.read (Elt Ideal) (allFinal m c) := by
  have h1 : t.val % 16 = 15 := (flush0_8 t).mp hf
  rw [Value.flushed8]
  funext (y : S1x1x384.Idx)
  have hy0 : (y 0).val < 1 := (y 0).isLt
  have hy1 : (y 1).val < 1 := (y 1).isLt
  have hl : (cfg0.win 8).xinj (grid0.coords t) y = (ix3 0 0 (y 2) : S1x1x384.Idx) := by
    funext (a : Fin 3)
    refine Fin.ext ?_
    match a with
    | ⟨0, _⟩ => show (y 0).val = 0; omega
    | ⟨1, _⟩ => show (y 1).val = 0; omega
    | ⟨2, _⟩ => rfl
  show (outsAt0 m c t.val t.isLt).2.1 ((cfg0.win 8).xinj (grid0.coords t) y) = allFinal m c (((cfg0.win 8).blk t).view.emb y)
  refine (congrArg (outsAt0 m c t.val t.isLt).2.1 hl).trans (((leaves R t.val t.isLt).2.2 h1 (y 2)).trans ?_)
  have b0 : ((((cfg0.win 8).blk t).view.emb y : S8x1x384.Idx) 0).val = t.val / 16 * 1 + (y 0).val :=
    (place8 t y 0).trans (congrArg (· * 1 + (y 0).val) (final_row t))
  have b2 : (((cfg0.win 8).blk t).view.emb y : S8x1x384.Idx) 2 = y 2 :=
    Fin.ext ((place8 t y 2).trans (by show 0 * 384 + (y 2).val = (y 2).val; omega))
  unfold allFinal
  dsimp only
  rw [b0, b2, h1]
  have e1 : t.val / 16 * 1 + (y 0).val = t.val / 16 := by omega
  rw [e1]

/-- The states' array after the run. -/
theorem states_array : (dats m 0 c).arrAt 7 cfg0.N = allStates m c :=
  (dats m 0 c).arrAt_eq_of_cover 7 _ (fun t _ => states_block R t) (fun (i : S32768x384.Idx) => by
    have hi : (i 0).val < 32768 := (i 0).isLt
    have hi1 : (i 1).val < 384 := (i 1).isLt
    have ht : 16 * ((i 0).val / 4096) + (15 - (i 0).val / 256 % 16) < cfg0.N := by
      show _ < 128
      omega
    have er := states_row ⟨16 * ((i 0).val / 4096) + (15 - (i 0).val / 256 % 16), ht⟩
    refine ⟨⟨16 * ((i 0).val / 4096) + (15 - (i 0).val / 256 % 16), ht⟩, flush0_7 _, ?_⟩
    show i ∈ ((View.whole main_v79_0).slice (win0_7.rect ⟨16 * ((i 0).val / 4096) + (15 - (i 0).val / 256 % 16), ht⟩)).set
    rw [View.set_slice_whole, Rect.mem_set_unit]
    intro (a : Fin 2)
    match a with
    | ⟨0, _⟩ =>
      show cc0_transform_7 (grid0.coords _) 0 * 256 ≤ (i 0).val ∧ (i 0).val < cc0_transform_7 (grid0.coords _) 0 * 256 + 256
      rw [er]
      dsimp only
      omega
    | ⟨1, _⟩ =>
      show 0 * 384 ≤ (i 1).val ∧ (i 1).val < 0 * 384 + 384
      omega)

/-- The final states' array after the run. -/
theorem final_array : (dats m 0 c).arrAt 8 cfg0.N = allFinal m c :=
  (dats m 0 c).arrAt_eq_of_cover 8 _ (fun t hf => final_block R t hf) (fun (i : S8x1x384.Idx) => by
    have hi : (i 0).val < 8 := (i 0).isLt
    have hi1 : (i 1).val < 1 := (i 1).isLt
    have hi2 : (i 2).val < 384 := (i 2).isLt
    have ht : 16 * (i 0).val + 15 < cfg0.N := by
      show _ < 128
      omega
    have er := final_row ⟨16 * (i 0).val + 15, ht⟩
    refine ⟨⟨16 * (i 0).val + 15, ht⟩, (flush0_8 _).mpr (by show (16 * (i 0).val + 15) % 16 = 15; omega), ?_⟩
    show i ∈ ((View.whole main_v79_1).slice (win0_8.rect ⟨16 * (i 0).val + 15, ht⟩)).set
    rw [View.set_slice_whole, Rect.mem_set_unit]
    intro (a : Fin 3)
    match a with
    | ⟨0, _⟩ =>
      show cc0_transform_8 (grid0.coords _) 0 * 1 ≤ (i 0).val ∧ (i 0).val < cc0_transform_8 (grid0.coords _) 0 * 1 + 1
      rw [er]
      dsimp only
      omega
    | ⟨1, _⟩ =>
      show 0 * 1 ≤ (i 1).val ∧ (i 1).val < 0 * 1 + 1
      omega
    | ⟨2, _⟩ =>
      show 0 * 384 ≤ (i 2).val ∧ (i 2).val < 0 * 384 + 384
      omega)

end

end Cert.Kernel5Ideal.Recurrence

end
-- ==== Proof.Recurrence.Backward.RefEntry.lean ====
/-
  The plain program's arrays at the backward loop's entry, as functions of its arguments.
-/
module

public import proofs.«01_k».proof.Proof.Gen.Reference5Ideal.Run
public import proofs.«01_k».proof.Proof.Recurrence.RefEntry

@[expose] public section

set_option maxRecDepth 16384

noncomputable section

namespace Cert.Reference5Ideal.Recurrence

open Idealize.ShloMosaic Idealize.ShloMosaic.TcCoe Idealize.ShloMosaic.StableHlo
open Idealize.SL.Sem
open Cert.Reference5Ideal Cert.Reference5Ideal.Gen Cert.Reference5Ideal.Value
open Cert.Reference4Ideal.Recurrence (grid padded everyRow convolved const gateOf nought softplus logs gainsOf byRow)

/-- A gate's argument. -/
def gateArg (y : FVec Ideal S8x4096x384 .f32) (w : FVec Ideal S2x6x64x64 .f32) (b : FVec Ideal S2x384 .f32) : FVec Ideal S8x4096x384 .f32 :=
  addf (shapeCast S8x4096x384 (transpose S8x4096x6x64 [2, 3, 0, 1] (Host.dotGeneral (F := Ideal) dot_S6x64x64_S8x4096x6x64_S6x64x8x4096_1_3_2_01_0_2 none
      (shapeCast S6x64x64 (extractStridedSlice S1x6x64x64 ![1, 0, 0, 0] w slices_S2x6x64x64_S1x6x64x64_1_0_0_0) shapeCasts_S1x6x64x64_S6x64x64)
      (shapeCast S8x4096x6x64 y shapeCasts_S8x4096x384_S8x4096x6x64)) transposes_S6x64x8x4096_S8x4096x6x64_2_3_0_1) shapeCasts_S8x4096x6x64_S8x4096x384)
    (everyRow (shapeCast S384 (extractStridedSlice S1x384 ![1, 0] b slices_S2x384_S1x384_1_0) shapeCasts_S1x384_S384))

/-- The decay's exponent, negated. -/
def minus (lam : FVec Ideal S2x384 .f32) : FVec Ideal S384 .f32 :=
  Host.negf (shapeCast S384 (extractStridedSlice S1x384 ![1, 0] lam slices_S2x384_S1x384_1_0) shapeCasts_S1x384_S384)

/-! ## The stretches before the loop -/

section Stretches
variable (V : Valuation τ sig (Elt Ideal))

theorem stretch0_v1 : after hostOps0 V (Proc.devRef .tc main_v1) = grid (V (Proc.devRef .tc main_arg0)) := by
  after_results_simp
  rfl

theorem stretch0_c : after hostOps0 V (Proc.devRef .tc main_c) = constantI S_ 32 0#32 := by
  after_results_simp

theorem stretch1_v2 : after hostOps0_1 V (Proc.devRef .tc main_v2) = padded (V (Proc.devRef .tc main_v1)) (V (Proc.devRef .tc main_c)) := by
  after_results_simp
  rfl

set_option maxHeartbeats 4000000 in
theorem stretch2_v33 : after hostOps0_2 V (Proc.devRef .tc main_v33)
    = convolved (V (Proc.devRef .tc main_v2)) (V (Proc.devRef .tc main_arg1)) (V (Proc.devRef .tc main_arg2)) := by
  after_results_simp
  rfl

set_option maxHeartbeats 4000000 in
theorem stretch2_v68 : after hostOps0_2 V (Proc.devRef .tc main_v68)
    = mulf (const 0xC1000000#32) (gateOf (gateArg (convolved (V (Proc.devRef .tc main_v2)) (V (Proc.devRef .tc main_arg1)) (V (Proc.devRef .tc main_arg2)))
      (V (Proc.devRef .tc main_arg3)) (V (Proc.devRef .tc main_arg4)))) := by
  after_results_simp
  rfl

set_option maxHeartbeats 4000000 in
theorem stretch2_v66 : after hostOps0_2 V (Proc.devRef .tc main_v66)
    = gateOf (gateArg (convolved (V (Proc.devRef .tc main_v2)) (V (Proc.devRef .tc main_arg1)) (V (Proc.devRef .tc main_arg2)))
      (V (Proc.devRef .tc main_arg5)) (V (Proc.devRef .tc main_arg6))) := by
  after_results_simp
  rfl

set_option maxHeartbeats 4000000 in
theorem stretch2_v71 : after hostOps0_2 V (Proc.devRef .tc main_v71) = minus (V (Proc.devRef .tc main_arg7)) := by
  after_results_simp
  rfl

theorem stretch3_v72 : after hostOps0_3 V (Proc.devRef .tc main_v72) = softplus (V (Proc.devRef .tc main_v71)) := by
  after_results_simp
  rfl

theorem stretch4_a : after hostOps0_4 V (Proc.devRef .tc main_v89_0)
    = byRow (Host.exp (F := Ideal) (mulf (V (Proc.devRef .tc main_v68)) (everyRow (V (Proc.devRef .tc main_v72))))) := by
  after_results_simp
  rfl

theorem stretch4_u : after hostOps0_4 V (Proc.devRef .tc main_v89_1)
    = byRow (gainsOf (mulf (V (Proc.devRef .tc main_v68)) (everyRow (V (Proc.devRef .tc main_v72)))) (V (Proc.devRef .tc main_v66)) (V (Proc.devRef .tc main_v33))) := by
  after_results_simp
  rfl

/-- The states the loop starts from. -/
def startOf (h : FVec Ideal S8x2x384 .f32) : FVec Ideal S8x384 .f32 :=
  shapeCast S8x384 (extractStridedSlice S8x1x384 ![0, 1, 0] h slices_S8x2x384_S8x1x384_0_1_0) shapeCasts_S8x1x384_S8x384

theorem stretch4_h : after hostOps0_4 V (Proc.devRef .tc main_v89_3) = startOf (V (Proc.devRef .tc main_arg8)) := by
  after_results_simp
  rfl

end Stretches

/-! ## The loop's entry -/

section Entry
variable (m : (ℓ : Loc nD τ sig) → Buf (Elt Ideal) ℓ) (c : Dev nD)

/-- The convolved rows of the arguments. -/
def rowsOf : FVec Ideal S8x4096x384 .f32 :=
  convolved (padded (grid (m ((c : Thread nD τ).loc main_arg0))) (constantI S_ 32 0#32)) (m ((c : Thread nD τ).loc main_arg1)) (m ((c : Thread nD τ).loc main_arg2))

/-- The factors' logarithms of the arguments. -/
def logsOf : FVec Ideal S8x4096x384 .f32 :=
  logs (gateOf (gateArg (rowsOf m c) (m ((c : Thread nD τ).loc main_arg3)) (m ((c : Thread nD τ).loc main_arg4))))
    (softplus (minus (m ((c : Thread nD τ).loc main_arg7))))

/-- The contents after the first two stretches. -/
abbrev at2 : Valuation τ sig (Elt Ideal) := after hostOps0_1 (after hostOps0 (launchContents m c))

theorem at2_v2 : at2 m c (Proc.devRef .tc main_v2) = padded (grid (m ((c : Thread nD τ).loc main_arg0))) (constantI S_ 32 0#32) := by
  unfold at2
  rw [stretch1_v2, stretch0_v1, stretch0_c]

theorem at2_arg (r : Ref sig .tc) (h1 : r ∉ hostOps0_1_W) (h0 : r ∉ hostOps0_W) :
    at2 m c (Proc.devRef .tc r) = launchContents m c (Proc.devRef .tc r) :=
  (after_of_writes_sub hostOps0_1 _ hostOps0_1_writes h1).trans (after_of_writes_sub hostOps0 _ hostOps0_writes h0)

abbrev at3 : Valuation τ sig (Elt Ideal) := after hostOps0_2 (at2 m c)

theorem at3_v33 : at3 m c (Proc.devRef .tc main_v33) = rowsOf m c := by
  unfold at3
  rw [stretch2_v33, at2_v2, at2_arg m c main_arg1 (by decide) (by decide), at2_arg m c main_arg2 (by decide) (by decide)]
  rfl

theorem at3_v68 : at3 m c (Proc.devRef .tc main_v68) = mulf (const 0xC1000000#32) (gateOf (gateArg (rowsOf m c) (m ((c : Thread nD τ).loc main_arg3)) (m ((c : Thread nD τ).loc main_arg4)))) := by
  unfold at3
  rw [stretch2_v68, at2_v2, at2_arg m c main_arg1 (by decide) (by decide), at2_arg m c main_arg2 (by decide) (by decide),
    at2_arg m c main_arg3 (by decide) (by decide), at2_arg m c main_arg4 (by decide) (by decide)]
  rfl

theorem at3_v66 : at3 m c (Proc.devRef .tc main_v66) = gateOf (gateArg (rowsOf m c) (m ((c : Thread nD τ).loc main_arg5)) (m ((c : Thread nD τ).loc main_arg6))) := by
  unfold at3
  rw [stretch2_v66, at2_v2, at2_arg m c main_arg1 (by decide) (by decide), at2_arg m c main_arg2 (by decide) (by decide),
    at2_arg m c main_arg5 (by decide) (by decide), at2_arg m c main_arg6 (by decide) (by decide)]
  rfl

abbrev at4 : Valuation τ sig (Elt Ideal) := after hostOps0_3 (at3 m c)

theorem at4_v72 : at4 m c (Proc.devRef .tc main_v72) = softplus (minus (m ((c : Thread nD τ).loc main_arg7))) := by
  unfold at4 at3
  rw [stretch3_v72, stretch2_v71, at2_arg m c main_arg7 (by decide) (by decide)]

theorem at4_keep (r : Ref sig .tc) (h : r ∉ hostOps0_3_W) : at4 m c (Proc.devRef .tc r) = at3 m c (Proc.devRef .tc r) :=
  after_of_writes_sub hostOps0_3 _ hostOps0_3_writes h

theorem entry_a : entryContents preI m c (Proc.devRef .tc main_v89_0) = byRow (Host.exp (F := Ideal) (logsOf m c)) := by
  show after hostOps0_4 (at4 m c) (Proc.devRef .tc main_v89_0) = _
  rw [stretch4_a, at4_v72, at4_keep m c main_v68 (by decide), at3_v68]
  rfl

theorem entry_u : entryContents preI m c (Proc.devRef .tc main_v89_1)
    = byRow (gainsOf (logsOf m c) (gateOf (gateArg (rowsOf m c) (m ((c : Thread nD τ).loc main_arg5)) (m ((c : Thread nD τ).loc main_arg6)))) (rowsOf m c)) := by
  show after hostOps0_4 (at4 m c) (Proc.devRef .tc main_v89_1) = _
  rw [stretch4_u, at4_v72, at4_keep m c main_v68 (by decide), at3_v68, at4_keep m c main_v66 (by decide), at3_v66, at4_keep m c main_v33 (by decide), at3_v33]
  rfl

theorem entry_h : entryContents preI m c (Proc.devRef .tc main_v89_3) = startOf (m ((c : Thread nD τ).loc main_arg8)) := by
  show after hostOps0_4 (at4 m c) (Proc.devRef .tc main_v89_3) = _
  rw [stretch4_h, at4_keep m c main_arg8 (by decide)]
  unfold at3
  rw [after_of_writes_sub hostOps0_2 _ hostOps0_2_writes (by decide), at2_arg m c main_arg8 (by decide) (by decide)]

end Entry

end Cert.Reference5Ideal.Recurrence

end
-- ==== Proof.Recurrence.Backward.RefReads.lean ====
/-
  The plain program's arrays before the backward loop, read at an index, over the reals.
-/
module

public import proofs.«01_k».proof.Proof.Recurrence.Backward.RefEntry
public import proofs.«01_k».proof.Proof.Recurrence.RefReads
public import Idealize.ShloMosaic.Lib.ValueIdx
public import Idealize.ShloMosaic.Lib.Pointwise.Tactic
public import Idealize.ShloMosaic.Lib.KernelVsHost
public import Idealize.ShloMosaic.Lib.Pipeline.Value

@[expose] public section

set_option maxRecDepth 16384

noncomputable section

namespace Cert.Reference5Ideal.Recurrence

open Idealize.ShloMosaic Idealize.ShloMosaic.TcCoe
open Idealize.SL.Sem
open Idealize.ShloMosaic.ValueIdx hiding ix1 ix2 ix3 ix4
open Cert.Reference5Ideal Cert.Reference5Ideal.Gen Cert.Recurrence
open Cert.Reference4Ideal.Recurrence (grid padded everyRow convolved const gateOf nought softplus logs gainsOf byRow
  grid_apply padded_inside padded_outside everyRow_apply taps_apply product_apply const_apply gateOf_coe softplus_coe minus8 two convolved_apply)

theorem gateArg_apply (y : FVec Ideal S8x4096x384 .f32) (w : FVec Ideal S2x6x64x64 .f32) (bi : FVec Ideal S2x384 .f32) (b : Fin 8) (s : Fin 4096) (k : Fin 384) :
    gateArg y w bi (ix3 b s k) = (∑ i : Fin 64, w (ix4 1 (head k) i (within k)) * y (ix3 b s (channel (head k) i))) + bi (ix2 1 k) := by
  unfold gateArg
  show shapeCast _ _ _ (ix3 b s k) + everyRow _ (ix3 b s k) = _
  rw [everyRow_apply,
    shapeCast_apply (s := S1x384) _ _ _ (ix2 0 k) (by rw [Shape.rowMajor_val_two, Shape.rowMajor_val_one]; show 0 * 384 + k.val = k.val; omega),
    shapeCast_apply (s := S8x4096x6x64) _ _ _ (ix4 b s (head k) (within k)) (by
      rw [Shape.rowMajor_val_four, Shape.rowMajor_val_three]
      show ((b.val * 4096 + s.val) * 6 + k.val / 64) * 64 + k.val % 64 = (b.val * 4096 + s.val) * 384 + k.val; omega)]
  congr 1
  · pointwise
    refine (product_apply _ _ _ _ b s).trans ?_
    refine Finset.sum_congr rfl fun i _ => ?_
    rw [shapeCast_apply (s := S1x6x64x64) _ _ _ (ix4 0 (head k) i (within k)) (by
        rw [Shape.rowMajor_val_four, Shape.rowMajor_val_three]
        show ((0 * 6 + (head k).val) * 64 + i.val) * 64 + (within k).val = ((head k).val * 64 + i.val) * 64 + (within k).val; omega),
      shapeCast_apply (s := S8x4096x384) _ _ _ (ix3 b s (channel (head k) i)) (by
        rw [Shape.rowMajor_val_four, Shape.rowMajor_val_three]
        show (b.val * 4096 + s.val) * 384 + (64 * (head k).val + i.val) = ((b.val * 4096 + s.val) * 6 + (head k).val) * 64 + i.val; omega)]
    pointwise
  · pointwise

theorem minus_apply (lam : FVec Ideal S2x384 .f32) (k : Fin 384) : minus lam (ix1 k) = -(lam (ix2 1 k)) := by
  show -(shapeCast S384 _ _ (ix1 k)) = _
  rw [shapeCast_apply (s := S1x384) _ _ _ (ix2 0 k) (by rw [Shape.rowMajor_val_two, Shape.rowMajor_val_one]; show 0 * 384 + k.val = k.val; omega)]
  pointwise

/-! ## The arguments' real numbers -/

section Read
variable (m : (ℓ : Loc nD τ sig) → Buf (Elt Ideal) ℓ) (c : Dev nD)

/-- The plain program's arguments. -/
def arrays : Arrays where
  p := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)
  h0 := m ((c : Thread nD τ).loc main_arg8)

/-- The real numbers they stand for. -/
abbrev ops : Operands := (arrays m c).backward

variable {m c} (R : (arrays m c).Real)
include R

/-- The grid's rows with their zeros. -/
theorem padded_coe (b : Fin 8) (r : Fin 64) (q : Fin 67) (k : Fin 384) :
    padded (grid (arrays m c).p) (constantI S_ 32 0#32) (ix4 b r q k)
      = ((if 2 ≤ q.val ∧ q.val < 66 then (ops m c).x b.val (64 * r.val + q.val - 2) k else 0 : ℝ) : EReal) := by
  by_cases h : 2 ≤ q.val ∧ q.val < 66
  · rw [if_pos h, padded_inside _ _ b r q ⟨q.val - 2, by omega⟩ k (by show q.val = 2 + (q.val - 2); omega), grid_apply]
    refine (R.p.coe _).trans ?_
    show _ = (((arrays m c).p (ix2 (Arrays.token b.val (64 * r.val + q.val - 2)) (Arrays.column k))).toReal : EReal)
    rw [show 64 * r.val + q.val - 2 = 64 * r.val + (q.val - 2) by omega]
  · rw [if_neg h, padded_outside _ b r q k (by omega)]
    rfl

/-- The convolved rows. -/
theorem rows_coe (b : Fin 8) (s : Fin 4096) (k : Fin 384) : rowsOf m c (ix3 b s k) = ((ops m c).y b.val s.val k : EReal) := by
  refine (convolved_apply _ _ _ b s k).trans ?_
  rw [taps_apply]
  refine (congr (congrArg _ (congr (congrArg _ (congr (congrArg _ (congr (congrArg _
    (congr (congrArg _ (padded_coe R b _ _ k)) (R.cw.coe (ix2 0 k)))) (congr (congrArg _ (padded_coe R b _ _ k)) (R.cw.coe (ix2 1 k)))))
    (congr (congrArg _ (padded_coe R b _ _ k)) (R.cw.coe (ix2 2 k))))) (congr (congrArg _ (padded_coe R b _ _ k)) (R.cw.coe (ix2 3 k)))))
    (R.cb.coe (ix1 k))).trans ?_
  simp only [← EReal.coe_mul, ← EReal.coe_add]
  refine congrArg _ ?_
  have key : ∀ (X : ℕ → ℝ) (a : ℕ) (n : ℕ) (p : Prop) [Decidable p], (p ↔ 2 ≤ a ∧ a < 66) → (p → 64 * (s.val / 64) + a - 2 = n) →
      (if 2 ≤ a ∧ a < 66 then X (64 * (s.val / 64) + a - 2) else 0) = if p then X n else 0 := by
    intro X a n p _ h1 h2
    by_cases hp : p
    · rw [if_pos hp, if_pos (h1.1 hp), h2 hp]
    · rw [if_neg hp, if_neg fun h => hp (h1.2 h)]
  unfold Operands.y conv
  have e0 := key (fun n => (ops m c).x b.val n k) (s.val % 64) (s.val - 2) (2 ≤ s.val % 64) (by omega) (by omega)
  have e1 := key (fun n => (ops m c).x b.val n k) (1 + s.val % 64) (s.val - 1) (1 ≤ s.val % 64) (by omega) (by omega)
  have e2 := key (fun n => (ops m c).x b.val n k) (2 + s.val % 64) s.val True ⟨fun _ => by omega, fun _ => trivial⟩ (by omega)
  have e3 := key (fun n => (ops m c).x b.val n k) (3 + s.val % 64) (s.val + 1) (s.val % 64 < 63) (by omega) (by omega)
  rw [if_pos trivial] at e2
  rw [← e0, ← e1, ← e3]
  refine Eq.trans ?_ (congrArg (fun z => _ + _ + z * _ + _ + _) e2)
  rfl

theorem argA_coe (b : Fin 8) (s : Fin 4096) (k : Fin 384) :
    gateArg (rowsOf m c) (arrays m c).wa (arrays m c).ba (ix3 b s k) = (gate ((ops m c).y b.val s.val) (ops m c).wa ((ops m c).ba k) k : EReal) := by
  rw [gateArg_apply, R.ba.coe (ix2 1 k)]
  unfold gate
  rw [EReal.coe_add, ← sum_coe]
  refine congr (congrArg _ (Finset.sum_congr rfl fun i _ => ?_)) rfl
  rw [rows_coe R, R.wa.coe (ix4 1 (head k) i (within k)), ← EReal.coe_mul, mul_comm]
  rfl

theorem argX_coe (b : Fin 8) (s : Fin 4096) (k : Fin 384) :
    gateArg (rowsOf m c) (arrays m c).wx (arrays m c).bx (ix3 b s k) = (gate ((ops m c).y b.val s.val) (ops m c).wx ((ops m c).bx k) k : EReal) := by
  rw [gateArg_apply, R.bx.coe (ix2 1 k)]
  unfold gate
  rw [EReal.coe_add, ← sum_coe]
  refine congr (congrArg _ (Finset.sum_congr rfl fun i _ => ?_)) rfl
  rw [rows_coe R, R.wx.coe (ix4 1 (head k) i (within k)), ← EReal.coe_mul, mul_comm]
  rfl

theorem soft_row (k : Fin 384) : softplus (minus (arrays m c).lam) (ix1 k) = (soft ((ops m c).lam k) : EReal) := by
  refine softplus_coe _ _ _ ?_
  rw [minus_apply, R.lam.coe (ix2 1 k)]
  rfl

theorem logs_coe (b : Fin 8) (s : Fin 4096) (k : Fin 384) : logsOf m c (ix3 b s k) = ((ops m c).L b.val s.val k : EReal) := by
  show Ideal.ofBits .f32 0xC1000000#32 * gateOf (gateArg (rowsOf m c) (arrays m c).wa (arrays m c).ba) (ix3 b s k)
    * everyRow (softplus (minus (arrays m c).lam)) (ix3 b s k) = _
  rw [minus8, gateOf_coe _ _ _ (argA_coe R b s k), everyRow_apply, soft_row R, ← EReal.coe_mul, ← EReal.coe_mul]
  rfl

theorem factor_coe (b : Fin 8) (s : Fin 4096) (k : Fin 384) : Host.exp (F := Ideal) (logsOf m c) (ix3 b s k) = ((ops m c).a b.val s.val k : EReal) := by
  show Ideal.exp (logsOf m c (ix3 b s k)) = _
  rw [logs_coe R, Ideal.exp_coe]
  rfl

theorem gain_coe (b : Fin 8) (s : Fin 4096) (k : Fin 384) :
    gainsOf (logsOf m c) (gateOf (gateArg (rowsOf m c) (arrays m c).wx (arrays m c).bx)) (rowsOf m c) (ix3 b s k) = ((ops m c).u b.val s.val k : EReal) := by
  show Ideal.sqrt (-(Ideal.exp (Ideal.ofBits .f32 0x40000000#32 * logsOf m c (ix3 b s k)) - 1))
    * gateOf (gateArg (rowsOf m c) (arrays m c).wx (arrays m c).bx) (ix3 b s k) * rowsOf m c (ix3 b s k) = _
  rw [two, logs_coe R, gateOf_coe _ _ _ (argX_coe R b s k), rows_coe R]
  exact gain_reference _ _ _ (logOf_nonpos _ _)

theorem start_coe (b : Fin 8) (k : Fin 384) : startOf (arrays m c).h0 (ix2 b k) = ((ops m c).h0 b.val k : EReal) := by
  unfold startOf
  rw [shapeCast_apply (s := S8x1x384) _ _ _ (ix3 b 0 k) (by
    rw [Shape.rowMajor_val_three, Shape.rowMajor_val_two]; show (b.val * 1 + 0) * 384 + k.val = b.val * 384 + k.val; omega)]
  pointwise
  refine (R.h0.coe _).trans ?_
  show _ = (((arrays m c).h0 (ix3 ⟨b.val % 8, _⟩ 1 k)).toReal : EReal)
  refine congrArg (fun i => (((arrays m c).h0 (ix3 i 1 k)).toReal : EReal)) (Fin.ext ?_)
  show b.val = b.val % 8; omega

end Read

end Cert.Reference5Ideal.Recurrence

end
-- ==== Proof.Recurrence.Backward.Reference.lean ====
/-
  The plain program's results: the state of every row and the first row's, over the reals.

  One trip of the loop reads the row of factors and the row of gains as far from the last as the counter says, steps the state,
  and writes it into that row of the results.
-/
module

public import proofs.«01_k».proof.Proof.Recurrence.Backward.RefReads
public import proofs.«01_k».proof.Proof.Recurrence.Reference

@[expose] public section

set_option maxRecDepth 16384

noncomputable section

namespace Cert.Reference5Ideal.Recurrence

open Idealize.ShloMosaic Idealize.ShloMosaic.TcCoe Idealize.ShloMosaic.StableHlo
open Idealize.SL.Sem
open Idealize.ShloMosaic.ValueIdx hiding ix1 ix2 ix3 ix4
open Cert.Reference5Ideal Cert.Reference5Ideal.Gen Cert.Reference5Ideal.Value Cert.Recurrence
open Cert.Reference4Ideal.Recurrence (byRow byRow_apply row_apply written_apply)

/-! ## The loop -/

section Loop
variable {m : (ℓ : Loc nD τ sig) → Buf (Elt Ideal) ℓ} {c : Dev nD} (R : (arrays m c).Real)

theorem trips_a : ∀ j : ℕ, (STEP^[j] (entryContents preI m c)) (Proc.devRef .tc main_v89_0) = entryContents preI m c (Proc.devRef .tc main_v89_0)
  | 0 => rfl
  | j + 1 => by rw [Function.iterate_succ_apply', STEP_main_v89_0]; exact trips_a j

theorem trips_u : ∀ j : ℕ, (STEP^[j] (entryContents preI m c)) (Proc.devRef .tc main_v89_1) = entryContents preI m c (Proc.devRef .tc main_v89_1)
  | 0 => rfl
  | j + 1 => by rw [Function.iterate_succ_apply', STEP_main_v89_1]; exact trips_u j

/-- The row of a trip: as many before the last as the counter says. -/
abbrev rowAt (j : Fin 4096) : Fin 4096 := ⟨4095 - j.val, by omega⟩

theorem trips_row (j : Fin 4096) :
    (res_main_while0b_v94 (STEP^[j.val] (entryContents preI m c)) (Shape.Idx.first h_S_)).toInt = ((rowAt j).val : Int) := by
  show (IntOp.subi (IntOp.subi 4096#32 ((STEP^[j.val] (entryContents preI m c)) (Proc.devRef .tc main_v89_2) (Shape.Idx.first h_S_))) 1#32).toInt = ((4095 - j.val : ℕ) : Int)
  rw [← atK_agree m c j.val main_v89_2 (by decide), atK_ctr]
  show ((4096#32 - Scf.iv 0#32 1#32 j.val) - 1#32).toInt = _
  unfold Scf.iv
  have h := j.isLt
  have e : (4096#32 - (0#32 + BitVec.ofNat 32 j.val * 1#32)) - 1#32 = BitVec.ofNat 32 (4095 - j.val) := by
    apply BitVec.eq_of_toNat_eq
    simp only [BitVec.mul_one, BitVec.zero_add, BitVec.toNat_sub, BitVec.toNat_ofNat]
    omega
  rw [e, BitVec.toInt_eq_toNat_of_lt (by rw [BitVec.toNat_ofNat]; omega), BitVec.toNat_ofNat]
  omega

/-- The state before the `j`-th trip. -/
def before (P : Operands) (b : ℕ) (k : Fin 384) : ℕ → ℝ
  | 0 => P.h0 b k
  | j + 1 => P.B b j k

theorem before_step (P : Operands) (b : ℕ) (k : Fin 384) : ∀ j : ℕ, P.B b j k = P.a b (4095 - j) k * before P b k j + P.u b (4095 - j) k
  | 0 => rfl
  | _ + 1 => rfl

include R

/-- One trip's state. -/
theorem trip_state (j : Fin 4096) (b : Fin 8) (k : Fin 384)
    (ih : ∀ (b : Fin 8) (k : Fin 384), (STEP^[j.val] (entryContents preI m c)) (Proc.devRef .tc main_v89_3) (ix2 b k) = (before (ops m c) b.val k j.val : EReal)) :
    res_main_while0b_v98 (STEP^[j.val] (entryContents preI m c)) (ix2 b k) = ((ops m c).B b.val j.val k : EReal) := by
  unfold res_main_while0b_v98
  refine (congr (congrArg _ (congr (congrArg _ (row_apply _ (rowAt j) (trips_row j) _ b k)) (ih b k))) (row_apply _ (rowAt j) (trips_row j) _ b k)).trans ?_
  rw [trips_a, trips_u, entry_a, entry_u]
  refine (congr (congrArg _ (congr (congrArg _ ((byRow_apply _ b (rowAt j) k).trans (factor_coe R b (rowAt j) k))) rfl)) ((byRow_apply _ b (rowAt j) k).trans (gain_coe R b (rowAt j) k))).trans ?_
  rw [before_step]
  exact (congrArg (· + _) (EReal.coe_mul _ _).symm).trans (EReal.coe_add _ _).symm

/-- The state after `j` trips. -/
theorem trips_state : ∀ (j : ℕ) (hj : j ≤ 4096) (b : Fin 8) (k : Fin 384),
    (STEP^[j] (entryContents preI m c)) (Proc.devRef .tc main_v89_3) (ix2 b k) = (before (ops m c) b.val k j : EReal)
  | 0, _, b, k => by
    rw [Function.iterate_zero, id_eq, entry_h]
    exact start_coe R b k
  | j + 1, hj, b, k => by
    rw [Function.iterate_succ_apply', STEP_main_v89_3]
    exact trip_state R ⟨j, by omega⟩ b k (trips_state j (by omega))

omit R in
/-- A trip writes its row. -/
theorem row_written (j r : Fin 4096) (b : Fin 8) (k : Fin 384) :
    step_main_v89_4 (STEP^[j.val] (entryContents preI m c)) (ix3 r b k)
      = if r = rowAt j then res_main_while0b_v98 (STEP^[j.val] (entryContents preI m c)) (ix2 b k)
        else (STEP^[j.val] (entryContents preI m c)) (Proc.devRef .tc main_v89_4) (ix3 r b k) := by
  have h := trips_row (m := m) (c := c) j
  generalize STEP^[j.val] (entryContents preI m c) = V at h ⊢
  unfold step_main_v89_4
  generalize res_main_while0b_v94 V = n at h ⊢
  generalize res_main_while0b_v98 V = x
  generalize V (Proc.devRef .tc main_v89_4) = y
  exact written_apply n (rowAt j) h y x r b k

/-- The rows written after `j` trips. -/
theorem trips_rows : ∀ (j : ℕ) (hj : j ≤ 4096) (r : Fin 4096) (hr : 4095 - r.val < j) (b : Fin 8) (k : Fin 384),
    (STEP^[j] (entryContents preI m c)) (Proc.devRef .tc main_v89_4) (ix3 r b k) = ((ops m c).B b.val (4095 - r.val) k : EReal)
  | 0, _, _, hr, _, _ => absurd hr (by omega)
  | j + 1, hj, r, hr, b, k => by
    rw [Function.iterate_succ_apply', STEP_main_v89_4]
    refine (row_written ⟨j, by omega⟩ r b k).trans ?_
    by_cases e : r = rowAt ⟨j, by omega⟩
    · rw [if_pos e, e]
      refine (trip_state R ⟨j, by omega⟩ b k (trips_state R j (by omega))).trans ?_
      show ((ops m c).B b.val j k : EReal) = ((ops m c).B b.val (4095 - (4095 - j)) k : EReal)
      rw [show 4095 - (4095 - j) = j by omega]
    · rw [if_neg e]
      exact trips_rows j (by omega) r (by
        have h : r.val ≠ 4095 - j := fun h => e (Fin.ext h)
        have := r.isLt
        omega) b k

/-- Every row's state, by tokens. -/
theorem states_result (r : Fin 32768) (k : Fin 384) :
    out_main_v91 (STEP^[4096] (entryContents preI m c)) (ix2 r k) = ((ops m c).B (r.val / 4096) (4095 - r.val % 4096) k : EReal) := by
  unfold out_main_v91
  show shapeCast S32768x384 _ _ (ix2 r k) = _
  rw [shapeCast_apply (s := S8x4096x384) _ _ _ (ix3 ⟨r.val / 4096, by omega⟩ ⟨r.val % 4096, by omega⟩ k) (by
    rw [Shape.rowMajor_val_three, Shape.rowMajor_val_two]
    show (r.val / 4096 * 4096 + r.val % 4096) * 384 + k.val = r.val * 384 + k.val; omega)]
  pointwise
  exact trips_rows R 4096 le_rfl ⟨r.val % 4096, by omega⟩ (by show 4095 - r.val % 4096 < 4096; omega) ⟨r.val / 4096, by omega⟩ k

/-- The first row's state. -/
theorem final_result (b : Fin 8) (k : Fin 384) :
    out_main_v92 (STEP^[4096] (entryContents preI m c)) (ix3 b 0 k) = ((ops m c).B b.val 4095 k : EReal) := by
  unfold out_main_v92
  pointwise
  exact trips_rows R 4096 le_rfl ⟨0, by omega⟩ (by decide) b k

end Loop

end Cert.Reference5Ideal.Recurrence

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Pre_tables_ok
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Experts.Tables
public import proofs.«01_k».proof.Proof.Experts.Value
public import proofs.«01_k».proof.Proof.Experts.Reference
public import proofs.«01_k».proof.Proof.ExpertsBits.Tables
public import proofs.«01_k».proof.Proof.Projection.Value
public import proofs.«01_k».proof.Proof.Projection.Reference
public import proofs.«01_k».proof.Proof.OutProjection.Value
public import proofs.«01_k».proof.Proof.OutProjection.Reference
public import proofs.«01_k».proof.Proof.OutProjectionBits.Run
public import proofs.«01_k».proof.Proof.Recurrence.Pre
public import proofs.«01_k».proof.Proof.Recurrence.Value
public import proofs.«01_k».proof.Proof.Recurrence.Reference
public import proofs.«01_k».proof.Proof.Recurrence.Backward.Value
public import proofs.«01_k».proof.Proof.Recurrence.Backward.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame, as printed: it terminates without a fault and leaves its arguments as they were. -/
theorem kernel_frame : Cert.quiescent_Kernel := fun m ρ h =>
  Cert.Kernel.Experts.frame_run m ρ (Cert.Kernel.Experts.inside_of_pre m h) (Cert.Kernel.Experts.counts_of_pre m h)

/-- The same of the kernel over the reals. -/
theorem ideal_frame : Cert.quiescent_KernelIdeal := fun m ρ h =>
  Cert.KernelIdeal.Experts.frame_run m ρ (Cert.KernelIdeal.Experts.inside_of_pre m h) (Cert.KernelIdeal.Experts.counts_of_pre m h)

/-- The reference terminates and leaves its arguments as they were; it has no semaphore. -/
theorem reference_frame : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run m ρ)

/-- Over the reals the kernel's result array and the reference's are the same: both end at the experts' network of the arguments. -/
theorem experts_agree : Cert.algebraic_KernelIdeal_ReferenceIdeal := by
  intro m g m' g' h same
  refine ⟨Cert.KernelIdeal.Experts.whole m, ?_, ?_⟩
  · exact (θ_run Cert.KernelIdeal.defs _ _).mono (fun r p c => ⟨p.1 c, p.2 c⟩)
      (θ_run_and (Cert.KernelIdeal.Experts.value_run m g h)
        (Cert.KernelIdeal.Experts.unchanged m g (Cert.KernelIdeal.Experts.inside_of_pre m h) (Cert.KernelIdeal.Experts.counts_of_pre m h)))
  · refine (θ_run Cert.ReferenceIdeal.defs _ _).mono (fun r p c => ⟨(p c).1.trans ?_, (p c).2⟩) (Cert.ReferenceIdeal.Value.run m' g')
    obtain ⟨e0, e1, e2, e3, e4, e5, e6, e7, e8⟩ := same c
    rw [Cert.ReferenceIdeal.Read.val_main_v86_eq, e0, e1, e2, e3, e4, e5, e6, e7, e8]
    exact Cert.ReferenceIdeal.Experts.result_eq _ (fun y => (Cert.KernelIdeal.Experts.words m h c y).1) _ _ _ _ _ _ _ _

/-- The projection's frame, as printed. -/
theorem projection_frame : Cert.quiescent_Kernel2 := fun m ρ _ => Cert.Kernel2.Gen.frame m ρ

/-- The same of the projection over the reals. -/
theorem projection_ideal_frame : Cert.quiescent_Kernel2Ideal := fun m ρ _ => Cert.Kernel2Ideal.Gen.frame m ρ

/-- The projection's reference terminates and leaves its arguments as they were; it has no semaphore. -/
theorem projection_reference_frame : Cert.quiescent_Reference2Ideal := fun m ρ _ =>
  (θ_run Cert.Reference2Ideal.defs _ _).mono (fun r h => ⟨fun c => (h c).2, sem_eq_zero_of_no_sems (by decide) _⟩)
    (Cert.Reference2Ideal.Value.run m ρ)

/-- Over the reals the projection's result array and its reference's are the same: each token's normalized, modulated row times the matrix. -/
theorem projections_agree : Cert.algebraic_Kernel2Ideal_Reference2Ideal := by
  intro m g m' g' _ same
  refine ⟨Cert.Kernel2Ideal.Projection.whole m, ?_, ?_⟩
  · exact (θ_run Cert.Kernel2Ideal.defs _ _).mono (fun r p c => ⟨(p c).1.trans (Cert.Kernel2Ideal.Projection.final m c), (p c).2⟩)
      (Cert.Kernel2Ideal.Value.run_blocks m g)
  · refine (θ_run Cert.Reference2Ideal.defs _ _).mono (fun r p c => ⟨(p c).1.trans ?_, (p c).2⟩) (Cert.Reference2Ideal.Value.run m' g')
    obtain ⟨e0, e1, e2, e3⟩ := same c
    rw [Cert.Reference2Ideal.Read.val_main_v60_eq, e0, e1, e2, e3]
    exact Cert.Reference2Ideal.Projection.result_eq _ _ _ _

/-- The output projection's frame, as printed. -/
theorem out_projection_frame : Cert.quiescent_Kernel3 := fun m ρ _ => Cert.Kernel3.OutProjection.frame_run m ρ

/-- The same of the output projection over the reals. -/
theorem out_projection_ideal_frame : Cert.quiescent_Kernel3Ideal := fun m ρ _ => Cert.Kernel3Ideal.OutProjection.frame_run m ρ

/-- The output projection's reference terminates and leaves its arguments as they were; it has no semaphore. -/
theorem out_projection_reference_frame : Cert.quiescent_Reference3Ideal := fun m ρ _ =>
  (θ_run Cert.Reference3Ideal.defs _ _).mono (fun r h => ⟨fun c => (h c).2.2, sem_eq_zero_of_no_sems (by decide) _⟩)
    (Cert.Reference3Ideal.Value.run m ρ)

/-- Over the reals the output projection's two result arrays and its reference's are the same: the residual rows, and those rows normalized and modulated. -/
theorem out_projections_agree : Cert.algebraic_Kernel3Ideal_Reference3Ideal := by
  intro m g m' g' _ same
  refine ⟨Cert.Kernel3Ideal.OutProjection.rows m, Cert.Kernel3Ideal.OutProjection.strips m, ?_, ?_⟩
  · exact (θ_run Cert.Kernel3Ideal.defs _ _).mono (fun r p c => ⟨(p.1 c).1.trans (Cert.Kernel3Ideal.OutProjection.rows_final m c),
        (p.1 c).2.trans (Cert.Kernel3Ideal.OutProjection.strips_final m c), p.2 c⟩)
      (θ_run_and (Cert.Kernel3Ideal.OutProjection.run_blocks m g) (Cert.Kernel3Ideal.OutProjection.unchanged m g))
  · refine (θ_run Cert.Reference3Ideal.defs _ _).mono (fun r p c => ⟨(p c).1.trans ?_, (p c).2.1.trans ?_, (p c).2.2⟩) (Cert.Reference3Ideal.Value.run m' g')
    · obtain ⟨e0, e1, e2, e3, e4, e5, e6, e7, e8, e9, e10, e11, e12⟩ := same c
      rw [Cert.Reference3Ideal.Read.val_main_v118_eq, e0, e1, e2, e3, e4, e5, e6, e7, e8, e9]
      exact Cert.Reference3Ideal.OutProjection.residual_eq _ _ _ _ _ _ _ _ _ _
    · obtain ⟨e0, e1, e2, e3, e4, e5, e6, e7, e8, e9, e10, e11, e12⟩ := same c
      rw [Cert.Reference3Ideal.Read.val_main_v122_eq, e0, e1, e2, e3, e4, e5, e6, e7, e8, e9, e10]
      exact Cert.Reference3Ideal.OutProjection.strips_eq _ _ _ _ _ _ _ _ _ _ _

/-- The recurrence's frame, as printed. -/
theorem recurrence_frame : Cert.quiescent_Kernel4 := fun m ρ _ => Cert.Kernel4.Gen.frame m ρ

/-- The same of the recurrence over the reals. -/
theorem recurrence_ideal_frame : Cert.quiescent_Kernel4Ideal := fun m ρ _ => Cert.Kernel4Ideal.Gen.frame m ρ

/-- The same where the arguments are finite. -/
theorem recurrence_ideal_frame_finite : Cert.quiescent_Kernel4Ideal_pre_finite := fun m ρ _ => Cert.Kernel4Ideal.Gen.frame m ρ

/-- The recurrence's reference terminates and leaves its arguments as they were; it has no semaphore. -/
theorem recurrence_reference_frame : Cert.quiescent_Reference4Ideal := fun m ρ _ =>
  (θ_run Cert.Reference4Ideal.defs _ _).mono (fun r h => ⟨fun c => (h c).2.2, sem_eq_zero_of_no_sems (by decide) _⟩)
    (Cert.Reference4Ideal.Value.run m ρ)

/-- The same where the arguments are finite. -/
theorem recurrence_reference_frame_finite : Cert.quiescent_Reference4Ideal_pre_finite := fun m ρ _ =>
  (θ_run Cert.Reference4Ideal.defs _ _).mono (fun r h => ⟨fun c => (h c).2.2, sem_eq_zero_of_no_sems (by decide) _⟩)
    (Cert.Reference4Ideal.Value.run m ρ)

/-- Over the reals, where the arguments are finite, the recurrence's two result arrays and its reference's are the same: every row's
    state, and the last row's. -/
theorem recurrences_agree : Cert.algebraic_Kernel4Ideal_Reference4Ideal_pre_finite := by
  intro m g m' g' h same
  have R : ∀ c, (Cert.Kernel4Ideal.Recurrence.arrays m c).Real := fun c => Cert.Recurrence.real_of_finite _ (h c)
  have E : ∀ c, Cert.Reference4Ideal.Recurrence.arrays m' c = Cert.Kernel4Ideal.Recurrence.arrays m c := fun c => by
    obtain ⟨e0, e1, e2, e3, e4, e5, e6, e7, e8⟩ := same c
    unfold Cert.Reference4Ideal.Recurrence.arrays Cert.Kernel4Ideal.Recurrence.arrays
    congr 1
  have R' : ∀ c, (Cert.Reference4Ideal.Recurrence.arrays m' c).Real := fun c => by rw [E]; exact R c
  refine ⟨Cert.Kernel4Ideal.Value.G7 m, Cert.Kernel4Ideal.Value.G8 m, Cert.Kernel4Ideal.Value.run m g, ?_⟩
  refine (θ_run Cert.Reference4Ideal.defs _ _).mono (fun r p c => ⟨(p c).1.trans ?_, (p c).2.1.trans ?_, (p c).2.2⟩) (Cert.Reference4Ideal.Value.run m' g')
  · refine funext fun i => ?_
    obtain ⟨r, k, rfl⟩ : ∃ (r : Fin 32768) (k : Fin 384), i = ValueIdx.ix2 r k := ⟨i 0, i 1, (ValueIdx.eq_ix2 i).trans rfl⟩
    refine (Cert.Reference4Ideal.Recurrence.states_result (R' c) r k).trans ((congrArg (fun A : Cert.Recurrence.Arrays => (A.operands.H (r.val / 4096) (r.val % 4096) k : EReal)) (E c)).trans ?_)
    exact (Cert.Kernel4Ideal.Recurrence.states_result (R c) r k).symm
  · refine funext fun i => ?_
    obtain ⟨b, k, rfl⟩ : ∃ (b : Fin 8) (k : Fin 384), i = ValueIdx.ix3 b 0 k := ⟨i 0, i 2, (ValueIdx.eq_ix3 i).trans (congrArg (fun j => ValueIdx.ix3 (i 0) j (i 2)) (Subsingleton.elim (α := Fin 1) (i 1) 0))⟩
    refine (Cert.Reference4Ideal.Recurrence.final_result (R' c) b k).trans ((congrArg (fun A : Cert.Recurrence.Arrays => (A.operands.H b.val 4095 k : EReal)) (E c)).trans ?_)
    exact (Cert.Kernel4Ideal.Recurrence.final_result (R c) b k).symm

/-- The backward recurrence's frame, as printed. -/
theorem backward_frame : Cert.quiescent_Kernel5 := fun m ρ _ => Cert.Kernel5.Gen.frame m ρ

/-- The same of the backward recurrence over the reals. -/
theorem backward_ideal_frame : Cert.quiescent_Kernel5Ideal := fun m ρ _ => Cert.Kernel5Ideal.Gen.frame m ρ

/-- The same where the arguments are finite. -/
theorem backward_ideal_frame_finite : Cert.quiescent_Kernel5Ideal_pre_finite := fun m ρ _ => Cert.Kernel5Ideal.Gen.frame m ρ

/-- The backward recurrence's reference terminates and leaves its arguments as they were; it has no semaphore. -/
theorem backward_reference_frame : Cert.quiescent_Reference5Ideal := fun m ρ _ =>
  (θ_run Cert.Reference5Ideal.defs _ _).mono (fun r h => ⟨fun c => (h c).2.2, sem_eq_zero_of_no_sems (by decide) _⟩)
    (Cert.Reference5Ideal.Value.run m ρ)

/-- The same where the arguments are finite. -/
theorem backward_reference_frame_finite : Cert.quiescent_Reference5Ideal_pre_finite := fun m ρ _ =>
  (θ_run Cert.Reference5Ideal.defs _ _).mono (fun r h => ⟨fun c => (h c).2.2, sem_eq_zero_of_no_sems (by decide) _⟩)
    (Cert.Reference5Ideal.Value.run m ρ)

/-- Over the reals, where the arguments are finite, the backward recurrence's two result arrays and its reference's are the same:
    every row's state, and the first row's. -/
theorem backwards_agree : Cert.algebraic_Kernel5Ideal_Reference5Ideal_pre_finite := by
  intro m g m' g' h same
  have R : ∀ c, (Cert.Kernel5Ideal.Recurrence.arrays m c).Real := fun c => Cert.Recurrence.real_of_finite _ (h c)
  have E : ∀ c, Cert.Reference5Ideal.Recurrence.arrays m' c = Cert.Kernel5Ideal.Recurrence.arrays m c := fun c => by
    obtain ⟨e0, e1, e2, e3, e4, e5, e6, e7, e8⟩ := same c
    unfold Cert.Reference5Ideal.Recurrence.arrays Cert.Kernel5Ideal.Recurrence.arrays
    congr 1
  have R' : ∀ c, (Cert.Reference5Ideal.Recurrence.arrays m' c).Real := fun c => by rw [E]; exact R c
  refine ⟨Cert.Kernel5Ideal.Recurrence.allStates m, Cert.Kernel5Ideal.Recurrence.allFinal m, ?_, ?_⟩
  · exact (θ_run Cert.Kernel5Ideal.defs _ _).mono (fun r p c => ⟨(p c).1.trans (Cert.Kernel5Ideal.Recurrence.states_array (R c)),
        (p c).2.1.trans (Cert.Kernel5Ideal.Recurrence.final_array (R c)), (p c).2.2⟩)
      (Cert.Kernel5Ideal.Value.run_blocks m g)
  · refine (θ_run Cert.Reference5Ideal.defs _ _).mono (fun r p c => ⟨(p c).1.trans ?_, (p c).2.1.trans ?_, (p c).2.2⟩) (Cert.Reference5Ideal.Value.run m' g')
    · refine funext fun i => ?_
      obtain ⟨r, k, rfl⟩ : ∃ (r : Fin 32768) (k : Fin 384), i = ValueIdx.ix2 r k := ⟨i 0, i 1, (ValueIdx.eq_ix2 i).trans rfl⟩
      exact (Cert.Reference5Ideal.Recurrence.states_result (R' c) r k).trans
        (congrArg (fun A : Cert.Recurrence.Arrays => (A.backward.B (r.val / 4096) (4095 - r.val % 4096) k : EReal)) (E c))
    · refine funext fun i => ?_
      obtain ⟨b, k, rfl⟩ : ∃ (b : Fin 8) (k : Fin 384), i = ValueIdx.ix3 b 0 k := ⟨i 0, i 2, (ValueIdx.eq_ix3 i).trans (congrArg (fun j => ValueIdx.ix3 (i 0) j (i 2)) (Subsingleton.elim (α := Fin 1) (i 1) 0))⟩
      exact (Cert.Reference5Ideal.Recurrence.final_result (R' c) b k).trans
        (congrArg (fun A : Cert.Recurrence.Arrays => (A.backward.B b.val 4095 k : EReal)) (E c))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_ok.Gen.facts, Cert.Pre_finite.Gen.facts,
  kernel_frame, ideal_frame, reference_frame, projection_frame, projection_ideal_frame, projection_reference_frame,
  out_projection_frame, out_projection_ideal_frame, out_projection_reference_frame,
  recurrence_frame, recurrence_ideal_frame, recurrence_ideal_frame_finite, recurrence_reference_frame, recurrence_reference_frame_finite,
  backward_frame, backward_ideal_frame, backward_ideal_frame_finite, backward_reference_frame, backward_reference_frame_finite,
  trivial, experts_agree, trivial, projections_agree, trivial, out_projections_agree, trivial, recurrences_agree, trivial, backwards_agree⟩

end Cert.Proof

end
